-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_attn [hPre_finite_attn : Cert.Pre_finite_attn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_attn [hPre_finite_attn : Cert.Pre_finite_attn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_attn_fwd [hPre_finite_attn_fwd : Cert.Pre_finite_attn_fwd.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_attn_fwd.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_attn_fwd [hPre_finite_attn_fwd : Cert.Pre_finite_attn_fwd.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_attn_fwd.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_regular_params [hPre_regular_params : Cert.Pre_regular_params.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_regular_params.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_regular_params [hPre_regular_params : Cert.Pre_regular_params.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_regular_params.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_regular_poles [hPre_regular_poles : Cert.Pre_regular_poles.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_regular_poles.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_regular_poles [hPre_regular_poles : Cert.Pre_regular_poles.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_regular_poles.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_attn [hKernel3Ideal : Cert.Kernel3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_attn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_attn [hReference3Ideal : Cert.Reference3Ideal.Facts] [hPre_finite_attn : Cert.Pre_finite_attn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_attn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_attn_fwd [hKernel4Ideal : Cert.Kernel4Ideal.Facts] [hPre_finite_attn_fwd : Cert.Pre_finite_attn_fwd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_attn_fwd m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_attn_fwd [hReference4Ideal : Cert.Reference4Ideal.Facts] [hPre_finite_attn_fwd : Cert.Pre_finite_attn_fwd.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_attn_fwd m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_regular_params [hKernel5Ideal : Cert.Kernel5Ideal.Facts] [hPre_regular_params : Cert.Pre_regular_params.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_regular_params m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_regular_params [hReference5Ideal : Cert.Reference5Ideal.Facts] [hPre_regular_params : Cert.Pre_regular_params.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_regular_params m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_regular_poles [hKernel6Ideal : Cert.Kernel6Ideal.Facts] [hPre_regular_poles : Cert.Pre_regular_poles.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_regular_poles m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_regular_poles [hReference6Ideal : Cert.Reference6Ideal.Facts] [hPre_regular_poles : Cert.Pre_regular_poles.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_regular_poles m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v68)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v68) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite_attn [hKernel3Ideal : Cert.Kernel3Ideal.Facts] [hReference3Ideal : Cert.Reference3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_attn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v183) = v0 c
          ∧ r.2.mem ((c.tc : Thread Cert.Reference3Ideal.nD Cert.Reference3Ideal.τ).loc Cert.Reference3Ideal.main_v184) = v1 c
          ∧ r.2.mem ((c.tc : Thread Cert.Reference3Ideal.nD Cert.Reference3Ideal.τ).loc Cert.Reference3Ideal.main_v185) = v2 c
          ∧ r.2.mem ((c.tc : Thread Cert.Reference3Ideal.nD Cert.Reference3Ideal.τ).loc Cert.Reference3Ideal.main_v187) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_attn_fwd [hKernel4Ideal : Cert.Kernel4Ideal.Facts] [hReference4Ideal : Cert.Reference4Ideal.Facts] [hPre_finite_attn_fwd : Cert.Pre_finite_attn_fwd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_attn_fwd m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_regular_params [hKernel5Ideal : Cert.Kernel5Ideal.Facts] [hReference5Ideal : Cert.Reference5Ideal.Facts] [hPre_regular_params : Cert.Pre_regular_params.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_regular_params m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)) (v3 : (c : Dev Cert.Kernel5Ideal.nD) → Buf (Elt Ideal) ((c.tc : Thread Cert.Kernel5Ideal.nD Cert.Kernel5Ideal.τ).loc Cert.Kernel5Ideal.main_v45_3)) (v4 : (c : Dev Cert.Kernel5Ideal.nD) → Buf (Elt Ideal) ((c.tc : Thread Cert.Kernel5Ideal.nD Cert.Kernel5Ideal.τ).loc Cert.Kernel5Ideal.main_v45_4)) (v5 : (c : Dev Cert.Kernel5Ideal.nD) → Buf (Elt Ideal) ((c.tc : Thread Cert.Kernel5Ideal.nD Cert.Kernel5Ideal.τ).loc Cert.Kernel5Ideal.main_v45_5)) (v6 : (c : Dev Cert.Kernel5Ideal.nD) → Buf (Elt Ideal) ((c.tc : Thread Cert.Kernel5Ideal.nD Cert.Kernel5Ideal.τ).loc Cert.Kernel5Ideal.main_v45_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_v45_3) = v3 c
          ∧ r.2.mem ((c.tc : Thread Cert.Kernel5Ideal.nD Cert.Kernel5Ideal.τ).loc Cert.Kernel5Ideal.main_v45_4) = v4 c
          ∧ r.2.mem ((c.tc : Thread Cert.Kernel5Ideal.nD Cert.Kernel5Ideal.τ).loc Cert.Kernel5Ideal.main_v45_5) = v5 c
          ∧ r.2.mem ((c.tc : Thread Cert.Kernel5Ideal.nD Cert.Kernel5Ideal.τ).loc Cert.Kernel5Ideal.main_v45_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_v147) = v1 c
          ∧ r.2.mem ((c.tc : Thread Cert.Reference5Ideal.nD Cert.Reference5Ideal.τ).loc Cert.Reference5Ideal.main_v148) = v2 c
          ∧ r.2.mem ((c.tc : Thread Cert.Reference5Ideal.nD Cert.Reference5Ideal.τ).loc Cert.Reference5Ideal.main_v150) = v3 c
          ∧ r.2.mem ((c.tc : Thread Cert.Reference5Ideal.nD Cert.Reference5Ideal.τ).loc Cert.Reference5Ideal.main_v152) = v4 c
          ∧ r.2.mem ((c.tc : Thread Cert.Reference5Ideal.nD Cert.Reference5Ideal.τ).loc Cert.Reference5Ideal.main_v153) = v5 c
          ∧ r.2.mem ((c.tc : Thread Cert.Reference5Ideal.nD Cert.Reference5Ideal.τ).loc Cert.Reference5Ideal.main_v154) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_regular_poles [hKernel6Ideal : Cert.Kernel6Ideal.Facts] [hReference6Ideal : Cert.Reference6Ideal.Facts] [hPre_regular_poles : Cert.Pre_regular_poles.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_regular_poles m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_v80) = v1 c
          ∧ r.2.mem ((c.tc : Thread Cert.Reference6Ideal.nD Cert.Reference6Ideal.τ).loc Cert.Reference6Ideal.main_v97) = v2 c
          ∧ r.2.mem ((c.tc : Thread Cert.Reference6Ideal.nD Cert.Reference6Ideal.τ).loc Cert.Reference6Ideal.main_v98) = v3 c
          ∧ r.2.mem ((c.tc : Thread Cert.Reference6Ideal.nD Cert.Reference6Ideal.τ).loc Cert.Reference6Ideal.main_v96) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v54_0)) (v1 : (c : Dev Cert.Kernel7Ideal.nD) → Buf (Elt Ideal) ((c.tc : Thread Cert.Kernel7Ideal.nD Cert.Kernel7Ideal.τ).loc Cert.Kernel7Ideal.main_v54_1)) (v2 : (c : Dev Cert.Kernel7Ideal.nD) → Buf (Elt Ideal) ((c.tc : Thread Cert.Kernel7Ideal.nD Cert.Kernel7Ideal.τ).loc Cert.Kernel7Ideal.main_v54_2)) (v3 : (c : Dev Cert.Kernel7Ideal.nD) → Buf (Elt Ideal) ((c.tc : Thread Cert.Kernel7Ideal.nD Cert.Kernel7Ideal.τ).loc Cert.Kernel7Ideal.main_v54_3)) (v4 : (c : Dev Cert.Kernel7Ideal.nD) → Buf (Elt Ideal) ((c.tc : Thread Cert.Kernel7Ideal.nD Cert.Kernel7Ideal.τ).loc Cert.Kernel7Ideal.main_v54_4)) (v5 : (c : Dev Cert.Kernel7Ideal.nD) → Buf (Elt Ideal) ((c.tc : Thread Cert.Kernel7Ideal.nD Cert.Kernel7Ideal.τ).loc Cert.Kernel7Ideal.main_v54_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v54_0) = v0 c
          ∧ r.2.mem ((c.tc : Thread Cert.Kernel7Ideal.nD Cert.Kernel7Ideal.τ).loc Cert.Kernel7Ideal.main_v54_1) = v1 c
          ∧ r.2.mem ((c.tc : Thread Cert.Kernel7Ideal.nD Cert.Kernel7Ideal.τ).loc Cert.Kernel7Ideal.main_v54_2) = v2 c
          ∧ r.2.mem ((c.tc : Thread Cert.Kernel7Ideal.nD Cert.Kernel7Ideal.τ).loc Cert.Kernel7Ideal.main_v54_3) = v3 c
          ∧ r.2.mem ((c.tc : Thread Cert.Kernel7Ideal.nD Cert.Kernel7Ideal.τ).loc Cert.Kernel7Ideal.main_v54_4) = v4 c
          ∧ r.2.mem ((c.tc : Thread Cert.Kernel7Ideal.nD Cert.Kernel7Ideal.τ).loc Cert.Kernel7Ideal.main_v54_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v80) = v1 c
          ∧ r.2.mem ((c.tc : Thread Cert.Reference7Ideal.nD Cert.Reference7Ideal.τ).loc Cert.Reference7Ideal.main_v81) = v2 c
          ∧ r.2.mem ((c.tc : Thread Cert.Reference7Ideal.nD Cert.Reference7Ideal.τ).loc Cert.Reference7Ideal.main_v84) = v3 c
          ∧ r.2.mem ((c.tc : Thread Cert.Reference7Ideal.nD Cert.Reference7Ideal.τ).loc Cert.Reference7Ideal.main_v86) = v4 c
          ∧ r.2.mem ((c.tc : Thread Cert.Reference7Ideal.nD Cert.Reference7Ideal.τ).loc Cert.Reference7Ideal.main_v7) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_attn : Cert.Pre_finite_attn.Facts) (hPre_finite_attn_fwd : Cert.Pre_finite_attn_fwd.Facts) (hPre_regular_params : Cert.Pre_regular_params.Facts) (hPre_regular_poles : Cert.Pre_regular_poles.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_attn (hKernel3Ideal := hKernel3Ideal) (hPre_finite_attn := hPre_finite_attn)
    ∧ quiescent_Reference3Ideal (hReference3Ideal := hReference3Ideal)
    ∧ quiescent_Reference3Ideal_pre_finite_attn (hReference3Ideal := hReference3Ideal) (hPre_finite_attn := hPre_finite_attn)
    ∧ quiescent_Kernel4 (hKernel4 := hKernel4)
    ∧ quiescent_Kernel4Ideal (hKernel4Ideal := hKernel4Ideal)
    ∧ quiescent_Kernel4Ideal_pre_finite_attn_fwd (hKernel4Ideal := hKernel4Ideal) (hPre_finite_attn_fwd := hPre_finite_attn_fwd)
    ∧ quiescent_Reference4Ideal (hReference4Ideal := hReference4Ideal)
    ∧ quiescent_Reference4Ideal_pre_finite_attn_fwd (hReference4Ideal := hReference4Ideal) (hPre_finite_attn_fwd := hPre_finite_attn_fwd)
    ∧ quiescent_Kernel5 (hKernel5 := hKernel5)
    ∧ quiescent_Kernel5Ideal (hKernel5Ideal := hKernel5Ideal)
    ∧ quiescent_Kernel5Ideal_pre_regular_params (hKernel5Ideal := hKernel5Ideal) (hPre_regular_params := hPre_regular_params)
    ∧ quiescent_Reference5Ideal (hReference5Ideal := hReference5Ideal)
    ∧ quiescent_Reference5Ideal_pre_regular_params (hReference5Ideal := hReference5Ideal) (hPre_regular_params := hPre_regular_params)
    ∧ quiescent_Kernel6 (hKernel6 := hKernel6)
    ∧ quiescent_Kernel6Ideal (hKernel6Ideal := hKernel6Ideal)
    ∧ quiescent_Kernel6Ideal_pre_regular_poles (hKernel6Ideal := hKernel6Ideal) (hPre_regular_poles := hPre_regular_poles)
    ∧ quiescent_Reference6Ideal (hReference6Ideal := hReference6Ideal)
    ∧ quiescent_Reference6Ideal_pre_regular_poles (hReference6Ideal := hReference6Ideal) (hPre_regular_poles := hPre_regular_poles)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_attn (hKernel3Ideal := hKernel3Ideal) (hReference3Ideal := hReference3Ideal) (hPre_finite_attn := hPre_finite_attn)
    ∧ preserves_Kernel4_Kernel4Ideal
    ∧ algebraic_Kernel4Ideal_Reference4Ideal_pre_finite_attn_fwd (hKernel4Ideal := hKernel4Ideal) (hReference4Ideal := hReference4Ideal) (hPre_finite_attn_fwd := hPre_finite_attn_fwd)
    ∧ preserves_Kernel5_Kernel5Ideal
    ∧ algebraic_Kernel5Ideal_Reference5Ideal_pre_regular_params (hKernel5Ideal := hKernel5Ideal) (hReference5Ideal := hReference5Ideal) (hPre_regular_params := hPre_regular_params)
    ∧ preserves_Kernel6_Kernel6Ideal
    ∧ algebraic_Kernel6Ideal_Reference6Ideal_pre_regular_poles (hKernel6Ideal := hKernel6Ideal) (hReference6Ideal := hReference6Ideal) (hPre_regular_poles := hPre_regular_poles)
    ∧ preserves_Kernel7_Kernel7Ideal
    ∧ algebraic_Kernel7Ideal_Reference7Ideal (hKernel7Ideal := hKernel7Ideal) (hReference7Ideal := hReference7Ideal)
-- ==== Pre_finite_attn.lean ====
abbrev S4096x8x64 : Shape := ⟨3, ![4096, 8, 64]⟩
abbrev S4096x2x64 : Shape := ⟨3, ![4096, 2, 64]⟩
abbrev S8 : Shape := ⟨1, ![8]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_
  bcast_S_S8 : S_.BroadcastsInDim S8 (![] : Fin 0 → Fin S8.rank)
  reducesTo_S8_S_d0 : S8.ReducesTo [0] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x8x64 .f32) (main_arg1 : FVec F S4096x2x64 .f32) (main_arg2 : FVec F S4096x2x64 .f32) (main_arg3 : FVec F S8 .f32) (main_arg4 : FVec F S4096x512 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Pre_finite_attn_fwd.lean ====
abbrev S4096x8x64 : Shape := ⟨3, ![4096, 8, 64]⟩
abbrev S4096x2x64 : Shape := ⟨3, ![4096, 2, 64]⟩
abbrev S8 : Shape := ⟨1, ![8]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4096x8x64 .f32) (main_arg1 : FVec F S4096x2x64 .f32) (main_arg2 : FVec F S4096x2x64 .f32) (main_arg3 : FVec F S8 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_regular_params.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_
  bcast_S_S2x32x64x16 : S_.BroadcastsInDim S2x32x64x16 (![] : Fin 0 → Fin S2x32x64x16.rank)
  reducesTo_S2x32x64x16_S_d0_1_2_3 : S2x32x64x16.ReducesTo [0, 1, 2, 3] S_
  bcast_S_S2x32x16x64 : S_.BroadcastsInDim S2x32x16x64 (![] : Fin 0 → Fin S2x32x16x64.rank)
  reducesTo_S2x32x16x64_S_d0_1_2_3 : S2x32x16x64.ReducesTo [0, 1, 2, 3] S_

variable [Facts]

def fn_part3 {F : FTy → Type} [FloatOps F] (main_arg0 : FVec F S2x32x64 .f32) (main_arg1 : FVec F S2x32x64 .f32) (main_v48 : IVec S_ 1) (main_v49 : FVec F S2x32x16x64 .f32) (main_v50 : FVec F S2x32x16x64 .f32) : IVec S_ 1 :=
  let main_v51 : IVec S2x32x16x64 1 := cmpf .olt main_v49 main_v50
  let main_c_19 : IVec S_ 1 := constantI S_ 1 1#1
  let main_v52 : IVec S_ 1 := (fun x v => Host.reduce IntOp.andi x v reducesTo_S2x32x16x64_S_d0_1_2_3 h_S_) main_v51 main_c_19
  let main_v53 : IVec S_ 1 := andi main_v48 main_v52
  let main_v54 : FVec F S2x32x64 .f32 := mulf main_arg0 main_arg0
  let main_v55 : FVec F S2x32x64 .f32 := mulf main_arg1 main_arg1
  let main_v56 : FVec F S2x32x64 .f32 := addf main_v54 main_v55
  let main_cst_20 : FVec F S_ .f32 := constant S_ .f32 0x00000000#32
  let main_v57 : FVec F S2x32x64 .f32 := broadcastInDim S2x32x64 ![] bcast_S_S2x32x64 main_cst_20
  let main_v58 : IVec S2x32x64 1 := cmpf .ogt main_v56 main_v57
  let main_c_21 : IVec S_ 1 := constantI S_ 1 1#1
  let main_v59 : IVec S_ 1 := (fun x v => Host.reduce IntOp.andi x v reducesTo_S2x32x64_S_d0_1_2 h_S_) main_v58 main_c_21
  let main_v60 : IVec S_ 1 := andi main_v53 main_v59
  main_v60

def fn_part2 {F : FTy → Type} [FloatOps F] (main_arg0 : FVec F S2x32x64 .f32) (main_arg1 : FVec F S2x32x64 .f32) (main_arg7 : FVec F S2x32x64x16 .f32) (main_arg8 : FVec F S2x32x64x16 .f32) (main_arg9 : FVec F S2x32x16x64 .f32) (main_arg10 : FVec F S2x32x16x64 .f32) (main_v33 : IVec S_ 1) : IVec S_ 1 :=
  let main_v34 : FVec F S2x32x64x16 .f32 := Host.absf main_arg7
  let main_cst_12 : FVec F S_ .f32 := constant S_ .f32 0x7F800000#32
  let main_v35 : FVec F S2x32x64x16 .f32 := broadcastInDim S2x32x64x16 ![] bcast_S_S2x32x64x16 main_cst_12
  let main_v36 : IVec S2x32x64x16 1 := cmpf .olt main_v34 main_v35
  let main_c_13 : IVec S_ 1 := constantI S_ 1 1#1
  let main_v37 : IVec S_ 1 := (fun x v => Host.reduce IntOp.andi x v reducesTo_S2x32x64x16_S_d0_1_2_3 h_S_) main_v36 main_c_13
  let main_v38 : IVec S_ 1 := andi main_v33 main_v37
  let main_v39 : FVec F S2x32x64x16 .f32 := Host.absf main_arg8
  let main_cst_14 : FVec F S_ .f32 := constant S_ .f32 0x7F800000#32
  let main_v40 : FVec F S2x32x64x16 .f32 := broadcastInDim S2x32x64x16 ![] bcast_S_S2x32x64x16 main_cst_14
  let main_v41 : IVec S2x32x64x16 1 := cmpf .olt main_v39 main_v40
  let main_c_15 : IVec S_ 1 := constantI S_ 1 1#1
  let main_v42 : IVec S_ 1 := (fun x v => Host.reduce IntOp.andi x v reducesTo_S2x32x64x16_S_d0_1_2_3 h_S_) main_v41 main_c_15
  let main_v43 : IVec S_ 1 := andi main_v38 main_v42
  let main_v44 : FVec F S2x32x16x64 .f32 := Host.absf main_arg9
  let main_cst_16 : FVec F S_ .f32 := constant S_ .f32 0x7F800000#32
  let main_v45 : FVec F S2x32x16x64 .f32 := broadcastInDim S2x32x16x64 ![] bcast_S_S2x32x16x64 main_cst_16
  let main_v46 : IVec S2x32x16x64 1 := cmpf .olt main_v44 main_v45
  let main_c_17 : IVec S_ 1 := constantI S_ 1 1#1
  let main_v47 : IVec S_ 1 := (fun x v => Host.reduce IntOp.andi x v reducesTo_S2x32x16x64_S_d0_1_2_3 h_S_) main_v46 main_c_17
  let main_v48 : IVec S_ 1 := andi main_v43 main_v47
  let main_v49 : FVec F S2x32x16x64 .f32 := Host.absf main_arg10
  let main_cst_18 : FVec F S_ .f32 := constant S_ .f32 0x7F800000#32
  let main_v50 : FVec F S2x32x16x64 .f32 := broadcastInDim S2x32x16x64 ![] bcast_S_S2x32x16x64 main_cst_18
  fn_part3 (F := F) main_arg0 main_arg1 main_v48 main_v49 main_v50

def fn_part1 {F : FTy → Type} [FloatOps F] (main_arg0 : FVec F S2x32x64 .f32) (main_arg1 : FVec F S2x32x64 .f32) (main_arg4 : FVec F S2x32x64x16 .f32) (main_arg5 : FVec F S2x32x64 .f32) (main_arg6 : FVec F S2x32x64 .f32) (main_arg7 : FVec F S2x32x64x16 .f32) (main_arg8 : FVec F S2x32x64x16 .f32) (main_arg9 : FVec F S2x32x16x64 .f32) (main_arg10 : FVec F S2x32x16x64 .f32) (main_v13 : IVec S_ 1) (main_v16 : IVec S2x32x64x16 1) : IVec S_ 1 :=
  let main_c_5 : IVec S_ 1 := constantI S_ 1 1#1
  let main_v17 : IVec S_ 1 := (fun x v => Host.reduce IntOp.andi x v reducesTo_S2x32x64x16_S_d0_1_2_3 h_S_) main_v16 main_c_5
  let main_v18 : IVec S_ 1 := andi main_v13 main_v17
  let main_v19 : FVec F S2x32x64x16 .f32 := Host.absf main_arg4
  let main_cst_6 : FVec F S_ .f32 := constant S_ .f32 0x7F800000#32
  let main_v20 : FVec F S2x32x64x16 .f32 := broadcastInDim S2x32x64x16 ![] bcast_S_S2x32x64x16 main_cst_6
  let main_v21 : IVec S2x32x64x16 1 := cmpf .olt main_v19 main_v20
  let main_c_7 : IVec S_ 1 := constantI S_ 1 1#1
  let main_v22 : IVec S_ 1 := (fun x v => Host.reduce IntOp.andi x v reducesTo_S2x32x64x16_S_d0_1_2_3 h_S_) main_v21 main_c_7
  let main_v23 : IVec S_ 1 := andi main_v18 main_v22
  let main_v24 : FVec F S2x32x64 .f32 := Host.absf main_arg5
  let main_cst_8 : FVec F S_ .f32 := constant S_ .f32 0x7F800000#32
  let main_v25 : FVec F S2x32x64 .f32 := broadcastInDim S2x32x64 ![] bcast_S_S2x32x64 main_cst_8
  let main_v26 : IVec S2x32x64 1 := cmpf .olt main_v24 main_v25
  let main_c_9 : IVec S_ 1 := constantI S_ 1 1#1
  let main_v27 : IVec S_ 1 := (fun x v => Host.reduce IntOp.andi x v reducesTo_S2x32x64_S_d0_1_2 h_S_) main_v26 main_c_9
  let main_v28 : IVec S_ 1 := andi main_v23 main_v27
  let main_v29 : FVec F S2x32x64 .f32 := Host.absf main_arg6
  let main_cst_10 : FVec F S_ .f32 := constant S_ .f32 0x7F800000#32
  let main_v30 : FVec F S2x32x64 .f32 := broadcastInDim S2x32x64 ![] bcast_S_S2x32x64 main_cst_10
  let main_v31 : IVec S2x32x64 1 := cmpf .olt main_v29 main_v30
  let main_c_11 : IVec S_ 1 := constantI S_ 1 1#1
  let main_v32 : IVec S_ 1 := (fun x v => Host.reduce IntOp.andi x v reducesTo_S2x32x64_S_d0_1_2 h_S_) main_v31 main_c_11
  let main_v33 : IVec S_ 1 := andi main_v28 main_v32
  fn_part2 (F := F) main_arg0 main_arg1 main_arg7 main_arg8 main_arg9 main_arg10 main_v33

def fn {F : FTy → Type} [FloatOps F] (main_arg0 : FVec F S2x32x64 .f32) (main_arg1 : FVec F S2x32x64 .f32) (main_arg2 : FVec F S2x32 .f32) (main_arg3 : FVec F S2x32x64x16 .f32) (main_arg4 : FVec F S2x32x64x16 .f32) (main_arg5 : FVec F S2x32x64 .f32) (main_arg6 : FVec F S2x32x64 .f32) (main_arg7 : FVec F S2x32x64x16 .f32) (main_arg8 : FVec F S2x32x64x16 .f32) (main_arg9 : FVec F S2x32x16x64 .f32) (main_arg10 : FVec F S2x32x16x64 .f32) : IVec S_ 1 :=
  let main_v0 : FVec F S2x32x64 .f32 := Host.absf main_arg0
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x32x64 .f32 := Host.absf main_arg1
  let main_cst_0 : FVec F S_ .f32 := constant S_ .f32 0x7F800000#32
  let main_v5 : FVec F S2x32x64 .f32 := broadcastInDim S2x32x64 ![] bcast_S_S2x32x64 main_cst_0
  let main_v6 : IVec S2x32x64 1 := cmpf .olt main_v4 main_v5
  let main_c_1 : IVec S_ 1 := constantI S_ 1 1#1
  let main_v7 : IVec S_ 1 := (fun x v => Host.reduce IntOp.andi x v reducesTo_S2x32x64_S_d0_1_2 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S2x32x64x16 .f32 := Host.absf main_arg3
  let main_cst_4 : FVec F S_ .f32 := constant S_ .f32 0x7F800000#32
  let main_v15 : FVec F S2x32x64x16 .f32 := broadcastInDim S2x32x64x16 ![] bcast_S_S2x32x64x16 main_cst_4
  let main_v16 : IVec S2x32x64x16 1 := cmpf .olt main_v14 main_v15
  fn_part1 (F := F) main_arg0 main_arg1 main_arg4 main_arg5 main_arg6 main_arg7 main_arg8 main_arg9 main_arg10 main_v13 main_v16
-- ==== Pre_regular_poles.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn_part1 {F : FTy → Type} [FloatOps F] (main_v13 : IVec S_ 1) (main_v16 : FVec F S2x32x64 .f32) (main_cst_4 : FVec F S_ .f32) : IVec S_ 1 :=
  let main_v17 : FVec F S2x32x64 .f32 := broadcastInDim S2x32x64 ![] bcast_S_S2x32x64 main_cst_4
  let main_v18 : IVec S2x32x64 1 := cmpf .ogt main_v16 main_v17
  let main_c_5 : IVec S_ 1 := constantI S_ 1 1#1
  let main_v19 : IVec S_ 1 := (fun x v => Host.reduce IntOp.andi x v reducesTo_S2x32x64_S_d0_1_2 h_S_) main_v18 main_c_5
  let main_v20 : IVec S_ 1 := andi main_v13 main_v19
  main_v20

def fn {F : FTy → Type} [FloatOps F] (main_arg0 : FVec F S2x32x64 .f32) (main_arg1 : FVec F S2x32x64 .f32) (main_arg2 : FVec F S2x32 .f32) (main_arg3 : FVec F S2x32x64x16 .f32) (main_arg4 : FVec F S2x32x64x16 .f32) (main_arg5 : FVec F S2x32x16x64 .f32) (main_arg6 : FVec F S2x32x16x64 .f32) : IVec S_ 1 :=
  let main_v0 : FVec F S2x32x64 .f32 := Host.absf main_arg0
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x32x64 .f32 := Host.absf main_arg1
  let main_cst_0 : FVec F S_ .f32 := constant S_ .f32 0x7F800000#32
  let main_v5 : FVec F S2x32x64 .f32 := broadcastInDim S2x32x64 ![] bcast_S_S2x32x64 main_cst_0
  let main_v6 : IVec S2x32x64 1 := cmpf .olt main_v4 main_v5
  let main_c_1 : IVec S_ 1 := constantI S_ 1 1#1
  let main_v7 : IVec S_ 1 := (fun x v => Host.reduce IntOp.andi x v reducesTo_S2x32x64_S_d0_1_2 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S2x32x64 .f32 := mulf main_arg0 main_arg0
  let main_v15 : FVec F S2x32x64 .f32 := mulf main_arg1 main_arg1
  let main_v16 : FVec F S2x32x64 .f32 := addf main_v14 main_v15
  let main_cst_4 : FVec F S_ .f32 := constant S_ .f32 0x00000000#32
  fn_part1 (F := F) main_v13 main_v16 main_cst_4
-- ==== Kernel.lean ====
abbrev S4096x1024 : Shape := ⟨2, ![4096, 1024]⟩
abbrev S1024x2304 : Shape := ⟨2, ![1024, 2304]⟩
abbrev S512 : Shape := ⟨1, ![512]⟩
abbrev S4096x8x64 : Shape := ⟨3, ![4096, 8, 64]⟩
abbrev S4096x2x64 : Shape := ⟨3, ![4096, 2, 64]⟩
abbrev S4096x512 : Shape := ⟨2, ![4096, 512]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x32x128 : Shape := ⟨3, ![3, 32, 128]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S4096x2x4x64 : Shape := ⟨4, ![4096, 2, 4, 64]⟩
abbrev S4096x4x2x64 : Shape := ⟨4, ![4096, 4, 2, 64]⟩
abbrev S4096x128 : Shape := ⟨2, ![4096, 128]⟩
abbrev S4096x4x128 : Shape := ⟨3, ![4096, 4, 128]⟩
abbrev S4x4096x128 : Shape := ⟨3, ![4, 4096, 128]⟩
abbrev S1x512 : Shape := ⟨2, ![1, 512]⟩
abbrev S2304x1024 : Shape := ⟨2, ![2304, 1024]⟩
abbrev S512x512 : Shape := ⟨2, ![512, 512]⟩
abbrev S512x128 : Shape := ⟨2, ![512, 128]⟩
abbrev S4x512x128 : Shape := ⟨3, ![4, 512, 128]⟩
abbrev S512x1024 : Shape := ⟨2, ![512, 1024]⟩
abbrev S1x1x128 : Shape := ⟨3, ![1, 1, 128]⟩
abbrev S1x512x128 : Shape := ⟨3, ![1, 512, 128]⟩
abbrev S512x2304 : Shape := ⟨2, ![512, 2304]⟩

abbrev nBuf : Space → Nat
  | .hbm => 88
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S512, .f32⟩
  | .hbm, ⟨3, _⟩ => ⟨S4096x1024, .f32⟩
  | .hbm, ⟨4, _⟩ => ⟨S4096x8x64, .f32⟩
  | .hbm, ⟨5, _⟩ => ⟨S4096x2x64, .f32⟩
  | .hbm, ⟨6, _⟩ => ⟨S4096x2x64, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .f32⟩
  | .hbm, ⟨37, _⟩ => ⟨S32x1, .f32⟩
  | .hbm, ⟨38, _⟩ => ⟨S1x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S1x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S1x32x128, .f32⟩
  | .hbm, ⟨50, _⟩ => ⟨S1x32x128, .f32⟩
  | .hbm, ⟨51, _⟩ => ⟨S3x32x128, .f32⟩
  | .hbm, ⟨52, _⟩ => ⟨S128, .i32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S3x128x128, .f32⟩
  | .hbm, ⟨69, _⟩ => ⟨S4096x512, .f32⟩
  | .hbm, ⟨70, _⟩ => ⟨S4096x2x4x64, .f32⟩
  | .hbm, ⟨71, _⟩ => ⟨S4096x4x2x64, .f32⟩
  | .hbm, ⟨72, _⟩ => ⟨S4096x512, .f32⟩
  | .hbm, ⟨73, _⟩ => ⟨S4096x128, .f32⟩
  | .hbm, ⟨74, _⟩ => ⟨S4096x128, .f32⟩
  | .hbm, ⟨75, _⟩ => ⟨S4096x2x4x64, .f32⟩
  | .hbm, ⟨76, _⟩ => ⟨S4096x4x2x64, .f32⟩
  | .hbm, ⟨77, _⟩ => ⟨S4096x512, .f32⟩
  | .hbm, ⟨78, _⟩ => ⟨S4096x4x128, .f32⟩
  | .hbm, ⟨79, _⟩ => ⟨S4x4096x128, .f32⟩
  | .hbm, ⟨80, _⟩ => ⟨S4096x4x128, .f32⟩
  | .hbm, ⟨81, _⟩ => ⟨S4x4096x128, .f32⟩
  | .hbm, ⟨82, _⟩ => ⟨S4096x4x128, .f32⟩
  | .hbm, ⟨83, _⟩ => ⟨S4x4096x128, .f32⟩
  | .hbm, ⟨84, _⟩ => ⟨S1x512, .f32⟩
  | .hbm, ⟨85, _⟩ => ⟨S2304x1024, .f32⟩
  | .hbm, ⟨86, _⟩ => ⟨S2304x1024, .bf16⟩
  | .hbm, ⟨87, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S3x32x128, .f32⟩
  | .local _ .vmem, ⟨18, _⟩ => ⟨S3x128x128, .f32⟩
  | .local _ .vmem, ⟨19, _⟩ => ⟨S512x1024, .f32⟩
  | .local _ .vmem, ⟨20, _⟩ => ⟨S512x1024, .f32⟩
  | .local _ .vmem, ⟨21, _⟩ => ⟨S2304x1024, .bf16⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let c0_6 : Index := 0#32
  let arg0 : BitVec 32 := BitVec.ofNat 32 (i 0).val
  let c4_i32 : BitVec 32 := 4#32
  let v0 : BitVec 32 := Scalar.muli arg0 c4_i32
  let v7 : BitVec 32 := Scalar.addi v0 c0_i32
  let v8 : Index := Scalar.indexCast v7
  let c0_7 : Index := 0#32
  ![0, v8.toNat, 0]
def k0_off2 (i : grid0.Coords) (c0_i32_8 : BitVec 32) : Fin 3 → Nat :=
  let c1_9 : Index := 1#32
  let arg0 : BitVec 32 := BitVec.ofNat 32 (i 0).val
  let c4_i32 : BitVec 32 := 4#32
  let v0 : BitVec 32 := Scalar.muli arg0 c4_i32
  let v11 : BitVec 32 := Scalar.addi v0 c0_i32_8
  let v12 : Index := Scalar.indexCast v11
  let c0_10 : Index := 0#32
  ![1, v12.toNat, 0]
def k0_off3 (i : grid0.Coords) (c0_i32_11 : BitVec 32) : Fin 3 → Nat :=
  let c2_12 : Index := 2#32
  let arg0 : BitVec 32 := BitVec.ofNat 32 (i 0).val
  let c4_i32 : BitVec 32 := 4#32
  let v0 : BitVec 32 := Scalar.muli arg0 c4_i32
  let v15 : BitVec 32 := Scalar.addi v0 c0_i32_11
  let v16 : Index := Scalar.indexCast v15
  let c0_13 : Index := 0#32
  ![2, v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2304x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1024 : Shape := ⟨2, ![4096, 1024]⟩
abbrev S1024x2304 : Shape := ⟨2, ![1024, 2304]⟩
abbrev S512 : Shape := ⟨1, ![512]⟩
abbrev S4096x8x64 : Shape := ⟨3, ![4096, 8, 64]⟩
abbrev S4096x2x64 : Shape := ⟨3, ![4096, 2, 64]⟩
abbrev S4096x512 : Shape := ⟨2, ![4096, 512]⟩
abbrev S4096 : Shape := ⟨1, ![4096]⟩
abbrev S4096x2304 : Shape := ⟨2, ![4096, 2304]⟩
abbrev S4096x128 : Shape := ⟨2, ![4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x32 : Shape := ⟨3, ![4096, 2, 32]⟩
abbrev S1x512 : Shape := ⟨2, ![1, 512]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S1024x2304, .f32⟩
  | 2 => ⟨S512, .f32⟩
  | 3 => ⟨S4096x1024, .f32⟩
  | 4 => ⟨S4096x8x64, .f32⟩
  | 5 => ⟨S4096x2x64, .f32⟩
  | 6 => ⟨S4096x2x64, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096, .i32⟩
  | 13 => ⟨S4096x2304, .f32⟩
  | 14 => ⟨S4096x512, .f32⟩
  | 15 => ⟨S4096x128, .f32⟩
  | 16 => ⟨S4096x128, .f32⟩
  | 17 => ⟨S4096x512, .f32⟩
  | 18 => ⟨S4096x512, .f32⟩
  | 19 => ⟨S4096x512, .f32⟩
  | 20 => ⟨S4096x8x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x1x32, .f32⟩
  | 37 => ⟨S4096x32, .f32⟩
  | 38 => ⟨S4096x1x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x64, .f32⟩
  | 52 => ⟨S4096x2x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4096, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S4096x1x32, .f32⟩
  | 69 => ⟨S4096x32, .f32⟩
  | 70 => ⟨S4096x1x32, .f32⟩
  | 71 => ⟨S4096x2x32, .f32⟩
  | 72 => ⟨S4096x2x32, .f32⟩
  | 73 => ⟨S4096x2x32, .f32⟩
  | 74 => ⟨S4096x2x32, .f32⟩
  | 75 => ⟨S4096x2x32, .f32⟩
  | 76 => ⟨S4096x2x32, .f32⟩
  | 77 => ⟨S4096x2x32, .f32⟩
  | 78 => ⟨S4096x2x32, .f32⟩
  | 79 => ⟨S4096x2x32, .f32⟩
  | 80 => ⟨S4096x2x32, .f32⟩
  | 81 => ⟨S4096x2x32, .f32⟩
  | 82 => ⟨S4096x2x32, .f32⟩
  | 83 => ⟨S4096x2x64, .f32⟩
  | 84 => ⟨S4096x2x64, .f32⟩
  | 85 => ⟨S_, .f32⟩
  | 86 => ⟨S4096x1024, .f32⟩
  | 87 => ⟨S4096x1024, .f32⟩
  | 88 => ⟨S1x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S_, .f32⟩
  | 96 => ⟨S4096x1024, .f32⟩
  | 97 => ⟨S4096x1024, .f32⟩
  | 98 => ⟨S4096x128, .f32⟩
  | 99 => ⟨S4096x2x32, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x32, .f32⟩
  | 106 => ⟨S4096x2x32, .f32⟩
  | 107 => ⟨S4096x2x32, .f32⟩
  | 108 => ⟨S4096x2x32, .f32⟩
  | 109 => ⟨S4096x2x32, .f32⟩
  | 110 => ⟨S4096x2x32, .f32⟩
  | 111 => ⟨S4096x2x32, .f32⟩
  | 112 => ⟨S_, .f32⟩
  | 113 => ⟨S4096x2x64, .f32⟩
  | 114 => ⟨S_, .f32⟩
  | 115 => ⟨S4096x2x64, .f32⟩
  | 116 => ⟨S4096x2x64, .f32⟩
  | 117 => ⟨S4096x128, .f32⟩
  | 118 => ⟨S4096x8x32, .f32⟩
  | 119 => ⟨S4096x8x32, .f32⟩
  | 120 => ⟨S4096x8x32, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1024, .f32⟩

abbrev hbmTy0_1 (i : Nat) : BufTy := match i % 128 with
  | 0 => ⟨S4096x8x32, .f32⟩
  | 1 => ⟨S4096x8x32, .f32⟩
  | 2 => ⟨S4096x8x32, .f32⟩
  | 3 => ⟨S_, .f32⟩
  | 4 => ⟨S4096x8x64, .f32⟩
  | 5 => ⟨S_, .f32⟩
  | 6 => ⟨S4096x8x64, .f32⟩
  | 7 => ⟨S4096x8x64, .f32⟩
  | 8 => ⟨S4096x512, .f32⟩
  | 9 => ⟨S4096x2304, .f32⟩
  | 10 => ⟨S4096x1024, .f32⟩
  | 11 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_3 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_5 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_7 : Ref sig .tc := ⟨.hbm, 131, rfl⟩
abbrev main_v111 : Ref sig .tc := ⟨.hbm, 132, rfl⟩
abbrev main_cst_8 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩

abbrev nD : Nat := 1
abbrev τ : Topo := Topo.v7x

variable {F : FTy → Type} [FloatOps F]
-- ==== Kernel2.lean ====
abbrev S4096x1024 : Shape := ⟨2, ![4096, 1024]⟩
abbrev S1024x2304 : Shape := ⟨2, ![1024, 2304]⟩
abbrev S512 : Shape := ⟨1, ![512]⟩
abbrev S4096x8x64 : Shape := ⟨3, ![4096, 8, 64]⟩
abbrev S4096x2x64 : Shape := ⟨3, ![4096, 2, 64]⟩
abbrev S4096x512 : Shape := ⟨2, ![4096, 512]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x32x128 : Shape := ⟨3, ![3, 32, 128]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S4096x2x4x64 : Shape := ⟨4, ![4096, 2, 4, 64]⟩
abbrev S4096x4x2x64 : Shape := ⟨4, ![4096, 4, 2, 64]⟩
abbrev S4096x128 : Shape := ⟨2, ![4096, 128]⟩
abbrev S4096x4x128 : Shape := ⟨3, ![4096, 4, 128]⟩
abbrev S4x4096x128 : Shape := ⟨3, ![4, 4096, 128]⟩
abbrev S1x512 : Shape := ⟨2, ![1, 512]⟩
abbrev S2304x1024 : Shape := ⟨2, ![2304, 1024]⟩
abbrev S512x1024 : Shape := ⟨2, ![512, 1024]⟩
abbrev S512x512 : Shape := ⟨2, ![512, 512]⟩
abbrev S512x128 : Shape := ⟨2, ![512, 128]⟩
abbrev S4x512x128 : Shape := ⟨3, ![4, 512, 128]⟩
abbrev S1x1x128 : Shape := ⟨3, ![1, 1, 128]⟩
abbrev S1x512x128 : Shape := ⟨3, ![1, 512, 128]⟩
abbrev S512x2304 : Shape := ⟨2, ![512, 2304]⟩
abbrev S768x1024 : Shape := ⟨2, ![768, 1024]⟩
abbrev S512x768 : Shape := ⟨2, ![512, 768]⟩

abbrev nBuf : Space → Nat
  | .hbm => 86
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S512, .f32⟩
  | .hbm, ⟨3, _⟩ => ⟨S4096x1024, .f32⟩
  | .hbm, ⟨4, _⟩ => ⟨S4096x8x64, .f32⟩
  | .hbm, ⟨5, _⟩ => ⟨S4096x2x64, .f32⟩
  | .hbm, ⟨6, _⟩ => ⟨S4096x2x64, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .f32⟩
  | .hbm, ⟨37, _⟩ => ⟨S32x1, .f32⟩
  | .hbm, ⟨38, _⟩ => ⟨S1x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S1x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S1x32x128, .f32⟩
  | .hbm, ⟨50, _⟩ => ⟨S1x32x128, .f32⟩
  | .hbm, ⟨51, _⟩ => ⟨S3x32x128, .f32⟩
  | .hbm, ⟨52, _⟩ => ⟨S128, .i32⟩
  | .hbm, ⟨53, _⟩ => ⟨S128, .f32⟩
  | .hbm, ⟨54, _⟩ => ⟨S128x1, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S3x128x128, .f32⟩
  | .hbm, ⟨69, _⟩ => ⟨S4096x512, .f32⟩
  | .hbm, ⟨70, _⟩ => ⟨S4096x2x4x64, .f32⟩
  | .hbm, ⟨71, _⟩ => ⟨S4096x4x2x64, .f32⟩
  | .hbm, ⟨72, _⟩ => ⟨S4096x512, .f32⟩
  | .hbm, ⟨73, _⟩ => ⟨S4096x128, .f32⟩
  | .hbm, ⟨74, _⟩ => ⟨S4096x128, .f32⟩
  | .hbm, ⟨75, _⟩ => ⟨S4096x2x4x64, .f32⟩
  | .hbm, ⟨76, _⟩ => ⟨S4096x4x2x64, .f32⟩
  | .hbm, ⟨77, _⟩ => ⟨S4096x512, .f32⟩
  | .hbm, ⟨78, _⟩ => ⟨S4096x4x128, .f32⟩
  | .hbm, ⟨79, _⟩ => ⟨S4x4096x128, .f32⟩
  | .hbm, ⟨80, _⟩ => ⟨S4096x4x128, .f32⟩
  | .hbm, ⟨81, _⟩ => ⟨S4x4096x128, .f32⟩
  | .hbm, ⟨82, _⟩ => ⟨S4096x4x128, .f32⟩
  | .hbm, ⟨83, _⟩ => ⟨S4x4096x128, .f32⟩
  | .hbm, ⟨84, _⟩ => ⟨S1x512, .f32⟩
  | .hbm, ⟨85, _⟩ => ⟨S2304x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S4x512x128, .f32⟩
  | .local _ .vmem, ⟨15, _⟩ => ⟨S4x512x128, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S3x32x128, .f32⟩
  | .local _ .vmem, ⟨20, _⟩ => ⟨S3x128x128, .f32⟩
  | .local _ .vmem, ⟨21, _⟩ => ⟨S2304x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def k0_off1 (i : grid0.Coords) (c0_i32_7 : BitVec 32) : Fin 3 → Nat :=
  let c0_8 : Index := 0#32
  let arg0 : BitVec 32 := BitVec.ofNat 32 (i 0).val
  let c4_i32 : BitVec 32 := 4#32
  let v3 : BitVec 32 := Scalar.muli arg0 c4_i32
  let v10 : BitVec 32 := Scalar.addi v3 c0_i32_7
  let v11 : Index := Scalar.indexCast v10
  let c0_9 : Index := 0#32
  ![0, v11.toNat, 0]
def k0_off2 (i : grid0.Coords) (c0_i32_10 : BitVec 32) : Fin 3 → Nat :=
  let c1_11 : Index := 1#32
  let arg0 : BitVec 32 := BitVec.ofNat 32 (i 0).val
  let c4_i32 : BitVec 32 := 4#32
  let v3 : BitVec 32 := Scalar.muli arg0 c4_i32
  let v14 : BitVec 32 := Scalar.addi v3 c0_i32_10
  let v15 : Index := Scalar.indexCast v14
  let c0_12 : Index := 0#32
  ![1, v15.toNat, 0]
def k0_off3 (i : grid0.Coords) (c0_i32_13 : BitVec 32) : Fin 3 → Nat :=
  let c2_14 : Index := 2#32
  let arg0 : BitVec 32 := BitVec.ofNat 32 (i 0).val
  let c4_i32 : BitVec 32 := 4#32
  let v3 : BitVec 32 := Scalar.muli arg0 c4_i32
  let v18 : BitVec 32 := Scalar.addi v3 c0_i32_13
  let v19 : Index := Scalar.indexCast v18
  let c0_15 : Index := 0#32
  ![2, v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2304x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S1024x2304 : Shape := ⟨2, ![1024, 2304]⟩
abbrev S512 : Shape := ⟨1, ![512]⟩
abbrev S4096x8x64 : Shape := ⟨3, ![4096, 8, 64]⟩
abbrev S4096x2x64 : Shape := ⟨3, ![4096, 2, 64]⟩
abbrev S4096x512 : Shape := ⟨2, ![4096, 512]⟩
abbrev S4096 : Shape := ⟨1, ![4096]⟩
abbrev S4096x2304 : Shape := ⟨2, ![4096, 2304]⟩
abbrev S4096x128 : Shape := ⟨2, ![4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x32 : Shape := ⟨3, ![4096, 2, 32]⟩
abbrev S1x512 : Shape := ⟨2, ![1, 512]⟩
abbrev S2304x1024 : Shape := ⟨2, ![2304, 1024]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S1024x2304, .f32⟩
  | 2 => ⟨S512, .f32⟩
  | 3 => ⟨S4096x1024, .f32⟩
  | 4 => ⟨S4096x8x64, .f32⟩
  | 5 => ⟨S4096x2x64, .f32⟩
  | 6 => ⟨S4096x2x64, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096, .i32⟩
  | 13 => ⟨S4096x2304, .f32⟩
  | 14 => ⟨S4096x512, .f32⟩
  | 15 => ⟨S4096x128, .f32⟩
  | 16 => ⟨S4096x128, .f32⟩
  | 17 => ⟨S4096x512, .f32⟩
  | 18 => ⟨S4096x512, .f32⟩
  | 19 => ⟨S4096x512, .f32⟩
  | 20 => ⟨S4096x8x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x1x32, .f32⟩
  | 37 => ⟨S4096x32, .f32⟩
  | 38 => ⟨S4096x1x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x64, .f32⟩
  | 52 => ⟨S4096x2x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4096, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S4096x1x32, .f32⟩
  | 69 => ⟨S4096x32, .f32⟩
  | 70 => ⟨S4096x1x32, .f32⟩
  | 71 => ⟨S4096x2x32, .f32⟩
  | 72 => ⟨S4096x2x32, .f32⟩
  | 73 => ⟨S4096x2x32, .f32⟩
  | 74 => ⟨S4096x2x32, .f32⟩
  | 75 => ⟨S4096x2x32, .f32⟩
  | 76 => ⟨S4096x2x32, .f32⟩
  | 77 => ⟨S4096x2x32, .f32⟩
  | 78 => ⟨S4096x2x32, .f32⟩
  | 79 => ⟨S4096x2x32, .f32⟩
  | 80 => ⟨S4096x2x32, .f32⟩
  | 81 => ⟨S4096x2x32, .f32⟩
  | 82 => ⟨S4096x2x32, .f32⟩
  | 83 => ⟨S4096x2x64, .f32⟩
  | 84 => ⟨S4096x2x64, .f32⟩
  | 85 => ⟨S_, .f32⟩
  | 86 => ⟨S4096x1024, .f32⟩
  | 87 => ⟨S4096x1024, .f32⟩
  | 88 => ⟨S1x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x128, .f32⟩
  | 96 => ⟨S4096x2x32, .f32⟩
  | 97 => ⟨S4096x2x32, .f32⟩
  | 98 => ⟨S4096x2x32, .f32⟩
  | 99 => ⟨S4096x2x32, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x32, .f32⟩
  | 106 => ⟨S4096x2x32, .f32⟩
  | 107 => ⟨S4096x2x32, .f32⟩
  | 108 => ⟨S4096x2x32, .f32⟩
  | 109 => ⟨S_, .f32⟩
  | 110 => ⟨S4096x2x64, .f32⟩
  | 111 => ⟨S_, .f32⟩
  | 112 => ⟨S4096x2x64, .f32⟩
  | 113 => ⟨S4096x2x64, .f32⟩
  | 114 => ⟨S4096x128, .f32⟩
  | 115 => ⟨S4096x8x32, .f32⟩
  | 116 => ⟨S4096x8x32, .f32⟩
  | 117 => ⟨S4096x8x32, .f32⟩
  | 118 => ⟨S4096x8x32, .f32⟩
  | 119 => ⟨S4096x8x32, .f32⟩
  | 120 => ⟨S4096x8x32, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1024, .f32⟩

abbrev hbmTy0_1 (i : Nat) : BufTy := match i % 128 with
  | 0 => ⟨S_, .f32⟩
  | 1 => ⟨S4096x8x64, .f32⟩
  | 2 => ⟨S_, .f32⟩
  | 3 => ⟨S4096x8x64, .f32⟩
  | 4 => ⟨S4096x8x64, .f32⟩
  | 5 => ⟨S4096x512, .f32⟩
  | 6 => ⟨S4096x2304, .f32⟩
  | 7 => ⟨S2304x1024, .f32⟩
  | 8 => ⟨S1024x2304, .f32⟩
  | 9 => ⟨S2304x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_3 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_4 : Ref sig .tc := ⟨.hbm, 109, rfl⟩
abbrev main_v92 : Ref sig .tc := ⟨.hbm, 110, rfl⟩
abbrev main_cst_5 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_6 : Ref sig .tc := ⟨.hbm, 128, rfl⟩
abbrev main_v109 : Ref sig .tc := ⟨.hbm, 129, rfl⟩
abbrev main_cst_7 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩

abbrev nD : Nat := 1
abbrev τ : Topo := Topo.v7x

variable {F : FTy → Type} [FloatOps F]
-- ==== Kernel3.lean ====
abbrev S4096x8x64 : Shape := ⟨3, ![4096, 8, 64]⟩
abbrev S4096x2x64 : Shape := ⟨3, ![4096, 2, 64]⟩
abbrev S8 : Shape := ⟨1, ![8]⟩
abbrev S4096x512 : Shape := ⟨2, ![4096, 512]⟩
abbrev S4096x2x4x64 : Shape := ⟨4, ![4096, 2, 4, 64]⟩
abbrev S_ : Shape := ⟨0, ![]⟩
abbrev S4096x4x64 : Shape := ⟨3, ![4096, 4, 64]⟩
abbrev S4096x1x4x64 : Shape := ⟨4, ![4096, 1, 4, 64]⟩
abbrev S4096x4x128 : Shape := ⟨3, ![4096, 4, 128]⟩
abbrev S4096x8x128 : Shape := ⟨3, ![4096, 8, 128]⟩
abbrev S8x4096x128 : Shape := ⟨3, ![8, 4096, 128]⟩
abbrev S4096x4x2x64 : Shape := ⟨4, ![4096, 4, 2, 64]⟩
abbrev S8x1x1 : Shape := ⟨3, ![8, 1, 1]⟩
abbrev S8x1x128 : Shape := ⟨3, ![8, 1, 128]⟩
abbrev S4096x128 : Shape := ⟨2, ![4096, 128]⟩
abbrev S3x128x384 : Shape := ⟨3, ![3, 128, 384]⟩
abbrev S8x128 : Shape := ⟨2, ![8, 128]⟩
abbrev S8x128x128 : Shape := ⟨3, ![8, 128, 128]⟩
abbrev S1x128x384 : Shape := ⟨3, ![1, 128, 384]⟩
abbrev S128x512 : Shape := ⟨2, ![128, 512]⟩
abbrev S384x128 : Shape := ⟨2, ![384, 128]⟩
abbrev S1024x128 : Shape := ⟨2, ![1024, 128]⟩
abbrev S1024x384 : Shape := ⟨2, ![1024, 384]⟩
abbrev S8x128x384 : Shape := ⟨3, ![8, 128, 384]⟩
abbrev S128x384 : Shape := ⟨2, ![128, 384]⟩
abbrev S8x128x1 : Shape := ⟨3, ![8, 128, 1]⟩
abbrev S512x384 : Shape := ⟨2, ![512, 384]⟩
abbrev S512x128 : Shape := ⟨2, ![512, 128]⟩
abbrev S128x128 : Shape := ⟨2, ![128, 128]⟩
abbrev S1x128x128 : Shape := ⟨3, ![1, 128, 128]⟩

abbrev nBuf : Space → Nat
  | .hbm => 48
  | .vmem => 15
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S8, .f32⟩
  | .hbm, ⟨4, _⟩ => ⟨S4096x512, .f32⟩
  | .hbm, ⟨5, _⟩ => ⟨S4096x2x4x64, .f32⟩
  | .hbm, ⟨6, _⟩ => ⟨S_, .f32⟩
  | .hbm, ⟨7, _⟩ => ⟨S4096x4x64, .f32⟩
  | .hbm, ⟨8, _⟩ => ⟨S4096x1x4x64, .f32⟩
  | .hbm, ⟨9, _⟩ => ⟨S4096x4x64, .f32⟩
  | .hbm, ⟨10, _⟩ => ⟨S4096x4x128, .f32⟩
  | .hbm, ⟨11, _⟩ => ⟨S4096x1x4x64, .f32⟩
  | .hbm, ⟨12, _⟩ => ⟨S4096x4x64, .f32⟩
  | .hbm, ⟨13, _⟩ => ⟨S4096x4x128, .f32⟩
  | .hbm, ⟨14, _⟩ => ⟨S4096x8x128, .f32⟩
  | .hbm, ⟨15, _⟩ => ⟨S8x4096x128, .f32⟩
  | .hbm, ⟨16, _⟩ => ⟨S8x4096x128, .bf16⟩
  | .hbm, ⟨17, _⟩ => ⟨S4096x2x4x64, .f32⟩
  | .hbm, ⟨18, _⟩ => ⟨S4096x4x2x64, .f32⟩
  | .hbm, ⟨19, _⟩ => ⟨S4096x512, .f32⟩
  | .hbm, ⟨20, _⟩ => ⟨S8x1x1, .f32⟩
  | .hbm, ⟨21, _⟩ => ⟨S8x1x128, .f32⟩
  | .hbm, ⟨22, _⟩ => ⟨S4096x128, .f32⟩
  | .hbm, ⟨23, _⟩ => ⟨S4096x128, .bf16⟩
  | .hbm, ⟨24, _⟩ => ⟨S4096x128, .f32⟩
  | .hbm, ⟨25, _⟩ => ⟨S4096x128, .bf16⟩
  | .hbm, ⟨26, _⟩ => ⟨S3x128x384, .i32⟩
  | .hbm, ⟨27, _⟩ => ⟨S_, .i32⟩
  | .hbm, ⟨28, _⟩ => ⟨S3x128x384, .i32⟩
  | .hbm, ⟨29, _⟩ => ⟨S3x128x384, .i32⟩
  | .hbm, ⟨30, _⟩ => ⟨S3x128x384, .i32⟩
  | .hbm, ⟨31, _⟩ => ⟨S3x128x384, .i32⟩
  | .hbm, ⟨32, _⟩ => ⟨S3x128x384, .i32⟩
  | .hbm, ⟨33, _⟩ => ⟨S3x128x384, .i32⟩
  | .hbm, ⟨34, _⟩ => ⟨S3x128x384, .i32⟩
  | .hbm, ⟨35, _⟩ => ⟨S_, .i32⟩
  | .hbm, ⟨36, _⟩ => ⟨S3x128x384, .i32⟩
  | .hbm, ⟨37, _⟩ => ⟨S3x128x384, .i1⟩
  | .hbm, ⟨38, _⟩ => ⟨S_, .f32⟩
  | .hbm, ⟨39, _⟩ => ⟨S_, .f32⟩
  | .hbm, ⟨40, _⟩ => ⟨S3x128x384, .f32⟩
  | .hbm, ⟨41, _⟩ => ⟨S3x128x384, .f32⟩
  | .hbm, ⟨42, _⟩ => ⟨S3x128x384, .f32⟩
  | .hbm, ⟨43, _⟩ => ⟨S3x128x384, .f32⟩
  | .hbm, ⟨44, _⟩ => ⟨S4096x512, .f32⟩
  | .hbm, ⟨45, _⟩ => ⟨S4096x128, .f32⟩
  | .hbm, ⟨46, _⟩ => ⟨S4096x128, .f32⟩
  | .hbm, ⟨47, _⟩ => ⟨S8x128, .f32⟩
  | .local _ .vmem, ⟨0, _⟩ => ⟨S8x128x128, .bf16⟩
  | .local _ .vmem, ⟨1, _⟩ => ⟨S8x128x128, .bf16⟩
  | .local _ .vmem, ⟨2, _⟩ => ⟨S4096x128, .bf16⟩
  | .local _ .vmem, ⟨3, _⟩ => ⟨S4096x128, .bf16⟩
  | .local _ .vmem, ⟨4, _⟩ => ⟨S8x1x128, .f32⟩
  | .local _ .vmem, ⟨5, _⟩ => ⟨S1x128x384, .f32⟩
  | .local _ .vmem, ⟨6, _⟩ => ⟨S1x128x384, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S4096x128, .f32⟩
  | .local _ .vmem, ⟨12, _⟩ => ⟨S4096x128, .f32⟩
  | .local _ .vmem, ⟨13, _⟩ => ⟨S8x128, .f32⟩
  | .local _ .vmem, ⟨14, _⟩ => ⟨S8x128x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c3712_i32 : BitVec 32 := 3712#32
  let c0_i32_2 : BitVec 32 := 0#32
  let arg0 : BitVec 32 := BitVec.ofNat 32 (i 0).val
  let c128_i32 : BitVec 32 := 128#32
  let v3 : BitVec 32 := Scalar.muli arg0 c128_i32
  let c128_i32_1 : BitVec 32 := 128#32
  let v4 : BitVec 32 := Scalar.subi v3 c128_i32_1
  let v5 : BitVec 32 := Scalar.maxsi c0_i32_2 v4
  let v6 : BitVec 32 := Scalar.minsi c3712_i32 v5
  v6
def k0_off1 (i : grid0.Coords) : Fin 2 → Nat :=
  let c3712_i32 : BitVec 32 := 3712#32
  let c0_i32_2 : BitVec 32 := 0#32
  let arg0 : BitVec 32 := BitVec.ofNat 32 (i 0).val
  let c128_i32 : BitVec 32 := 128#32
  let v3 : BitVec 32 := Scalar.muli arg0 c128_i32
  let c128_i32_1 : BitVec 32 := 128#32
  let v4 : BitVec 32 := Scalar.subi v3 c128_i32_1
  let v5 : BitVec 32 := Scalar.maxsi c0_i32_2 v4
  let v6 : BitVec 32 := Scalar.minsi c3712_i32 v5
  let v7 : BitVec 32 := v6
  let v8 : Index := Scalar.indexCast v7
  let c0 : Index := 0#32
  ![v8.toNat, 0]
def k0_cond2 (i : grid0.Coords) : BitVec 1 :=
  let arg0 : BitVec 32 := BitVec.ofNat 32 (i 0).val
  let c31_i32 : BitVec 32 := 31#32
  let v192 : BitVec 1 := Scalar.cmpi .eq arg0 c31_i32
  let v193 : BitVec 32 := Scalar.extui v192
  let c0_i32_51 : BitVec 32 := 0#32
  let v194 : BitVec 1 := Scalar.cmpi .ne v193 c0_i32_51
  v194

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .eq arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x8x64 : Shape := ⟨3, ![4096, 8, 64]⟩
abbrev S4096x2x64 : Shape := ⟨3, ![4096, 2, 64]⟩
abbrev S8 : Shape := ⟨1, ![8]⟩
abbrev S4096x512 : Shape := ⟨2, ![4096, 512]⟩
abbrev S1x4096x8x64 : Shape := ⟨4, ![1, 4096, 8, 64]⟩
abbrev S1x4096x2x64 : Shape := ⟨4, ![1, 4096, 2, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x128x2x4x64 : Shape := ⟨6, ![1, 32, 128, 2, 4, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S1x32x2x64x384 : Shape := ⟨5, ![1, 32, 2, 64, 384]⟩
abbrev S1x2x4x1 : Shape := ⟨4, ![1, 2, 4, 1]⟩
abbrev S32x2x4x128 : Shape := ⟨4, ![32, 2, 4, 128]⟩
abbrev S1x32x2x128x4x64 : Shape := ⟨6, ![1, 32, 2, 128, 4, 64]⟩
abbrev S1x32x2x384x64 : Shape := ⟨5, ![1, 32, 2, 384, 64]⟩
abbrev S4096x2x4x64 : Shape := ⟨4, ![4096, 2, 4, 64]⟩
abbrev S4096x4x2x64 : Shape := ⟨4, ![4096, 4, 2, 64]⟩
abbrev S4096x128 : Shape := ⟨2, ![4096, 128]⟩
abbrev S8x1 : Shape := ⟨2, ![8, 1]⟩
abbrev S8x128 : Shape := ⟨2, ![8, 128]⟩

abbrev nBuf : Space → Nat
  | .hbm => 237
  | .vmem => 0
  | .smem => 0
  | _ => 0

abbrev hbmTy0_0 (i : Nat) : BufTy := match i % 128 with
  | 0 => ⟨S4096x8x64, .f32⟩
  | 1 => ⟨S4096x2x64, .f32⟩
  | 2 => ⟨S4096x2x64, .f32⟩
  | 3 => ⟨S8, .f32⟩
  | 4 => ⟨S4096x512, .f32⟩
  | 5 => ⟨S1x4096x8x64, .f32⟩
  | 6 => ⟨S1x4096x2x64, .f32⟩
  | 7 => ⟨S1x4096x2x64, .f32⟩
  | 8 => ⟨S_, .f32⟩
  | 9 => ⟨S1x128x2x64, .f32⟩
  | 10 => ⟨S1x4352x2x64, .f32⟩
  | 11 => ⟨S_, .f32⟩
  | 12 => ⟨S1x128x2x64, .f32⟩
  | 13 => ⟨S_, .f32⟩
  | 14 => ⟨S1x128x2x64, .f32⟩
  | 15 => ⟨S1x34x128x2x64, .f32⟩
  | 16 => ⟨S_, .f32⟩
  | 17 => ⟨S1x128x2x64, .f32⟩
  | 18 => ⟨S1x4352x2x64, .f32⟩
  | 19 => ⟨S_, .f32⟩
  | 20 => ⟨S1x128x2x64, .f32⟩
  | 21 => ⟨S_, .f32⟩
  | 22 => ⟨S1x128x2x64, .f32⟩
  | 23 => ⟨S1x34x128x2x64, .f32⟩
  | 24 => ⟨S1x32x128x2x64, .f32⟩
  | 25 => ⟨S1x32x128x2x64, .f32⟩
  | 26 => ⟨S1x32x128x2x64, .f32⟩
  | 27 => ⟨S1x32x384x2x64, .f32⟩
  | 28 => ⟨S1x32x128x2x64, .f32⟩
  | 29 => ⟨S1x32x128x2x64, .f32⟩
  | 30 => ⟨S1x32x128x2x64, .f32⟩
  | 31 => ⟨S1x32x384x2x64, .f32⟩
  | 32 => ⟨S1x32x128x2x4x64, .f32⟩
  | 33 => ⟨S1x32x2x384x128x4, .f32⟩
  | 34 => ⟨S1x32x2x4x128x384, .f32⟩
  | 35 => ⟨S_, .f32⟩
  | 36 => ⟨S1x32x2x4x128x384, .f32⟩
  | 37 => ⟨S1x32x2x4x128x384, .f32⟩
  | 38 => ⟨S32, .i32⟩
  | 39 => ⟨S32x1, .i32⟩
  | 40 => ⟨S_, .i32⟩
  | 41 => ⟨S32x1, .i32⟩
  | 42 => ⟨S32x1, .i32⟩
  | 43 => ⟨S128, .i32⟩
  | 44 => ⟨S1x128, .i32⟩
  | 45 => ⟨S32x128, .i32⟩
  | 46 => ⟨S32x128, .i32⟩
  | 47 => ⟨S32x128, .i32⟩
  | 48 => ⟨S_, .i32⟩
  | 49 => ⟨S32x1, .i32⟩
  | 50 => ⟨S32x1, .i32⟩
  | 51 => ⟨S384, .i32⟩
  | 52 => ⟨S1x384, .i32⟩
  | 53 => ⟨S32x384, .i32⟩
  | 54 => ⟨S32x384, .i32⟩
  | 55 => ⟨S32x384, .i32⟩
  | 56 => ⟨S32x128x1, .i32⟩
  | 57 => ⟨S32x1x384, .i32⟩
  | 58 => ⟨S32x128x384, .i32⟩
  | 59 => ⟨S32x128x384, .i32⟩
  | 60 => ⟨S32x128x384, .i32⟩
  | 61 => ⟨S32x128x384, .i32⟩
  | 62 => ⟨S_, .i32⟩
  | 63 => ⟨S32x128x384, .i32⟩
  | 64 => ⟨S32x128x384, .i1⟩
  | 65 => ⟨S32x1x384, .i32⟩
  | 66 => ⟨S_, .i32⟩
  | 67 => ⟨S32x1x384, .i32⟩
  | 68 => ⟨S32x1x384, .i1⟩
  | 69 => ⟨S32x128x384, .i1⟩
  | 70 => ⟨S32x128x384, .i1⟩
  | 71 => ⟨S32x1x384, .i32⟩
  | 72 => ⟨S_, .i32⟩
  | 73 => ⟨S32x1x384, .i32⟩
  | 74 => ⟨S32x1x384, .i1⟩
  | 75 => ⟨S32x128x384, .i1⟩
  | 76 => ⟨S32x128x384, .i1⟩
  | 77 => ⟨S1x32x1x1x128x384, .i1⟩
  | 78 => ⟨S_, .f32⟩
  | 79 => ⟨S_, .f32⟩
  | 80 => ⟨S1x32x2x4x128x384, .i1⟩
  | 81 => ⟨S1x32x2x4x128x384, .f32⟩
  | 82 => ⟨S1x32x2x4x128x384, .f32⟩
  | 83 => ⟨S_, .f32⟩
  | 84 => ⟨S1x32x2x4x128x384, .f32⟩
  | 85 => ⟨S2x4, .f32⟩
  | 86 => ⟨S1x1x2x4x1x1, .f32⟩
  | 87 => ⟨S_, .f32⟩
  | 88 => ⟨S1x32x2x4x128, .f32⟩
  | 89 => ⟨S1x32x2x4x128x1, .f32⟩
  | 90 => ⟨S1x32x2x4x128x384, .f32⟩
  | 91 => ⟨S1x32x2x4x128x384, .i1⟩
  | 92 => ⟨S1x32x2x4x128x384, .f32⟩
  | 93 => ⟨S_, .f32⟩
  | 94 => ⟨S1x32x2x4x128, .f32⟩
  | 95 => ⟨S1x32x2x4x128x1, .f32⟩
  | 96 => ⟨S1x32x2x4x128x1, .f32⟩
  | 97 => ⟨S1x32x2x4x128x1, .f32⟩
  | 98 => ⟨S1x32x2x4x128x1, .f32⟩
  | 99 => ⟨S1x32x2x4x128x1, .i1⟩
  | 100 => ⟨S1x32x2x4x128x1, .f32⟩
  | 101 => ⟨S1x32x2x4x128x1, .i1⟩
  | 102 => ⟨S_, .f32⟩
  | 103 => ⟨S1x32x2x4x128x1, .f32⟩
  | 104 => ⟨S_, .f32⟩
  | 105 => ⟨S1x32x2x4x128x1, .f32⟩
  | 106 => ⟨S_, .f32⟩
  | 107 => ⟨S1x32x2x4x128x1, .f32⟩
  | 108 => ⟨S1x32x2x4x128x1, .f32⟩
  | 109 => ⟨S1x32x2x4x128x1, .f32⟩
  | 110 => ⟨S1x32x2x4x128x1, .f32⟩
  | 111 => ⟨S1x32x2x4x128x1, .i1⟩
  | 112 => ⟨S1x32x2x4x128x1, .f32⟩
  | 113 => ⟨S1x32x2x4x128x1, .i1⟩
  | 114 => ⟨S_, .f32⟩
  | 115 => ⟨S1x32x2x4x128x1, .f32⟩
  | 116 => ⟨S_, .f32⟩
  | 117 => ⟨S1x32x2x4x128x1, .f32⟩
  | 118 => ⟨S_, .f32⟩
  | 119 => ⟨S1x32x2x4x128x1, .f32⟩
  | 120 => ⟨S1x32x2x4x128x1, .f32⟩
  | 121 => ⟨S1x32x2x4x128x1, .f32⟩
  | 122 => ⟨S1x32x2x4x128x384, .f32⟩
  | 123 => ⟨S1x32x2x4x128x384, .f32⟩
  | 124 => ⟨S1x32x2x4x128x384, .f32⟩
  | 125 => ⟨S_, .f32⟩
  | 126 => ⟨S1x32x2x4x128, .f32⟩
  | 127 => ⟨S1x32x2x4x128x1, .f32⟩
  | _ => ⟨S4096x8x64, .f32⟩

abbrev hbmTy0_1 (i : Nat) : BufTy := match i % 128 with
  | 0 => ⟨S1x32x2x4x128x1, .f32⟩
  | 1 => ⟨S1x32x2x4x128x1, .f32⟩
  | 2 => ⟨S1x32x2x4x128x1, .f32⟩
  | 3 => ⟨S1x32x2x4x128x1, .f32⟩
  | 4 => ⟨S1x32x2x4x128x384, .f32⟩
  | 5 => ⟨S1x32x2x4x128x384, .f32⟩
  | 6 => ⟨S1x32x2x4x128x1, .f32⟩
  | 7 => ⟨S_, .f32⟩
  | 8 => ⟨S1x32x2x4x128x1, .f32⟩
  | 9 => ⟨S1x32x2x4x128x1, .f32⟩
  | 10 => ⟨S1x32x2x64x4x128, .f32⟩
  | 11 => ⟨S1x32x128x2x4x64, .f32⟩
  | 12 => ⟨S1x4096x512, .f32⟩
  | 13 => ⟨S1x4096x512, .f32⟩
  | 14 => ⟨S1x32x128x2x4x64, .f32⟩
  | 15 => ⟨S1x32x2x64x4x128, .f32⟩
  | 16 => ⟨S1x32x2x4x128x384, .f32⟩
  | 17 => ⟨S1x32x2x64x384, .f32⟩
  | 18 => ⟨S1x32x384x2x64, .f32⟩
  | 19 => ⟨S1x32x2x4x128x384, .f32⟩
  | 20 => ⟨S1x32x2x4x128x384, .f32⟩
  | 21 => ⟨S1x32x2x4x128x384, .f32⟩
  | 22 => ⟨S_, .f32⟩
  | 23 => ⟨S1x32x2x4x128, .f32⟩
  | 24 => ⟨S1x32x2x4x128x1, .f32⟩
  | 25 => ⟨S1x32x2x4x128x1, .f32⟩
  | 26 => ⟨S1x32x2x4x128x384, .f32⟩
  | 27 => ⟨S1x32x2x4x128x384, .f32⟩
  | 28 => ⟨S1x32x2x4x128x1, .f32⟩
  | 29 => ⟨S_, .f32⟩
  | 30 => ⟨S1x2x4x1, .f32⟩
  | 31 => ⟨S1x1x2x4x1x1, .f32⟩
  | 32 => ⟨S1x32x2x4x128x1, .f32⟩
  | 33 => ⟨S_, .f32⟩
  | 34 => ⟨S32x2x4x128, .f32⟩
  | 35 => ⟨S1x32x2x4x128, .f32⟩
  | 36 => ⟨S1x32x2x4x128x384, .f32⟩
  | 37 => ⟨S1x32x2x4x128x384, .f32⟩
  | 38 => ⟨S1x32x2x4x128x384, .f32⟩
  | 39 => ⟨S1x32x2x4x128x384, .f32⟩
  | 40 => ⟨S_, .f32⟩
  | 41 => ⟨S1x32x2x4x128, .f32⟩
  | 42 => ⟨S1x32x2x4x128x1, .f32⟩
  | 43 => ⟨S1x32x2x4x128x1, .f32⟩
  | 44 => ⟨S1x32x2x4x128x1, .f32⟩
  | 45 => ⟨S_, .f32⟩
  | 46 => ⟨S1x2x4x1, .f32⟩
  | 47 => ⟨S1x1x2x4x1x1, .f32⟩
  | 48 => ⟨S1x1x2x4x1x1, .f32⟩
  | 49 => ⟨S1x32x2x4x128x1, .f32⟩
  | 50 => ⟨S_, .f32⟩
  | 51 => ⟨S32x2x4x128, .f32⟩
  | 52 => ⟨S1x32x2x4x128, .f32⟩
  | 53 => ⟨S1x32x2x4x128, .f32⟩
  | 54 => ⟨S1x32x2x4x128x384, .f32⟩
  | 55 => ⟨S1x32x2x4x128x384, .f32⟩
  | 56 => ⟨S1x32x2x4x128x384, .f32⟩
  | 57 => ⟨S_, .f32⟩
  | 58 => ⟨S2x4, .f32⟩
  | 59 => ⟨S8, .f32⟩
  | 60 => ⟨S_, .f32⟩
  | 61 => ⟨S1x32x2x4x128x384, .f32⟩
  | 62 => ⟨S1x32x2x4x128x384, .f32⟩
  | 63 => ⟨S_, .f32⟩
  | 64 => ⟨S1x32x2x4x128x384, .f32⟩
  | 65 => ⟨S1x32x2x4x128x384, .f32⟩
  | 66 => ⟨S1x32x2x384x128x4, .f32⟩
  | 67 => ⟨S1x32x2x128x4x64, .f32⟩
  | 68 => ⟨S1x32x128x2x4x64, .f32⟩
  | 69 => ⟨S1x32x2x384x64, .f32⟩
  | 70 => ⟨S1x32x384x2x64, .f32⟩
  | 71 => ⟨S1x4096x8x64, .f32⟩
  | 72 => ⟨S1x32x128x2x64, .f32⟩
  | 73 => ⟨S1x32x128x2x64, .f32⟩
  | 74 => ⟨S1x32x128x2x64, .f32⟩
  | 75 => ⟨S_, .f32⟩
  | 76 => ⟨S1x34x128x2x64, .f32⟩
  | 77 => ⟨S_, .f32⟩
  | 78 => ⟨S1x34x128x2x64, .f32⟩
  | 79 => ⟨S1x34x128x2x64, .f32⟩
  | 80 => ⟨S_, .f32⟩
  | 81 => ⟨S1x34x128x2x64, .f32⟩
  | 82 => ⟨S1x34x128x2x64, .f32⟩
  | 83 => ⟨S1x32x128x2x64, .f32⟩
  | 84 => ⟨S1x32x128x2x64, .f32⟩
  | 85 => ⟨S1x32x128x2x64, .f32⟩
  | 86 => ⟨S_, .f32⟩
  | 87 => ⟨S1x34x128x2x64, .f32⟩
  | 88 => ⟨S_, .f32⟩
  | 89 => ⟨S1x34x128x2x64, .f32⟩
  | 90 => ⟨S1x34x128x2x64, .f32⟩
  | 91 => ⟨S_, .f32⟩
  | 92 => ⟨S1x34x128x2x64, .f32⟩
  | 93 => ⟨S1x34x128x2x64, .f32⟩
  | 94 => ⟨S1x4352x2x64, .f32⟩
  | 95 => ⟨S1x128x2x64, .f32⟩
  | 96 => ⟨S1x4096x2x64, .f32⟩
  | 97 => ⟨S1x128x2x64, .f32⟩
  | 98 => ⟨S1x4352x2x64, .f32⟩
  | 99 => ⟨S1x128x2x64, .f32⟩
  | 100 => ⟨S1x4096x2x64, .f32⟩
  | 101 => ⟨S1x128x2x64, .f32⟩
  | 102 => ⟨S4096x2x4x64, .f32⟩
  | 103 => ⟨S4096x4x2x64, .f32⟩
  | 104 => ⟨S4096x512, .f32⟩
  | 105 => ⟨S4096x128, .f32⟩
  | 106 => ⟨S4096x128, .f32⟩
  | 107 => ⟨S8x1, .f32⟩
  | 108 => ⟨S8x128, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_call0_v0 : Ref sig .tc := ⟨.hbm, 79, rfl⟩
abbrev main_v61_1 : Ref sig .tc := ⟨.hbm, 80, rfl⟩
abbrev main_call0_v2 : Ref sig .tc := ⟨.hbm, 81, rfl⟩
abbrev main_v61_0 : Ref sig .tc := ⟨.hbm, 82, rfl⟩
abbrev main_call0_cst : Ref sig .tc := ⟨.hbm, 83, rfl⟩
abbrev main_v61_2 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_20 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_21 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_24 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_25 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_26 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_27 : Ref sig .tc := ⟨.hbm, 185, rfl⟩
abbrev main_v146 : Ref sig .tc := ⟨.hbm, 186, rfl⟩
abbrev main_v147 : Ref sig .tc := ⟨.hbm, 187, rfl⟩
abbrev main_call1_cst : Ref sig .tc := ⟨.hbm, 188, rfl⟩
abbrev main_call1_v0 : Ref sig .tc := ⟨.hbm, 189, rfl⟩
abbrev main_v148 : Ref sig .tc := ⟨.hbm, 190, rfl⟩
abbrev main_cst_28 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_29 : Ref sig .tc := ⟨.hbm, 203, rfl⟩
abbrev main_v160 : Ref sig .tc := ⟨.hbm, 204, rfl⟩
abbrev main_cst_30 : Ref sig .tc := ⟨.hbm, 205, rfl⟩
abbrev main_v161 : Ref sig .tc := ⟨.hbm, 206, rfl⟩
abbrev main_v162 : Ref sig .tc := ⟨.hbm, 207, rfl⟩
abbrev main_cst_31 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_32 : Ref sig .tc := ⟨.hbm, 214, rfl⟩
abbrev main_v168 : Ref sig .tc := ⟨.hbm, 215, rfl⟩
abbrev main_cst_33 : Ref sig .tc := ⟨.hbm, 216, rfl⟩
abbrev main_v169 : Ref sig .tc := ⟨.hbm, 217, rfl⟩
abbrev main_v170 : Ref sig .tc := ⟨.hbm, 218, rfl⟩
abbrev main_cst_34 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩

abbrev nD : Nat := 1
abbrev τ : Topo := Topo.v7x

variable {F : FTy → Type} [FloatOps F]
-- ==== Kernel4.lean ====
abbrev S4096x8x64 : Shape := ⟨3, ![4096, 8, 64]⟩
abbrev S4096x2x64 : Shape := ⟨3, ![4096, 2, 64]⟩
abbrev S8 : Shape := ⟨1, ![8]⟩
abbrev S4096x2x4x64 : Shape := ⟨4, ![4096, 2, 4, 64]⟩
abbrev S_ : Shape := ⟨0, ![]⟩
abbrev S4096x4x64 : Shape := ⟨3, ![4096, 4, 64]⟩
abbrev S4096x1x4x64 : Shape := ⟨4, ![4096, 1, 4, 64]⟩
abbrev S4096x4x128 : Shape := ⟨3, ![4096, 4, 128]⟩
abbrev S4096x8x128 : Shape := ⟨3, ![4096, 8, 128]⟩
abbrev S8x4096x128 : Shape := ⟨3, ![8, 4096, 128]⟩
abbrev S8x1x1 : Shape := ⟨3, ![8, 1, 1]⟩
abbrev S8x1x128 : Shape := ⟨3, ![8, 1, 128]⟩
abbrev S4096x128 : Shape := ⟨2, ![4096, 128]⟩
abbrev S3x128x384 : Shape := ⟨3, ![3, 128, 384]⟩
abbrev S4096x512 : Shape := ⟨2, ![4096, 512]⟩
abbrev S8x128x128 : Shape := ⟨3, ![8, 128, 128]⟩
abbrev S1x128x384 : Shape := ⟨3, ![1, 128, 384]⟩
abbrev S128x512 : Shape := ⟨2, ![128, 512]⟩
abbrev S384x128 : Shape := ⟨2, ![384, 128]⟩
abbrev S1024x128 : Shape := ⟨2, ![1024, 128]⟩
abbrev S1024x384 : Shape := ⟨2, ![1024, 384]⟩
abbrev S8x128x384 : Shape := ⟨3, ![8, 128, 384]⟩
abbrev S128x384 : Shape := ⟨2, ![128, 384]⟩
abbrev S8x128 : Shape := ⟨2, ![8, 128]⟩
abbrev S8x128x1 : Shape := ⟨3, ![8, 128, 1]⟩
abbrev S512x384 : Shape := ⟨2, ![512, 384]⟩
abbrev S512x128 : Shape := ⟨2, ![512, 128]⟩
abbrev S128x128 : Shape := ⟨2, ![128, 128]⟩
abbrev S1x128x128 : Shape := ⟨3, ![1, 128, 128]⟩

abbrev nBuf : Space → Nat
  | .hbm => 41
  | .vmem => 9
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S8, .f32⟩
  | .hbm, ⟨4, _⟩ => ⟨S4096x2x4x64, .f32⟩
  | .hbm, ⟨5, _⟩ => ⟨S_, .f32⟩
  | .hbm, ⟨6, _⟩ => ⟨S4096x4x64, .f32⟩
  | .hbm, ⟨7, _⟩ => ⟨S4096x1x4x64, .f32⟩
  | .hbm, ⟨8, _⟩ => ⟨S4096x4x64, .f32⟩
  | .hbm, ⟨9, _⟩ => ⟨S4096x4x128, .f32⟩
  | .hbm, ⟨10, _⟩ => ⟨S4096x1x4x64, .f32⟩
  | .hbm, ⟨11, _⟩ => ⟨S4096x4x64, .f32⟩
  | .hbm, ⟨12, _⟩ => ⟨S4096x4x128, .f32⟩
  | .hbm, ⟨13, _⟩ => ⟨S4096x8x128, .f32⟩
  | .hbm, ⟨14, _⟩ => ⟨S8x4096x128, .f32⟩
  | .hbm, ⟨15, _⟩ => ⟨S8x4096x128, .bf16⟩
  | .hbm, ⟨16, _⟩ => ⟨S8x1x1, .f32⟩
  | .hbm, ⟨17, _⟩ => ⟨S8x1x128, .f32⟩
  | .hbm, ⟨18, _⟩ => ⟨S4096x128, .f32⟩
  | .hbm, ⟨19, _⟩ => ⟨S4096x128, .bf16⟩
  | .hbm, ⟨20, _⟩ => ⟨S4096x128, .f32⟩
  | .hbm, ⟨21, _⟩ => ⟨S4096x128, .bf16⟩
  | .hbm, ⟨22, _⟩ => ⟨S3x128x384, .i32⟩
  | .hbm, ⟨23, _⟩ => ⟨S_, .i32⟩
  | .hbm, ⟨24, _⟩ => ⟨S3x128x384, .i32⟩
  | .hbm, ⟨25, _⟩ => ⟨S3x128x384, .i32⟩
  | .hbm, ⟨26, _⟩ => ⟨S3x128x384, .i32⟩
  | .hbm, ⟨27, _⟩ => ⟨S3x128x384, .i32⟩
  | .hbm, ⟨28, _⟩ => ⟨S3x128x384, .i32⟩
  | .hbm, ⟨29, _⟩ => ⟨S3x128x384, .i32⟩
  | .hbm, ⟨30, _⟩ => ⟨S3x128x384, .i32⟩
  | .hbm, ⟨31, _⟩ => ⟨S_, .i32⟩
  | .hbm, ⟨32, _⟩ => ⟨S3x128x384, .i32⟩
  | .hbm, ⟨33, _⟩ => ⟨S3x128x384, .i1⟩
  | .hbm, ⟨34, _⟩ => ⟨S_, .f32⟩
  | .hbm, ⟨35, _⟩ => ⟨S_, .f32⟩
  | .hbm, ⟨36, _⟩ => ⟨S3x128x384, .f32⟩
  | .hbm, ⟨37, _⟩ => ⟨S3x128x384, .f32⟩
  | .hbm, ⟨38, _⟩ => ⟨S3x128x384, .f32⟩
  | .hbm, ⟨39, _⟩ => ⟨S3x128x384, .f32⟩
  | .hbm, ⟨40, _⟩ => ⟨S4096x512, .f32⟩
  | .local _ .vmem, ⟨0, _⟩ => ⟨S8x128x128, .bf16⟩
  | .local _ .vmem, ⟨1, _⟩ => ⟨S8x128x128, .bf16⟩
  | .local _ .vmem, ⟨2, _⟩ => ⟨S4096x128, .bf16⟩
  | .local _ .vmem, ⟨3, _⟩ => ⟨S4096x128, .bf16⟩
  | .local _ .vmem, ⟨4, _⟩ => ⟨S8x1x128, .f32⟩
  | .local _ .vmem, ⟨5, _⟩ => ⟨S1x128x384, .f32⟩
  | .local _ .vmem, ⟨6, _⟩ => ⟨S1x128x384, .f32⟩
  | .local _ .vmem, ⟨7, _⟩ => ⟨S128x512, .f32⟩
  | .local _ .vmem, ⟨8, _⟩ => ⟨S128x512, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c3712_i32 : BitVec 32 := 3712#32
  let c0_i32 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  v3
def k0_off1 (i : grid0.Coords) : Fin 2 → Nat :=
  let c3712_i32 : BitVec 32 := 3712#32
  let c0_i32 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .eq arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x8x64 : Shape := ⟨3, ![4096, 8, 64]⟩
abbrev S4096x2x64 : Shape := ⟨3, ![4096, 2, 64]⟩
abbrev S8 : Shape := ⟨1, ![8]⟩
abbrev S1x4096x8x64 : Shape := ⟨4, ![1, 4096, 8, 64]⟩
abbrev S1x4096x2x64 : Shape := ⟨4, ![1, 4096, 2, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x128x2x4x64 : Shape := ⟨6, ![1, 32, 128, 2, 4, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S4096x2x4x64 : Shape := ⟨4, ![4096, 2, 4, 64]⟩
abbrev S4096x4x2x64 : Shape := ⟨4, ![4096, 4, 2, 64]⟩
abbrev S4096x512 : Shape := ⟨2, ![4096, 512]⟩

abbrev nBuf : Space → Nat
  | .hbm => 99
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S8, .f32⟩
  | .hbm, ⟨4, _⟩ => ⟨S1x4096x8x64, .f32⟩
  | .hbm, ⟨5, _⟩ => ⟨S1x4096x2x64, .f32⟩
  | .hbm, ⟨6, _⟩ => ⟨S1x4096x2x64, .f32⟩
  | .hbm, ⟨7, _⟩ => ⟨S_, .f32⟩
  | .hbm, ⟨8, _⟩ => ⟨S1x128x2x64, .f32⟩
  | .hbm, ⟨9, _⟩ => ⟨S1x4352x2x64, .f32⟩
  | .hbm, ⟨10, _⟩ => ⟨S1x34x128x2x64, .f32⟩
  | .hbm, ⟨11, _⟩ => ⟨S_, .f32⟩
  | .hbm, ⟨12, _⟩ => ⟨S1x128x2x64, .f32⟩
  | .hbm, ⟨13, _⟩ => ⟨S1x4352x2x64, .f32⟩
  | .hbm, ⟨14, _⟩ => ⟨S1x34x128x2x64, .f32⟩
  | .hbm, ⟨15, _⟩ => ⟨S1x32x128x2x64, .f32⟩
  | .hbm, ⟨16, _⟩ => ⟨S1x32x128x2x64, .f32⟩
  | .hbm, ⟨17, _⟩ => ⟨S1x32x128x2x64, .f32⟩
  | .hbm, ⟨18, _⟩ => ⟨S1x32x384x2x64, .f32⟩
  | .hbm, ⟨19, _⟩ => ⟨S1x32x128x2x64, .f32⟩
  | .hbm, ⟨20, _⟩ => ⟨S1x32x128x2x64, .f32⟩
  | .hbm, ⟨21, _⟩ => ⟨S1x32x128x2x64, .f32⟩
  | .hbm, ⟨22, _⟩ => ⟨S1x32x384x2x64, .f32⟩
  | .hbm, ⟨23, _⟩ => ⟨S1x32x128x2x4x64, .f32⟩
  | .hbm, ⟨24, _⟩ => ⟨S1x32x2x384x128x4, .f32⟩
  | .hbm, ⟨25, _⟩ => ⟨S1x32x2x4x128x384, .f32⟩
  | .hbm, ⟨26, _⟩ => ⟨S_, .f32⟩
  | .hbm, ⟨27, _⟩ => ⟨S1x32x2x4x128x384, .f32⟩
  | .hbm, ⟨28, _⟩ => ⟨S1x32x2x4x128x384, .f32⟩
  | .hbm, ⟨29, _⟩ => ⟨S32, .i32⟩
  | .hbm, ⟨30, _⟩ => ⟨S32x1, .i32⟩
  | .hbm, ⟨31, _⟩ => ⟨S_, .i32⟩
  | .hbm, ⟨32, _⟩ => ⟨S32x1, .i32⟩
  | .hbm, ⟨33, _⟩ => ⟨S32x1, .i32⟩
  | .hbm, ⟨34, _⟩ => ⟨S128, .i32⟩
  | .hbm, ⟨35, _⟩ => ⟨S1x128, .i32⟩
  | .hbm, ⟨36, _⟩ => ⟨S32x128, .i32⟩
  | .hbm, ⟨37, _⟩ => ⟨S32x128, .i32⟩
  | .hbm, ⟨38, _⟩ => ⟨S32x128, .i32⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S384, .i32⟩
  | .hbm, ⟨43, _⟩ => ⟨S1x384, .i32⟩
  | .hbm, ⟨44, _⟩ => ⟨S32x384, .i32⟩
  | .hbm, ⟨45, _⟩ => ⟨S32x384, .i32⟩
  | .hbm, ⟨46, _⟩ => ⟨S32x384, .i32⟩
  | .hbm, ⟨47, _⟩ => ⟨S32x128x1, .i32⟩
  | .hbm, ⟨48, _⟩ => ⟨S32x1x384, .i32⟩
  | .hbm, ⟨49, _⟩ => ⟨S32x128x384, .i32⟩
  | .hbm, ⟨50, _⟩ => ⟨S32x128x384, .i32⟩
  | .hbm, ⟨51, _⟩ => ⟨S32x128x384, .i32⟩
  | .hbm, ⟨52, _⟩ => ⟨S32x128x384, .i32⟩
  | .hbm, ⟨53, _⟩ => ⟨S_, .i32⟩
  | .hbm, ⟨54, _⟩ => ⟨S32x128x384, .i32⟩
  | .hbm, ⟨55, _⟩ => ⟨S32x128x384, .i1⟩
  | .hbm, ⟨56, _⟩ => ⟨S32x1x384, .i32⟩
  | .hbm, ⟨57, _⟩ => ⟨S_, .i32⟩
  | .hbm, ⟨58, _⟩ => ⟨S32x1x384, .i32⟩
  | .hbm, ⟨59, _⟩ => ⟨S32x1x384, .i1⟩
  | .hbm, ⟨60, _⟩ => ⟨S32x128x384, .i1⟩
  | .hbm, ⟨61, _⟩ => ⟨S32x128x384, .i1⟩
  | .hbm, ⟨62, _⟩ => ⟨S32x1x384, .i32⟩
  | .hbm, ⟨63, _⟩ => ⟨S_, .i32⟩
  | .hbm, ⟨64, _⟩ => ⟨S32x1x384, .i32⟩
  | .hbm, ⟨65, _⟩ => ⟨S32x1x384, .i1⟩
  | .hbm, ⟨66, _⟩ => ⟨S32x128x384, .i1⟩
  | .hbm, ⟨67, _⟩ => ⟨S32x128x384, .i1⟩
  | .hbm, ⟨68, _⟩ => ⟨S1x32x1x1x128x384, .i1⟩
  | .hbm, ⟨69, _⟩ => ⟨S_, .f32⟩
  | .hbm, ⟨70, _⟩ => ⟨S_, .f32⟩
  | .hbm, ⟨71, _⟩ => ⟨S1x32x2x4x128x384, .i1⟩
  | .hbm, ⟨72, _⟩ => ⟨S1x32x2x4x128x384, .f32⟩
  | .hbm, ⟨73, _⟩ => ⟨S1x32x2x4x128x384, .f32⟩
  | .hbm, ⟨74, _⟩ => ⟨S2x4, .f32⟩
  | .hbm, ⟨75, _⟩ => ⟨S1x1x2x4x1x1, .f32⟩
  | .hbm, ⟨76, _⟩ => ⟨S_, .f32⟩
  | .hbm, ⟨77, _⟩ => ⟨S1x32x2x4x128, .f32⟩
  | .hbm, ⟨78, _⟩ => ⟨S1x32x2x4x128x1, .f32⟩
  | .hbm, ⟨79, _⟩ => ⟨S1x32x2x4x128x1, .f32⟩
  | .hbm, ⟨80, _⟩ => ⟨S1x32x2x4x128x1, .f32⟩
  | .hbm, ⟨81, _⟩ => ⟨S1x32x2x4x128x384, .f32⟩
  | .hbm, ⟨82, _⟩ => ⟨S1x32x2x4x128x384, .f32⟩
  | .hbm, ⟨83, _⟩ => ⟨S1x32x2x4x128x384, .f32⟩
  | .hbm, ⟨84, _⟩ => ⟨S_, .f32⟩
  | .hbm, ⟨85, _⟩ => ⟨S1x32x2x4x128, .f32⟩
  | .hbm, ⟨86, _⟩ => ⟨S1x32x2x4x128x1, .f32⟩
  | .hbm, ⟨87, _⟩ => ⟨S1x32x2x4x128x1, .f32⟩
  | .hbm, ⟨88, _⟩ => ⟨S1x32x2x4x128x1, .f32⟩
  | .hbm, ⟨89, _⟩ => ⟨S1x32x2x4x128x1, .f32⟩
  | .hbm, ⟨90, _⟩ => ⟨S1x32x2x4x128x1, .f32⟩
  | .hbm, ⟨91, _⟩ => ⟨S1x32x2x4x128x384, .f32⟩
  | .hbm, ⟨92, _⟩ => ⟨S1x32x2x4x128x384, .f32⟩
  | .hbm, ⟨93, _⟩ => ⟨S1x32x2x64x4x128, .f32⟩
  | .hbm, ⟨94, _⟩ => ⟨S1x32x128x2x4x64, .f32⟩
  | .hbm, ⟨95, _⟩ => ⟨S1x4096x512, .f32⟩
  | .hbm, ⟨96, _⟩ => ⟨S4096x2x4x64, .f32⟩
  | .hbm, ⟨97, _⟩ => ⟨S4096x4x2x64, .f32⟩
  | .hbm, ⟨98, _⟩ => ⟨S4096x512, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Kernel5.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S1x2x32x16x64 : Shape := ⟨5, ![1, 2, 32, 16, 64]⟩
abbrev S2x2x32x16x64 : Shape := ⟨5, ![2, 2, 32, 16, 64]⟩
abbrev S2x2x4x8x16x8x64 : Shape := ⟨7, ![2, 2, 4, 8, 16, 8, 64]⟩
abbrev S2x2x4x8x16x1x64 : Shape := ⟨7, ![2, 2, 4, 8, 16, 1, 64]⟩
abbrev S_ : Shape := ⟨0, ![]⟩
abbrev S2x2x4x128x512 : Shape := ⟨5, ![2, 2, 4, 128, 512]⟩
abbrev S1x2x32x64 : Shape := ⟨4, ![1, 2, 32, 64]⟩
abbrev S2x2x32x64 : Shape := ⟨4, ![2, 2, 32, 64]⟩
abbrev S2x2x1x2048 : Shape := ⟨4, ![2, 2, 1, 2048]⟩
abbrev S2x2x7x2048 : Shape := ⟨4, ![2, 2, 7, 2048]⟩
abbrev S2x2x8x2048 : Shape := ⟨4, ![2, 2, 8, 2048]⟩
abbrev S64x1 : Shape := ⟨2, ![64, 1]⟩
abbrev S2x1x4x128x512 : Shape := ⟨5, ![2, 1, 4, 128, 512]⟩
abbrev S2x4x128x512 : Shape := ⟨4, ![2, 4, 128, 512]⟩
abbrev S2x1x8x2048 : Shape := ⟨4, ![2, 1, 8, 2048]⟩
abbrev S2x8x2048 : Shape := ⟨3, ![2, 8, 2048]⟩
abbrev S64x64 : Shape := ⟨2, ![64, 64]⟩
abbrev S1024x64 : Shape := ⟨2, ![1024, 64]⟩
abbrev S2x1024x64 : Shape := ⟨3, ![2, 1024, 64]⟩
abbrev S2x64x64 : Shape := ⟨3, ![2, 64, 64]⟩
abbrev S512x64 : Shape := ⟨2, ![512, 64]⟩
abbrev S128x512 : Shape := ⟨2, ![128, 512]⟩
abbrev S1x1x128x512 : Shape := ⟨4, ![1, 1, 128, 512]⟩
abbrev S128x64 : Shape := ⟨2, ![128, 64]⟩
abbrev S1x128x64 : Shape := ⟨3, ![1, 128, 64]⟩
abbrev S32x2048 : Shape := ⟨2, ![32, 2048]⟩
abbrev S2048x64 : Shape := ⟨2, ![2048, 64]⟩
abbrev S1x8x2048 : Shape := ⟨3, ![1, 8, 2048]⟩
abbrev S8x2048 : Shape := ⟨2, ![8, 2048]⟩
abbrev S2048 : Shape := ⟨1, ![2048]⟩
abbrev S1x2048 : Shape := ⟨2, ![1, 2048]⟩
abbrev S32x64 : Shape := ⟨2, ![32, 64]⟩
abbrev S1x32x64 : Shape := ⟨3, ![1, 32, 64]⟩
abbrev S1x1024x64 : Shape := ⟨3, ![1, 1024, 64]⟩
abbrev S1x64x64 : Shape := ⟨3, ![1, 64, 64]⟩
abbrev S64 : Shape := ⟨1, ![64]⟩

abbrev nBuf : Space → Nat
  | .hbm => 72
  | .vmem => 20
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x64, .f32⟩
  | .hbm, ⟨6, _⟩ => ⟨S2x32x64, .f32⟩
  | .hbm, ⟨7, _⟩ => ⟨S2x32x64x16, .f32⟩
  | .hbm, ⟨8, _⟩ => ⟨S2x32x64x16, .f32⟩
  | .hbm, ⟨9, _⟩ => ⟨S2x32x16x64, .f32⟩
  | .hbm, ⟨10, _⟩ => ⟨S2x32x16x64, .f32⟩
  | .hbm, ⟨11, _⟩ => ⟨S2x32x16x64, .f32⟩
  | .hbm, ⟨12, _⟩ => ⟨S2x32x16x64, .f32⟩
  | .hbm, ⟨13, _⟩ => ⟨S1x2x32x16x64, .f32⟩
  | .hbm, ⟨14, _⟩ => ⟨S1x2x32x16x64, .f32⟩
  | .hbm, ⟨15, _⟩ => ⟨S2x2x32x16x64, .f32⟩
  | .hbm, ⟨16, _⟩ => ⟨S2x2x4x8x16x8x64, .i32⟩
  | .hbm, ⟨17, _⟩ => ⟨S2x2x4x8x16x8x64, .i32⟩
  | .hbm, ⟨18, _⟩ => ⟨S2x2x4x8x16x8x64, .i1⟩
  | .hbm, ⟨19, _⟩ => ⟨S2x2x4x8x16x1x64, .f32⟩
  | .hbm, ⟨20, _⟩ => ⟨S_, .f32⟩
  | .hbm, ⟨21, _⟩ => ⟨S_, .f32⟩
  | .hbm, ⟨22, _⟩ => ⟨S2x2x4x8x16x8x64, .f32⟩
  | .hbm, ⟨23, _⟩ => ⟨S2x2x4x8x16x8x64, .f32⟩
  | .hbm, ⟨24, _⟩ => ⟨S2x2x4x8x16x8x64, .f32⟩
  | .hbm, ⟨25, _⟩ => ⟨S2x2x4x128x512, .f32⟩
  | .hbm, ⟨26, _⟩ => ⟨S1x2x32x16x64, .f32⟩
  | .hbm, ⟨27, _⟩ => ⟨S1x2x32x16x64, .f32⟩
  | .hbm, ⟨28, _⟩ => ⟨S2x2x32x16x64, .f32⟩
  | .hbm, ⟨29, _⟩ => ⟨S2x2x4x8x16x8x64, .i32⟩
  | .hbm, ⟨30, _⟩ => ⟨S2x2x4x8x16x8x64, .i32⟩
  | .hbm, ⟨31, _⟩ => ⟨S2x2x4x8x16x8x64, .i1⟩
  | .hbm, ⟨32, _⟩ => ⟨S2x2x4x8x16x1x64, .f32⟩
  | .hbm, ⟨33, _⟩ => ⟨S_, .f32⟩
  | .hbm, ⟨34, _⟩ => ⟨S_, .f32⟩
  | .hbm, ⟨35, _⟩ => ⟨S2x2x4x8x16x8x64, .f32⟩
  | .hbm, ⟨36, _⟩ => ⟨S2x2x4x8x16x8x64, .f32⟩
  | .hbm, ⟨37, _⟩ => ⟨S2x2x4x8x16x8x64, .f32⟩
  | .hbm, ⟨38, _⟩ => ⟨S2x2x4x128x512, .f32⟩
  | .hbm, ⟨39, _⟩ => ⟨S1x2x32x64, .f32⟩
  | .hbm, ⟨40, _⟩ => ⟨S1x2x32x64, .f32⟩
  | .hbm, ⟨41, _⟩ => ⟨S2x2x32x64, .f32⟩
  | .hbm, ⟨42, _⟩ => ⟨S2x2x1x2048, .f32⟩
  | .hbm, ⟨43, _⟩ => ⟨S_, .f32⟩
  | .hbm, ⟨44, _⟩ => ⟨S2x2x7x2048, .f32⟩
  | .hbm, ⟨45, _⟩ => ⟨S2x2x8x2048, .f32⟩
  | .hbm, ⟨46, _⟩ => ⟨S1x2x32x64, .f32⟩
  | .hbm, ⟨47, _⟩ => ⟨S1x2x32x64, .f32⟩
  | .hbm, ⟨48, _⟩ => ⟨S64x1, .f32⟩
  | .hbm, ⟨49, _⟩ => ⟨S2x32x16x64, .f32⟩
  | .hbm, ⟨50, _⟩ => ⟨S1x2x32x16x64, .f32⟩
  | .hbm, ⟨51, _⟩ => ⟨S2x32x16x64, .f32⟩
  | .hbm, ⟨52, _⟩ => ⟨S1x2x32x16x64, .f32⟩
  | .hbm, ⟨53, _⟩ => ⟨S2x1x4x128x512, .f32⟩
  | .hbm, ⟨54, _⟩ => ⟨S2x4x128x512, .f32⟩
  | .hbm, ⟨55, _⟩ => ⟨S2x1x4x128x512, .f32⟩
  | .hbm, ⟨56, _⟩ => ⟨S2x4x128x512, .f32⟩
  | .hbm, ⟨57, _⟩ => ⟨S2x1x4x128x512, .f32⟩
  | .hbm, ⟨58, _⟩ => ⟨S2x4x128x512, .f32⟩
  | .hbm, ⟨59, _⟩ => ⟨S2x1x4x128x512, .f32⟩
  | .hbm, ⟨60, _⟩ => ⟨S2x4x128x512, .f32⟩
  | .hbm, ⟨61, _⟩ => ⟨S2x1x8x2048, .f32⟩
  | .hbm, ⟨62, _⟩ => ⟨S2x8x2048, .f32⟩
  | .hbm, ⟨63, _⟩ => ⟨S2x1x8x2048, .f32⟩
  | .hbm, ⟨64, _⟩ => ⟨S2x8x2048, .f32⟩
  | .hbm, ⟨65, _⟩ => ⟨S64x64, .f32⟩
  | .hbm, ⟨66, _⟩ => ⟨S64x64, .f32⟩
  | .hbm, ⟨67, _⟩ => ⟨S64x1, .f32⟩
  | .hbm, ⟨68, _⟩ => ⟨S1024x64, .f32⟩
  | .hbm, ⟨69, _⟩ => ⟨S1024x64, .f32⟩
  | .hbm, ⟨70, _⟩ => ⟨S1024x64, .f32⟩
  | .hbm, ⟨71, _⟩ => ⟨S1024x64, .f32⟩
  | .local _ .vmem, ⟨0, _⟩ => ⟨S1x2x32x64, .f32⟩
  | .local _ .vmem, ⟨1, _⟩ => ⟨S1x2x32x64, .f32⟩
  | .local _ .vmem, ⟨2, _⟩ => ⟨S64x1, .f32⟩
  | .local _ .vmem, ⟨3, _⟩ => ⟨S1x2x32x16x64, .f32⟩
  | .local _ .vmem, ⟨4, _⟩ => ⟨S1x2x32x16x64, .f32⟩
  | .local _ .vmem, ⟨5, _⟩ => ⟨S2x4x128x512, .f32⟩
  | .local _ .vmem, ⟨6, _⟩ => ⟨S2x4x128x512, .f32⟩
  | .local _ .vmem, ⟨7, _⟩ => ⟨S2x4x128x512, .f32⟩
  | .local _ .vmem, ⟨8, _⟩ => ⟨S2x4x128x512, .f32⟩
  | .local _ .vmem, ⟨9, _⟩ => ⟨S2x8x2048, .f32⟩
  | .local _ .vmem, ⟨10, _⟩ => ⟨S2x8x2048, .f32⟩
  | .local _ .vmem, ⟨11, _⟩ => ⟨S64x64, .f32⟩
  | .local _ .vmem, ⟨12, _⟩ => ⟨S64x64, .f32⟩
  | .local _ .vmem, ⟨13, _⟩ => ⟨S64x1, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S2x1024x64, .f32⟩
  | .local _ .vmem, ⟨19, _⟩ => ⟨S2x64x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v45_2 : Ref sig .tc := ⟨.hbm, 67, rfl⟩
abbrev main_v45_3 : Ref sig .tc := ⟨.hbm, 68, rfl⟩
abbrev main_v45_4 : Ref sig .tc := ⟨.hbm, 69, rfl⟩
abbrev main_v45_5 : Ref sig .tc := ⟨.hbm, 70, rfl⟩
abbrev main_v45_6 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x2x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Reference5Ideal.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S_ : Shape := ⟨0, ![]⟩
abbrev S2x32x1 : Shape := ⟨3, ![2, 32, 1]⟩
abbrev S2x32x64x1 : Shape := ⟨4, ![2, 32, 64, 1]⟩
abbrev S64x64 : Shape := ⟨2, ![64, 64]⟩
abbrev S64x1 : Shape := ⟨2, ![64, 1]⟩
abbrev S1024x64 : Shape := ⟨2, ![1024, 64]⟩

abbrev nBuf : Space → Nat
  | .hbm => 183
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x64, .f32⟩
  | 6 => ⟨S2x32x64, .f32⟩
  | 7 => ⟨S2x32x64x16, .f32⟩
  | 8 => ⟨S2x32x64x16, .f32⟩
  | 9 => ⟨S2x32x16x64, .f32⟩
  | 10 => ⟨S2x32x16x64, .f32⟩
  | 11 => ⟨S_, .f32⟩
  | 12 => ⟨S2x32x16x64, .f32⟩
  | 13 => ⟨S2x32, .f32⟩
  | 14 => ⟨S2x32x1, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S_, .f32⟩
  | 32 => ⟨S2x32x64, .f32⟩
  | 33 => ⟨S2x32x64, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S_, .f32⟩
  | 40 => ⟨S2x32x64, .f32⟩
  | 41 => ⟨S2x32x64, .f32⟩
  | 42 => ⟨S2x32x64, .f32⟩
  | 43 => ⟨S_, .f32⟩
  | 44 => ⟨S2x32x64, .f32⟩
  | 45 => ⟨S2x32x64, .f32⟩
  | 46 => ⟨S2x32x64, .f32⟩
  | 47 => ⟨S2x32x64, .f32⟩
  | 48 => ⟨S2x32x64, .f32⟩
  | 49 => ⟨S2x32x64, .f32⟩
  | 50 => ⟨S_, .f32⟩
  | 51 => ⟨S2x32x64, .f32⟩
  | 52 => ⟨S2x32x64, .f32⟩
  | 53 => ⟨S2x32x64x1, .f32⟩
  | 54 => ⟨S2x32x64x16, .f32⟩
  | 55 => ⟨S2x32x64x16, .f32⟩
  | 56 => ⟨S2x32x64x1, .f32⟩
  | 57 => ⟨S2x32x64x16, .f32⟩
  | 58 => ⟨S2x32x64x16, .f32⟩
  | 59 => ⟨S2x32x64x16, .f32⟩
  | 60 => ⟨S2x32x64x1, .f32⟩
  | 61 => ⟨S2x32x64x16, .f32⟩
  | 62 => ⟨S2x32x64x16, .f32⟩
  | 63 => ⟨S2x32x64x1, .f32⟩
  | 64 => ⟨S2x32x64x16, .f32⟩
  | 65 => ⟨S2x32x64x16, .f32⟩
  | 66 => ⟨S2x32x64x16, .f32⟩
  | 67 => ⟨S2x32x64x16, .f32⟩
  | 68 => ⟨S2x32x64x16, .f32⟩
  | 69 => ⟨S2x32x64x16, .f32⟩
  | 70 => ⟨S2x32x64x16, .f32⟩
  | 71 => ⟨S2x32x64x16, .f32⟩
  | 72 => ⟨S_, .f32⟩
  | 73 => ⟨S2x32x64, .f32⟩
  | 74 => ⟨S2x32x64x1, .f32⟩
  | 75 => ⟨S_, .f32⟩
  | 76 => ⟨S2x32x64, .f32⟩
  | 77 => ⟨S2x32x64x16, .f32⟩
  | 78 => ⟨S2x32x64x16, .f32⟩
  | 79 => ⟨S2x32x64x16, .f32⟩
  | 80 => ⟨S_, .f32⟩
  | 81 => ⟨S2x32x64, .f32⟩
  | 82 => ⟨S2x32x64x1, .f32⟩
  | 83 => ⟨S_, .f32⟩
  | 84 => ⟨S2x32x64, .f32⟩
  | 85 => ⟨S2x32x64x16, .f32⟩
  | 86 => ⟨S2x32x64x16, .f32⟩
  | 87 => ⟨S2x32x64x16, .f32⟩
  | 88 => ⟨S2x32x64x16, .f32⟩
  | 89 => ⟨S2x32x64x16, .f32⟩
  | 90 => ⟨S2x32x64x16, .f32⟩
  | 91 => ⟨S_, .f32⟩
  | 92 => ⟨S2x32x64, .f32⟩
  | 93 => ⟨S2x32x64x1, .f32⟩
  | 94 => ⟨S_, .f32⟩
  | 95 => ⟨S2x32x64, .f32⟩
  | 96 => ⟨S2x32x64, .f32⟩
  | 97 => ⟨S2x32x64x16, .f32⟩
  | 98 => ⟨S2x32x64x16, .f32⟩
  | 99 => ⟨S2x32x64x16, .f32⟩
  | 100 => ⟨S2x32x64x16, .f32⟩
  | 101 => ⟨S_, .f32⟩
  | 102 => ⟨S2x32x64, .f32⟩
  | 103 => ⟨S2x32x64x1, .f32⟩
  | 104 => ⟨S_, .f32⟩
  | 105 => ⟨S2x32x64, .f32⟩
  | 106 => ⟨S2x32x64, .f32⟩
  | 107 => ⟨S2x32x64, .f32⟩
  | 108 => ⟨S2x32x64, .f32⟩
  | 109 => ⟨S2x32x64, .f32⟩
  | 110 => ⟨S2x32x64, .f32⟩
  | 111 => ⟨S2x32x64, .f32⟩
  | 112 => ⟨S2x32x64, .f32⟩
  | 113 => ⟨S2x32x64, .f32⟩
  | 114 => ⟨S2x32x64, .f32⟩
  | 115 => ⟨S2x32x64, .f32⟩
  | 116 => ⟨S2x32x64, .f32⟩
  | 117 => ⟨S2x32x64, .f32⟩
  | 118 => ⟨S2x32x64, .f32⟩
  | 119 => ⟨S2x32x64, .f32⟩
  | 120 => ⟨S2x32x64, .f32⟩
  | 121 => ⟨S2x32x64, .f32⟩
  | 122 => ⟨S2x32x64, .f32⟩
  | 123 => ⟨S2x32x64, .f32⟩
  | 124 => ⟨S2x32x64, .f32⟩
  | 125 => ⟨S2x32x64, .f32⟩
  | 126 => ⟨S2x32x64, .f32⟩
  | 127 => ⟨S2x32x64, .f32⟩
  | _ => ⟨S2x32x64, .f32⟩

abbrev hbmTy0_1 (i : Nat) : BufTy := match i % 128 with
  | 0 => ⟨S2x32x64, .f32⟩
  | 1 => ⟨S2x32x64, .f32⟩
  | 2 => ⟨S2x32x64, .f32⟩
  | 3 => ⟨S2x32x64, .f32⟩
  | 4 => ⟨S2x32x64, .f32⟩
  | 5 => ⟨S2x32x64, .f32⟩
  | 6 => ⟨S2x32x64, .f32⟩
  | 7 => ⟨S2x32x64, .f32⟩
  | 8 => ⟨S2x32x64, .f32⟩
  | 9 => ⟨S2x32x64, .f32⟩
  | 10 => ⟨S2x32x64, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S_, .f32⟩
  | 19 => ⟨S2x32, .f32⟩
  | 20 => ⟨S2x32x1, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S_, .f32⟩
  | 31 => ⟨S2x32, .f32⟩
  | 32 => ⟨S2x32x1, .f32⟩
  | 33 => ⟨S2x32x1, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S_, .f32⟩
  | 40 => ⟨S2x32, .f32⟩
  | 41 => ⟨S2x32x1, .f32⟩
  | 42 => ⟨S2x32x1, .f32⟩
  | 43 => ⟨S_, .f32⟩
  | 44 => ⟨S2x32, .f32⟩
  | 45 => ⟨S2x32, .f32⟩
  | 46 => ⟨S64x64, .f32⟩
  | 47 => ⟨S64x64, .f32⟩
  | 48 => ⟨S64x1, .f32⟩
  | 49 => ⟨S2x32x16x64, .f32⟩
  | 50 => ⟨S1024x64, .f32⟩
  | 51 => ⟨S2x32x16x64, .f32⟩
  | 52 => ⟨S1024x64, .f32⟩
  | 53 => ⟨S1024x64, .f32⟩
  | 54 => ⟨S1024x64, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_4 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_cst_9 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_12 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_13 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_14 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_cst_15 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩

abbrev nD : Nat := 1
abbrev τ : Topo := Topo.v7x

variable {F : FTy → Type} [FloatOps F]
-- ==== Kernel6.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S1x2x32x64 : Shape := ⟨4, ![1, 2, 32, 64]⟩
abbrev S64x1 : Shape := ⟨2, ![64, 1]⟩
abbrev S1x2x32x16x64 : Shape := ⟨5, ![1, 2, 32, 16, 64]⟩
abbrev S4x64x64 : Shape := ⟨3, ![4, 64, 64]⟩
abbrev S2x2x4x128x512 : Shape := ⟨5, ![2, 2, 4, 128, 512]⟩
abbrev S2x2x4x512x128 : Shape := ⟨5, ![2, 2, 4, 512, 128]⟩
abbrev S64x64 : Shape := ⟨2, ![64, 64]⟩
abbrev S1x64x64 : Shape := ⟨3, ![1, 64, 64]⟩
abbrev S64x512 : Shape := ⟨2, ![64, 512]⟩
abbrev S512x64 : Shape := ⟨2, ![512, 64]⟩
abbrev S128x512 : Shape := ⟨2, ![128, 512]⟩
abbrev S512x128 : Shape := ⟨2, ![512, 128]⟩
abbrev S1024x64 : Shape := ⟨2, ![1024, 64]⟩
abbrev S128x64 : Shape := ⟨2, ![128, 64]⟩
abbrev S1x1x1x128x512 : Shape := ⟨5, ![1, 1, 1, 128, 512]⟩
abbrev S1x1x1x512x128 : Shape := ⟨5, ![1, 1, 1, 512, 128]⟩

abbrev nBuf : Space → Nat
  | .hbm => 21
  | .vmem => 12
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S1x2x32x64, .f32⟩
  | .hbm, ⟨8, _⟩ => ⟨S1x2x32x64, .f32⟩
  | .hbm, ⟨9, _⟩ => ⟨S64x1, .f32⟩
  | .hbm, ⟨10, _⟩ => ⟨S2x32x16x64, .f32⟩
  | .hbm, ⟨11, _⟩ => ⟨S1x2x32x16x64, .f32⟩
  | .hbm, ⟨12, _⟩ => ⟨S2x32x16x64, .f32⟩
  | .hbm, ⟨13, _⟩ => ⟨S1x2x32x16x64, .f32⟩
  | .hbm, ⟨14, _⟩ => ⟨S1x2x32x16x64, .f32⟩
  | .hbm, ⟨15, _⟩ => ⟨S1x2x32x16x64, .f32⟩
  | .hbm, ⟨16, _⟩ => ⟨S4x64x64, .f32⟩
  | .hbm, ⟨17, _⟩ => ⟨S2x2x4x128x512, .bf16⟩
  | .hbm, ⟨18, _⟩ => ⟨S2x2x4x512x128, .bf16⟩
  | .hbm, ⟨19, _⟩ => ⟨S2x2x4x512x128, .bf16⟩
  | .hbm, ⟨20, _⟩ => ⟨S2x2x4x128x512, .bf16⟩
  | .local _ .vmem, ⟨0, _⟩ => ⟨S1x2x32x64, .f32⟩
  | .local _ .vmem, ⟨1, _⟩ => ⟨S1x2x32x64, .f32⟩
  | .local _ .vmem, ⟨2, _⟩ => ⟨S64x1, .f32⟩
  | .local _ .vmem, ⟨3, _⟩ => ⟨S1x2x32x16x64, .f32⟩
  | .local _ .vmem, ⟨4, _⟩ => ⟨S1x2x32x16x64, .f32⟩
  | .local _ .vmem, ⟨5, _⟩ => ⟨S1x2x32x16x64, .f32⟩
  | .local _ .vmem, ⟨6, _⟩ => ⟨S1x2x32x16x64, .f32⟩
  | .local _ .vmem, ⟨7, _⟩ => ⟨S4x64x64, .f32⟩
  | .local _ .vmem, ⟨8, _⟩ => ⟨S2x2x4x128x512, .bf16⟩
  | .local _ .vmem, ⟨9, _⟩ => ⟨S2x2x4x512x128, .bf16⟩
  | .local _ .vmem, ⟨10, _⟩ => ⟨S2x2x4x512x128, .bf16⟩
  | .local _ .vmem, ⟨11, _⟩ => ⟨S2x2x4x128x512, .bf16⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x2x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2x32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2x32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2x4x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2x4x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2x4x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2x4x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference6Ideal.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S_ : Shape := ⟨0, ![]⟩
abbrev S2x32x64x1 : Shape := ⟨4, ![2, 32, 64, 1]⟩
abbrev S1x2x32x64 : Shape := ⟨4, ![1, 2, 32, 64]⟩
abbrev S4x2x32x64 : Shape := ⟨4, ![4, 2, 32, 64]⟩
abbrev S4x64x64 : Shape := ⟨3, ![4, 64, 64]⟩
abbrev S2x4x8x16x1x64 : Shape := ⟨6, ![2, 4, 8, 16, 1, 64]⟩
abbrev S2x4x8x16x8x64 : Shape := ⟨6, ![2, 4, 8, 16, 8, 64]⟩
abbrev S2x4x128x512 : Shape := ⟨4, ![2, 4, 128, 512]⟩
abbrev S1x2x4x128x512 : Shape := ⟨5, ![1, 2, 4, 128, 512]⟩
abbrev S2x2x4x128x512 : Shape := ⟨5, ![2, 2, 4, 128, 512]⟩
abbrev S2x2x4x512x128 : Shape := ⟨5, ![2, 2, 4, 512, 128]⟩

abbrev nBuf : Space → Nat
  | .hbm => 125
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S2x32, .f32⟩
  | .hbm, ⟨8, _⟩ => ⟨S2x32x1, .f32⟩
  | .hbm, ⟨9, _⟩ => ⟨S2x32x64, .f32⟩
  | .hbm, ⟨10, _⟩ => ⟨S2x32x64, .f32⟩
  | .hbm, ⟨11, _⟩ => ⟨S2x32x64, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S_, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S2x32x64, .f32⟩
  | .hbm, ⟨31, _⟩ => ⟨S_, .f32⟩
  | .hbm, ⟨32, _⟩ => ⟨S2x32x64, .f32⟩
  | .hbm, ⟨33, _⟩ => ⟨S2x32x64, .f32⟩
  | .hbm, ⟨34, _⟩ => ⟨S2x32x64, .f32⟩
  | .hbm, ⟨35, _⟩ => ⟨S2x32x64, .f32⟩
  | .hbm, ⟨36, _⟩ => ⟨S2x32x64, .f32⟩
  | .hbm, ⟨37, _⟩ => ⟨S2x32x64x1, .f32⟩
  | .hbm, ⟨38, _⟩ => ⟨S2x32x64x16, .f32⟩
  | .hbm, ⟨39, _⟩ => ⟨S2x32x64x16, .f32⟩
  | .hbm, ⟨40, _⟩ => ⟨S2x32x64x1, .f32⟩
  | .hbm, ⟨41, _⟩ => ⟨S2x32x64x16, .f32⟩
  | .hbm, ⟨42, _⟩ => ⟨S2x32x64x16, .f32⟩
  | .hbm, ⟨43, _⟩ => ⟨S2x32x64x16, .f32⟩
  | .hbm, ⟨44, _⟩ => ⟨S2x32x64x1, .f32⟩
  | .hbm, ⟨45, _⟩ => ⟨S2x32x64x16, .f32⟩
  | .hbm, ⟨46, _⟩ => ⟨S2x32x64x16, .f32⟩
  | .hbm, ⟨47, _⟩ => ⟨S2x32x64x1, .f32⟩
  | .hbm, ⟨48, _⟩ => ⟨S2x32x64x16, .f32⟩
  | .hbm, ⟨49, _⟩ => ⟨S2x32x64x16, .f32⟩
  | .hbm, ⟨50, _⟩ => ⟨S2x32x64x16, .f32⟩
  | .hbm, ⟨51, _⟩ => ⟨S2x32, .f32⟩
  | .hbm, ⟨52, _⟩ => ⟨S2x32x1, .f32⟩
  | .hbm, ⟨53, _⟩ => ⟨S_, .f32⟩
  | .hbm, ⟨54, _⟩ => ⟨S2x32x1, .f32⟩
  | .hbm, ⟨55, _⟩ => ⟨S2x32x1, .f32⟩
  | .hbm, ⟨56, _⟩ => ⟨S2x32x64, .f32⟩
  | .hbm, ⟨57, _⟩ => ⟨S2x32x64, .f32⟩
  | .hbm, ⟨58, _⟩ => ⟨S2x32x64, .f32⟩
  | .hbm, ⟨59, _⟩ => ⟨S2x32x64, .f32⟩
  | .hbm, ⟨60, _⟩ => ⟨S2x32x64, .f32⟩
  | .hbm, ⟨61, _⟩ => ⟨S2x32x64, .f32⟩
  | .hbm, ⟨62, _⟩ => ⟨S2x32x64, .f32⟩
  | .hbm, ⟨63, _⟩ => ⟨S2x32x64, .f32⟩
  | .hbm, ⟨64, _⟩ => ⟨S2x32x64, .f32⟩
  | .hbm, ⟨65, _⟩ => ⟨S2x32x64, .f32⟩
  | .hbm, ⟨66, _⟩ => ⟨S2x32x64, .f32⟩
  | .hbm, ⟨67, _⟩ => ⟨S1x2x32x64, .f32⟩
  | .hbm, ⟨68, _⟩ => ⟨S1x2x32x64, .f32⟩
  | .hbm, ⟨69, _⟩ => ⟨S1x2x32x64, .f32⟩
  | .hbm, ⟨70, _⟩ => ⟨S1x2x32x64, .f32⟩
  | .hbm, ⟨71, _⟩ => ⟨S4x2x32x64, .f32⟩
  | .hbm, ⟨72, _⟩ => ⟨S4x64x64, .f32⟩
  | .hbm, ⟨73, _⟩ => ⟨S2x32x16x64, .f32⟩
  | .hbm, ⟨74, _⟩ => ⟨S2x4x8x16x1x64, .f32⟩
  | .hbm, ⟨75, _⟩ => ⟨S2x4x8x16x8x64, .i32⟩
  | .hbm, ⟨76, _⟩ => ⟨S2x4x8x16x8x64, .i32⟩
  | .hbm, ⟨77, _⟩ => ⟨S2x4x8x16x8x64, .i1⟩
  | .hbm, ⟨78, _⟩ => ⟨S_, .f32⟩
  | .hbm, ⟨79, _⟩ => ⟨S_, .f32⟩
  | .hbm, ⟨80, _⟩ => ⟨S2x4x8x16x8x64, .f32⟩
  | .hbm, ⟨81, _⟩ => ⟨S2x4x8x16x8x64, .f32⟩
  | .hbm, ⟨82, _⟩ => ⟨S2x4x8x16x8x64, .f32⟩
  | .hbm, ⟨83, _⟩ => ⟨S2x4x128x512, .f32⟩
  | .hbm, ⟨84, _⟩ => ⟨S2x32x16x64, .f32⟩
  | .hbm, ⟨85, _⟩ => ⟨S2x4x8x16x1x64, .f32⟩
  | .hbm, ⟨86, _⟩ => ⟨S2x4x8x16x8x64, .i32⟩
  | .hbm, ⟨87, _⟩ => ⟨S2x4x8x16x8x64, .i32⟩
  | .hbm, ⟨88, _⟩ => ⟨S2x4x8x16x8x64, .i1⟩
  | .hbm, ⟨89, _⟩ => ⟨S_, .f32⟩
  | .hbm, ⟨90, _⟩ => ⟨S_, .f32⟩
  | .hbm, ⟨91, _⟩ => ⟨S2x4x8x16x8x64, .f32⟩
  | .hbm, ⟨92, _⟩ => ⟨S2x4x8x16x8x64, .f32⟩
  | .hbm, ⟨93, _⟩ => ⟨S2x4x8x16x8x64, .f32⟩
  | .hbm, ⟨94, _⟩ => ⟨S2x4x128x512, .f32⟩
  | .hbm, ⟨95, _⟩ => ⟨S1x2x4x128x512, .f32⟩
  | .hbm, ⟨96, _⟩ => ⟨S1x2x4x128x512, .f32⟩
  | .hbm, ⟨97, _⟩ => ⟨S2x2x4x128x512, .f32⟩
  | .hbm, ⟨98, _⟩ => ⟨S2x2x4x128x512, .bf16⟩
  | .hbm, ⟨99, _⟩ => ⟨S2x4x8x16x1x64, .f32⟩
  | .hbm, ⟨100, _⟩ => ⟨S2x4x8x16x8x64, .i32⟩
  | .hbm, ⟨101, _⟩ => ⟨S2x4x8x16x8x64, .i32⟩
  | .hbm, ⟨102, _⟩ => ⟨S2x4x8x16x8x64, .i1⟩
  | .hbm, ⟨103, _⟩ => ⟨S_, .f32⟩
  | .hbm, ⟨104, _⟩ => ⟨S_, .f32⟩
  | .hbm, ⟨105, _⟩ => ⟨S2x4x8x16x8x64, .f32⟩
  | .hbm, ⟨106, _⟩ => ⟨S2x4x8x16x8x64, .f32⟩
  | .hbm, ⟨107, _⟩ => ⟨S2x4x8x16x8x64, .f32⟩
  | .hbm, ⟨108, _⟩ => ⟨S2x4x128x512, .f32⟩
  | .hbm, ⟨109, _⟩ => ⟨S2x4x8x16x1x64, .f32⟩
  | .hbm, ⟨110, _⟩ => ⟨S2x4x8x16x8x64, .i32⟩
  | .hbm, ⟨111, _⟩ => ⟨S2x4x8x16x8x64, .i32⟩
  | .hbm, ⟨112, _⟩ => ⟨S2x4x8x16x8x64, .i1⟩
  | .hbm, ⟨113, _⟩ => ⟨S_, .f32⟩
  | .hbm, ⟨114, _⟩ => ⟨S_, .f32⟩
  | .hbm, ⟨115, _⟩ => ⟨S2x4x8x16x8x64, .f32⟩
  | .hbm, ⟨116, _⟩ => ⟨S2x4x8x16x8x64, .f32⟩
  | .hbm, ⟨117, _⟩ => ⟨S2x4x8x16x8x64, .f32⟩
  | .hbm, ⟨118, _⟩ => ⟨S2x4x128x512, .f32⟩
  | .hbm, ⟨119, _⟩ => ⟨S1x2x4x128x512, .f32⟩
  | .hbm, ⟨120, _⟩ => ⟨S1x2x4x128x512, .f32⟩
  | .hbm, ⟨121, _⟩ => ⟨S2x2x4x128x512, .f32⟩
  | .hbm, ⟨122, _⟩ => ⟨S2x2x4x128x512, .bf16⟩
  | .hbm, ⟨123, _⟩ => ⟨S2x2x4x512x128, .bf16⟩
  | .hbm, ⟨124, _⟩ => ⟨S2x2x4x512x128, .bf16⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_2 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_3 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_4 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_5 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩

abbrev nD : Nat := 1
abbrev τ : Topo := Topo.v7x

variable {F : FTy → Type} [FloatOps F]
-- ==== Kernel7.lean ====
abbrev S4096x1024 : Shape := ⟨2, ![4096, 1024]⟩
abbrev S1024x2304 : Shape := ⟨2, ![1024, 2304]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x32x128 : Shape := ⟨3, ![3, 32, 128]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S2304x1024 : Shape := ⟨2, ![2304, 1024]⟩
abbrev S8x4096x128 : Shape := ⟨3, ![8, 4096, 128]⟩
abbrev S4096x128 : Shape := ⟨2, ![4096, 128]⟩
abbrev S4096x512 : Shape := ⟨2, ![4096, 512]⟩
abbrev S4x4096x128 : Shape := ⟨3, ![4, 4096, 128]⟩
abbrev S512x1024 : Shape := ⟨2, ![512, 1024]⟩
abbrev S8x512x128 : Shape := ⟨3, ![8, 512, 128]⟩
abbrev S512x128 : Shape := ⟨2, ![512, 128]⟩
abbrev S512x512 : Shape := ⟨2, ![512, 512]⟩
abbrev S4x512x128 : Shape := ⟨3, ![4, 512, 128]⟩
abbrev S1024x1024 : Shape := ⟨2, ![1024, 1024]⟩
abbrev S64x1024 : Shape := ⟨2, ![64, 1024]⟩
abbrev S1x1x128 : Shape := ⟨3, ![1, 1, 128]⟩
abbrev S1x512x128 : Shape := ⟨3, ![1, 512, 128]⟩
abbrev S256x1024 : Shape := ⟨2, ![256, 1024]⟩
abbrev S512x256 : Shape := ⟨2, ![512, 256]⟩

abbrev nBuf : Space → Nat
  | .hbm => 67
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S1x32, .f32⟩
  | .hbm, ⟨11, _⟩ => ⟨S4x32, .f32⟩
  | .hbm, ⟨12, _⟩ => ⟨S128, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .f32⟩
  | .hbm, ⟨27, _⟩ => ⟨S32x1, .f32⟩
  | .hbm, ⟨28, _⟩ => ⟨S1x128, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S32x128, .f32⟩
  | .hbm, ⟨35, _⟩ => ⟨S1x128, .f32⟩
  | .hbm, ⟨36, _⟩ => ⟨S32x128, .f32⟩
  | .hbm, ⟨37, _⟩ => ⟨S32x128, .f32⟩
  | .hbm, ⟨38, _⟩ => ⟨S1x32x128, .f32⟩
  | .hbm, ⟨39, _⟩ => ⟨S1x32x128, .f32⟩
  | .hbm, ⟨40, _⟩ => ⟨S1x32x128, .f32⟩
  | .hbm, ⟨41, _⟩ => ⟨S3x32x128, .f32⟩
  | .hbm, ⟨42, _⟩ => ⟨S128, .i32⟩
  | .hbm, ⟨43, _⟩ => ⟨S128, .f32⟩
  | .hbm, ⟨44, _⟩ => ⟨S128x1, .f32⟩
  | .hbm, ⟨45, _⟩ => ⟨S1x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S1x128x128, .f32⟩
  | .hbm, ⟨57, _⟩ => ⟨S1x128x128, .f32⟩
  | .hbm, ⟨58, _⟩ => ⟨S3x128x128, .f32⟩
  | .hbm, ⟨59, _⟩ => ⟨S2304x1024, .f32⟩
  | .hbm, ⟨60, _⟩ => ⟨S2304x1024, .bf16⟩
  | .hbm, ⟨61, _⟩ => ⟨S8x4096x128, .bf16⟩
  | .hbm, ⟨62, _⟩ => ⟨S4096x128, .bf16⟩
  | .hbm, ⟨63, _⟩ => ⟨S4096x128, .bf16⟩
  | .hbm, ⟨64, _⟩ => ⟨S4096x512, .f32⟩
  | .hbm, ⟨65, _⟩ => ⟨S4x4096x128, .f32⟩
  | .hbm, ⟨66, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S2304x1024, .bf16⟩
  | .local _ .vmem, ⟨3, _⟩ => ⟨S3x32x128, .f32⟩
  | .local _ .vmem, ⟨4, _⟩ => ⟨S3x128x128, .f32⟩
  | .local _ .vmem, ⟨5, _⟩ => ⟨S8x512x128, .bf16⟩
  | .local _ .vmem, ⟨6, _⟩ => ⟨S8x512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x512, .f32⟩
  | .local _ .vmem, ⟨12, _⟩ => ⟨S512x512, .f32⟩
  | .local _ .vmem, ⟨13, _⟩ => ⟨S4x512x128, .f32⟩
  | .local _ .vmem, ⟨14, _⟩ => ⟨S4x512x128, .f32⟩
  | .local _ .vmem, ⟨15, _⟩ => ⟨S512x512, .f32⟩
  | .local _ .vmem, ⟨16, _⟩ => ⟨S512x512, .f32⟩
  | .local _ .vmem, ⟨17, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54_0 : Ref sig .tc := ⟨.hbm, 61, rfl⟩
abbrev main_v54_1 : Ref sig .tc := ⟨.hbm, 62, rfl⟩
abbrev main_v54_2 : Ref sig .tc := ⟨.hbm, 63, rfl⟩
abbrev main_v54_3 : Ref sig .tc := ⟨.hbm, 64, rfl⟩
abbrev main_v54_4 : Ref sig .tc := ⟨.hbm, 65, rfl⟩
abbrev main_v54_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def k0_off1 (i : grid0.Coords) (c0_i32_9 : BitVec 32) : Fin 3 → Nat :=
  let c0_10 : Index := 0#32
  let arg0 : BitVec 32 := BitVec.ofNat 32 (i 0).val
  let c4_i32 : BitVec 32 := 4#32
  let v5 : BitVec 32 := Scalar.muli arg0 c4_i32
  let v12 : BitVec 32 := Scalar.addi v5 c0_i32_9
  let v13 : Index := Scalar.indexCast v12
  let c0_11 : Index := 0#32
  ![0, v13.toNat, 0]
def k0_off2 (i : grid0.Coords) (c0_i32_12 : BitVec 32) : Fin 3 → Nat :=
  let c1_13 : Index := 1#32
  let arg0 : BitVec 32 := BitVec.ofNat 32 (i 0).val
  let c4_i32 : BitVec 32 := 4#32
  let v5 : BitVec 32 := Scalar.muli arg0 c4_i32
  let v16 : BitVec 32 := Scalar.addi v5 c0_i32_12
  let v17 : Index := Scalar.indexCast v16
  let c0_14 : Index := 0#32
  ![1, v17.toNat, 0]
def k0_off3 (i : grid0.Coords) (c0_i32_15 : BitVec 32) : Fin 3 → Nat :=
  let c2_16 : Index := 2#32
  let arg0 : BitVec 32 := BitVec.ofNat 32 (i 0).val
  let c4_i32 : BitVec 32 := 4#32
  let v5 : BitVec 32 := Scalar.muli arg0 c4_i32
  let v20 : BitVec 32 := Scalar.addi v5 c0_i32_15
  let v21 : Index := Scalar.indexCast v20
  let c0_17 : Index := 0#32
  ![2, v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4096x1024 : Shape := ⟨2, ![4096, 1024]⟩
abbrev S1024x2304 : Shape := ⟨2, ![1024, 2304]⟩
abbrev S4096 : Shape := ⟨1, ![4096]⟩
abbrev S4096x2304 : Shape := ⟨2, ![4096, 2304]⟩
abbrev S4096x512 : Shape := ⟨2, ![4096, 512]⟩
abbrev S4096x128 : Shape := ⟨2, ![4096, 128]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2x32 : Shape := ⟨3, ![4096, 2, 32]⟩
abbrev S4096x2x4x64 : Shape := ⟨4, ![4096, 2, 4, 64]⟩
abbrev S4096x4x64 : Shape := ⟨3, ![4096, 4, 64]⟩
abbrev S4096x1x4x64 : Shape := ⟨4, ![4096, 1, 4, 64]⟩
abbrev S4096x4x128 : Shape := ⟨3, ![4096, 4, 128]⟩
abbrev S4096x8x128 : Shape := ⟨3, ![4096, 8, 128]⟩
abbrev S8x4096x128 : Shape := ⟨3, ![8, 4096, 128]⟩
abbrev S4096x4x2x64 : Shape := ⟨4, ![4096, 4, 2, 64]⟩
abbrev S4x4096x128 : Shape := ⟨3, ![4, 4096, 128]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096, .i32⟩
  | .hbm, ⟨3, _⟩ => ⟨S4096x2304, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x1x32, .f32⟩
  | .hbm, ⟨27, _⟩ => ⟨S4096x32, .f32⟩
  | .hbm, ⟨28, _⟩ => ⟨S4096x1x32, .f32⟩
  | .hbm, ⟨29, _⟩ => ⟨S4096x8x32, .f32⟩
  | .hbm, ⟨30, _⟩ => ⟨S4096x8x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x64, .f32⟩
  | .hbm, ⟨42, _⟩ => ⟨S4096x2x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S4096, .f32⟩
  | .hbm, ⟨52, _⟩ => ⟨S4096x1, .f32⟩
  | .hbm, ⟨53, _⟩ => ⟨S1x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x1x32, .f32⟩
  | .hbm, ⟨59, _⟩ => ⟨S4096x32, .f32⟩
  | .hbm, ⟨60, _⟩ => ⟨S4096x1x32, .f32⟩
  | .hbm, ⟨61, _⟩ => ⟨S4096x2x32, .f32⟩
  | .hbm, ⟨62, _⟩ => ⟨S4096x2x32, .f32⟩
  | .hbm, ⟨63, _⟩ => ⟨S4096x2x32, .f32⟩
  | .hbm, ⟨64, _⟩ => ⟨S4096x2x32, .f32⟩
  | .hbm, ⟨65, _⟩ => ⟨S4096x2x32, .f32⟩
  | .hbm, ⟨66, _⟩ => ⟨S4096x2x32, .f32⟩
  | .hbm, ⟨67, _⟩ => ⟨S4096x2x32, .f32⟩
  | .hbm, ⟨68, _⟩ => ⟨S4096x2x32, .f32⟩
  | .hbm, ⟨69, _⟩ => ⟨S4096x2x32, .f32⟩
  | .hbm, ⟨70, _⟩ => ⟨S4096x2x32, .f32⟩
  | .hbm, ⟨71, _⟩ => ⟨S4096x2x32, .f32⟩
  | .hbm, ⟨72, _⟩ => ⟨S4096x2x32, .f32⟩
  | .hbm, ⟨73, _⟩ => ⟨S4096x2x64, .f32⟩
  | .hbm, ⟨74, _⟩ => ⟨S4096x2x4x64, .f32⟩
  | .hbm, ⟨75, _⟩ => ⟨S_, .f32⟩
  | .hbm, ⟨76, _⟩ => ⟨S4096x4x64, .f32⟩
  | .hbm, ⟨77, _⟩ => ⟨S4096x1x4x64, .f32⟩
  | .hbm, ⟨78, _⟩ => ⟨S4096x4x64, .f32⟩
  | .hbm, ⟨79, _⟩ => ⟨S4096x4x128, .f32⟩
  | .hbm, ⟨80, _⟩ => ⟨S4096x1x4x64, .f32⟩
  | .hbm, ⟨81, _⟩ => ⟨S4096x4x64, .f32⟩
  | .hbm, ⟨82, _⟩ => ⟨S4096x4x128, .f32⟩
  | .hbm, ⟨83, _⟩ => ⟨S4096x8x128, .f32⟩
  | .hbm, ⟨84, _⟩ => ⟨S8x4096x128, .f32⟩
  | .hbm, ⟨85, _⟩ => ⟨S8x4096x128, .bf16⟩
  | .hbm, ⟨86, _⟩ => ⟨S4096x128, .f32⟩
  | .hbm, ⟨87, _⟩ => ⟨S4096x128, .bf16⟩
  | .hbm, ⟨88, _⟩ => ⟨S4096x128, .bf16⟩
  | .hbm, ⟨89, _⟩ => ⟨S4096x2x4x64, .f32⟩
  | .hbm, ⟨90, _⟩ => ⟨S4096x4x2x64, .f32⟩
  | .hbm, ⟨91, _⟩ => ⟨S4096x512, .f32⟩
  | .hbm, ⟨92, _⟩ => ⟨S4096x4x128, .f32⟩
  | .hbm, ⟨93, _⟩ => ⟨S4x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩

abbrev nD : Nat := 1
abbrev τ : Topo := Topo.v7x

variable {F : FTy → Type} [FloatOps F]
-- ==== Proof.Rope.lean ====
module

public import proofs.«01_k».proof.Proof.Gen.ReferenceIdeal.Read
public import Idealize.ShloMosaic.Lib.Pipeline.ValueKit
public import Idealize.ShloMosaic.Lib.Pointwise
public import Idealize.ShloMosaic.Lib.Claim

/-! The cotangent of the input projection, column by column: the mathematics that the kernels and the reference share.

A token's projection has 2304 columns: eight query heads and two key heads of 64 lanes, which the forward pass rotates by
the token's position; the values; the attention's gate; the input of the recurrence; the recurrence's gate. The cotangent
of a rotated head is the head rotated back. -/

set_option maxRecDepth 16384
set_option backward.proofsInPublic true

@[expose] public section

noncomputable section
open Idealize.ShloMosaic Idealize.ShloMosaic.TcCoe Idealize.SL.Sem
open scoped BigOperators
namespace Cert.Dproj

/-- How far lane `d` of a half head turns per token. -/
def freq (d : ℕ) : ℝ := Real.rpow 10000 (-(d : ℝ) * (1 / 32))

/-- The cosine of token `t`'s angle at lane `d` of a half head. -/
def cosR (t d : ℕ) : EReal := ((Real.cos ((t : ℝ) * freq d) : ℝ) : EReal)

/-- The sine of token `t`'s angle at lane `d` of a half head. -/
def sinR (t d : ℕ) : EReal := ((Real.sin ((t : ℝ) * freq d) : ℝ) : EReal)

/-- A head's cotangent `f` rotated back by token `t`'s angles, at lane `d`. -/
def unrope (t : ℕ) (f : Fin 64 → EReal) (d : Fin 64) : EReal :=
  if h : d.val < 32 then f d * cosR t d + f ⟨d.val + 32, by omega⟩ * sinR t d
  else f d * cosR t (d.val - 32) + f ⟨d.val - 32, by omega⟩ * -sinR t (d.val - 32)

/-- Column `n` of token `t`'s projection: its cotangent, from the cotangents of what the forward pass makes of it. -/
def dproj (ssmD : FVec Ideal ⟨1, ![512]⟩ .f32) (dq : FVec Ideal ⟨3, ![4096, 8, 64]⟩ .f32) (dk dv : FVec Ideal ⟨3, ![4096, 2, 64]⟩ .f32)
    (dza duf dub dyl dzs : FVec Ideal ⟨2, ![4096, 512]⟩ .f32) (t : Fin 4096) (n : Fin 2304) : EReal :=
  if h : n.val < 512 then unrope t (fun d => dq (ix3 t ⟨n.val / 64, by omega⟩ d)) ⟨n.val % 64, by omega⟩
  else if h : n.val - 512 < 128 then unrope t (fun d => dk (ix3 t ⟨(n.val - 512) / 64, by omega⟩ d)) ⟨(n.val - 512) % 64, by omega⟩
  else if h : n.val - 512 - 128 < 128 then dv (ix3 t ⟨(n.val - 512 - 128) / 64, by omega⟩ ⟨(n.val - 512 - 128) % 64, by omega⟩)
  else if h : n.val - 512 - 128 - 128 < 512 then dza (ix2 t ⟨n.val - 512 - 128 - 128, by omega⟩)
  else if h : n.val - 512 - 128 - 128 - 512 < 512 then
    duf (ix2 t ⟨n.val - 512 - 128 - 128 - 512, by omega⟩) + dub (ix2 t ⟨n.val - 512 - 128 - 128 - 512, by omega⟩)
      + ssmD (ix1 ⟨n.val - 512 - 128 - 128 - 512, by omega⟩) * dyl (ix2 t ⟨n.val - 512 - 128 - 128 - 512, by omega⟩)
  else dzs (ix2 t ⟨n.val - 512 - 128 - 128 - 512 - 512, by omega⟩)

theorem ofBits_tenThousand : Ideal.ofBits .f32 0x461C4000#32 = ((10000 : ℝ) : EReal) := by
  simp [Ideal.ofBits, Ideal.ieee, -EReal.coe_mul]; norm_num

theorem ofBits_thirtyTwo : Ideal.ofBits .f32 0x42000000#32 = ((32 : ℝ) : EReal) := by
  simp [Ideal.ofBits, Ideal.ieee, -EReal.coe_mul]; norm_num

/-- A small number read back from its 32-bit word. -/
theorem toInt_ofNat (n : ℕ) (h : n < 4096) : ((BitVec.ofNat 32 n).toInt : ℝ) = (n : ℝ) := by
  have e : (BitVec.ofNat 32 n).toInt = (n : ℤ) := by
    rw [BitVec.toInt_eq_toNat_of_lt] <;> simp only [BitVec.toNat_ofNat] <;> omega
  rw [e]; norm_num

/-- The programs' spelling of a lane's frequency. -/
theorem freq_eq (n : ℕ) (h : n < 4096) : Ideal.pow (Ideal.ofBits .f32 0x461C4000#32)
    (Ideal.div (-FloatOps.sitofp (F := Ideal) .f32 (BitVec.ofNat 32 n)) (Ideal.ofBits .f32 0x42000000#32)) = (freq n : EReal) := by
  have e : FloatOps.sitofp (F := Ideal) .f32 (BitVec.ofNat 32 n) = ((n : ℝ) : EReal) := by
    show (((BitVec.ofNat 32 n).toInt : ℝ) : EReal) = _
    rw [toInt_ofNat n h]
  rw [e, ofBits_tenThousand, ofBits_thirtyTwo, Ideal.div_coe (by norm_num), ← EReal.coe_neg, ← EReal.coe_mul, Ideal.pow_coe_coe]
  rfl

/-- The cosine of a sum of two tokens' angles. -/
theorem cosR_add (a b d : ℕ) : cosR a d * cosR b d - sinR a d * sinR b d = cosR (a + b) d := by
  unfold cosR sinR
  rw [← EReal.coe_mul, ← EReal.coe_mul, ← EReal.coe_sub, ← Real.cos_add]
  push_cast
  rw [add_mul]

/-- The sine of a sum of two tokens' angles. -/
theorem sinR_add (a b d : ℕ) : sinR a d * cosR b d + cosR a d * sinR b d = sinR (a + b) d := by
  unfold cosR sinR
  rw [← EReal.coe_mul, ← EReal.coe_mul, ← EReal.coe_add, ← Real.sin_add]
  push_cast
  rw [add_mul]

section
open Cert.ReferenceIdeal Cert.ReferenceIdeal.Read

theorem sitofp_iota (t : Fin 4096) (x : BitVec 32) (h : x = BitVec.ofNat 32 t) :
    FloatOps.sitofp (F := Ideal) .f32 x = ((t.val : ℝ) : EReal) := by
  rw [h, ← toInt_ofNat t (by omega)]; rfl

theorem ref_angle (t : Fin 4096) (d : Fin 32) :
    val_main_v20 (F := Ideal) (ix2 t d) = (((t.val : ℝ) * freq d : ℝ) : EReal) := by
  pointwise [val_main_v20, val_main_v19, val_main_v18, val_main_v17, val_main_v16, val_main_v15, val_main_v14, val_main_v13,
    val_main_v12, val_main_v11, val_main_v10, val_main_v9, val_main_cst, val_main_cst_0]
  rw [freq_eq _ (by omega), EReal.coe_mul]
  exact congrArg (· * _) (sitofp_iota t _ rfl)

theorem ref_cos (t : Fin 4096) (d : Fin 32) : val_main_v21 (F := Ideal) (ix2 t d) = cosR t d := by
  pointwise [val_main_v21]
  rw [ref_angle]; rfl

theorem ref_sin (t : Fin 4096) (d : Fin 32) : val_main_v23 (F := Ideal) (ix2 t d) = sinR t d := by
  pointwise [val_main_v23]
  rw [ref_angle]; rfl

theorem ref_angle' (t : Fin 4096) (d : Fin 32) :
    val_main_v50 (F := Ideal) (ix2 t d) = (((t.val : ℝ) * freq d : ℝ) : EReal) := by
  pointwise [val_main_v50, val_main_v49, val_main_v48, val_main_v47, val_main_v46, val_main_v45, val_main_v44, val_main_v43,
    val_main_v42, val_main_v41, val_main_v40, val_main_v39, val_main_cst_1, val_main_cst_2]
  rw [freq_eq _ (by omega), EReal.coe_mul]
  exact congrArg (· * _) (sitofp_iota t _ rfl)

theorem ref_cos' (t : Fin 4096) (d : Fin 32) : val_main_v51 (F := Ideal) (ix2 t d) = cosR t d := by
  pointwise [val_main_v51]
  rw [ref_angle']; rfl

theorem ref_sin' (t : Fin 4096) (d : Fin 32) : val_main_v53 (F := Ideal) (ix2 t d) = sinR t d := by
  pointwise [val_main_v53]
  rw [ref_angle']; rfl

/-- What the reference makes of one rotated head's cotangent `f`. -/
theorem unrope_eq (t : ℕ) (f : Fin 64 → EReal) (d : Fin 64) :
    ((if h : 32 ≤ d.val ∧ d.val - 32 < 32 then f ⟨32 + (d.val - 32), by omega⟩ * cosR t (d.val - 32) + -f ⟨d.val - 32, by omega⟩ * sinR t (d.val - 32)
      else 0) + if h : d.val < 32 then f ⟨32 + d.val, by omega⟩ * sinR t d + f d * cosR t d else 0) = unrope t f d := by
  unfold unrope
  by_cases h : d.val < 32
  · rw [dif_neg (by omega), dif_pos h, dif_pos h, zero_add, add_comm]
    congr 3
    exact Fin.ext (Nat.add_comm _ _)
  · rw [dif_pos (by omega), dif_neg h, dif_neg h, add_zero, EReal.neg_mul, mul_comm _ (-sinR _ _), EReal.neg_mul,
      mul_comm (sinR _ _)]
    congr 3
    exact Fin.ext (by show 32 + (d.val - 32) = _; omega)

theorem ref_q (x4 : FVec Ideal S4096x8x64 .f32) (t : Fin 4096) (h : Fin 8) (d : Fin 64) :
    val_main_v113 (F := Ideal) x4 (ix3 t h d) = unrope t (fun e => x4 (ix3 t h e)) d := by
  rw [← unrope_eq]
  pointwise [val_main_v113, val_main_v112, val_main_v111, val_main_v110, val_main_v109, val_main_v108, val_main_v107, val_main_v106,
    val_main_v105, val_main_v104, val_main_v103, val_main_v102, val_main_v101, val_main_v100, val_main_v99, val_main_v98,
    val_main_v22, val_main_v24, val_main_cst_7, val_main_cst_8, ref_cos, ref_sin]

theorem ref_k (x5 : FVec Ideal S4096x2x64 .f32) (t : Fin 4096) (h : Fin 2) (d : Fin 64) :
    val_main_v96 (F := Ideal) x5 (ix3 t h d) = unrope t (fun e => x5 (ix3 t h e)) d := by
  rw [← unrope_eq]
  pointwise [val_main_v96, val_main_v95, val_main_v94, val_main_v93, val_main_v92, val_main_v91, val_main_v90, val_main_v89,
    val_main_v88, val_main_v87, val_main_v86, val_main_v85, val_main_v84, val_main_v83, val_main_v82, val_main_v81,
    val_main_v52, val_main_v54, val_main_cst_5, val_main_cst_6, ref_cos', ref_sin']

/-- The reference's cotangent of the projection. -/
theorem ref_dproj (x2 x4 x5 x6 x7 x8 x9 x10 x11) (t : Fin 4096) (n : Fin 2304) :
    val_main_v115 (F := Ideal) x2 x4 x5 x6 x7 x8 x9 x10 x11 (ix2 t n) = dproj x2 x4 x5 x6 x7 x8 x9 x10 x11 t n := by
  unfold dproj
  pointwise [val_main_v115, val_main_v114, val_main_v97, val_main_v80, val_main_v77, val_main_v74, val_main_v75, val_main_v76,
    val_main_v71, ref_q, ref_k]

/-- The reference's gradient of the layer's input: the residual's share, and the projection's. -/
theorem ref_gradient (x1 x2 x3 x4 x5 x6 x7 x8 x9 x10 x11) (i : Fin 4096) (j : Fin 1024) :
    val_main_v117 (F := Ideal) x1 x2 x3 x4 x5 x6 x7 x8 x9 x10 x11 (ix2 i j)
      = Ideal.ofBits .f32 0x3F9837F0#32 * x3 (ix2 i j) + ∑ n : Fin 2304, dproj x2 x4 x5 x6 x7 x8 x9 x10 x11 i n * x1 (ix2 j n) := by
  pointwise [val_main_v117, val_main_v116, val_main_v79, val_main_v78, val_main_cst_4, ref_dproj]

end
end Cert.Dproj
-- ==== Proof.Block.lean ====
module

public import proofs.«01_k».proof.Proof.Gen.KernelIdeal.Frame
public import proofs.«01_k».proof.Proof.Rope

/-! The kernels' block of the projection's cotangent: 512 tokens by 2304 columns, as the body of `proj_bwd_x` lays it out. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.Dproj
open Cert.KernelIdeal Cert.KernelIdeal.Gen

/-- The cosines of a block's tokens, from the tables of the coarse and the fine angles. -/
def cosB (i : grid0.Coords) (hi : Vec Ideal S3x32x128 .f32) (lo : Vec Ideal S3x128x128 .f32) : FVec Ideal S512x128 .f32 :=
  k0_pay17 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0)))
    (k0_pay8 (View.ld lo (Rect.unit ![0, 0, 0] ![1, 128, 128] inb_S3x128x128_S1x128x128_0_0_0)) (View.ld lo (Rect.unit ![1, 0, 0] ![1, 128, 128] inb_S3x128x128_S1x128x128_1_0_0)) (View.ld hi (Rect.unit (k0_off1 i 0#32) ![1, 1, 128] (k0_off1_inb i 0))) (View.ld hi (Rect.unit (k0_off2 i 0#32) ![1, 1, 128] (k0_off2_inb i 0))))
    (k0_pay11 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0))) (k0_pay10 (View.ld hi (Rect.unit (k0_off1 i 1#32) ![1, 1, 128] (k0_off1_inb i 1)))) (View.ld hi (Rect.unit (k0_off2 i 1#32) ![1, 1, 128] (k0_off2_inb i 1))))
    (k0_pay14 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0))) (View.ld hi (Rect.unit (k0_off1 i 2#32) ![1, 1, 128] (k0_off1_inb i 2))) (View.ld hi (Rect.unit (k0_off2 i 2#32) ![1, 1, 128] (k0_off2_inb i 2))))
    (k0_pay16 (View.ld hi (Rect.unit (k0_off1 i 3#32) ![1, 1, 128] (k0_off1_inb i 3)))) (View.ld hi (Rect.unit (k0_off2 i 3#32) ![1, 1, 128] (k0_off2_inb i 3)))

/-- The sines of a block's tokens, those of a head's lower half negated. -/
def sinB (i : grid0.Coords) (hi : Vec Ideal S3x32x128 .f32) (lo : Vec Ideal S3x128x128 .f32) : FVec Ideal S512x128 .f32 :=
  k0_pay18 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0)))
    (k0_pay9 (View.ld lo (Rect.unit ![0, 0, 0] ![1, 128, 128] inb_S3x128x128_S1x128x128_0_0_0)) (View.ld lo (Rect.unit ![2, 0, 0] ![1, 128, 128] inb_S3x128x128_S1x128x128_2_0_0)) (View.ld hi (Rect.unit (k0_off1 i 0#32) ![1, 1, 128] (k0_off1_inb i 0))) (View.ld hi (Rect.unit (k0_off3 i 0#32) ![1, 1, 128] (k0_off3_inb i 0))))
    (k0_pay12 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0))) (k0_pay10 (View.ld hi (Rect.unit (k0_off1 i 1#32) ![1, 1, 128] (k0_off1_inb i 1)))) (View.ld hi (Rect.unit (k0_off3 i 1#32) ![1, 1, 128] (k0_off3_inb i 1))))
    (k0_pay15 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0))) (View.ld hi (Rect.unit (k0_off1 i 2#32) ![1, 1, 128] (k0_off1_inb i 2))) (View.ld hi (Rect.unit (k0_off3 i 2#32) ![1, 1, 128] (k0_off3_inb i 2))))
    (k0_pay16 (View.ld hi (Rect.unit (k0_off1 i 3#32) ![1, 1, 128] (k0_off1_inb i 3)))) (View.ld hi (Rect.unit (k0_off3 i 3#32) ![1, 1, 128] (k0_off3_inb i 3)))

/-- The block of the projection's cotangent that one point of the kernels' grid makes. -/
def dprojB (C S : FVec Ideal S512x128 .f32) (x0 : Vec Ideal S512x512 .f32) (x1 x2 : Vec Ideal S512x128 .f32) (x3 : Vec Ideal S512x512 .f32)
    (x4 x5 x6 : Vec Ideal S4x512x128 .f32) (x7 : Vec Ideal S512x512 .f32) (x8 : Vec Ideal S1x512 .f32) : FVec Ideal S512x2304 .f32 :=
  concatenate S512x2304 1 [⟨S512x128, k0_pay39 k0_pay19 (k0_pay28 (mulf (k0_pay22 (View.ld x0 (Rect.unit ![0, 0] ![512, 512] inb_S512x512_S512x512_0_0))) C) (mulf (k0_pay22 (View.ld x0 (Rect.unit ![0, 0] ![512, 512] inb_S512x512_S512x512_0_0))) S) k0_pay25 k0_pay26 k0_pay27) (k0_pay38 (k0_pay29 C S (k0_pay20 (View.ld x0 (Rect.unit ![0, 0] ![512, 512] inb_S512x512_S512x512_0_0)))))⟩,
    ⟨S512x128, k0_pay40 k0_pay19 (k0_pay35 (k0_pay31 C (k0_pay20 (View.ld x0 (Rect.unit ![0, 0] ![512, 512] inb_S512x512_S512x512_0_0)))) (k0_pay32 S (k0_pay20 (View.ld x0 (Rect.unit ![0, 0] ![512, 512] inb_S512x512_S512x512_0_0)))) (64#32) k0_pay33 k0_pay34) (k0_pay36 C S (k0_pay20 (View.ld x0 (Rect.unit ![0, 0] ![512, 512] inb_S512x512_S512x512_0_0))))⟩,
    ⟨S512x128, k0_pay41 k0_pay19 (k0_pay29 C S (k0_pay20 (View.ld x0 (Rect.unit ![0, 0] ![512, 512] inb_S512x512_S512x512_0_0)))) (k0_pay37 (k0_pay28 (mulf (k0_pay22 (View.ld x0 (Rect.unit ![0, 0] ![512, 512] inb_S512x512_S512x512_0_0))) C) (mulf (k0_pay22 (View.ld x0 (Rect.unit ![0, 0] ![512, 512] inb_S512x512_S512x512_0_0))) S) k0_pay25 k0_pay26 k0_pay27))⟩,
    ⟨S512x128, k0_pay42 k0_pay19 (k0_pay35 (k0_pay31 C (k0_pay20 (View.ld x0 (Rect.unit ![0, 0] ![512, 512] inb_S512x512_S512x512_0_0)))) (k0_pay32 S (k0_pay20 (View.ld x0 (Rect.unit ![0, 0] ![512, 512] inb_S512x512_S512x512_0_0)))) (64#32) k0_pay33 k0_pay34) (k0_pay36 C S (k0_pay20 (View.ld x0 (Rect.unit ![0, 0] ![512, 512] inb_S512x512_S512x512_0_0))))⟩,
    ⟨S512x128, k0_pay44 C S (View.ld x1 (Rect.unit ![0, 0] ![512, 128] inb_S512x128_S512x128_0_0))⟩,
    ⟨S512x128, k0_pay45 (View.ld x2 (Rect.unit ![0, 0] ![512, 128] inb_S512x128_S512x128_0_0))⟩,
    ⟨S512x128, k0_pay51 k0_pay19 (k0_pay46 (k0_pay21 (View.ld x3 (Rect.unit ![0, 0] ![512, 512] inb_S512x512_S512x512_0_0)))) (k0_pay47 (k0_pay21 (View.ld x3 (Rect.unit ![0, 0] ![512, 512] inb_S512x512_S512x512_0_0))))⟩,
    ⟨S512x128, k0_pay52 k0_pay19 (k0_pay48 (k0_pay21 (View.ld x3 (Rect.unit ![0, 0] ![512, 512] inb_S512x512_S512x512_0_0)))) (k0_pay49 (k0_pay21 (View.ld x3 (Rect.unit ![0, 0] ![512, 512] inb_S512x512_S512x512_0_0))))⟩,
    ⟨S512x128, k0_pay53 k0_pay19 (k0_pay47 (k0_pay21 (View.ld x3 (Rect.unit ![0, 0] ![512, 512] inb_S512x512_S512x512_0_0)))) (k0_pay50 (k0_pay21 (View.ld x3 (Rect.unit ![0, 0] ![512, 512] inb_S512x512_S512x512_0_0))))⟩,
    ⟨S512x128, k0_pay54 k0_pay19 (k0_pay48 (k0_pay21 (View.ld x3 (Rect.unit ![0, 0] ![512, 512] inb_S512x512_S512x512_0_0)))) (k0_pay49 (k0_pay21 (View.ld x3 (Rect.unit ![0, 0] ![512, 512] inb_S512x512_S512x512_0_0))))⟩,
    ⟨S512x128, k0_pay55 (k0_pay43 (View.ld x8 (Rect.unit ![0, 0] ![1, 512] inb_S1x512_S1x512_0_0))) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0))⟩,
    ⟨S512x128, k0_pay56 (k0_pay43 (View.ld x8 (Rect.unit ![0, 0] ![1, 512] inb_S1x512_S1x512_0_0))) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0))⟩,
    ⟨S512x128, k0_pay1 (k0_pay43 (View.ld x8 (Rect.unit ![0, 0] ![1, 512] inb_S1x512_S1x512_0_0))) (k0_pay57 (View.ld x4 (Rect.unit ![2, 0, 0] ![1, 512, 128] inb_S4x512x128_S1x512x128_2_0_0))) (k0_pay58 (View.ld x5 (Rect.unit ![2, 0, 0] ![1, 512, 128] inb_S4x512x128_S1x512x128_2_0_0))) (View.ld x6 (Rect.unit ![2, 0, 0] ![1, 512, 128] inb_S4x512x128_S1x512x128_2_0_0))⟩,
    ⟨S512x128, k0_pay2 (k0_pay43 (View.ld x8 (Rect.unit ![0, 0] ![1, 512] inb_S1x512_S1x512_0_0))) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0))⟩,
    ⟨S512x512, View.ld x7 (Rect.unit ![0, 0] ![512, 512] inb_S512x512_S512x512_0_0)⟩] concatenates_S512x128_S512x128_S512x128_S512x128_S512x128_S512x128_S512x128_S512x128_S512x128_S512x128_S512x128_S512x128_S512x128_S512x128_S512x512_S512x2304_d1

theorem modulus : Scalar.select (Scalar.cmpi CmpIPredicate.eq 64#32 0#32) 1#32 64#32 = 64#32 := by decide

/-- Lane `l` of a pair of heads lies in its head's lower half. -/
theorem lane_low : ∀ l : Fin 128, IntOp.cmpi CmpIPredicate.slt
    (Scalar.select (IntOp.andi (IntOp.xori (IntOp.cmpi CmpIPredicate.slt (IntOp.remsi ArithUnit.vector (BitVec.ofNat 32 l) 64#32) 0#32)
          (Scalar.cmpi CmpIPredicate.slt 64#32 0#32))
        (IntOp.cmpi CmpIPredicate.ne (IntOp.remsi ArithUnit.vector (BitVec.ofNat 32 l) 64#32) 0#32))
      (IntOp.addi (IntOp.remsi ArithUnit.vector (BitVec.ofNat 32 l) 64#32) 64#32)
      (IntOp.remsi ArithUnit.vector (BitVec.ofNat 32 l) 64#32))
    32#32 = if l.val % 64 < 32 then 1#1 else 0#1 := by decide +kernel

/-- Lane `l` of a pair of heads lies in its first head. -/
theorem lane_first : ∀ l : Fin 128, IntOp.cmpi CmpIPredicate.slt (BitVec.ofNat 32 l) 64#32 = if l.val < 64 then 1#1 else 0#1 := by
  decide +kernel

theorem select_ite (p : Prop) [Decidable p] (x y : EReal) :
    Scalar.select (if p then 1#1 else 0#1) x y = if p then x else y := by
  split <;> rfl

/-- A pair of heads' cotangent `f` in one token rotated back by the block's tables, at lane `l`. -/
def turned (C S : FVec Ideal S512x128 .f32) (r : Fin 512) (f : Fin 128 → EReal) (l : Fin 128) : EReal :=
  f l * C (ix2 r l) + if l.val % 64 < 32 then f ⟨(l.val + 128 - 96) % 128, by omega⟩ * S (ix2 r ⟨(l.val + 128 - 96) % 128, by omega⟩)
    else f ⟨(l.val + 128 - 32) % 128, by omega⟩ * S (ix2 r ⟨(l.val + 128 - 32) % 128, by omega⟩)

variable (C S : FVec Ideal S512x128 .f32) (x : Vec Ideal S512x512 .f32) (r : Fin 512) (l : Fin 128)

theorem pair0 : k0_pay28 (mulf (k0_pay22 (View.ld x (Rect.unit ![0, 0] ![512, 512] inb_S512x512_S512x512_0_0))) C)
      (mulf (k0_pay22 (View.ld x (Rect.unit ![0, 0] ![512, 512] inb_S512x512_S512x512_0_0))) S) k0_pay25 k0_pay26 k0_pay27 (ix2 r l)
    = turned C S r (fun l => x (ix2 r ⟨l, by omega⟩)) l := by
  pointwise [k0_pay28, k0_pay25, k0_pay26, k0_pay27, k0_pay22, k0_pay20, modulus, lane_low, select_ite]
  rfl

theorem pair1 : k0_pay29 C S (k0_pay20 (View.ld x (Rect.unit ![0, 0] ![512, 512] inb_S512x512_S512x512_0_0))) (ix2 r l)
    = turned C S r (fun l => x (ix2 r ⟨128 + l, by omega⟩)) l := by
  pointwise [k0_pay29, k0_pay20, modulus, lane_low, select_ite]
  rfl

theorem pair2 : k0_pay35 (k0_pay31 C (k0_pay20 (View.ld x (Rect.unit ![0, 0] ![512, 512] inb_S512x512_S512x512_0_0))))
      (k0_pay32 S (k0_pay20 (View.ld x (Rect.unit ![0, 0] ![512, 512] inb_S512x512_S512x512_0_0)))) 64#32 k0_pay33 k0_pay34 (ix2 r l)
    = turned C S r (fun l => x (ix2 r ⟨256 + l, by omega⟩)) l := by
  pointwise [k0_pay35, k0_pay33, k0_pay34, k0_pay31, k0_pay32, k0_pay30, k0_pay20, modulus, lane_low, select_ite]
  rfl

theorem pair3 : k0_pay36 C S (k0_pay20 (View.ld x (Rect.unit ![0, 0] ![512, 512] inb_S512x512_S512x512_0_0))) (ix2 r l)
    = turned C S r (fun l => x (ix2 r ⟨384 + l, by omega⟩)) l := by
  pointwise [k0_pay36, k0_pay20, modulus, lane_low, select_ite]
  rfl

theorem pairK (x : Vec Ideal S512x128 .f32) : k0_pay44 C S (View.ld x (Rect.unit ![0, 0] ![512, 128] inb_S512x128_S512x128_0_0)) (ix2 r l)
    = turned C S r (fun l => x (ix2 r l)) l := by
  pointwise [k0_pay44, modulus, lane_low, select_ite]
  rfl

/-- The columns before narrow piece `k`. -/
theorem extents : ∀ k : Fin 14, ((([S512x128, S512x128, S512x128, S512x128, S512x128, S512x128, S512x128, S512x128, S512x128, S512x128, S512x128, S512x128, S512x128, S512x128, S512x512] : List Shape).take k.val).map
    fun s => if h : s.rank = S512x2304.rank then s.size ((1 : Fin S512x2304.rank).cast h.symm) else 0).sum = 128 * k.val := by
  decide +kernel

theorem extent : ((([S512x128, S512x128, S512x128, S512x128, S512x128, S512x128, S512x128, S512x128, S512x128, S512x128, S512x128, S512x128, S512x128, S512x128, S512x512] : List Shape).take 14).map
    fun s => if h : s.rank = S512x2304.rank then s.size ((1 : Fin S512x2304.rank).cast h.symm) else 0).sum = 1792 := by
  decide +kernel

/-- A column of one of the fourteen narrow pieces set side by side. -/
theorem narrow (p : Fin 14 → FVec Ideal S512x128 .f32) (z : FVec Ideal S512x512 .f32)
    (h : Shape.Concatenates (([⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩, ⟨S512x128, p 12⟩, ⟨S512x128, p 13⟩, ⟨S512x512, z⟩] : List ((s : Shape) × (s.Idx → EReal))).map (·.1)) S512x2304 1) (k : Fin 14) :
    concatenate S512x2304 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩, ⟨S512x128, p 12⟩, ⟨S512x128, p 13⟩, ⟨S512x512, z⟩] h (ix2 r ⟨128 * k.val + l.val, by omega⟩) = p k (ix2 r l) := by
  refine concatenate_apply_piece (t := S512x2304) (1 : Fin 2) _ h _ k.val ?_ S512x128 (p k) ?_ rfl (128 * k.val) ?_ (ix2 r l)
    (fun b hb => ?_) ?_
  · exact Nat.lt_of_lt_of_le k.isLt (Nat.le_succ 14)
  · fin_cases k <;> rfl
  · rw [List.map_take]
    exact extents k
  · fin_cases b
    · rfl
    · exact absurd rfl hb
  · rfl

/-- A column of the wide last piece. -/
theorem wide (p : Fin 14 → FVec Ideal S512x128 .f32) (z : FVec Ideal S512x512 .f32)
    (h : Shape.Concatenates (([⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩, ⟨S512x128, p 12⟩, ⟨S512x128, p 13⟩, ⟨S512x512, z⟩] : List ((s : Shape) × (s.Idx → EReal))).map (·.1)) S512x2304 1) (c : Fin 512) :
    concatenate S512x2304 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩, ⟨S512x128, p 12⟩, ⟨S512x128, p 13⟩, ⟨S512x512, z⟩] h (ix2 r ⟨1792 + c.val, by omega⟩) = z (ix2 r c) := by
  refine concatenate_apply_piece (t := S512x2304) (1 : Fin 2) _ h _ 14 ?_ S512x512 z ?_ rfl 1792 ?_ (ix2 r c) (fun b hb => ?_) ?_
  · exact Nat.lt_add_one 14
  · rfl
  · rw [List.map_take]
    exact extent
  · fin_cases b
    · rfl
    · exact absurd rfl hb
  · rfl

theorem piece0 (a b : FVec Ideal S512x128 .f32) : k0_pay39 k0_pay19 a (k0_pay38 b) (ix2 r l) = if l.val < 64 then a (ix2 r ⟨l, l.isLt⟩) else b (ix2 r ⟨(l.val + 128 - 64) % 128, by omega⟩) := by
  pointwise [k0_pay39, k0_pay19, k0_pay37, k0_pay38, lane_first, select_ite]

theorem piece1 (a b : FVec Ideal S512x128 .f32) : k0_pay40 k0_pay19 a b (ix2 r l) = if l.val < 64 then a (ix2 r ⟨l, l.isLt⟩) else b (ix2 r ⟨(l.val + 128 - 64) % 128, by omega⟩) := by
  pointwise [k0_pay40, k0_pay19, k0_pay37, k0_pay38, lane_first, select_ite]

theorem piece2 (a b : FVec Ideal S512x128 .f32) : k0_pay41 k0_pay19 b (k0_pay37 a) (ix2 r l) = if l.val < 64 then a (ix2 r ⟨(l.val + 128 - 64) % 128, by omega⟩) else b (ix2 r ⟨l, l.isLt⟩) := by
  pointwise [k0_pay41, k0_pay19, k0_pay37, k0_pay38, lane_first, select_ite]

theorem piece3 (a b : FVec Ideal S512x128 .f32) : k0_pay42 k0_pay19 a b (ix2 r l) = if l.val < 64 then a (ix2 r ⟨(l.val + 128 - 64) % 128, by omega⟩) else b (ix2 r ⟨l, l.isLt⟩) := by
  pointwise [k0_pay42, k0_pay19, k0_pay37, k0_pay38, lane_first, select_ite]

theorem gate0 : k0_pay51 k0_pay19 (k0_pay46 (k0_pay21 (View.ld x (Rect.unit ![0, 0] ![512, 512] inb_S512x512_S512x512_0_0)))) (k0_pay47 (k0_pay21 (View.ld x (Rect.unit ![0, 0] ![512, 512] inb_S512x512_S512x512_0_0)))) (ix2 r l)
    = if l.val < 64 then x (ix2 r ⟨l, by omega⟩) else x (ix2 r ⟨128 + (l.val + 128 - 64) % 128, by omega⟩) := by
  pointwise [k0_pay51, k0_pay46, k0_pay47, k0_pay46, k0_pay21, k0_pay19, lane_first, select_ite]

theorem gate1 : k0_pay52 k0_pay19 (k0_pay48 (k0_pay21 (View.ld x (Rect.unit ![0, 0] ![512, 512] inb_S512x512_S512x512_0_0)))) (k0_pay49 (k0_pay21 (View.ld x (Rect.unit ![0, 0] ![512, 512] inb_S512x512_S512x512_0_0)))) (ix2 r l)
    = if l.val < 64 then x (ix2 r ⟨256 + l, by omega⟩) else x (ix2 r ⟨384 + (l.val + 128 - 64) % 128, by omega⟩) := by
  pointwise [k0_pay52, k0_pay48, k0_pay49, k0_pay46, k0_pay21, k0_pay19, lane_first, select_ite]

theorem gate2 : k0_pay53 k0_pay19 (k0_pay47 (k0_pay21 (View.ld x (Rect.unit ![0, 0] ![512, 512] inb_S512x512_S512x512_0_0)))) (k0_pay50 (k0_pay21 (View.ld x (Rect.unit ![0, 0] ![512, 512] inb_S512x512_S512x512_0_0)))) (ix2 r l)
    = if l.val < 64 then x (ix2 r ⟨(l.val + 128 - 64) % 128, by omega⟩) else x (ix2 r ⟨128 + l, by omega⟩) := by
  pointwise [k0_pay53, k0_pay47, k0_pay50, k0_pay46, k0_pay21, k0_pay19, lane_first, select_ite]

theorem gate3 : k0_pay54 k0_pay19 (k0_pay48 (k0_pay21 (View.ld x (Rect.unit ![0, 0] ![512, 512] inb_S512x512_S512x512_0_0)))) (k0_pay49 (k0_pay21 (View.ld x (Rect.unit ![0, 0] ![512, 512] inb_S512x512_S512x512_0_0)))) (ix2 r l)
    = if l.val < 64 then x (ix2 r ⟨256 + (l.val + 128 - 64) % 128, by omega⟩) else x (ix2 r ⟨384 + l, by omega⟩) := by
  pointwise [k0_pay54, k0_pay48, k0_pay49, k0_pay46, k0_pay21, k0_pay19, lane_first, select_ite]

theorem slab0 (x8 : Vec Ideal S1x512 .f32) (x4 x5 x6 : Vec Ideal S4x512x128 .f32) :
    k0_pay55 (k0_pay43 (View.ld x8 (Rect.unit ![0, 0] ![1, 512] inb_S1x512_S1x512_0_0))) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0)) (ix2 r l)
    = x4 (ix3 0 r l) + x5 (ix3 0 r l) + x8 (ix2 0 ⟨l, by omega⟩) * x6 (ix3 0 r l) := by
  pointwise [k0_pay55, k0_pay43]

theorem slab1 (x8 : Vec Ideal S1x512 .f32) (x4 x5 x6 : Vec Ideal S4x512x128 .f32) :
    k0_pay56 (k0_pay43 (View.ld x8 (Rect.unit ![0, 0] ![1, 512] inb_S1x512_S1x512_0_0))) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0)) (ix2 r l)
    = x4 (ix3 1 r l) + x5 (ix3 1 r l) + x8 (ix2 0 ⟨128 + l, by omega⟩) * x6 (ix3 1 r l) := by
  pointwise [k0_pay56, k0_pay43]

theorem slab2 (x8 : Vec Ideal S1x512 .f32) (x4 x5 x6 : Vec Ideal S4x512x128 .f32) :
    k0_pay1 (k0_pay43 (View.ld x8 (Rect.unit ![0, 0] ![1, 512] inb_S1x512_S1x512_0_0))) (k0_pay57 (View.ld x4 (Rect.unit ![2, 0, 0] ![1, 512, 128] inb_S4x512x128_S1x512x128_2_0_0))) (k0_pay58 (View.ld x5 (Rect.unit ![2, 0, 0] ![1, 512, 128] inb_S4x512x128_S1x512x128_2_0_0))) (View.ld x6 (Rect.unit ![2, 0, 0] ![1, 512, 128] inb_S4x512x128_S1x512x128_2_0_0)) (ix2 r l)
    = x4 (ix3 2 r l) + x5 (ix3 2 r l) + x8 (ix2 0 ⟨256 + l, by omega⟩) * x6 (ix3 2 r l) := by
  pointwise [k0_pay1, k0_pay57, k0_pay58, k0_pay43]

theorem slab3 (x8 : Vec Ideal S1x512 .f32) (x4 x5 x6 : Vec Ideal S4x512x128 .f32) :
    k0_pay2 (k0_pay43 (View.ld x8 (Rect.unit ![0, 0] ![1, 512] inb_S1x512_S1x512_0_0))) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0)) (ix2 r l)
    = x4 (ix3 3 r l) + x5 (ix3 3 r l) + x8 (ix2 0 ⟨384 + l, by omega⟩) * x6 (ix3 3 r l) := by
  pointwise [k0_pay2, k0_pay43]

theorem values (x : Vec Ideal S512x128 .f32) : k0_pay45 (View.ld x (Rect.unit ![0, 0] ![512, 128] inb_S512x128_S512x128_0_0)) (ix2 r l) = x (ix2 r l) := by
  pointwise [k0_pay45]

/-- What a block's lane of a pair of heads becomes, when the tables hold the token's cosines and signed sines. -/
theorem turned_eq (t : ℕ) (g : Fin 128 → EReal) (f : Fin 64 → EReal) (b : ℕ) (hb : b < 2) (hg : ∀ d : Fin 64, g ⟨64 * b + d, by omega⟩ = f d)
    (hC : ∀ l, C (ix2 r l) = cosR t (l.val % 32)) (hS : ∀ l, S (ix2 r l) = if l.val % 64 < 32 then -sinR t (l.val % 32) else sinR t (l.val % 32))
    (d : Fin 64) (hl : l.val = 64 * b + d.val) : turned C S r g l = unrope t f d := by
  have hg' (m : Fin 128) (d : Fin 64) (h : m.val = 64 * b + d.val) : g m = f d := (congrArg g (Fin.ext h)).trans (hg d)
  unfold turned unrope
  by_cases h : d.val < 32
  · rw [if_pos (by omega), dif_pos h, hC, hS, if_neg (by show ¬ (l.val + 128 - 96) % 128 % 64 < 32; omega), hg' l d hl,
      hg' _ ⟨d.val + 32, by omega⟩ (by show (l.val + 128 - 96) % 128 = 64 * b + (d.val + 32); omega)]
    rw [show l.val % 32 = d.val by omega, show (l.val + 128 - 96) % 128 % 32 = d.val by omega]
  · rw [if_neg (by omega), dif_neg h, hC, hS, if_pos (by show (l.val + 128 - 32) % 128 % 64 < 32; omega), hg' l d hl,
      hg' _ ⟨d.val - 32, by omega⟩ (by show (l.val + 128 - 32) % 128 = 64 * b + (d.val - 32); omega)]
    rw [show l.val % 32 = d.val - 32 by omega, show (l.val + 128 - 32) % 128 % 32 = d.val - 32 by omega]

/-- A head's part of a pair of heads, rotated back. -/
theorem turned_head (x : Vec Ideal S512x512 .f32) (t : Fin 4096) (dq : FVec Ideal ⟨3, ![4096, 8, 64]⟩ .f32)
    (hx : ∀ c : Fin 512, x (ix2 r c) = dq (ix3 t ⟨4 * (c.val / 64 % 2) + c.val / 128, by omega⟩ ⟨c.val % 64, by omega⟩))
    (hC : ∀ l, C (ix2 r l) = cosR t (l.val % 32)) (hS : ∀ l, S (ix2 r l) = if l.val % 64 < 32 then -sinR t (l.val % 32) else sinR t (l.val % 32))
    (g : Fin 128 → EReal) (j b : ℕ) (hj : j < 4) (hb : b < 2) (hg : ∀ l : Fin 128, g l = x (ix2 r ⟨128 * j + l, by omega⟩))
    (n : ℕ) (h : n < 512) (hn : n = 256 * b + 64 * j + l.val - 64 * b) (hl : 64 * b ≤ l.val ∧ l.val < 64 * b + 64) :
    turned C S r g l = unrope t (fun d => dq (ix3 t ⟨n / 64, by omega⟩ d)) ⟨n % 64, by omega⟩ := by
  refine turned_eq C S r l t g _ b hb (fun d => ?_) hC hS _ (by show l.val = 64 * b + n % 64; omega)
  rw [hg, hx]
  have e1 : (128 * j + (64 * b + d.val)) / 64 = 2 * j + b := by omega
  have e2 : (128 * j + (64 * b + d.val)) / 128 = j := by omega
  exact congrArg₂ (fun h d => dq (ix3 t h d)) (Fin.ext (by
    show 4 * ((128 * j + (64 * b + d.val)) / 64 % 2) + (128 * j + (64 * b + d.val)) / 128 = n / 64; rw [e1, e2]; omega))
    (Fin.ext (by show (128 * j + (64 * b + d.val)) % 64 = d.val; omega))

/-- The narrow pieces of the block. -/
def parts (x0 : Vec Ideal S512x512 .f32) (x1 x2 : Vec Ideal S512x128 .f32) (x3 : Vec Ideal S512x512 .f32)
    (x4 x5 x6 : Vec Ideal S4x512x128 .f32) (x8 : Vec Ideal S1x512 .f32) : Fin 14 → FVec Ideal S512x128 .f32 :=
  ![k0_pay39 k0_pay19 (k0_pay28 (mulf (k0_pay22 (View.ld x0 (Rect.unit ![0, 0] ![512, 512] inb_S512x512_S512x512_0_0))) C) (mulf (k0_pay22 (View.ld x0 (Rect.unit ![0, 0] ![512, 512] inb_S512x512_S512x512_0_0))) S) k0_pay25 k0_pay26 k0_pay27) (k0_pay38 (k0_pay29 C S (k0_pay20 (View.ld x0 (Rect.unit ![0, 0] ![512, 512] inb_S512x512_S512x512_0_0))))),
    k0_pay40 k0_pay19 (k0_pay35 (k0_pay31 C (k0_pay20 (View.ld x0 (Rect.unit ![0, 0] ![512, 512] inb_S512x512_S512x512_0_0)))) (k0_pay32 S (k0_pay20 (View.ld x0 (Rect.unit ![0, 0] ![512, 512] inb_S512x512_S512x512_0_0)))) (64#32) k0_pay33 k0_pay34) (k0_pay36 C S (k0_pay20 (View.ld x0 (Rect.unit ![0, 0] ![512, 512] inb_S512x512_S512x512_0_0)))),
    k0_pay41 k0_pay19 (k0_pay29 C S (k0_pay20 (View.ld x0 (Rect.unit ![0, 0] ![512, 512] inb_S512x512_S512x512_0_0)))) (k0_pay37 (k0_pay28 (mulf (k0_pay22 (View.ld x0 (Rect.unit ![0, 0] ![512, 512] inb_S512x512_S512x512_0_0))) C) (mulf (k0_pay22 (View.ld x0 (Rect.unit ![0, 0] ![512, 512] inb_S512x512_S512x512_0_0))) S) k0_pay25 k0_pay26 k0_pay27)),
    k0_pay42 k0_pay19 (k0_pay35 (k0_pay31 C (k0_pay20 (View.ld x0 (Rect.unit ![0, 0] ![512, 512] inb_S512x512_S512x512_0_0)))) (k0_pay32 S (k0_pay20 (View.ld x0 (Rect.unit ![0, 0] ![512, 512] inb_S512x512_S512x512_0_0)))) (64#32) k0_pay33 k0_pay34) (k0_pay36 C S (k0_pay20 (View.ld x0 (Rect.unit ![0, 0] ![512, 512] inb_S512x512_S512x512_0_0)))),
    k0_pay44 C S (View.ld x1 (Rect.unit ![0, 0] ![512, 128] inb_S512x128_S512x128_0_0)),
    k0_pay45 (View.ld x2 (Rect.unit ![0, 0] ![512, 128] inb_S512x128_S512x128_0_0)),
    k0_pay51 k0_pay19 (k0_pay46 (k0_pay21 (View.ld x3 (Rect.unit ![0, 0] ![512, 512] inb_S512x512_S512x512_0_0)))) (k0_pay47 (k0_pay21 (View.ld x3 (Rect.unit ![0, 0] ![512, 512] inb_S512x512_S512x512_0_0)))),
    k0_pay52 k0_pay19 (k0_pay48 (k0_pay21 (View.ld x3 (Rect.unit ![0, 0] ![512, 512] inb_S512x512_S512x512_0_0)))) (k0_pay49 (k0_pay21 (View.ld x3 (Rect.unit ![0, 0] ![512, 512] inb_S512x512_S512x512_0_0)))),
    k0_pay53 k0_pay19 (k0_pay47 (k0_pay21 (View.ld x3 (Rect.unit ![0, 0] ![512, 512] inb_S512x512_S512x512_0_0)))) (k0_pay50 (k0_pay21 (View.ld x3 (Rect.unit ![0, 0] ![512, 512] inb_S512x512_S512x512_0_0)))),
    k0_pay54 k0_pay19 (k0_pay48 (k0_pay21 (View.ld x3 (Rect.unit ![0, 0] ![512, 512] inb_S512x512_S512x512_0_0)))) (k0_pay49 (k0_pay21 (View.ld x3 (Rect.unit ![0, 0] ![512, 512] inb_S512x512_S512x512_0_0)))),
    k0_pay55 (k0_pay43 (View.ld x8 (Rect.unit ![0, 0] ![1, 512] inb_S1x512_S1x512_0_0))) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0)),
    k0_pay56 (k0_pay43 (View.ld x8 (Rect.unit ![0, 0] ![1, 512] inb_S1x512_S1x512_0_0))) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0)),
    k0_pay1 (k0_pay43 (View.ld x8 (Rect.unit ![0, 0] ![1, 512] inb_S1x512_S1x512_0_0))) (k0_pay57 (View.ld x4 (Rect.unit ![2, 0, 0] ![1, 512, 128] inb_S4x512x128_S1x512x128_2_0_0))) (k0_pay58 (View.ld x5 (Rect.unit ![2, 0, 0] ![1, 512, 128] inb_S4x512x128_S1x512x128_2_0_0))) (View.ld x6 (Rect.unit ![2, 0, 0] ![1, 512, 128] inb_S4x512x128_S1x512x128_2_0_0)),
    k0_pay2 (k0_pay43 (View.ld x8 (Rect.unit ![0, 0] ![1, 512] inb_S1x512_S1x512_0_0))) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0))]

section
theorem head_lt (c : Fin 512) : 4 * (c.val / 64 % 2) + c.val / 128 < 8 := by omega

theorem lane_lt {n : ℕ} (c : Fin n) : c.val % 64 < 64 := by omega

theorem pair_lt (c : Fin 128) : c.val / 64 < 2 := by omega

theorem column_lt (c : Fin 512) : 64 * (4 * (c.val / 64 % 2) + c.val / 128) + c.val % 64 < 512 := by omega

theorem slab_lt (k : Fin 4) (l : Fin 128) : 128 * k.val + l.val < 512 := by omega

variable (x0 : Vec Ideal S512x512 .f32) (x1 x2 : Vec Ideal S512x128 .f32) (x3 : Vec Ideal S512x512 .f32)
    (x4 x5 x6 : Vec Ideal S4x512x128 .f32) (x7 : Vec Ideal S512x512 .f32) (x8 : Vec Ideal S1x512 .f32)
    (ssmD : FVec Ideal ⟨1, ![512]⟩ .f32) (dq : FVec Ideal ⟨3, ![4096, 8, 64]⟩ .f32) (dk dv : FVec Ideal ⟨3, ![4096, 2, 64]⟩ .f32)
    (dza duf dub dyl dzs : FVec Ideal ⟨2, ![4096, 512]⟩ .f32) (t : Fin 4096)
    (hx0 : ∀ c : Fin 512, x0 (ix2 r c) = dq (ix3 t ⟨4 * (c.val / 64 % 2) + c.val / 128, head_lt c⟩ ⟨c.val % 64, lane_lt c⟩))
    (hx1 : ∀ c : Fin 128, x1 (ix2 r c) = dk (ix3 t ⟨c.val / 64, pair_lt c⟩ ⟨c.val % 64, lane_lt c⟩))
    (hx2 : ∀ c : Fin 128, x2 (ix2 r c) = dv (ix3 t ⟨c.val / 64, pair_lt c⟩ ⟨c.val % 64, lane_lt c⟩))
    (hx3 : ∀ c : Fin 512, x3 (ix2 r c) = dza (ix2 t ⟨64 * (4 * (c.val / 64 % 2) + c.val / 128) + c.val % 64, column_lt c⟩))
    (hx4 : ∀ (k : Fin 4) (l : Fin 128), x4 (ix3 k r l) = duf (ix2 t ⟨128 * k + l, slab_lt k l⟩))
    (hx5 : ∀ (k : Fin 4) (l : Fin 128), x5 (ix3 k r l) = dub (ix2 t ⟨128 * k + l, slab_lt k l⟩))
    (hx6 : ∀ (k : Fin 4) (l : Fin 128), x6 (ix3 k r l) = dyl (ix2 t ⟨128 * k + l, slab_lt k l⟩))
    (hx7 : ∀ c : Fin 512, x7 (ix2 r c) = dzs (ix2 t c)) (hx8 : ∀ c : Fin 512, x8 (ix2 0 c) = ssmD (ix1 c))
    (hC : ∀ l, C (ix2 r l) = cosR t (l.val % 32)) (hS : ∀ l, S (ix2 r l) = if l.val % 64 < 32 then -sinR t (l.val % 32) else sinR t (l.val % 32))

include hx0 hC hS in
theorem parts_q (k : Fin 4) : parts C S x0 x1 x2 x3 x4 x5 x6 x8 ⟨k, by omega⟩ (ix2 r l)
    = unrope t (fun d => dq (ix3 t ⟨(128 * k.val + l.val) / 64, by omega⟩ d)) ⟨(128 * k.val + l.val) % 64, by omega⟩ := by
  have one := turned_head C S r ⟨l, l.isLt⟩ x0 t dq hx0 hC hS
  have two := turned_head C S r ⟨(l.val + 128 - 64) % 128, by omega⟩ x0 t dq hx0 hC hS
  fin_cases k
  · refine (piece0 r l _ _).trans ?_
    split
    · refine (pair0 ..).trans (one _ 0 0 (by omega) (by omega) (fun l => congrArg (fun c => x0 (ix2 r c)) (Fin.ext (show l.val = 128 * 0 + l.val by omega))) _ ?_ ?_ ?_) <;> simp <;> omega
    · refine (pair1 ..).trans (two _ 1 0 (by omega) (by omega) (fun l => rfl) _ ?_ ?_ ?_) <;> simp <;> omega
  · refine (piece1 r l _ _).trans ?_
    split
    · refine (pair2 ..).trans (one _ 2 0 (by omega) (by omega) (fun l => rfl) _ ?_ ?_ ?_) <;> simp <;> omega
    · refine (pair3 ..).trans (two _ 3 0 (by omega) (by omega) (fun l => rfl) _ ?_ ?_ ?_) <;> simp <;> omega
  · refine (piece2 r l _ _).trans ?_
    split
    · refine (pair0 ..).trans (two _ 0 1 (by omega) (by omega) (fun l => congrArg (fun c => x0 (ix2 r c)) (Fin.ext (show l.val = 128 * 0 + l.val by omega))) _ ?_ ?_ ?_) <;> simp <;> omega
    · refine (pair1 ..).trans (one _ 1 1 (by omega) (by omega) (fun l => rfl) _ ?_ ?_ ?_) <;> simp <;> omega
  · refine (piece3 r l _ _).trans ?_
    split
    · refine (pair2 ..).trans (two _ 2 1 (by omega) (by omega) (fun l => rfl) _ ?_ ?_ ?_) <;> simp <;> omega
    · refine (pair3 ..).trans (one _ 3 1 (by omega) (by omega) (fun l => rfl) _ ?_ ?_ ?_) <;> simp <;> omega

include hx3 in
theorem parts_gate (k : Fin 4) : parts C S x0 x1 x2 x3 x4 x5 x6 x8 ⟨6 + k, by omega⟩ (ix2 r l) = dza (ix2 t ⟨128 * k.val + l.val, by omega⟩) := by
  fin_cases k
  · refine (gate0 x3 r l).trans ?_
    split <;> rw [hx3] <;> exact congrArg (fun c => dza (ix2 t c)) (Fin.ext (by simp; omega))
  · refine (gate1 x3 r l).trans ?_
    split <;> rw [hx3] <;> exact congrArg (fun c => dza (ix2 t c)) (Fin.ext (by simp; omega))
  · refine (gate2 x3 r l).trans ?_
    split <;> rw [hx3] <;> exact congrArg (fun c => dza (ix2 t c)) (Fin.ext (by simp; omega))
  · refine (gate3 x3 r l).trans ?_
    split <;> rw [hx3] <;> exact congrArg (fun c => dza (ix2 t c)) (Fin.ext (by simp; omega))

include hx4 hx5 hx6 hx8 in
theorem parts_slab (k : Fin 4) : parts C S x0 x1 x2 x3 x4 x5 x6 x8 ⟨10 + k, by omega⟩ (ix2 r l)
    = duf (ix2 t ⟨128 * k.val + l.val, by omega⟩) + dub (ix2 t ⟨128 * k.val + l.val, by omega⟩)
      + ssmD (ix1 ⟨128 * k.val + l.val, by omega⟩) * dyl (ix2 t ⟨128 * k.val + l.val, by omega⟩) := by
  rw [← hx4, ← hx5, ← hx6, ← hx8]
  fin_cases k
  · exact (slab0 r l x8 x4 x5 x6).trans (congrArg (fun c => x4 (ix3 0 r l) + x5 (ix3 0 r l) + x8 (ix2 0 c) * x6 (ix3 0 r l)) (Fin.ext (by simp)))
  · exact slab1 r l x8 x4 x5 x6
  · exact slab2 r l x8 x4 x5 x6
  · exact slab3 r l x8 x4 x5 x6

include hx0 hx1 hx2 hx3 hx4 hx5 hx6 hx7 hx8 hC hS in
/-- The block, when its operands' blocks and tables are a token's, holds the token's projection cotangent. -/
theorem dprojB_eq (n : Fin 2304) :
    dprojB C S x0 x1 x2 x3 x4 x5 x6 x7 x8 (ix2 r n) = dproj ssmD dq dk dv dza duf dub dyl dzs t n := by
  by_cases h : n.val < 1792
  · obtain ⟨k, l, _, rfl⟩ : ∃ (k : Fin 14) (l : Fin 128) (hb : 128 * k.val + l.val < 2304), n = ⟨128 * k.val + l.val, hb⟩ :=
      ⟨⟨n.val / 128, by omega⟩, ⟨n.val % 128, by omega⟩, by show 128 * (n.val / 128) + n.val % 128 < 2304; omega, Fin.ext (by show n.val = 128 * (n.val / 128) + n.val % 128; omega)⟩
    refine (narrow r l (parts C S x0 x1 x2 x3 x4 x5 x6 x8) _ _ k).trans ?_
    unfold dproj
    by_cases h0 : k.val < 4
    · rw [dif_pos (by show 128 * k.val + l.val < 512; omega)]
      exact parts_q C S r l x0 x1 x2 x3 x4 x5 x6 x8 dq t hx0 hC hS ⟨k, h0⟩
    rw [dif_neg (by show ¬ 128 * k.val + l.val < 512; omega)]
    by_cases h1 : k.val < 5
    · rw [dif_pos (by show 128 * k.val + l.val - 512 < 128; omega)]
      obtain rfl : k = 4 := Fin.ext (by show k.val = 4; omega)
      refine (pairK C S r l x1).trans ?_
      exact turned_eq C S r l t _ _ (l.val / 64) (by omega) (fun d => (hx1 _).trans (congrArg₂ (fun h d => dk (ix3 t h d)) (Fin.ext (by simp; omega)) (Fin.ext (by simp; try omega)))) hC hS _ (by simp; omega)
    rw [dif_neg (by show ¬ 128 * k.val + l.val - 512 < 128; omega)]
    by_cases h2 : k.val < 6
    · rw [dif_pos (by show 128 * k.val + l.val - 512 - 128 < 128; omega)]
      obtain rfl : k = 5 := Fin.ext (by show k.val = 5; omega)
      refine (values r l x2).trans ((hx2 _).trans ?_)
      exact congrArg₂ (fun h d => dv (ix3 t h d)) (Fin.ext (by simp; omega)) (Fin.ext (by simp; omega))
    rw [dif_neg (by show ¬ 128 * k.val + l.val - 512 - 128 < 128; omega)]
    by_cases h3 : k.val < 10
    · rw [dif_pos (by show 128 * k.val + l.val - 512 - 128 - 128 < 512; omega)]
      have e := parts_gate C S r l x0 x1 x2 x3 x4 x5 x6 x8 dza t hx3 ⟨k.val - 6, by omega⟩
      rw [show (⟨6 + (k.val - 6), by omega⟩ : Fin 14) = k from Fin.ext (by show 6 + (k.val - 6) = k.val; omega)] at e
      exact e.trans (congrArg (fun c => dza (ix2 t c)) (Fin.ext (by simp; omega)))
    rw [dif_neg (by show ¬ 128 * k.val + l.val - 512 - 128 - 128 < 512; omega), dif_pos (by show 128 * k.val + l.val - 512 - 128 - 128 - 512 < 512; omega)]
    have e := parts_slab C S r l x0 x1 x2 x3 x4 x5 x6 x8 ssmD duf dub dyl t hx4 hx5 hx6 hx8 ⟨k.val - 10, by omega⟩
    rw [show (⟨10 + (k.val - 10), by omega⟩ : Fin 14) = k from Fin.ext (by show 10 + (k.val - 10) = k.val; omega)] at e
    exact e.trans (congrArg (fun c => duf (ix2 t c) + dub (ix2 t c) + ssmD (ix1 c) * dyl (ix2 t c)) (Fin.ext (by simp; omega)))
  · obtain ⟨c, _, rfl⟩ : ∃ (c : Fin 512) (hb : 1792 + c.val < 2304), n = ⟨1792 + c.val, hb⟩ := ⟨⟨n.val - 1792, by omega⟩, by show 1792 + (n.val - 1792) < 2304; omega, Fin.ext (by show n.val = 1792 + (n.val - 1792); omega)⟩
    refine (wide r (parts C S x0 x1 x2 x3 x4 x5 x6 x8) _ _ c).trans ?_
    unfold dproj
    rw [dif_neg (by show ¬ 1792 + c.val < 512; omega), dif_neg (by show ¬ 1792 + c.val - 512 < 128; omega), dif_neg (by show ¬ 1792 + c.val - 512 - 128 < 128; omega),
      dif_neg (by show ¬ 1792 + c.val - 512 - 128 - 128 < 512; omega), dif_neg (by show ¬ 1792 + c.val - 512 - 128 - 128 - 512 < 512; omega)]
    refine (?_ : _ = x7 (ix2 r c)).trans ((hx7 c).trans (congrArg (fun c => dzs (ix2 t c)) (Fin.ext (by simp; omega))))
    pointwise []
end
end Cert.Dproj
-- ==== Proof.Angles.lean ====
module

public import proofs.«01_k».proof.Proof.Gen.KernelIdeal.Frame
public import proofs.«01_k».proof.Proof.Block

/-! The kernels' block of the projection's cotangent: 512 tokens by 2304 columns, as the body of `proj_bwd_x` lays it out. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.Dproj
open Cert.KernelIdeal Cert.KernelIdeal.Gen

/-- The negated sine of a sum of two tokens' angles. -/
theorem sinR_add_neg (a b d : ℕ) : -sinR a d * cosR b d + cosR a d * -sinR b d = -(sinR a d * cosR b d + cosR a d * sinR b d) := by
  unfold cosR sinR
  simp only [← EReal.coe_neg, ← EReal.coe_mul, ← EReal.coe_add]
  exact congrArg Real.toEReal (by ring)

/-! ## The block's cosines and sines -/

section
variable (t : Fin grid0.N) (hi : Vec Ideal S3x32x128 .f32) (lo : Vec Ideal S3x128x128 .f32)

theorem point_lt (t : Fin grid0.N) : t.val < 8 := N_0 ▸ t.isLt

theorem offsets1 : ∀ (t : Fin grid0.N) (g : Fin 4), k0_off1 (grid0.coords t) (BitVec.ofNat 32 g) = ![0, 4 * t.val + g.val, 0] := by
  decide +kernel

theorem offsets2 : ∀ (t : Fin grid0.N) (g : Fin 4), k0_off2 (grid0.coords t) (BitVec.ofNat 32 g) = ![1, 4 * t.val + g.val, 0] := by
  decide +kernel

theorem offsets3 : ∀ (t : Fin grid0.N) (g : Fin 4), k0_off3 (grid0.coords t) (BitVec.ofNat 32 g) = ![2, 4 * t.val + g.val, 0] := by
  decide +kernel

/-- A row of the coarse table, as the body loads it. -/
theorem row_apply (o : Fin 3 → ℕ) (q g : ℕ) (hq : q < 3) (hg : g < 32) (ho : o = ![q, g, 0]) (l : Fin 128) (h0 h1 h2) :
    hi (ix3 ⟨o 0, h0⟩ ⟨o 1, h1⟩ ⟨o 2 + l.val, h2⟩) = hi (ix3 ⟨q, hq⟩ ⟨g, hg⟩ l) := by
  subst ho
  refine congrArg hi ?_
  exact congrArg (fun k => ix3 ⟨q, hq⟩ ⟨g, hg⟩ k) (Fin.ext (Nat.zero_add _))

variable (hhi0 : ∀ g l, hi (ix3 0 g l) = cosR (128 * g.val) (l.val % 32)) (hhi1 : ∀ g l, hi (ix3 1 g l) = sinR (128 * g.val) (l.val % 32))
  (hhi2 : ∀ g l, hi (ix3 2 g l) = if l.val % 64 < 32 then -sinR (128 * g.val) (l.val % 32) else sinR (128 * g.val) (l.val % 32))
  (hlo0 : ∀ g l, lo (ix3 0 g l) = cosR g.val (l.val % 32)) (hlo1 : ∀ g l, lo (ix3 1 g l) = sinR g.val (l.val % 32))
  (hlo2 : ∀ g l, lo (ix3 2 g l) = if l.val % 64 < 32 then -sinR g.val (l.val % 32) else sinR g.val (l.val % 32))

include hhi0 hhi1 hlo0 hlo1 in
theorem cosB_apply (r : Fin 512) (l : Fin 128) : cosB (grid0.coords t) hi lo (ix2 r l) = cosR (512 * t.val + r.val) (l.val % 32) := by
  have ht := point_lt t
  have one (a : Fin 4) (h0 h1 h2) := (row_apply hi (k0_off1 (grid0.coords t) (BitVec.ofNat 32 a)) 0 (4 * t.val + a.val) (by omega) (by omega)
    (offsets1 t a) l h0 h1 h2).trans (hhi0 _ _)
  have two (a : Fin 4) (h0 h1 h2) := (row_apply hi (k0_off2 (grid0.coords t) (BitVec.ofNat 32 a)) 1 (4 * t.val + a.val) (by omega) (by omega)
    (offsets2 t a) l h0 h1 h2).trans (hhi1 _ _)
  pointwise [cosB, k0_pay17, k0_pay4, k0_pay5, k0_pay7, k0_pay8, k0_pay11, k0_pay13, k0_pay14, k0_pay16, k0_pay10]
  have sum (a : Fin 4) (b : Fin 128) (h : r.val = 128 * a.val + b.val) (h0 h1 h2 h3 h4 h5) :
      hi (ix3 ⟨k0_off1 (grid0.coords t) (BitVec.ofNat 32 a) 0, h0⟩ ⟨k0_off1 (grid0.coords t) (BitVec.ofNat 32 a) 1, h1⟩
          ⟨k0_off1 (grid0.coords t) (BitVec.ofNat 32 a) 2 + l.val, h2⟩) * lo (ix3 0 b l)
        - hi (ix3 ⟨k0_off2 (grid0.coords t) (BitVec.ofNat 32 a) 0, h3⟩ ⟨k0_off2 (grid0.coords t) (BitVec.ofNat 32 a) 1, h4⟩
          ⟨k0_off2 (grid0.coords t) (BitVec.ofNat 32 a) 2 + l.val, h5⟩) * lo (ix3 1 b l) = cosR (512 * t.val + r.val) (l.val % 32) := by
    rw [one, two, hlo0, hlo1, cosR_add]
    exact congrArg (fun n => cosR n _) (by show 128 * (4 * t.val + a.val) + b.val = _; omega)
  split
  · exact sum 0 _ (by simp) ..
  split
  · exact sum 1 _ (by simp; omega) ..
  split
  · exact sum 2 _ (by simp; omega) ..
  · exact sum 3 _ (by simp; omega) ..

include hhi0 hhi2 hlo0 hlo2 in
theorem sinB_apply (r : Fin 512) (l : Fin 128) : sinB (grid0.coords t) hi lo (ix2 r l)
    = if l.val % 64 < 32 then -sinR (512 * t.val + r.val) (l.val % 32) else sinR (512 * t.val + r.val) (l.val % 32) := by
  have ht := point_lt t
  have one (a : Fin 4) (h0 h1 h2) := (row_apply hi (k0_off1 (grid0.coords t) (BitVec.ofNat 32 a)) 0 (4 * t.val + a.val) (by omega) (by omega)
    (offsets1 t a) l h0 h1 h2).trans (hhi0 _ _)
  have two (a : Fin 4) (h0 h1 h2) := (row_apply hi (k0_off3 (grid0.coords t) (BitVec.ofNat 32 a)) 2 (4 * t.val + a.val) (by omega) (by omega)
    (offsets3 t a) l h0 h1 h2).trans (hhi2 _ _)
  pointwise [sinB, k0_pay18, k0_pay4, k0_pay6, k0_pay7, k0_pay9, k0_pay12, k0_pay13, k0_pay15, k0_pay16, k0_pay10]
  have sum (a : Fin 4) (b : Fin 128) (h : r.val = 128 * a.val + b.val) (h0 h1 h2 h3 h4 h5) :
      hi (ix3 ⟨k0_off3 (grid0.coords t) (BitVec.ofNat 32 a) 0, h0⟩ ⟨k0_off3 (grid0.coords t) (BitVec.ofNat 32 a) 1, h1⟩
          ⟨k0_off3 (grid0.coords t) (BitVec.ofNat 32 a) 2 + l.val, h2⟩) * lo (ix3 0 b l)
        + hi (ix3 ⟨k0_off1 (grid0.coords t) (BitVec.ofNat 32 a) 0, h3⟩ ⟨k0_off1 (grid0.coords t) (BitVec.ofNat 32 a) 1, h4⟩
          ⟨k0_off1 (grid0.coords t) (BitVec.ofNat 32 a) 2 + l.val, h5⟩) * lo (ix3 2 b l)
      = if l.val % 64 < 32 then -sinR (512 * t.val + r.val) (l.val % 32) else sinR (512 * t.val + r.val) (l.val % 32) := by
    have e : 512 * t.val + r.val = 128 * (4 * t.val + a.val) + b.val := by omega
    rw [one, two, hlo0, hlo2, e, ← sinR_add]
    show (if _ then -sinR (128 * (4 * t.val + a.val)) _ else _) * _ + _ = _
    split
    · exact sinR_add_neg ..
    · rfl
  split
  · exact sum 0 _ (by simp) ..
  split
  · exact sum 1 _ (by simp; omega) ..
  split
  · exact sum 2 _ (by simp; omega) ..
  · exact sum 3 _ (by simp; omega) ..
end
end Cert.Dproj
-- ==== Proof.Tables.lean ====
module

public import proofs.«01_k».proof.Proof.Gen.KernelIdeal.Frame
public import proofs.«01_k».proof.Proof.Gen.Kernel2Ideal.Frame
public import proofs.«01_k».proof.Proof.Rope
public import Idealize.ShloMosaic.Lib.StableHlo.ReadAt

/-! What the two kernels' host lines prepare: the tables of cosines and signed sines, and the packed cotangents. -/

set_option maxRecDepth 16384
set_option backward.proofsInPublic true
@[expose] public section

noncomputable section
open Idealize.ShloMosaic Idealize.ShloMosaic.TcCoe Idealize.SL.Sem
open Idealize.ShloMosaic.Pipeline (Dat)
open scoped BigOperators
namespace Cert.Dproj

theorem angle_lo (g : Fin 128) (d : Fin 128) : FloatOps.sitofp (F := Ideal) .f32 (BitVec.ofNat 32 g) *
    Ideal.pow (Ideal.ofBits .f32 0x461C4000#32)
      (Ideal.div (-FloatOps.sitofp (F := Ideal) .f32 (BitVec.ofNat 32 (d.val % 32))) (Ideal.ofBits .f32 0x42000000#32))
    = (((g.val : ℝ) * freq (d.val % 32) : ℝ) : EReal) := by
  rw [freq_eq _ (by omega), EReal.coe_mul]
  exact congrArg (· * _) (sitofp_iota ⟨g.val, by omega⟩ _ rfl)

theorem angle_hi (g : Fin 32) (d : Fin 128) : FloatOps.sitofp (F := Ideal) .f32 (IntOp.muli (BitVec.ofNat 32 g) 128#32) *
    Ideal.pow (Ideal.ofBits .f32 0x461C4000#32)
      (Ideal.div (-FloatOps.sitofp (F := Ideal) .f32 (BitVec.ofNat 32 (d.val % 32))) (Ideal.ofBits .f32 0x42000000#32))
    = ((((128 * g.val : ℕ) : ℝ) * freq (d.val % 32) : ℝ) : EReal) := by
  rw [freq_eq _ (by omega), EReal.coe_mul]
  refine congrArg (· * _) (sitofp_iota ⟨128 * g.val, by omega⟩ _ ?_)
  revert g; decide +kernel

theorem signed_neg (x : ℝ) : -1 * Ideal.sin (x : EReal) = -((Real.sin x : ℝ) : EReal) := by
  rw [Ideal.sin_coe, EReal.neg_mul, one_mul]

namespace KernelIdeal
open Cert.KernelIdeal Cert.KernelIdeal.Gen
variable (m : (ℓ : Loc nD τ sig) → Buf (Elt Ideal) ℓ) (c : Dev nD)

theorem hi0 (g : Fin 32) (l : Fin 128) : V m c main_v34 (ix3 0 g l) = cosR (128 * g.val) (l.val % 32) := by
  unfold V
  after_reads_at
  rw [StableHlo.unary_result']
  after_reads_at
  rw [angle_hi]
  exact Ideal.cos_coe _

theorem hi1 (g : Fin 32) (l : Fin 128) : V m c main_v34 (ix3 1 g l) = sinR (128 * g.val) (l.val % 32) := by
  unfold V
  after_reads_at
  rw [StableHlo.unary_result']
  after_reads_at
  rw [angle_hi]
  exact Ideal.sin_coe _

theorem hi2 (g : Fin 32) (l : Fin 128) :
    V m c main_v34 (ix3 2 g l) = if l.val % 64 < 32 then -sinR (128 * g.val) (l.val % 32) else sinR (128 * g.val) (l.val % 32) := by
  unfold V
  after_reads_at
  rw [StableHlo.unary_result']
  after_reads_at
  by_cases h : l.val % 64 < 32
  · simp only [h, ↓reduceDIte, ↓reduceIte]
    after_reads_at
    rw [angle_hi]
    exact signed_neg _
  · simp only [h, ↓reduceDIte, ↓reduceIte]
    after_reads_at
    rw [angle_hi]
    exact Ideal.sin_coe _

theorem lo0 (g : Fin 128) (l : Fin 128) : V m c main_v51 (ix3 0 g l) = cosR (g.val) (l.val % 32) := by
  unfold V
  after_reads_at
  rw [StableHlo.unary_result']
  after_reads_at
  rw [angle_lo]
  exact Ideal.cos_coe _

theorem lo1 (g : Fin 128) (l : Fin 128) : V m c main_v51 (ix3 1 g l) = sinR (g.val) (l.val % 32) := by
  unfold V
  after_reads_at
  rw [StableHlo.unary_result']
  after_reads_at
  rw [angle_lo]
  exact Ideal.sin_coe _

theorem lo2 (g : Fin 128) (l : Fin 128) :
    V m c main_v51 (ix3 2 g l) = if l.val % 64 < 32 then -sinR (g.val) (l.val % 32) else sinR (g.val) (l.val % 32) := by
  unfold V
  after_reads_at
  rw [StableHlo.unary_result']
  after_reads_at
  by_cases h : l.val % 64 < 32
  · simp only [h, ↓reduceDIte, ↓reduceIte]
    after_reads_at
    rw [angle_lo]
    exact signed_neg _
  · simp only [h, ↓reduceDIte, ↓reduceIte]
    after_reads_at
    rw [angle_lo]
    exact Ideal.sin_coe _

theorem gradQ (t : Fin 4096) (k : Fin 512) : V m c main_v55 (ix2 t k)
    = m (c, Proc.tc.devRef main_arg4) (ix3 t ⟨4 * (k.val / 64 % 2) + k.val / 128, by omega⟩ ⟨k.val % 64, by omega⟩) := by
  entry_read
  pointwise []
  exact congrArg (fun h => m (c, Proc.tc.devRef main_arg4) (ix3 t h ⟨k.val % 64, by omega⟩)) (Fin.ext (by show _ = _; simp; omega))

theorem gradK (t : Fin 4096) (k : Fin 128) : V m c main_v56 (ix2 t k)
    = m (c, Proc.tc.devRef main_arg5) (ix3 t ⟨k.val / 64, by omega⟩ ⟨k.val % 64, by omega⟩) := by
  entry_read
  pointwise []

theorem gradV (t : Fin 4096) (k : Fin 128) : V m c main_v57 (ix2 t k)
    = m (c, Proc.tc.devRef main_arg6) (ix3 t ⟨k.val / 64, by omega⟩ ⟨k.val % 64, by omega⟩) := by
  entry_read
  pointwise []

theorem gradZ (t : Fin 4096) (k : Fin 512) : V m c main_v60 (ix2 t k)
    = m (c, Proc.tc.devRef main_arg7) (ix2 t ⟨64 * (4 * (k.val / 64 % 2) + k.val / 128) + k.val % 64, by omega⟩) := by
  entry_read
  pointwise []
  exact congrArg (fun h => m (c, Proc.tc.devRef main_arg7) (ix2 t h)) (Fin.ext (by show _ = _; simp; omega))

theorem skip (k : Fin 512) : V m c main_v67 (ix2 0 k) = m (c, Proc.tc.devRef main_arg2) (ix1 k) := by
  entry_read
  pointwise []

theorem slab62 (k : Fin 4) (t : Fin 4096) (l : Fin 128) : V m c main_v62 (ix3 k t l)
    = m (c, Proc.tc.devRef main_arg8) (ix2 t ⟨128 * k.val + l.val, by omega⟩) := by
  entry_read
  pointwise []
  exact congrArg (fun h => m (c, Proc.tc.devRef main_arg8) (ix2 t h)) (Fin.ext (by show _ = _; simp; omega))

theorem slab64 (k : Fin 4) (t : Fin 4096) (l : Fin 128) : V m c main_v64 (ix3 k t l)
    = m (c, Proc.tc.devRef main_arg9) (ix2 t ⟨128 * k.val + l.val, by omega⟩) := by
  entry_read
  pointwise []
  exact congrArg (fun h => m (c, Proc.tc.devRef main_arg9) (ix2 t h)) (Fin.ext (by show _ = _; simp; omega))

theorem slab66 (k : Fin 4) (t : Fin 4096) (l : Fin 128) : V m c main_v66 (ix3 k t l)
    = m (c, Proc.tc.devRef main_arg10) (ix2 t ⟨128 * k.val + l.val, by omega⟩) := by
  entry_read
  pointwise []
  exact congrArg (fun h => m (c, Proc.tc.devRef main_arg10) (ix2 t h)) (Fin.ext (by show _ = _; simp; omega))
end KernelIdeal

namespace Kernel2Ideal
open Cert.Kernel2Ideal Cert.Kernel2Ideal.Gen
variable (m : (ℓ : Loc nD τ sig) → Buf (Elt Ideal) ℓ) (c : Dev nD)

theorem hi0 (g : Fin 32) (l : Fin 128) : V m c main_v34 (ix3 0 g l) = cosR (128 * g.val) (l.val % 32) := by
  unfold V
  after_reads_at
  rw [StableHlo.unary_result']
  after_reads_at
  rw [angle_hi]
  exact Ideal.cos_coe _

theorem hi1 (g : Fin 32) (l : Fin 128) : V m c main_v34 (ix3 1 g l) = sinR (128 * g.val) (l.val % 32) := by
  unfold V
  after_reads_at
  rw [StableHlo.unary_result']
  after_reads_at
  rw [angle_hi]
  exact Ideal.sin_coe _

theorem hi2 (g : Fin 32) (l : Fin 128) :
    V m c main_v34 (ix3 2 g l) = if l.val % 64 < 32 then -sinR (128 * g.val) (l.val % 32) else sinR (128 * g.val) (l.val % 32) := by
  unfold V
  after_reads_at
  rw [StableHlo.unary_result']
  after_reads_at
  by_cases h : l.val % 64 < 32
  · simp only [h, ↓reduceDIte, ↓reduceIte]
    after_reads_at
    rw [angle_hi]
    exact signed_neg _
  · simp only [h, ↓reduceDIte, ↓reduceIte]
    after_reads_at
    rw [angle_hi]
    exact Ideal.sin_coe _

theorem lo0 (g : Fin 128) (l : Fin 128) : V m c main_v51 (ix3 0 g l) = cosR (g.val) (l.val % 32) := by
  unfold V
  after_reads_at
  rw [StableHlo.unary_result']
  after_reads_at
  rw [angle_lo]
  exact Ideal.cos_coe _

theorem lo1 (g : Fin 128) (l : Fin 128) : V m c main_v51 (ix3 1 g l) = sinR (g.val) (l.val % 32) := by
  unfold V
  after_reads_at
  rw [StableHlo.unary_result']
  after_reads_at
  rw [angle_lo]
  exact Ideal.sin_coe _

theorem lo2 (g : Fin 128) (l : Fin 128) :
    V m c main_v51 (ix3 2 g l) = if l.val % 64 < 32 then -sinR (g.val) (l.val % 32) else sinR (g.val) (l.val % 32) := by
  unfold V
  after_reads_at
  rw [StableHlo.unary_result']
  after_reads_at
  by_cases h : l.val % 64 < 32
  · simp only [h, ↓reduceDIte, ↓reduceIte]
    after_reads_at
    rw [angle_lo]
    exact signed_neg _
  · simp only [h, ↓reduceDIte, ↓reduceIte]
    after_reads_at
    rw [angle_lo]
    exact Ideal.sin_coe _

theorem gradQ (t : Fin 4096) (k : Fin 512) : V m c main_v55 (ix2 t k)
    = m (c, Proc.tc.devRef main_arg4) (ix3 t ⟨4 * (k.val / 64 % 2) + k.val / 128, by omega⟩ ⟨k.val % 64, by omega⟩) := by
  entry_read
  pointwise []
  exact congrArg (fun h => m (c, Proc.tc.devRef main_arg4) (ix3 t h ⟨k.val % 64, by omega⟩)) (Fin.ext (by show _ = _; simp; omega))

theorem gradK (t : Fin 4096) (k : Fin 128) : V m c main_v56 (ix2 t k)
    = m (c, Proc.tc.devRef main_arg5) (ix3 t ⟨k.val / 64, by omega⟩ ⟨k.val % 64, by omega⟩) := by
  entry_read
  pointwise []

theorem gradV (t : Fin 4096) (k : Fin 128) : V m c main_v57 (ix2 t k)
    = m (c, Proc.tc.devRef main_arg6) (ix3 t ⟨k.val / 64, by omega⟩ ⟨k.val % 64, by omega⟩) := by
  entry_read
  pointwise []

theorem gradZ (t : Fin 4096) (k : Fin 512) : V m c main_v60 (ix2 t k)
    = m (c, Proc.tc.devRef main_arg7) (ix2 t ⟨64 * (4 * (k.val / 64 % 2) + k.val / 128) + k.val % 64, by omega⟩) := by
  entry_read
  pointwise []
  exact congrArg (fun h => m (c, Proc.tc.devRef main_arg7) (ix2 t h)) (Fin.ext (by show _ = _; simp; omega))

theorem skip (k : Fin 512) : V m c main_v67 (ix2 0 k) = m (c, Proc.tc.devRef main_arg2) (ix1 k) := by
  entry_read
  pointwise []

theorem slab62 (k : Fin 4) (t : Fin 4096) (l : Fin 128) : V m c main_v62 (ix3 k t l)
    = m (c, Proc.tc.devRef main_arg8) (ix2 t ⟨128 * k.val + l.val, by omega⟩) := by
  entry_read
  pointwise []
  exact congrArg (fun h => m (c, Proc.tc.devRef main_arg8) (ix2 t h)) (Fin.ext (by show _ = _; simp; omega))

theorem slab64 (k : Fin 4) (t : Fin 4096) (l : Fin 128) : V m c main_v64 (ix3 k t l)
    = m (c, Proc.tc.devRef main_arg9) (ix2 t ⟨128 * k.val + l.val, by omega⟩) := by
  entry_read
  pointwise []
  exact congrArg (fun h => m (c, Proc.tc.devRef main_arg9) (ix2 t h)) (Fin.ext (by show _ = _; simp; omega))

theorem slab66 (k : Fin 4) (t : Fin 4096) (l : Fin 128) : V m c main_v66 (ix3 k t l)
    = m (c, Proc.tc.devRef main_arg10) (ix2 t ⟨128 * k.val + l.val, by omega⟩) := by
  entry_read
  pointwise []
  exact congrArg (fun h => m (c, Proc.tc.devRef main_arg10) (ix2 t h)) (Fin.ext (by show _ = _; simp; omega))
end Kernel2Ideal
end Cert.Dproj
-- ==== Proof.ProjFwd.lean ====
module

public import proofs.«01_k».proof.Proof.Gen.Kernel7Ideal.Value
public import proofs.«01_k».proof.Proof.Angles
public import proofs.«01_k».proof.Proof.Tables
public import Idealize.ShloMosaic.Lib.Pipeline.ReadBack

/-! The value of `proj`, the forward projection with its rotary embedding. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.ProjFwd
open Cert.Dproj Cert.Kernel7Ideal Cert.Kernel7Ideal.Gen

/-- Column `n` of token `i`'s projection. -/
def col (x : FVec Ideal ⟨2, ![4096, 1024]⟩ .f32) (w : FVec Ideal ⟨2, ![1024, 2304]⟩ .f32) (i : Fin 4096) (n : Fin 2304) : EReal :=
  ∑ k : Fin 1024, x (ix2 i k) * w (ix2 k n)

/-- A head `f` of token `t` turned by the token's angles. -/
def rope (t : ℕ) (f : Fin 64 → EReal) (d : Fin 64) : EReal :=
  if h : d.val < 32 then f d * cosR t d - f ⟨d.val + 32, by omega⟩ * sinR t d
  else f d * cosR t (d.val - 32) + f ⟨d.val - 32, by omega⟩ * sinR t (d.val - 32)

/-- Head `h` of the projection `f` of token `t`, turned, in the half of the 128 lanes its key head has. -/
def stacked (t : ℕ) (f : Fin 2304 → EReal) (h : Fin 8) (l : Fin 128) : EReal :=
  if l.val / 64 = h.val / 4 then rope t (fun e => f ⟨64 * h.val + e.val, by omega⟩) ⟨l.val % 64, by omega⟩ else 0

/-- A lane of a pair of heads, turned by the block's tables: `x` is the lane, `a` the one 32 above it, `b` the one 32 below. -/
theorem turn_eq (t : ℕ) (f : Fin 64 → EReal) (l : Fin 128) (x a b : EReal) (hx : x = f ⟨l.val % 64, by omega⟩)
    (ha : ∀ h : l.val % 64 < 32, a = f ⟨l.val % 64 + 32, by omega⟩) (hb : ∀ h : ¬ l.val % 64 < 32, b = f ⟨l.val % 64 - 32, by omega⟩) :
    x * cosR t (l.val % 32) + (if l.val % 64 < 32 then a else b) * (if l.val % 64 < 32 then -sinR t (l.val % 32) else sinR t (l.val % 32))
      = rope t f ⟨l.val % 64, by omega⟩ := by
  unfold rope
  by_cases h : l.val % 64 < 32
  · rw [if_pos h, if_pos h, dif_pos h, hx, ha h, sub_eq_add_neg, mul_comm _ (-sinR _ _), EReal.neg_mul, mul_comm (sinR _ _)]
    rw [show l.val % 32 = l.val % 64 by omega]
  · rw [if_neg h, if_neg h, dif_neg h, hx, hb h]
    rw [show l.val % 32 = l.val % 64 - 32 by omega]

/-- Where each operand's block lies at point `t`. -/
theorem idx_val : ∀ t : Fin cfg0.N, win0_0.index t = ![t.val, 0]
    ∧ win0_1.index t = ![0, 0]
    ∧ win0_2.index t = ![0, 0, 0]
    ∧ win0_3.index t = ![0, 0, 0]
    ∧ win0_4.index t = ![0, t.val, 0]
    ∧ win0_5.index t = ![t.val, 0]
    ∧ win0_6.index t = ![t.val, 0]
    ∧ win0_7.index t = ![t.val, 0]
    ∧ win0_8.index t = ![0, t.val, 0]
    ∧ win0_9.index t = ![t.val, 0] := by decide +kernel

theorem point_lt (t : Fin cfg0.N) : t.val < 8 := N_0 ▸ t.isLt

/-- The token of row `r` of point `t`'s blocks. -/
def tok (t : Fin cfg0.N) (r : Fin 512) : Fin 4096 := ⟨512 * t.val + r.val, by have := point_lt t; omega⟩

section
variable (m : (ℓ : Loc nD τ sig) → Buf (Elt Ideal) ℓ) (c : Dev nD)

/-! ## What the host lines prepare -/

theorem hi0 (g : Fin 32) (l : Fin 128) : V m c main_v34 (ix3 0 g l) = cosR (128 * g.val) (l.val % 32) := by
  unfold V
  after_reads_at
  rw [StableHlo.unary_result']
  after_reads_at
  rw [angle_hi]
  exact Ideal.cos_coe _

theorem hi1 (g : Fin 32) (l : Fin 128) : V m c main_v34 (ix3 1 g l) = sinR (128 * g.val) (l.val % 32) := by
  unfold V
  after_reads_at
  rw [StableHlo.unary_result']
  after_reads_at
  rw [angle_hi]
  exact Ideal.sin_coe _

theorem hi2 (g : Fin 32) (l : Fin 128) :
    V m c main_v34 (ix3 2 g l) = if l.val % 64 < 32 then -sinR (128 * g.val) (l.val % 32) else sinR (128 * g.val) (l.val % 32) := by
  unfold V
  after_reads_at
  rw [StableHlo.unary_result']
  after_reads_at
  by_cases h : l.val % 64 < 32
  · simp only [h, ↓reduceDIte, ↓reduceIte]
    after_reads_at
    rw [angle_hi]
    exact signed_neg _
  · simp only [h, ↓reduceDIte, ↓reduceIte]
    after_reads_at
    rw [angle_hi]
    exact Ideal.sin_coe _

theorem lo0 (g : Fin 128) (l : Fin 128) : V m c main_v51 (ix3 0 g l) = cosR (g.val) (l.val % 32) := by
  unfold V
  after_reads_at
  rw [StableHlo.unary_result']
  after_reads_at
  rw [angle_lo]
  exact Ideal.cos_coe _

theorem lo1 (g : Fin 128) (l : Fin 128) : V m c main_v51 (ix3 1 g l) = sinR (g.val) (l.val % 32) := by
  unfold V
  after_reads_at
  rw [StableHlo.unary_result']
  after_reads_at
  rw [angle_lo]
  exact Ideal.sin_coe _

theorem lo2 (g : Fin 128) (l : Fin 128) :
    V m c main_v51 (ix3 2 g l) = if l.val % 64 < 32 then -sinR (g.val) (l.val % 32) else sinR (g.val) (l.val % 32) := by
  unfold V
  after_reads_at
  rw [StableHlo.unary_result']
  after_reads_at
  by_cases h : l.val % 64 < 32
  · simp only [h, ↓reduceDIte, ↓reduceIte]
    after_reads_at
    rw [angle_lo]
    exact signed_neg _
  · simp only [h, ↓reduceDIte, ↓reduceIte]
    after_reads_at
    rw [angle_lo]
    exact Ideal.sin_coe _

theorem weights (n : Fin 2304) (j : Fin 1024) : V m c main_v53 (ix2 n j) = m (c, Proc.tc.devRef main_arg1) (ix2 j n) := by
  entry_read
  pointwise []

variable (t : Fin cfg0.N) (r : Fin 512)

theorem blk0 (k : Fin 1024) : iblk m c 0 t (ix2 r k) = m (c, Proc.tc.devRef main_arg0) (ix2 (tok t r) k) := by
  refine Eq.trans (?_ : _ = V m c main_arg0 (ix2 (tok t r) k)) (congrFun (V_main_arg0 m c) _)
  unfold tok
  blk_ext [iblk, idx_val t]

theorem blk1 (n : Fin 2304) (k : Fin 1024) : iblk m c 1 t (ix2 n k) = m (c, Proc.tc.devRef main_arg1) (ix2 k n) := by
  refine Eq.trans ?_ (weights m c n k)
  blk_ext [iblk, idx_val t]

theorem blk2 (q : Fin 3) (g : Fin 32) (l : Fin 128) : iblk m c 2 t (ix3 q g l) = V m c main_v34 (ix3 q g l) := by
  blk_ext [iblk, idx_val t]

theorem blk3 (q : Fin 3) (g : Fin 128) (l : Fin 128) : iblk m c 3 t (ix3 q g l) = V m c main_v51 (ix3 q g l) := by
  blk_ext [iblk, idx_val t]

/-! ## The paired heads' weights, kept from the first point on -/

/-- The projection's column in row `r` of the paired weights. -/
def src (r : Fin 1024) : Fin 2304 :=
  if h : r.val < 512 then ⟨64 * (4 * (r.val / 64 % 2) + r.val / 128) + r.val % 64, by omega⟩
  else ⟨768 + (64 * (4 * ((r.val - 512) / 64 % 2) + (r.val - 512) / 128) + (r.val - 512) % 64), by omega⟩

/-- The paired weights. -/
def paired : FVec Ideal S1024x1024 .bf16 := fun y => m (c, Proc.tc.devRef main_arg1) (ix2 (y 1) (src (y 0)))

theorem paired_apply (n : Fin 2304) (k : Fin 1024) (y : S1024x1024.Idx) (h0 : n = src (y 0)) (h1 : (y 1).val = k.val) :
    iblk m c 1 t (ix2 n k) = paired m c y := by
  subst h0
  exact (blk1 m c t _ k).trans (congrArg (m (c, Proc.tc.devRef main_arg1)) (Shape.idx_ext₂ h1.symm rfl))

set_option maxHeartbeats 4000000 in
theorem kept_first (h : t.val % 8 = 0) : (outsAt0 m c t.val t.isLt).2.2.2.2.2.2 = paired m c := by
  funext y
  rw [outsAt0_A m c t h]
  frame_out
  canon_tiles x h
  all_goals
    idx_vars x
    pointwise [k0_pay16, k0_pay17, k0_pay18, k0_pay19]
    refine paired_apply m c t _ _ y (Fin.ext ?_) h1
    unfold src
    split
    · show _ = 64 * (4 * ((y 0).val / 64 % 2) + (y 0).val / 128) + (y 0).val % 64
      simp only [Fin.val_mk]
      omega
    · show _ = 768 + (64 * (4 * (((y 0).val - 512) / 64 % 2) + ((y 0).val - 512) / 128) + ((y 0).val - 512) % 64)
      simp only [Fin.val_mk]
      omega

set_option maxHeartbeats 4000000 in
theorem kept_later (h : ¬ t.val % 8 = 0) : (outsAt0 m c t.val t.isLt).2.2.2.2.2.2
    = (outsAt0 m c (t.val - 1) (Nat.lt_of_le_of_lt (Nat.sub_le _ _) t.isLt)).2.2.2.2.2.2 := by
  rw [outsAt0_B m c t h]
  unfold sout0_B_0
  rfl

theorem kept : ∀ (n : ℕ) (hn : n < cfg0.N), (outsAt0 m c n hn).2.2.2.2.2.2 = paired m c
  | 0, hn => kept_first m c ⟨0, hn⟩ rfl
  | n + 1, hn => (kept_later m c ⟨n + 1, hn⟩ (by have := point_lt ⟨n + 1, hn⟩; show ¬ (n + 1) % 8 = 0; simp only at this; omega)).trans (kept n _)

theorem kept_before : View.read (Elt Ideal) (View.whole cc0_scratch0) ((Memref.isWhole_whole cc0_scratch0).unread
    (outsAt0 m c (t.val - 1) (Nat.lt_of_le_of_lt (Nat.sub_le _ _) t.isLt)).2.2.2.2.2.2) = paired m c :=
  ((Memref.isWhole_whole cc0_scratch0).read_unread _).trans (kept m c _ _)

/-! ## A block of each result -/

/-- Column `n` of token `i`'s projection, from the program's arguments. -/
abbrev colM (i : Fin 4096) (n : Fin 2304) : EReal :=
  col (m (c, Proc.tc.devRef main_arg0)) (m (c, Proc.tc.devRef main_arg1)) i n

theorem colM_at (a b : Fin 512) (n n' : Fin 2304) (hb : b.val = a.val) (hn : n'.val = n.val) :
    colM m c (tok t a) n = colM m c (tok t b) n' := by
  obtain rfl := Fin.ext hb
  obtain rfl := Fin.ext hn
  rfl

/-- The block's cosines and signed sines. -/
abbrev cosT : FVec Ideal Cert.KernelIdeal.S512x128 .f32 := cosB (Cert.KernelIdeal.grid0.coords t) (iblk m c 2 t) (iblk m c 3 t)
abbrev sinT : FVec Ideal Cert.KernelIdeal.S512x128 .f32 := sinB (Cert.KernelIdeal.grid0.coords t) (iblk m c 2 t) (iblk m c 3 t)

theorem cosT_apply (l : Fin 128) : cosT m c t (ix2 r l) = cosR (tok t r) (l.val % 32) :=
  cosB_apply t _ _ (fun g l => (blk2 m c t 0 g l).trans (hi0 m c g l)) (fun g l => (blk2 m c t 1 g l).trans (hi1 m c g l))
    (fun g l => (blk3 m c t 0 g l).trans (lo0 m c g l)) (fun g l => (blk3 m c t 1 g l).trans (lo1 m c g l)) r l

theorem sinT_apply (l : Fin 128) : sinT m c t (ix2 r l)
    = if l.val % 64 < 32 then -sinR (tok t r) (l.val % 32) else sinR (tok t r) (l.val % 32) :=
  sinB_apply t _ _ (fun g l => (blk2 m c t 0 g l).trans (hi0 m c g l)) (fun g l => (blk2 m c t 2 g l).trans (hi2 m c g l))
    (fun g l => (blk3 m c t 0 g l).trans (lo0 m c g l)) (fun g l => (blk3 m c t 2 g l).trans (lo2 m c g l)) r l

theorem out_k (l : Fin 128) : (outsAt0 m c t.val t.isLt).2.1 (ix2 r l)
    = rope (tok t r) (fun e => colM m c (tok t r) ⟨512 + (64 * (l.val / 64) + e.val), by omega⟩) ⟨l.val % 64, by omega⟩ := by
  by_cases h : t.val % 8 = 0
  · rw [outsAt0_A m c t h]
    frame_out
    simp only [k0_pay72]
    generalize hC : k0_pay35 (F := Ideal) _ _ _ _ _ _ _ = C
    obtain rfl : C = cosT m c t := hC.symm.trans rfl
    generalize hS : k0_pay36 (F := Ideal) _ _ _ _ _ _ _ _ = S
    obtain rfl : S = sinT m c t := hS.symm.trans rfl
    clear hC hS
    pointwise [k0_pay76, k0_pay75, k0_pay74, k0_pay73, k0_pay71, k0_pay70, k0_pay20, blk0, blk1, modulus, lane_low, select_ite, cosT_apply, sinT_apply]
    refine turn_eq _ (fun e => colM m c (tok t r) ⟨512 + (64 * (l.val / 64) + e.val), by omega⟩) l _ _ _ (colM_at m c t _ _ _ _ rfl ?_)
      (fun hl => colM_at m c t _ _ _ _ rfl ?_) (fun hl => colM_at m c t _ _ _ _ rfl ?_)
    all_goals
      simp only [Fin.val_mk]
      omega
  · rw [outsAt0_B m c t h]
    frame_out
    simp only [k0_pay72]
    generalize hC : k0_pay35 (F := Ideal) _ _ _ _ _ _ _ = C
    obtain rfl : C = cosT m c t := hC.symm.trans rfl
    generalize hS : k0_pay36 (F := Ideal) _ _ _ _ _ _ _ _ = S
    obtain rfl : S = sinT m c t := hS.symm.trans rfl
    clear hC hS
    pointwise [k0_pay76, k0_pay75, k0_pay74, k0_pay73, k0_pay71, k0_pay70, k0_pay20, blk0, blk1, modulus, lane_low, select_ite, cosT_apply, sinT_apply]
    refine turn_eq _ (fun e => colM m c (tok t r) ⟨512 + (64 * (l.val / 64) + e.val), by omega⟩) l _ _ _ (colM_at m c t _ _ _ _ rfl ?_)
      (fun hl => colM_at m c t _ _ _ _ rfl ?_) (fun hl => colM_at m c t _ _ _ _ rfl ?_)
    all_goals
      simp only [Fin.val_mk]
      omega

/-- The projection's column in lane `l` of pair `j`. -/
theorem src_pair (j : ℕ) (hj : j < 4) (l : ℕ) (p : Fin 1024) (hp : p.val = 128 * j + l) (hl : l < 128 := by omega) :
    (src p).val = 64 * (4 * (l / 64) + j) + l % 64 := by
  unfold src
  rw [dif_pos (by omega)]
  simp only [Fin.val_mk]
  omega

theorem low (y : S8x512x128.Idx) (j : ℕ) (hj : j < 4) (x1 : Fin 512) (x2 : Fin 128) (n0 n1 n2 : Fin 2304) (h0 : (y 0).val = j)
    (h1 : (y 1).val = x1.val) (h2 : (y 2).val = x2.val) (e0 : n0.val = 64 * (4 * (x2.val / 64) + j) + x2.val % 64)
    (e1 : n1.val = 64 * (4 * ((x2.val + 128 - 96) % 128 / 64) + j) + (x2.val + 128 - 96) % 128 % 64)
    (e2 : n2.val = 64 * (4 * ((x2.val + 128 - 32) % 128 / 64) + j) + (x2.val + 128 - 32) % 128 % 64) :
    (if x2.val < 64 then colM m c (tok t x1) n0 * cosR (tok t x1) (x2.val % 32)
        + (if x2.val % 64 < 32 then colM m c (tok t x1) n1
            else colM m c (tok t x1) n2)
          * (if x2.val % 64 < 32 then -sinR (tok t x1) (x2.val % 32) else sinR (tok t x1) (x2.val % 32)) else 0)
      = stacked (tok t (y 1)) (colM m c (tok t (y 1))) (y 0) (y 2) := by
  obtain ⟨y0, y1, y2, rfl⟩ : ∃ (y0 : Fin 8) (y1 : Fin 512) (y2 : Fin 128), y = ix3 y0 y1 y2 := ⟨y 0, y 1, y 2, eq_ix3 y⟩
  have h0' : y0.val = j := h0
  clear h0
  obtain rfl : y1 = x1 := Fin.ext h1
  obtain rfl : y2 = x2 := Fin.ext h2
  show _ = stacked (tok t y1) (colM m c (tok t y1)) y0 y2
  unfold stacked
  by_cases h : y2.val < 64
  · rw [if_pos h]
    refine Eq.trans ?_ (if_pos (show y2.val / 64 = y0.val / 4 by omega)).symm
    refine turn_eq _ (fun e => colM m c (tok t y1) ⟨64 * y0.val + e.val, by omega⟩) y2 _ _ _ (colM_at m c t _ _ _ _ rfl ?_)
      (fun hl => colM_at m c t _ _ _ _ rfl ?_) (fun hl => colM_at m c t _ _ _ _ rfl ?_)
    all_goals
      simp only [Fin.val_mk]
      omega
  · rw [if_neg h]
    exact (if_neg (show ¬ y2.val / 64 = y0.val / 4 by omega)).symm

theorem high (y : S8x512x128.Idx) (j : ℕ) (hj : j < 4) (x1 : Fin 512) (x2 : Fin 128) (n0 n1 n2 : Fin 2304) (h0 : (y 0).val = 4 + j)
    (h1 : (y 1).val = x1.val) (h2 : (y 2).val = x2.val) (e0 : n0.val = 64 * (4 * (x2.val / 64) + j) + x2.val % 64)
    (e1 : n1.val = 64 * (4 * ((x2.val + 128 - 96) % 128 / 64) + j) + (x2.val + 128 - 96) % 128 % 64)
    (e2 : n2.val = 64 * (4 * ((x2.val + 128 - 32) % 128 / 64) + j) + (x2.val + 128 - 32) % 128 % 64) :
    (if x2.val < 64 then 0 else colM m c (tok t x1) n0 * cosR (tok t x1) (x2.val % 32)
        + (if x2.val % 64 < 32 then colM m c (tok t x1) n1
            else colM m c (tok t x1) n2)
          * (if x2.val % 64 < 32 then -sinR (tok t x1) (x2.val % 32) else sinR (tok t x1) (x2.val % 32)))
      = stacked (tok t (y 1)) (colM m c (tok t (y 1))) (y 0) (y 2) := by
  obtain ⟨y0, y1, y2, rfl⟩ : ∃ (y0 : Fin 8) (y1 : Fin 512) (y2 : Fin 128), y = ix3 y0 y1 y2 := ⟨y 0, y 1, y 2, eq_ix3 y⟩
  have h0' : y0.val = 4 + j := h0
  clear h0
  obtain rfl : y1 = x1 := Fin.ext h1
  obtain rfl : y2 = x2 := Fin.ext h2
  show _ = stacked (tok t y1) (colM m c (tok t y1)) y0 y2
  unfold stacked
  by_cases h : y2.val < 64
  · rw [if_pos h]
    exact (if_neg (show ¬ y2.val / 64 = y0.val / 4 by omega)).symm
  · rw [if_neg h]
    refine Eq.trans ?_ (if_pos (show y2.val / 64 = y0.val / 4 by omega)).symm
    refine turn_eq _ (fun e => colM m c (tok t y1) ⟨64 * y0.val + e.val, by omega⟩) y2 _ _ _ (colM_at m c t _ _ _ _ rfl ?_)
      (fun hl => colM_at m c t _ _ _ _ rfl ?_) (fun hl => colM_at m c t _ _ _ _ rfl ?_)
    all_goals
      simp only [Fin.val_mk]
      omega

theorem out_v (l : Fin 128) : (outsAt0 m c t.val t.isLt).2.2.1 (ix2 r l) = colM m c (tok t r) ⟨640 + l.val, by omega⟩ := by
  by_cases h : t.val % 8 = 0
  · rw [outsAt0_A m c t h]
    frame_out
    pointwise [k0_pay77, k0_pay70, k0_pay20, blk0, blk1]
    refine colM_at m c t _ _ _ _ rfl ?_
    simp only [Fin.val_mk]
    omega
  · rw [outsAt0_B m c t h]
    frame_out
    pointwise [k0_pay77, k0_pay70, k0_pay20, blk0, blk1]
    refine colM_at m c t _ _ _ _ rfl ?_
    simp only [Fin.val_mk]
    omega

theorem out_zs (l : Fin 512) : (outsAt0 m c t.val t.isLt).2.2.2.2.2.1 (ix2 r l) = colM m c (tok t r) ⟨1792 + l.val, by omega⟩ := by
  by_cases h : t.val % 8 = 0
  · rw [outsAt0_A m c t h]
    frame_out
    pointwise [k0_pay3, k0_pay20, blk0, blk1]
    rfl
  · rw [outsAt0_B m c t h]
    frame_out
    pointwise [k0_pay3, k0_pay20, blk0, blk1]
    rfl

theorem out_za (l : Fin 512) : (outsAt0 m c t.val t.isLt).2.2.2.1 (ix2 r l) = colM m c (tok t r) (src ⟨512 + l.val, by omega⟩) := by
  by_cases h : t.val % 8 = 0
  · rw [outsAt0_A m c t h]
    frame_open
    simp only [↓ View.readCov_eq_canon']
    frame_out
    generalize hP : View.canon (Val := Elt Ideal) (s := S1024x1024) (e := .bf16) _ = P
    obtain rfl : P = paired m c := hP.symm.trans (kept_first m c t h ▸ (by rw [outsAt0_A m c t h]; frame_out))
    pointwise [k0_pay78, k0_pay20, blk0, paired]
    rfl
  · rw [outsAt0_B m c t h]
    frame_out
    simp only [kept_before]
    pointwise [k0_pay78, k0_pay20, blk0, paired]
    rfl

set_option maxHeartbeats 4000000 in
theorem out_u (y : S4x512x128.Idx) : (outsAt0 m c t.val t.isLt).2.2.2.2.1 y
    = colM m c (tok t (y 1)) ⟨1280 + (128 * (y 0).val + (y 2).val), by
        have h0 : (y 0).val < 4 := (y 0).isLt
        have h2 : (y 2).val < 128 := (y 2).isLt
        omega⟩ := by
  by_cases h : t.val % 8 = 0
  · rw [outsAt0_A m c t h]
    frame_out
    canon_tiles x h'
    all_goals
      idx_vars x
      pointwise [k0_pay1, k0_pay2, k0_pay82, k0_pay81, k0_pay80, k0_pay79, k0_pay20, blk0, blk1]
      refine colM_at m c t _ _ _ _ h'1 ?_
      simp only [Fin.val_mk]
      omega
  · rw [outsAt0_B m c t h]
    frame_out
    canon_tiles x h'
    all_goals
      idx_vars x
      pointwise [k0_pay1, k0_pay2, k0_pay82, k0_pay81, k0_pay80, k0_pay79, k0_pay20, blk0, blk1]
      refine colM_at m c t _ _ _ _ h'1 ?_
      simp only [Fin.val_mk]
      omega
end
end Cert.ProjFwd
-- ==== Proof.ProjQ.lean ====
module

public import proofs.«01_k».proof.Proof.ProjFwd

/-! The queries' block of `proj`. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.ProjFwd
open Cert.Dproj Cert.Kernel7Ideal Cert.Kernel7Ideal.Gen
variable (m : (ℓ : Loc nD τ sig) → Buf (Elt Ideal) ℓ) (c : Dev nD) (t : Fin cfg0.N)

set_option maxHeartbeats 4000000 in
theorem out_q (y : S8x512x128.Idx) : (outsAt0 m c t.val t.isLt).1 y
    = stacked (tok t (y 1)) (colM m c (tok t (y 1))) (y 0) (y 2) := by
  by_cases h : t.val % 8 = 0
  · rw [outsAt0_A m c t h]
    frame_open
    simp only [↓ View.readCov_eq_canon']
    frame_out
    generalize hP : View.canon (Val := Elt Ideal) (s := S1024x1024) (e := .bf16) _ = P
    obtain rfl : P = paired m c := hP.symm.trans (kept_first m c t h ▸ (by rw [outsAt0_A m c t h]; frame_out))
    simp only [k0_pay40]
    generalize hC : k0_pay35 (F := Ideal) _ _ _ _ _ _ _ = C
    obtain rfl : C = cosT m c t := hC.symm.trans rfl
    generalize hS : k0_pay36 (F := Ideal) _ _ _ _ _ _ _ _ = S
    obtain rfl : S = sinT m c t := hS.symm.trans rfl
    clear hC hS
    canon_tiles x h'
    all_goals
      idx_vars x
      pointwise [k0_pay20, k0_pay37, k0_pay38, k0_pay39, k0_pay41, k0_pay42, k0_pay43, k0_pay44, k0_pay45, k0_pay46,
        k0_pay47, k0_pay48, k0_pay49, k0_pay50, k0_pay51, k0_pay52, k0_pay53, k0_pay54, k0_pay55,
        k0_pay56, k0_pay57, k0_pay58, k0_pay59, k0_pay60, k0_pay61, k0_pay62, k0_pay63,
        k0_pay64, k0_pay65, k0_pay66, k0_pay67, k0_pay68, k0_pay69, blk0, paired, lane_first, modulus, lane_low, select_ite, cosT_apply, sinT_apply]
    · refine high m c t y 3 (by omega) x1 x2 _ _ _ (by omega) h'1 h'2 (src_pair 3 (by omega) _ _ ?_) (src_pair 3 (by omega) _ _ ?_) (src_pair 3 (by omega) _ _ ?_) <;> rfl
    · refine low m c t y 3 (by omega) x1 x2 _ _ _ (by omega) h'1 h'2 (src_pair 3 (by omega) _ _ ?_) (src_pair 3 (by omega) _ _ ?_) (src_pair 3 (by omega) _ _ ?_) <;> rfl
    · refine high m c t y 2 (by omega) x1 x2 _ _ _ (by omega) h'1 h'2 (src_pair 2 (by omega) _ _ ?_) (src_pair 2 (by omega) _ _ ?_) (src_pair 2 (by omega) _ _ ?_) <;> rfl
    · refine low m c t y 2 (by omega) x1 x2 _ _ _ (by omega) h'1 h'2 (src_pair 2 (by omega) _ _ ?_) (src_pair 2 (by omega) _ _ ?_) (src_pair 2 (by omega) _ _ ?_) <;> rfl
    · refine high m c t y 1 (by omega) x1 x2 _ _ _ (by omega) h'1 h'2 (src_pair 1 (by omega) _ _ ?_) (src_pair 1 (by omega) _ _ ?_) (src_pair 1 (by omega) _ _ ?_) <;> rfl
    · refine low m c t y 1 (by omega) x1 x2 _ _ _ (by omega) h'1 h'2 (src_pair 1 (by omega) _ _ ?_) (src_pair 1 (by omega) _ _ ?_) (src_pair 1 (by omega) _ _ ?_) <;> rfl
    · refine high m c t y 0 (by omega) x1 x2 _ _ _ (by omega) h'1 h'2 (src_pair 0 (by omega) _ _ ?_) (src_pair 0 (by omega) _ _ ?_) (src_pair 0 (by omega) _ _ ?_) <;> exact (Nat.zero_add _).symm
    · refine low m c t y 0 (by omega) x1 x2 _ _ _ (by omega) h'1 h'2 (src_pair 0 (by omega) _ _ ?_) (src_pair 0 (by omega) _ _ ?_) (src_pair 0 (by omega) _ _ ?_) <;> exact (Nat.zero_add _).symm
  · rw [outsAt0_B m c t h]
    frame_out
    simp only [kept_before, k0_pay40]
    generalize hC : k0_pay35 (F := Ideal) _ _ _ _ _ _ _ = C
    obtain rfl : C = cosT m c t := hC.symm.trans rfl
    generalize hS : k0_pay36 (F := Ideal) _ _ _ _ _ _ _ _ = S
    obtain rfl : S = sinT m c t := hS.symm.trans rfl
    clear hC hS
    canon_tiles x h'
    all_goals
      idx_vars x
      pointwise [k0_pay20, k0_pay37, k0_pay38, k0_pay39, k0_pay41, k0_pay42, k0_pay43, k0_pay44, k0_pay45, k0_pay46,
        k0_pay47, k0_pay48, k0_pay49, k0_pay50, k0_pay51, k0_pay52, k0_pay53, k0_pay54, k0_pay55,
        k0_pay56, k0_pay57, k0_pay58, k0_pay59, k0_pay60, k0_pay61, k0_pay62, k0_pay63,
        k0_pay64, k0_pay65, k0_pay66, k0_pay67, k0_pay68, k0_pay69, blk0, paired, lane_first, modulus, lane_low, select_ite, cosT_apply, sinT_apply]
    · refine high m c t y 3 (by omega) x1 x2 _ _ _ (by omega) h'1 h'2 (src_pair 3 (by omega) _ _ ?_) (src_pair 3 (by omega) _ _ ?_) (src_pair 3 (by omega) _ _ ?_) <;> rfl
    · refine low m c t y 3 (by omega) x1 x2 _ _ _ (by omega) h'1 h'2 (src_pair 3 (by omega) _ _ ?_) (src_pair 3 (by omega) _ _ ?_) (src_pair 3 (by omega) _ _ ?_) <;> rfl
    · refine high m c t y 2 (by omega) x1 x2 _ _ _ (by omega) h'1 h'2 (src_pair 2 (by omega) _ _ ?_) (src_pair 2 (by omega) _ _ ?_) (src_pair 2 (by omega) _ _ ?_) <;> rfl
    · refine low m c t y 2 (by omega) x1 x2 _ _ _ (by omega) h'1 h'2 (src_pair 2 (by omega) _ _ ?_) (src_pair 2 (by omega) _ _ ?_) (src_pair 2 (by omega) _ _ ?_) <;> rfl
    · refine high m c t y 1 (by omega) x1 x2 _ _ _ (by omega) h'1 h'2 (src_pair 1 (by omega) _ _ ?_) (src_pair 1 (by omega) _ _ ?_) (src_pair 1 (by omega) _ _ ?_) <;> rfl
    · refine low m c t y 1 (by omega) x1 x2 _ _ _ (by omega) h'1 h'2 (src_pair 1 (by omega) _ _ ?_) (src_pair 1 (by omega) _ _ ?_) (src_pair 1 (by omega) _ _ ?_) <;> rfl
    · refine high m c t y 0 (by omega) x1 x2 _ _ _ (by omega) h'1 h'2 (src_pair 0 (by omega) _ _ ?_) (src_pair 0 (by omega) _ _ ?_) (src_pair 0 (by omega) _ _ ?_) <;> exact (Nat.zero_add _).symm
    · refine low m c t y 0 (by omega) x1 x2 _ _ _ (by omega) h'1 h'2 (src_pair 0 (by omega) _ _ ?_) (src_pair 0 (by omega) _ _ ?_) (src_pair 0 (by omega) _ _ ?_) <;> exact (Nat.zero_add _).symm

end Cert.ProjFwd
-- ==== Proof.ProjEnd.lean ====
module

public import proofs.«01_k».proof.Proof.ProjFwd
public import proofs.«01_k».proof.Proof.ProjQ
public import proofs.«01_k».proof.Proof.Gen.Reference7Ideal.Read

/-! The results of `proj` and of its reference. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.ProjFwd
open Cert.Dproj

section
variable (x : FVec Ideal ⟨2, ![4096, 1024]⟩ .f32) (w : FVec Ideal ⟨2, ![1024, 2304]⟩ .f32)

/-- The queries, a head in each slab, in the half of the lanes its key head has. -/
def queries : FVec Ideal ⟨3, ![8, 4096, 128]⟩ .bf16 := fun i => stacked (i 1).val (col x w (i 1)) (i 0) (i 2)

/-- The keys. -/
def keys : FVec Ideal ⟨2, ![4096, 128]⟩ .bf16 := fun i =>
  have hi : (i 1).val < 128 := (i 1).isLt
  rope (i 0).val (fun e => col x w (i 0) ⟨512 + (64 * ((i 1).val / 64) + e.val), by omega⟩) ⟨(i 1).val % 64, by omega⟩

/-- The values. -/
def vals : FVec Ideal ⟨2, ![4096, 128]⟩ .bf16 := fun i =>
  have hi : (i 1).val < 128 := (i 1).isLt
  col x w (i 0) ⟨640 + (i 1).val, by omega⟩

/-- The attention's gate, its heads in pairs. -/
def gate : FVec Ideal ⟨2, ![4096, 512]⟩ .f32 := fun i =>
  have hi : (i 1).val < 512 := (i 1).isLt
  col x w (i 0) (src ⟨512 + (i 1).val, by omega⟩)

/-- The state-space layer's input, in slabs. -/
def input : FVec Ideal ⟨3, ![4, 4096, 128]⟩ .f32 := fun i =>
  have h0 : (i 0).val < 4 := (i 0).isLt
  have h2 : (i 2).val < 128 := (i 2).isLt
  col x w (i 1) ⟨1280 + (128 * (i 0).val + (i 2).val), by omega⟩

/-- The state-space layer's gate. -/
def gateS : FVec Ideal ⟨2, ![4096, 512]⟩ .f32 := fun i =>
  have hi : (i 1).val < 512 := (i 1).isLt
  col x w (i 0) ⟨1792 + (i 1).val, by omega⟩
end

section
open Cert.Kernel7Ideal Cert.Kernel7Ideal.Gen
variable (m : (ℓ : Loc nD τ sig) → Buf (Elt Ideal) ℓ) (c : Dev nD)

set_option maxHeartbeats 4000000 in
theorem final_q : (dats m 0 c).arrAt 4 cfg0.N = queries (m (c, Proc.tc.devRef main_arg0)) (m (c, Proc.tc.devRef main_arg1)) := by
  generalize hT : queries _ _ = T
  refine (dats m 0 c).arrAt_eq_of_covers 4 _ (by decide +kernel) fun t hf y => ?_
  blk_simp
  rw [after0_4]
  idx_vars y
  rw [out_q]
  have e : ((View.whole main_v54_0).slice (win0_4.rect t)).emb (ix3 y0 y1 y2) = ix3 y0 (tok t y1) y2 := by
    unfold tok
    blk_ext [idx_val t]
  rw [e, ← hT]
  rfl

set_option maxHeartbeats 4000000 in
theorem final_k : (dats m 0 c).arrAt 5 cfg0.N = keys (m (c, Proc.tc.devRef main_arg0)) (m (c, Proc.tc.devRef main_arg1)) := by
  generalize hT : keys _ _ = T
  refine (dats m 0 c).arrAt_eq_of_covers 5 _ (by decide +kernel) fun t hf y => ?_
  blk_simp
  rw [after0_5]
  idx_vars y
  rw [out_k]
  have e : ((View.whole main_v54_1).slice (win0_5.rect t)).emb (ix2 y0 y1) = ix2 (tok t y0) y1 := by
    unfold tok
    blk_ext [idx_val t]
  rw [e, ← hT]
  rfl

set_option maxHeartbeats 4000000 in
theorem final_v : (dats m 0 c).arrAt 6 cfg0.N = vals (m (c, Proc.tc.devRef main_arg0)) (m (c, Proc.tc.devRef main_arg1)) := by
  generalize hT : vals _ _ = T
  refine (dats m 0 c).arrAt_eq_of_covers 6 _ (by decide +kernel) fun t hf y => ?_
  blk_simp
  rw [after0_6]
  idx_vars y
  rw [out_v]
  have e : ((View.whole main_v54_2).slice (win0_6.rect t)).emb (ix2 y0 y1) = ix2 (tok t y0) y1 := by
    unfold tok
    blk_ext [idx_val t]
  rw [e, ← hT]
  rfl

set_option maxHeartbeats 4000000 in
theorem final_za : (dats m 0 c).arrAt 7 cfg0.N = gate (m (c, Proc.tc.devRef main_arg0)) (m (c, Proc.tc.devRef main_arg1)) := by
  generalize hT : gate _ _ = T
  refine (dats m 0 c).arrAt_eq_of_covers 7 _ (by decide +kernel) fun t hf y => ?_
  blk_simp
  rw [after0_7]
  idx_vars y
  rw [out_za]
  have e : ((View.whole main_v54_3).slice (win0_7.rect t)).emb (ix2 y0 y1) = ix2 (tok t y0) y1 := by
    unfold tok
    blk_ext [idx_val t]
  rw [e, ← hT]
  rfl

set_option maxHeartbeats 4000000 in
theorem final_u : (dats m 0 c).arrAt 8 cfg0.N = input (m (c, Proc.tc.devRef main_arg0)) (m (c, Proc.tc.devRef main_arg1)) := by
  generalize hT : input _ _ = T
  refine (dats m 0 c).arrAt_eq_of_covers 8 _ (by decide +kernel) fun t hf y => ?_
  blk_simp
  rw [after0_8]
  idx_vars y
  rw [out_u]
  have e : ((View.whole main_v54_4).slice (win0_8.rect t)).emb (ix3 y0 y1 y2) = ix3 y0 (tok t y1) y2 := by
    unfold tok
    blk_ext [idx_val t]
  rw [e, ← hT]
  rfl

set_option maxHeartbeats 4000000 in
theorem final_zs : (dats m 0 c).arrAt 9 cfg0.N = gateS (m (c, Proc.tc.devRef main_arg0)) (m (c, Proc.tc.devRef main_arg1)) := by
  generalize hT : gateS _ _ = T
  refine (dats m 0 c).arrAt_eq_of_covers 9 _ (by decide +kernel) fun t hf y => ?_
  blk_simp
  rw [after0_9]
  idx_vars y
  rw [out_zs]
  have e : ((View.whole main_v54_5).slice (win0_9.rect t)).emb (ix2 y0 y1) = ix2 (tok t y0) y1 := by
    unfold tok
    blk_ext [idx_val t]
  rw [e, ← hT]
  rfl

end

section
open Cert.Reference7Ideal Cert.Reference7Ideal.Gen Cert.Reference7Ideal.Read
variable (x : FVec Ideal ⟨2, ![4096, 1024]⟩ .f32) (w : FVec Ideal ⟨2, ![1024, 2304]⟩ .f32)

theorem src_gate (l : Fin 512) (h : 512 + l.val < 1024) :
    (src ⟨512 + l.val, h⟩).val = 768 + (64 * (4 * (l.val / 64 % 2) + l.val / 128) + l.val % 64) := by
  unfold src
  rw [dif_neg (by show ¬ 512 + l.val < 512; omega)]
  simp only [Nat.add_sub_cancel_left]

theorem ref_angle (t : Fin 4096) (d : Fin 32) : val_main_v20 (F := Ideal) (ix2 t d) = (((t.val : ℝ) * freq d : ℝ) : EReal) := by
  pointwise [val_main_v20, val_main_v19, val_main_v18, val_main_v17, val_main_v16, val_main_v15, val_main_v14, val_main_v13,
    val_main_v12, val_main_v11, val_main_v10, val_main_v9, val_main_v0, val_main_cst, val_main_cst_0]
  rw [freq_eq _ (by omega), EReal.coe_mul]
  exact congrArg (· * _) (sitofp_iota t _ rfl)

theorem ref_cos (t : Fin 4096) (d : Fin 32) : val_main_v21 (F := Ideal) (ix2 t d) = cosR t d := by
  pointwise [val_main_v21]
  rw [ref_angle]; rfl

theorem ref_sin (t : Fin 4096) (d : Fin 32) : val_main_v23 (F := Ideal) (ix2 t d) = sinR t d := by
  pointwise [val_main_v23]
  rw [ref_angle]; rfl

theorem ref_angle' (t : Fin 4096) (d : Fin 32) : val_main_v50 (F := Ideal) (ix2 t d) = (((t.val : ℝ) * freq d : ℝ) : EReal) := by
  pointwise [val_main_v50, val_main_v49, val_main_v48, val_main_v47, val_main_v46, val_main_v45, val_main_v44, val_main_v43,
    val_main_v42, val_main_v41, val_main_v40, val_main_v39, val_main_v0, val_main_cst_1, val_main_cst_2]
  rw [freq_eq _ (by omega), EReal.coe_mul]
  exact congrArg (· * _) (sitofp_iota t _ rfl)

theorem ref_cos' (t : Fin 4096) (d : Fin 32) : val_main_v51 (F := Ideal) (ix2 t d) = cosR t d := by
  pointwise [val_main_v51]
  rw [ref_angle']; rfl

theorem ref_sin' (t : Fin 4096) (d : Fin 32) : val_main_v53 (F := Ideal) (ix2 t d) = sinR t d := by
  pointwise [val_main_v53]
  rw [ref_angle']; rfl

theorem ref_col (t : Fin 4096) (n : Fin 2304) : val_main_v1 (F := Ideal) x w (ix2 t n) = col x w t n := by
  pointwise [val_main_v1]
  rfl

theorem ref_head (t : Fin 4096) (h : Fin 8) (d : Fin 64) :
    val_main_v37 (F := Ideal) x w (ix3 t h d) = rope t (fun e => col x w t ⟨64 * h.val + e.val, by omega⟩) d := by
  pointwise [val_main_v37, val_main_v36, val_main_v35, val_main_v34, val_main_v33, val_main_v32, val_main_v31, val_main_v30, val_main_v29,
    val_main_v28, val_main_v27, val_main_v26, val_main_v25, val_main_v24, val_main_v22, val_main_v8, val_main_v2, ref_col, ref_cos, ref_sin]
  have e (a : ℕ) (ha) (b : ℕ) (hb) (hab : a = b) : col x w t ⟨a, ha⟩ = col x w t ⟨b, hb⟩ := by subst hab; rfl
  unfold rope
  by_cases hd : d.val < 32
  · refine (dif_pos hd).trans (Eq.trans ?_ (dif_pos hd).symm)
    exact congrArg₂ (· - ·) (congrArg (· * cosR t d) (e _ _ _ _ (by show h.val * 64 + d.val = 64 * h.val + d.val; omega))) (congrArg (· * sinR t d) (e _ _ _ _ (by show h.val * 64 + (32 + d.val) = 64 * h.val + (d.val + 32); omega)))
  · refine (dif_neg hd).trans (Eq.trans ?_ (dif_neg hd).symm)
    exact congrArg₂ (· + ·) (congrArg (· * cosR t (d - 32)) (e _ _ _ _ (by show h.val * 64 + (32 + (d.val - 32)) = 64 * h.val + d.val; omega))) (congrArg (· * sinR t (d - 32)) (e _ _ _ _ (by show h.val * 64 + (d.val - 32) = 64 * h.val + (d.val - 32); omega)))

theorem ref_key (t : Fin 4096) (h : Fin 2) (d : Fin 64) :
    val_main_v67 (F := Ideal) x w (ix3 t h d) = rope t (fun e => col x w t ⟨512 + (64 * h.val + e.val), by omega⟩) d := by
  pointwise [val_main_v67, val_main_v66, val_main_v65, val_main_v64, val_main_v63, val_main_v62, val_main_v61, val_main_v60, val_main_v59,
    val_main_v58, val_main_v57, val_main_v56, val_main_v55, val_main_v54, val_main_v52, val_main_v38, val_main_v3, ref_col, ref_cos', ref_sin']
  have e (a : ℕ) (ha) (b : ℕ) (hb) (hab : a = b) : col x w t ⟨a, ha⟩ = col x w t ⟨b, hb⟩ := by subst hab; rfl
  unfold rope
  by_cases hd : d.val < 32
  · refine (dif_pos hd).trans (Eq.trans ?_ (dif_pos hd).symm)
    exact congrArg₂ (· - ·) (congrArg (· * cosR t d) (e _ _ _ _ (by show 512 + (h.val * 64 + d.val) = 512 + (64 * h.val + d.val); omega))) (congrArg (· * sinR t d) (e _ _ _ _ (by show 512 + (h.val * 64 + (32 + d.val)) = 512 + (64 * h.val + (d.val + 32)); omega)))
  · refine (dif_neg hd).trans (Eq.trans ?_ (dif_neg hd).symm)
    exact congrArg₂ (· + ·) (congrArg (· * cosR t (d - 32)) (e _ _ _ _ (by show 512 + (h.val * 64 + (32 + (d.val - 32))) = 512 + (64 * h.val + d.val); omega))) (congrArg (· * sinR t (d - 32)) (e _ _ _ _ (by show 512 + (h.val * 64 + (d.val - 32)) = 512 + (64 * h.val + (d.val - 32)); omega)))

theorem ref_q : val_main_v78 (F := Ideal) x w = queries x w := by
  funext y
  idx_vars y
  pointwise [val_main_v78, val_main_v77, val_main_v76, val_main_v75, val_main_v74, val_main_v73, val_main_v72, val_main_v71, val_main_v70,
    val_main_v69, val_main_v68, val_main_cst_3, ref_head]
  change _ = stacked y1.val (col x w y1) y0 y2
  have e (a : ℕ) (ha : ∀ e : Fin 64, a + e.val < 2304) (b : ℕ) (hb : ∀ e : Fin 64, b + e.val < 2304) (d d' : Fin 64) (hab : a = b) (hd : d.val = d'.val) :
      rope y1.val (fun e => col x w y1 ⟨a + e.val, ha e⟩) d = rope y1.val (fun e => col x w y1 ⟨b + e.val, hb e⟩) d' := by
    subst hab
    rw [Fin.ext hd]
  unfold stacked
  by_cases h : y0.val < 4
  · refine (dif_pos h).trans ?_
    by_cases h' : y2.val < 64
    · refine (dif_pos h').trans (Eq.trans ?_ (if_pos (by omega)).symm)
      exact e _ _ _ _ _ _ rfl (by show y2.val = y2.val % 64; omega)
    · exact (dif_neg h').trans (if_neg (by omega)).symm
  · refine (dif_neg h).trans ?_
    by_cases h' : y2.val < 64
    · exact (dif_pos h').trans (if_neg (by omega)).symm
    · refine (dif_neg h').trans (Eq.trans ?_ (if_pos (by omega)).symm)
      exact e _ _ _ _ _ _ (by show 64 * (4 + (y0.val - 4)) = 64 * y0.val; omega) (by show y2.val - 64 = y2.val % 64; omega)

theorem ref_k : val_main_v80 (F := Ideal) x w = keys x w := by
  funext y
  idx_vars y
  pointwise [val_main_v80, val_main_v79, ref_key]
  rfl

theorem ref_v : val_main_v81 (F := Ideal) x w = vals x w := by
  funext y
  idx_vars y
  pointwise [val_main_v81, val_main_v4, ref_col]
  rfl

theorem ref_za : val_main_v84 (F := Ideal) x w = gate x w := by
  funext y
  idx_vars y
  pointwise [val_main_v84, val_main_v83, val_main_v82, val_main_v5, ref_col]
  change _ = col x w y0 (src ⟨512 + y1.val, by omega⟩)
  refine congrArg (col x w y0) (Fin.ext ?_)
  rw [src_gate]
  show 768 + (y1.val / 64 % 2 * 256 + y1.val / 128 * 64 + y1.val % 64) = _
  omega

theorem ref_u : val_main_v86 (F := Ideal) x w = input x w := by
  funext y
  idx_vars y
  pointwise [val_main_v86, val_main_v85, val_main_v6, ref_col]
  exact congrArg (col x w y1) (Fin.ext (congrArg (1280 + ·) (congrArg (· + y2.val) (Nat.mul_comm _ _))))

theorem ref_zs : val_main_v7 (F := Ideal) x w = gateS x w := by
  funext y
  idx_vars y
  pointwise [val_main_v7, ref_col]
  rfl
end
end Cert.ProjFwd
-- ==== Proof.ProjX.lean ====
module

public import proofs.«01_k».proof.Proof.Gen.KernelIdeal.Value
public import proofs.«01_k».proof.Proof.Angles
public import proofs.«01_k».proof.Proof.Tables

/-! The value of `proj_bwd_x`. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.Dproj.KernelIdeal
open Cert.KernelIdeal Cert.KernelIdeal.Gen

/-- Where each operand's block lies at point `t`. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, t.val, 0]
    ∧ win0_5.index t = ![0, t.val, 0]
    ∧ win0_6.index t = ![0, t.val, 0]
    ∧ win0_7.index t = ![t.val, 0]
    ∧ win0_8.index t = ![0, 0]
    ∧ win0_9.index t = ![0, 0, 0]
    ∧ win0_10.index t = ![0, 0, 0]
    ∧ win0_11.index t = ![t.val, 0]
    ∧ win0_12.index t = ![0, 0]
    ∧ win0_13.index t = ![t.val, 0] := by decide +kernel

theorem point_lt (t : Fin cfg0.N) : t.val < 8 := N_0 ▸ t.isLt

/-- The token of row `r` of point `t`'s blocks. -/
def tok (t : Fin cfg0.N) (r : Fin 512) : Fin 4096 := ⟨512 * t.val + r.val, by have := point_lt t; omega⟩

variable (m : (ℓ : Loc nD τ sig) → Buf (Elt Ideal) ℓ) (c : Dev nD) (t : Fin cfg0.N) (r : Fin 512)

theorem blk0 (k : Fin 512) : iblk m c 0 t (ix2 r k) = V m c main_v55 (ix2 (tok t r) k) := by
  unfold tok
  blk_ext [iblk, idx_val t]

theorem blk1 (k : Fin 128) : iblk m c 1 t (ix2 r k) = V m c main_v56 (ix2 (tok t r) k) := by
  unfold tok
  blk_ext [iblk, idx_val t]

theorem blk2 (k : Fin 128) : iblk m c 2 t (ix2 r k) = V m c main_v57 (ix2 (tok t r) k) := by
  unfold tok
  blk_ext [iblk, idx_val t]

theorem blk3 (k : Fin 512) : iblk m c 3 t (ix2 r k) = V m c main_v60 (ix2 (tok t r) k) := by
  unfold tok
  blk_ext [iblk, idx_val t]

theorem blk4 (k : Fin 4) (l : Fin 128) : iblk m c 4 t (ix3 k r l) = V m c main_v62 (ix3 k (tok t r) l) := by
  unfold tok
  blk_ext [iblk, idx_val t]

theorem blk5 (k : Fin 4) (l : Fin 128) : iblk m c 5 t (ix3 k r l) = V m c main_v64 (ix3 k (tok t r) l) := by
  unfold tok
  blk_ext [iblk, idx_val t]

theorem blk6 (k : Fin 4) (l : Fin 128) : iblk m c 6 t (ix3 k r l) = V m c main_v66 (ix3 k (tok t r) l) := by
  unfold tok
  blk_ext [iblk, idx_val t]

theorem blk7 (k : Fin 512) : iblk m c 7 t (ix2 r k) = V m c main_arg11 (ix2 (tok t r) k) := by
  unfold tok
  blk_ext [iblk, idx_val t]

theorem blk8 (k : Fin 512) : iblk m c 8 t (ix2 0 k) = V m c main_v67 (ix2 0 k) := by
  blk_ext [iblk, idx_val t]

theorem blk9 (q : Fin 3) (g : Fin 32) (l : Fin 128) : iblk m c 9 t (ix3 q g l) = V m c main_v34 (ix3 q g l) := by
  blk_ext [iblk, idx_val t]

theorem blk10 (q : Fin 3) (g : Fin 128) (l : Fin 128) : iblk m c 10 t (ix3 q g l) = V m c main_v51 (ix3 q g l) := by
  blk_ext [iblk, idx_val t]

/-- The projection cotangent of token `n`'s columns, from the program's arguments. -/
abbrev dprojM (i : Fin 4096) (n : Fin 2304) : EReal :=
  dproj (m (c, Proc.tc.devRef main_arg2)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) i n

/-- Point `t`'s block of the projection cotangent. -/
def dprojT : FVec Ideal Cert.KernelIdeal.S512x2304 .f32 :=
  dprojB (cosB (Cert.KernelIdeal.grid0.coords t) (iblk m c 9 t) (iblk m c 10 t)) (sinB (Cert.KernelIdeal.grid0.coords t) (iblk m c 9 t) (iblk m c 10 t))
    (iblk m c 0 t) (iblk m c 1 t) (iblk m c 2 t) (iblk m c 3 t) (iblk m c 4 t) (iblk m c 5 t) (iblk m c 6 t) (iblk m c 7 t) (iblk m c 8 t)

theorem dprojT_apply (n : Fin 2304) : dprojT m c t (ix2 r n) = dprojM m c (tok t r) n := by
  refine dprojB_eq _ _ r (iblk m c 0 t) (iblk m c 1 t) (iblk m c 2 t) (iblk m c 3 t) (iblk m c 4 t) (iblk m c 5 t) (iblk m c 6 t) (iblk m c 7 t) (iblk m c 8 t) (m (c, Proc.tc.devRef main_arg2)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (tok t r)
    (fun k => (blk0 m c t r k).trans (gradQ m c _ k)) (fun k => (blk1 m c t r k).trans (gradK m c _ k))
    (fun k => (blk2 m c t r k).trans (gradV m c _ k)) (fun k => (blk3 m c t r k).trans (gradZ m c _ k))
    (fun k l => (blk4 m c t r k l).trans (slab62 m c k _ l)) (fun k l => (blk5 m c t r k l).trans (slab64 m c k _ l))
    (fun k l => (blk6 m c t r k l).trans (slab66 m c k _ l)) (fun k => (blk7 m c t r k).trans (congrFun (V_main_arg11 m c) _))
    (fun k => (blk8 m c t k).trans (skip m c k)) (fun l => ?_) (fun l => ?_) n
  · exact cosB_apply t _ _ (fun g l => (blk9 m c t 0 g l).trans (hi0 m c g l)) (fun g l => (blk9 m c t 1 g l).trans (hi1 m c g l))
      (fun g l => (blk10 m c t 0 g l).trans (lo0 m c g l)) (fun g l => (blk10 m c t 1 g l).trans (lo1 m c g l)) r l
  · exact sinB_apply t _ _ (fun g l => (blk9 m c t 0 g l).trans (hi0 m c g l)) (fun g l => (blk9 m c t 2 g l).trans (hi2 m c g l))
      (fun g l => (blk10 m c t 0 g l).trans (lo0 m c g l)) (fun g l => (blk10 m c t 2 g l).trans (lo2 m c g l)) r l

variable (m : (ℓ : Loc nD τ sig) → Buf (Elt Ideal) ℓ) (c : Dev nD)

/-- The gradient of the layer's input. -/
def gradX : FVec Ideal S4096x1024 .f32 := fun i =>
  Ideal.ofBits .f32 0x3F9837F0#32 * m (c, Proc.tc.devRef main_arg3) i
    + ∑ n : Fin 2304, dprojM m c (i 0) n * m (c, Proc.tc.devRef main_arg1) (ix2 (i 1) n)

theorem weights (n : Fin 2304) (j : Fin 1024) : V m c main_v69 (ix2 n j) = m (c, Proc.tc.devRef main_arg1) (ix2 j n) := by
  entry_read
  pointwise []

set_option maxHeartbeats 4000000 in
set_option maxHeartbeats 4000000 in
theorem blk11 (t : Fin cfg0.N) (r : Fin 512) (k : Fin 1024) : iblk m c 11 t (ix2 r k) = V m c main_arg3 (ix2 (tok t r) k) := by
  unfold tok
  blk_ext [iblk, idx_val t]

theorem blk12 (t : Fin cfg0.N) (n : Fin 2304) (j : Fin 1024) : iblk m c 12 t (ix2 n j) = V m c main_v69 (ix2 n j) := by
  blk_ext [iblk, idx_val t]

theorem out13 (t : Fin cfg0.N) (r : Fin 512) (j : Fin 1024) :
    ((View.whole main_v70).slice (win0_13.rect t)).emb (ix2 r j) = ix2 (tok t r) j := by
  unfold tok
  blk_ext [idx_val t]

set_option maxHeartbeats 4000000 in
theorem final : (dats m 0 c).arrAt 13 cfg0.N = gradX m c := by
  refine (dats m 0 c).arrAt_eq_of_covers 13 _ (by decide +kernel) fun t hf y => ?_
  blk_simp
  rw [after0_13]
  unfold outsAt0
  frame_out
  rw [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  refine (congrFun (show _ = k0_pay3 (dprojT m c t) (iblk m c 11 t) (iblk m c 12 t) from ?_) y).trans ?_
  · rfl
  idx_vars y
  pointwise [k0_pay3, dprojT_apply]
  rw [out13, blk11, congrFun (V_main_arg3 m c)]
  simp only [blk12]
  exact congrArg (_ + ·) (Finset.sum_congr rfl fun n _ => congrArg (_ * ·) (weights m c n y1))
end Cert.Dproj.KernelIdeal
-- ==== Proof.ProjW.lean ====
module

public import Idealize.ShloMosaic.Lib.Pipeline.ReadBack
public import proofs.«01_k».proof.Proof.Gen.Kernel2Ideal.Value
public import proofs.«01_k».proof.Proof.Gen.Reference2Ideal.Read
public import proofs.«01_k».proof.Proof.Angles
public import proofs.«01_k».proof.Proof.Tables

/-! The value of `proj_bwd_w`. -/

set_option maxRecDepth 16384
set_option backward.proofsInPublic true

@[expose] public section

noncomputable section
open Idealize.ShloMosaic Idealize.ShloMosaic.TcCoe Idealize.SL.Sem
open Idealize.ShloMosaic.Pipeline (Dat)
open scoped BigOperators
namespace Cert.Dproj.Kernel2Ideal
open Cert.Kernel2Ideal Cert.Kernel2Ideal.Gen

theorem ld_square (x : Vec Ideal KernelIdeal.S512x512 .f32) (h) : View.ld x (Rect.unit (s := KernelIdeal.S512x512) ![0, 0] ![512, 512] h) = x :=
  View.ld_unit_zero (by decide) _ _

theorem ld_wide (x : Vec Ideal KernelIdeal.S512x128 .f32) (h) : View.ld x (Rect.unit (s := KernelIdeal.S512x128) ![0, 0] ![512, 128] h) = x :=
  View.ld_unit_zero (by decide) _ _

theorem ld_row (x : Vec Ideal KernelIdeal.S1x512 .f32) (h) : View.ld x (Rect.unit (s := KernelIdeal.S1x512) ![0, 0] ![1, 512] h) = x :=
  View.ld_unit_zero (by decide) _ _

/-- The second kernel's cosines are the first's. -/
theorem cos_eq (i : grid0.Coords) (hi : Vec Ideal S3x32x128 .f32) (lo : Vec Ideal S3x128x128 .f32) :
    k0_pay17 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0))) (k0_pay8 (View.ld lo (Rect.unit ![0, 0, 0] ![1, 128, 128] inb_S3x128x128_S1x128x128_0_0_0)) (View.ld lo (Rect.unit ![1, 0, 0] ![1, 128, 128] inb_S3x128x128_S1x128x128_1_0_0)) (View.ld hi (Rect.unit (k0_off1 i 0#32) ![1, 1, 128] (k0_off1_inb i 0))) (View.ld hi (Rect.unit (k0_off2 i 0#32) ![1, 1, 128] (k0_off2_inb i 0)))) (k0_pay11 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0))) (View.ld hi (Rect.unit (k0_off1 i 1#32) ![1, 1, 128] (k0_off1_inb i 1))) (View.ld hi (Rect.unit (k0_off2 i 1#32) ![1, 1, 128] (k0_off2_inb i 1)))) (k0_pay14 (k0_pay4 (View.ld lo (Rect.unit ![0, 0, 0] ![1, 128, 128] inb_S3x128x128_S1x128x128_0_0_0))) (k0_pay5 (View.ld lo (Rect.unit ![1, 0, 0] ![1, 128, 128] inb_S3x128x128_S1x128x128_1_0_0))) (View.ld hi (Rect.unit (k0_off1 i 2#32) ![1, 1, 128] (k0_off1_inb i 2))) (View.ld hi (Rect.unit (k0_off2 i 2#32) ![1, 1, 128] (k0_off2_inb i 2)))) (View.ld hi (Rect.unit (k0_off1 i 3#32) ![1, 1, 128] (k0_off1_inb i 3))) (View.ld hi (Rect.unit (k0_off2 i 3#32) ![1, 1, 128] (k0_off2_inb i 3)))
      = cosB i hi lo := rfl

/-- The second kernel's sines are the first's. -/
theorem sin_eq (i : grid0.Coords) (hi : Vec Ideal S3x32x128 .f32) (lo : Vec Ideal S3x128x128 .f32) :
    k0_pay18 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0))) (k0_pay9 (View.ld lo (Rect.unit ![0, 0, 0] ![1, 128, 128] inb_S3x128x128_S1x128x128_0_0_0)) (View.ld lo (Rect.unit ![2, 0, 0] ![1, 128, 128] inb_S3x128x128_S1x128x128_2_0_0)) (View.ld hi (Rect.unit (k0_off1 i 0#32) ![1, 1, 128] (k0_off1_inb i 0))) (View.ld hi (Rect.unit (k0_off3 i 0#32) ![1, 1, 128] (k0_off3_inb i 0)))) (k0_pay12 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0))) (View.ld hi (Rect.unit (k0_off1 i 1#32) ![1, 1, 128] (k0_off1_inb i 1))) (View.ld hi (Rect.unit (k0_off3 i 1#32) ![1, 1, 128] (k0_off3_inb i 1)))) (k0_pay15 (k0_pay4 (View.ld lo (Rect.unit ![0, 0, 0] ![1, 128, 128] inb_S3x128x128_S1x128x128_0_0_0))) (k0_pay6 (View.ld lo (Rect.unit ![2, 0, 0] ![1, 128, 128] inb_S3x128x128_S1x128x128_2_0_0))) (View.ld hi (Rect.unit (k0_off1 i 2#32) ![1, 1, 128] (k0_off1_inb i 2))) (View.ld hi (Rect.unit (k0_off3 i 2#32) ![1, 1, 128] (k0_off3_inb i 2)))) (View.ld hi (Rect.unit (k0_off1 i 3#32) ![1, 1, 128] (k0_off1_inb i 3))) (View.ld hi (Rect.unit (k0_off3 i 3#32) ![1, 1, 128] (k0_off3_inb i 3)))
      = sinB i hi lo := rfl

/-- The block, from its pieces. -/
def stack (p : Fin 14 → FVec Ideal KernelIdeal.S512x128 .f32) (z : FVec Ideal KernelIdeal.S512x512 .f32) : FVec Ideal KernelIdeal.S512x2304 .f32 :=
  concatenate KernelIdeal.S512x2304 1 [⟨KernelIdeal.S512x128, p 0⟩, ⟨KernelIdeal.S512x128, p 1⟩, ⟨KernelIdeal.S512x128, p 2⟩, ⟨KernelIdeal.S512x128, p 3⟩, ⟨KernelIdeal.S512x128, p 4⟩, ⟨KernelIdeal.S512x128, p 5⟩, ⟨KernelIdeal.S512x128, p 6⟩, ⟨KernelIdeal.S512x128, p 7⟩, ⟨KernelIdeal.S512x128, p 8⟩, ⟨KernelIdeal.S512x128, p 9⟩, ⟨KernelIdeal.S512x128, p 10⟩, ⟨KernelIdeal.S512x128, p 11⟩, ⟨KernelIdeal.S512x128, p 12⟩, ⟨KernelIdeal.S512x128, p 13⟩, ⟨KernelIdeal.S512x512, z⟩] KernelIdeal.Gen.concatenates_S512x128_S512x128_S512x128_S512x128_S512x128_S512x128_S512x128_S512x128_S512x128_S512x128_S512x128_S512x128_S512x128_S512x128_S512x512_S512x2304_d1

/-- The second kernel's pieces are the first's. -/
theorem parts_eq (C S : FVec Ideal S512x128 .f32) (x0 : Vec Ideal S512x512 .f32) (x1 x2 : Vec Ideal S512x128 .f32) (x3 : Vec Ideal S512x512 .f32) (x4 x5 x6 : Vec Ideal S4x512x128 .f32) (x7 : Vec Ideal S512x512 .f32) (x8 : Vec Ideal S1x512 .f32) :
    parts C S x0 x1 x2 x3 x4 x5 x6 x8 = ![k0_pay41 k0_pay19 (k0_pay28 (mulf (k0_pay22 x0) C) (mulf (k0_pay22 x0) S) (64#32) k0_pay25 k0_pay26 k0_pay27 0#32) (k0_pay29 C S (k0_pay20 x0)), k0_pay42 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0)), k0_pay43 k0_pay19 (k0_pay28 (mulf (k0_pay22 x0) C) (mulf (k0_pay22 x0) S) (64#32) k0_pay25 k0_pay26 k0_pay27 0#32) (k0_pay29 C S (k0_pay20 x0)), k0_pay44 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0)), k0_pay46 C S x1, k0_pay47 x2, k0_pay52 k0_pay19 (k0_pay21 x3), k0_pay53 k0_pay19 (k0_pay21 x3), k0_pay54 k0_pay19 (k0_pay21 x3), k0_pay55 k0_pay19 (k0_pay21 x3), k0_pay56 (k0_pay45 x8) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0)), k0_pay57 (k0_pay45 x8) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0)), Cert.KernelIdeal.Gen.k0_pay1 (Cert.KernelIdeal.Gen.k0_pay43 x8) (Cert.KernelIdeal.Gen.k0_pay57 (View.ld x4 (Rect.unit ![2, 0, 0] ![1, 512, 128] inb_S4x512x128_S1x512x128_2_0_0))) (Cert.KernelIdeal.Gen.k0_pay58 (View.ld x5 (Rect.unit ![2, 0, 0] ![1, 512, 128] inb_S4x512x128_S1x512x128_2_0_0))) (View.ld x6 (Rect.unit ![2, 0, 0] ![1, 512, 128] inb_S4x512x128_S1x512x128_2_0_0)), Cert.KernelIdeal.Gen.k0_pay2 (Cert.KernelIdeal.Gen.k0_pay43 x8) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0))] := by
  funext k
  fin_cases k <;> simp only [parts, ld_square, ld_wide, ld_row] <;> rfl

/-- The second kernel's block of the projection's cotangent is the first's. -/
theorem block_eq (C S : FVec Ideal S512x128 .f32) (x0 : Vec Ideal S512x512 .f32) (x1 x2 : Vec Ideal S512x128 .f32) (x3 : Vec Ideal S512x512 .f32) (x4 x5 x6 : Vec Ideal S4x512x128 .f32) (x7 : Vec Ideal S512x512 .f32) (x8 : Vec Ideal S1x512 .f32) :
    k0_pay58 (k0_pay41 k0_pay19 (k0_pay28 (mulf (k0_pay22 x0) C) (mulf (k0_pay22 x0) S) (64#32) k0_pay25 k0_pay26 k0_pay27 0#32) (k0_pay29 C S (k0_pay20 x0))) (k0_pay42 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0))) (k0_pay43 k0_pay19 (k0_pay28 (mulf (k0_pay22 x0) C) (mulf (k0_pay22 x0) S) (64#32) k0_pay25 k0_pay26 k0_pay27 0#32) (k0_pay29 C S (k0_pay20 x0))) (k0_pay44 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0))) (k0_pay45 x8) (k0_pay46 C S x1) (k0_pay47 x2) (k0_pay52 k0_pay19 (k0_pay21 x3)) (k0_pay53 k0_pay19 (k0_pay21 x3)) (k0_pay54 k0_pay19 (k0_pay21 x3)) (k0_pay55 k0_pay19 (k0_pay21 x3)) (k0_pay56 (k0_pay45 x8) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0))) (k0_pay57 (k0_pay45 x8) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0))) (View.ld x4 (Rect.unit ![2, 0, 0] ![1, 512, 128] inb_S4x512x128_S1x512x128_2_0_0)) (View.ld x5 (Rect.unit ![2, 0, 0] ![1, 512, 128] inb_S4x512x128_S1x512x128_2_0_0)) (View.ld x6 (Rect.unit ![2, 0, 0] ![1, 512, 128] inb_S4x512x128_S1x512x128_2_0_0)) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0)) x7
      = truncf .bf16 (dprojB C S x0 x1 x2 x3 x4 x5 x6 x7 x8) bitsLt_bf16_f32 := by
  refine congrArg (truncf .bf16 · bitsLt_bf16_f32) (Eq.trans (show _ = stack (![k0_pay41 k0_pay19 (k0_pay28 (mulf (k0_pay22 x0) C) (mulf (k0_pay22 x0) S) (64#32) k0_pay25 k0_pay26 k0_pay27 0#32) (k0_pay29 C S (k0_pay20 x0)), k0_pay42 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0)), k0_pay43 k0_pay19 (k0_pay28 (mulf (k0_pay22 x0) C) (mulf (k0_pay22 x0) S) (64#32) k0_pay25 k0_pay26 k0_pay27 0#32) (k0_pay29 C S (k0_pay20 x0)), k0_pay44 k0_pay19 (k0_pay33 (k0_pay31 C (k0_pay20 x0)) (k0_pay32 S (k0_pay20 x0)) (iota Kind.tc S512x128 32 [1] iota_S512x128_d1_w32) 64#32 0#1 1#32) (k0_pay35 C (k0_pay20 x0)) k0_pay37 (k0_pay38 S (k0_pay20 x0)) (k0_pay39 S (k0_pay20 x0)), k0_pay46 C S x1, k0_pay47 x2, k0_pay52 k0_pay19 (k0_pay21 x3), k0_pay53 k0_pay19 (k0_pay21 x3), k0_pay54 k0_pay19 (k0_pay21 x3), k0_pay55 k0_pay19 (k0_pay21 x3), k0_pay56 (k0_pay45 x8) (View.ld x4 (Rect.unit ![0, 0, 0] ![1, 512, 128] inb_S4x512x128_S1x512x128_0_0_0)) (View.ld x5 (Rect.unit ![0, 0, 0] ![1, 512, 128] inb_S4x512x128_S1x512x128_0_0_0)) (View.ld x6 (Rect.unit ![0, 0, 0] ![1, 512, 128] inb_S4x512x128_S1x512x128_0_0_0)), k0_pay57 (k0_pay45 x8) (View.ld x4 (Rect.unit ![1, 0, 0] ![1, 512, 128] inb_S4x512x128_S1x512x128_1_0_0)) (View.ld x5 (Rect.unit ![1, 0, 0] ![1, 512, 128] inb_S4x512x128_S1x512x128_1_0_0)) (View.ld x6 (Rect.unit ![1, 0, 0] ![1, 512, 128] inb_S4x512x128_S1x512x128_1_0_0)), Cert.KernelIdeal.Gen.k0_pay1 (Cert.KernelIdeal.Gen.k0_pay43 x8) (Cert.KernelIdeal.Gen.k0_pay57 (View.ld x4 (Rect.unit ![2, 0, 0] ![1, 512, 128] inb_S4x512x128_S1x512x128_2_0_0))) (Cert.KernelIdeal.Gen.k0_pay58 (View.ld x5 (Rect.unit ![2, 0, 0] ![1, 512, 128] inb_S4x512x128_S1x512x128_2_0_0))) (View.ld x6 (Rect.unit ![2, 0, 0] ![1, 512, 128] inb_S4x512x128_S1x512x128_2_0_0)), Cert.KernelIdeal.Gen.k0_pay2 (Cert.KernelIdeal.Gen.k0_pay43 x8) (View.ld x4 (Rect.unit ![3, 0, 0] ![1, 512, 128] inb_S4x512x128_S1x512x128_3_0_0)) (View.ld x5 (Rect.unit ![3, 0, 0] ![1, 512, 128] inb_S4x512x128_S1x512x128_3_0_0)) (View.ld x6 (Rect.unit ![3, 0, 0] ![1, 512, 128] inb_S4x512x128_S1x512x128_3_0_0))]) x7 from rfl) ?_)
  exact (congrArg₂ stack (parts_eq C S x0 x1 x2 x3 x4 x5 x6 x7 x8).symm (ld_square x7 KernelIdeal.Gen.inb_S512x512_S512x512_0_0).symm).trans rfl

/-- Where each operand's block lies at point `t`. -/
theorem idx_val : ∀ t : Fin cfg0.N, win0_1.index t = ![t.val, 0]
    ∧ win0_2.index t = ![t.val, 0]
    ∧ win0_3.index t = ![t.val, 0]
    ∧ win0_4.index t = ![t.val, 0]
    ∧ win0_5.index t = ![0, t.val, 0]
    ∧ win0_6.index t = ![0, t.val, 0]
    ∧ win0_7.index t = ![0, t.val, 0]
    ∧ win0_8.index t = ![t.val, 0]
    ∧ win0_9.index t = ![0, 0]
    ∧ win0_10.index t = ![0, 0, 0]
    ∧ win0_11.index t = ![0, 0, 0]
    ∧ win0_0.index t = ![t.val, 0]
    ∧ win0_12.index t = ![0, 0] := by decide +kernel

theorem point_lt (t : Fin cfg0.N) : t.val < 8 := N_0 ▸ t.isLt

/-- The token of row `r` of point `t`'s blocks. -/
def tok (t : Fin cfg0.N) (r : Fin 512) : Fin 4096 := ⟨512 * t.val + r.val, by have := point_lt t; omega⟩

variable (m : (ℓ : Loc nD τ sig) → Buf (Elt Ideal) ℓ) (c : Dev nD) (t : Fin cfg0.N) (r : Fin 512)

theorem blk0 (k : Fin 512) : iblk m c 1 t (ix2 r k) = V m c main_v55 (ix2 (tok t r) k) := by
  unfold tok
  blk_ext [iblk, idx_val t]

theorem blk1 (k : Fin 128) : iblk m c 2 t (ix2 r k) = V m c main_v56 (ix2 (tok t r) k) := by
  unfold tok
  blk_ext [iblk, idx_val t]

theorem blk2 (k : Fin 128) : iblk m c 3 t (ix2 r k) = V m c main_v57 (ix2 (tok t r) k) := by
  unfold tok
  blk_ext [iblk, idx_val t]

theorem blk3 (k : Fin 512) : iblk m c 4 t (ix2 r k) = V m c main_v60 (ix2 (tok t r) k) := by
  unfold tok
  blk_ext [iblk, idx_val t]

theorem blk4 (k : Fin 4) (l : Fin 128) : iblk m c 5 t (ix3 k r l) = V m c main_v62 (ix3 k (tok t r) l) := by
  unfold tok
  blk_ext [iblk, idx_val t]

theorem blk5 (k : Fin 4) (l : Fin 128) : iblk m c 6 t (ix3 k r l) = V m c main_v64 (ix3 k (tok t r) l) := by
  unfold tok
  blk_ext [iblk, idx_val t]

theorem blk6 (k : Fin 4) (l : Fin 128) : iblk m c 7 t (ix3 k r l) = V m c main_v66 (ix3 k (tok t r) l) := by
  unfold tok
  blk_ext [iblk, idx_val t]

theorem blk7 (k : Fin 512) : iblk m c 8 t (ix2 r k) = V m c main_arg11 (ix2 (tok t r) k) := by
  unfold tok
  blk_ext [iblk, idx_val t]

theorem blk8 (k : Fin 512) : iblk m c 9 t (ix2 0 k) = V m c main_v67 (ix2 0 k) := by
  blk_ext [iblk, idx_val t]

theorem blk9 (q : Fin 3) (g : Fin 32) (l : Fin 128) : iblk m c 10 t (ix3 q g l) = V m c main_v34 (ix3 q g l) := by
  blk_ext [iblk, idx_val t]

theorem blk10 (q : Fin 3) (g : Fin 128) (l : Fin 128) : iblk m c 11 t (ix3 q g l) = V m c main_v51 (ix3 q g l) := by
  blk_ext [iblk, idx_val t]

/-- The projection cotangent of token `n`'s columns, from the program's arguments. -/
abbrev dprojM (i : Fin 4096) (n : Fin 2304) : EReal :=
  dproj (m (c, Proc.tc.devRef main_arg2)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) i n

/-- Point `t`'s block of the projection cotangent. -/
def dprojT : FVec Ideal Cert.KernelIdeal.S512x2304 .f32 :=
  dprojB (cosB (Cert.KernelIdeal.grid0.coords t) (iblk m c 10 t) (iblk m c 11 t)) (sinB (Cert.KernelIdeal.grid0.coords t) (iblk m c 10 t) (iblk m c 11 t))
    (iblk m c 1 t) (iblk m c 2 t) (iblk m c 3 t) (iblk m c 4 t) (iblk m c 5 t) (iblk m c 6 t) (iblk m c 7 t) (iblk m c 8 t) (iblk m c 9 t)

theorem dprojT_apply (n : Fin 2304) : dprojT m c t (ix2 r n) = dprojM m c (tok t r) n := by
  refine dprojB_eq _ _ r (iblk m c 1 t) (iblk m c 2 t) (iblk m c 3 t) (iblk m c 4 t) (iblk m c 5 t) (iblk m c 6 t) (iblk m c 7 t) (iblk m c 8 t) (iblk m c 9 t) (m (c, Proc.tc.devRef main_arg2)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (tok t r)
    (fun k => (blk0 m c t r k).trans (gradQ m c _ k)) (fun k => (blk1 m c t r k).trans (gradK m c _ k))
    (fun k => (blk2 m c t r k).trans (gradV m c _ k)) (fun k => (blk3 m c t r k).trans (gradZ m c _ k))
    (fun k l => (blk4 m c t r k l).trans (slab62 m c k _ l)) (fun k l => (blk5 m c t r k l).trans (slab64 m c k _ l))
    (fun k l => (blk6 m c t r k l).trans (slab66 m c k _ l)) (fun k => (blk7 m c t r k).trans (congrFun (V_main_arg11 m c) _))
    (fun k => (blk8 m c t k).trans (skip m c k)) (fun l => ?_) (fun l => ?_) n
  · exact cosB_apply t _ _ (fun g l => (blk9 m c t 0 g l).trans (hi0 m c g l)) (fun g l => (blk9 m c t 1 g l).trans (hi1 m c g l))
      (fun g l => (blk10 m c t 0 g l).trans (lo0 m c g l)) (fun g l => (blk10 m c t 1 g l).trans (lo1 m c g l)) r l
  · exact sinB_apply t _ _ (fun g l => (blk9 m c t 0 g l).trans (hi0 m c g l)) (fun g l => (blk9 m c t 2 g l).trans (hi2 m c g l))
      (fun g l => (blk10 m c t 0 g l).trans (lo0 m c g l)) (fun g l => (blk10 m c t 2 g l).trans (lo2 m c g l)) r l

/-- The gradient of the layer's projection. -/
def gradW : FVec Ideal S2304x1024 .f32 := fun i =>
  ∑ t : Fin 4096, dprojM m c t (i 0) * m (c, Proc.tc.devRef main_arg0) (ix2 t (i 1))

theorem blkX (k : Fin 1024) : iblk m c 0 t (ix2 r k) = m (c, Proc.tc.devRef main_arg0) (ix2 (tok t r) k) := by
  refine Eq.trans (?_ : _ = V m c main_arg0 (ix2 (tok t r) k)) (congrFun (V_main_arg0 m c) _)
  unfold tok
  blk_ext [iblk, idx_val t]

/-- What point `t` adds to the gradient. -/
def share (y : S2304x1024.Idx) : EReal :=
  ∑ x : Fin 512, dprojM m c (tok t x) (y 0) * m (c, Proc.tc.devRef main_arg0) (ix2 (tok t x) (y 1))

theorem share_apply (n : Fin 2304) (k : Fin 1024) (y : S2304x1024.Idx) (h0 : (y 0).val = n.val) (h1 : (y 1).val = k.val) :
    ∑ x : Fin 512, dprojM m c (tok t x) n * iblk m c 0 t (ix2 x k) = share m c t y := by
  obtain rfl : y = ix2 n k := Shape.idx_ext₂ h0 h1
  exact Finset.sum_congr rfl fun x _ => congrArg (_ * ·) (blkX m c t x k)

set_option maxHeartbeats 4000000 in
/-- A later point adds its share to what the point before left. -/
theorem point_step (h : ¬ t.val % 8 = 0) (y : S2304x1024.Idx) :
    outsAt0 m c t.val t.isLt y = outsAt0 m c (t.val - 1) (Nat.lt_of_le_of_lt (Nat.sub_le _ _) t.isLt) y + share m c t y := by
  rw [outsAt0_B m c t h]
  frame_out
  simp only [k0_pay60]
  generalize hD : k0_pay58 (F := Ideal) _ _ _ _ _ _ _ _ _ _ _ _ _ _ _ _ _ _ _ _ = D
  obtain rfl : D = truncf .bf16 (dprojT m c t) bitsLt_bf16_f32 := hD.symm.trans (block_eq _ _ _ _ _ _ _ _ _ _ _)
  clear hD
  canon_tiles x h
  all_goals
    idx_vars x
    pointwise [k0_pay2, k0_pay1, k0_pay59, dprojT_apply]
    exact congrArg₂ (· + ·) (congrArg _ (Shape.idx_ext₂ h0.symm h1.symm)) (share_apply m c t _ _ y h0 h1)

set_option maxHeartbeats 4000000 in
/-- The first point leaves its share. -/
theorem point_first (h : t.val % 8 = 0) (y : S2304x1024.Idx) : outsAt0 m c t.val t.isLt y = 0 + share m c t y := by
  rw [outsAt0_A m c t h]
  frame_out
  simp only [k0_pay60]
  generalize hD : k0_pay58 (F := Ideal) _ _ _ _ _ _ _ _ _ _ _ _ _ _ _ _ _ _ _ _ = D
  obtain rfl : D = truncf .bf16 (dprojT m c t) bitsLt_bf16_f32 := hD.symm.trans (block_eq _ _ _ _ _ _ _ _ _ _ _)
  clear hD
  refine View.canon_append_of_piecesOf (Val := Elt Ideal) (s := S2304x1024) (e := .f32) (fun y => 0 + share m c t y) [_] [_, _, _] ?_ y ?_
  rotate_left
  · exact View.cover_of_tiled_head _ _ _ (by rfl) y
  refine ⟨fun x => ?_, fun x => ?_, fun x => ?_, trivial⟩
  · obtain ⟨x0, x1, rfl⟩ : ∃ (x0 : Fin 768) (x1 : Fin 1024), x = ix2 x0 x1 := ⟨x 0, x 1, eq_ix2 x⟩
    dsimp only
    rw [View.readCov_skip _ _ _ _ _ (by rfl), View.readCov_skip _ _ _ _ _ (by rfl), View.readCov_fill _ _ _ _ _ (by decide)]
    pointwise [k0_pay2, k0_pay1, k0_pay59, k0_pay3, dprojT_apply]
    exact share_apply m c t _ _ _ (by show 1536 + 1 * x0.val = 1536 + x0.val; omega) (by show 0 + 1 * x1.val = x1.val; omega)
  · obtain ⟨x0, x1, rfl⟩ : ∃ (x0 : Fin 768) (x1 : Fin 1024), x = ix2 x0 x1 := ⟨x 0, x 1, eq_ix2 x⟩
    dsimp only
    rw [View.readCov_skip _ _ _ _ _ (by rfl), View.readCov_fill _ _ _ _ _ (by decide)]
    pointwise [k0_pay2, k0_pay1, k0_pay59, k0_pay3, dprojT_apply]
    exact share_apply m c t _ _ _ (by show 768 + 1 * x0.val = 768 + x0.val; omega) (by show 0 + 1 * x1.val = x1.val; omega)
  · obtain ⟨x0, x1, rfl⟩ : ∃ (x0 : Fin 768) (x1 : Fin 1024), x = ix2 x0 x1 := ⟨x 0, x 1, eq_ix2 x⟩
    dsimp only
    rw [View.readCov_fill _ _ _ _ _ (by decide)]
    pointwise [k0_pay2, k0_pay1, k0_pay59, k0_pay3, dprojT_apply]
    exact share_apply m c t _ _ _ (by show 0 + 1 * x0.val = x0.val; omega) (by show 0 + 1 * x1.val = x1.val; omega)

/-- The second kernel's final array. -/
theorem final : (dats m 0 c).arrAt 12 cfg0.N = gradW m c := by
  refine (dats m 0 c).arrAt_eq_of_after_last 12 t0_7 (by decide +kernel) _ fun y => ?_
  blk_simp
  rw [after0_12, Pipeline.eq_sum_fin_of_reset_step_apply_last (fun n h => outsAt0 m c n h) 8 (fun _ => 0) (share m c)
    (fun t h j => point_first m c t h j) (fun t h j => point_step m c t h j) (le_of_eq N_0) t0_7 rfl y, zero_add]
  refine Fin.sum_mul_add_congr (fun s k hl => ?_) (by rw [show cfg0.N = 8 from N_0])
  have e : (⟨s.val * 512 + k.val, hl⟩ : Fin 4096) = tok s k := Fin.ext (show s.val * 512 + k.val = 512 * s.val + k.val by rw [Nat.mul_comm])
  rw [e]

/-- The second reference's cotangent of the projection is the first's. -/
theorem ref_dproj_eq (x2 x4 x5 x6 x7 x8 x9 x10 x11) :
    Reference2Ideal.Read.val_main_v113 (F := Ideal) x2 x4 x5 x6 x7 x8 x9 x10 x11
      = ReferenceIdeal.Read.val_main_v115 (F := Ideal) x2 x4 x5 x6 x7 x8 x9 x10 x11 := rfl

/-- The second reference's gradient of the layer's projection. -/
theorem ref_gradient (x0 x2 x4 x5 x6 x7 x8 x9 x10 x11) (n : Fin 2304) (k : Fin 1024) :
    Reference2Ideal.Read.val_main_v116 (F := Ideal) x0 x2 x4 x5 x6 x7 x8 x9 x10 x11 (ix2 n k)
      = ∑ t : Fin 4096, dproj x2 x4 x5 x6 x7 x8 x9 x10 x11 t n * x0 (ix2 t k) := by
  rw [Reference2Ideal.Read.val_main_v116_apply, Reference2Ideal.Read.val_main_v115_apply, Reference2Ideal.Read.val_main_v114_apply, ref_dproj_eq]
  refine Finset.sum_congr rfl fun t _ => congrArg₂ (· * ·) ((congrArg _ ?_).trans (Dproj.ref_dproj x2 x4 x5 x6 x7 x8 x9 x10 x11 t n)) (congrArg x0 ?_)
  · exact Shape.idx_ext₂ rfl rfl
  · exact Shape.idx_ext₂ rfl rfl

end Cert.Dproj.Kernel2Ideal

end
-- ==== Proof.AttnRun.lean ====
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Exec
public import Idealize.ShloMosaic.Lib.Pipeline.ReadBack
public import Idealize.ShloMosaic.Lib.Claim

@[expose] public section

set_option maxRecDepth 65536
set_option backward.proofsInPublic true

/-! The attention backward's body, run at one grid point: at the first point it clears what it accumulates, at the
last it also stores the sinks' gradient. -/

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- The body is at its first point. -/
abbrev First (i : grid0.Coords) : Prop :=
  (Scalar.cmpi .ne (Scalar.extui (Scalar.cmpi .eq (BitVec.ofNat 32 (i 0).val) 0#32)) 0#32) = 1#1

/-- The first key a point's rows see: a band around them, kept inside the array. -/
abbrev start (i : grid0.Coords) : Nat := min (128 * (i 0).val - 128) 3712

theorem off_eq (i : grid0.Coords) : k0_off1 i = ![start i, 0] := by
  have h : ∀ j : Fin 32, (Scalar.indexCast (Scalar.minsi 3712#32 (Scalar.maxsi 0#32 (Scalar.subi (Scalar.muli
      (BitVec.ofNat 32 j.val) 128#32) 128#32))) : Index).toNat = min (128 * j.val - 128) 3712 := by decide +kernel
  exact congrArg (fun n : Nat => (![n, 0] : Fin 2 → Nat)) (h (i 0))

instance (i : grid0.Coords) : ClosedOff (k0_off1 i) := ⟨![start i, 0], off_eq i⟩

/-- The stores a point leaves in each output and in the scratch, the last first. -/
structure Stores (F : FTy → Type) where
  L6 : List (View.Piece (Elt F) S128x512 .f32)
  L7 : List (View.Piece (Elt F) S4096x128 .f32)
  L8 : List (View.Piece (Elt F) S4096x128 .f32)
  L9 : List (View.Piece (Elt F) S8x128 .f32)
  L10 : List (View.Piece (Elt F) S8x128x128 .f32)

variable (c : Dev nD) (i : grid0.Coords)
  (arg1 : Memref sig .tc .vmem S8x128x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S8x1x128 .f32) (harg4 : arg4.IsWhole) (arg5 : Memref sig .tc .vmem S1x128x384 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128x128 .f32) (harg11 : arg11.IsWhole)
  (x0 : Vec F S8x128x128 .bf16) (x1 : Vec F S4096x128 .bf16) (x2 : Vec F S4096x128 .bf16) (x3 : Vec F S8x1x128 .f32) (x4 : Vec F S1x128x384 .f32) (x5 : Vec F S128x512 .f32)

set_option maxHeartbeats 4000000 in
/-- The first point. -/
def runFirst (hfirst : First i) (hlast : ¬k0_cond2 i = 1#1)  :
    { P : Stores F // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f P.L6) ∗ (∃ f, arg8.view.loc (c : Thread nD τ) ↦[arg8.view.set]{fullShare} arg8.view.writes (Elt F) f P.L7) ∗ (∃ f, arg9.view.loc (c : Thread nD τ) ↦[arg9.view.set]{fullShare} arg9.view.writes (Elt F) f P.L8) ∗ (∃ f, arg11.view.loc (c : Thread nD τ) ↦[arg11.view.set]{fullShare} arg11.view.writes (Elt F) f P.L10)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨⟨?L6, ?L7, ?L8, ?L9, ?L10⟩, fun E K => ?run⟩
  case L9 => exact []
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d10, %f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hfirst | sl_exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact H10

set_option maxHeartbeats 4000000 in
/-- A point in between. -/
def runMid (hfirst : ¬First i) (hlast : ¬k0_cond2 i = 1#1) (z7 : Vec F S4096x128 .f32) (z8 : Vec F S4096x128 .f32) (z10 : Vec F S8x128x128 .f32) :
    { P : Stores F // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare z7 ∗ owns (c : Thread nD τ) arg9 fullShare z8 ∗ owns (c : Thread nD τ) arg11 fullShare z10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f P.L6) ∗ (arg8.view.loc (c : Thread nD τ) ↦[arg8.view.set]{fullShare} arg8.view.writes (Elt F) (harg8.unread z7) P.L7) ∗ (arg9.view.loc (c : Thread nD τ) ↦[arg9.view.set]{fullShare} arg9.view.writes (Elt F) (harg9.unread z8) P.L8) ∗ (arg11.view.loc (c : Thread nD τ) ↦[arg11.view.set]{fullShare} arg11.view.writes (Elt F) (harg11.unread z10) P.L10)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨⟨?L6, ?L7, ?L8, ?L9, ?L10⟩, fun E K => ?run⟩
  case L9 => exact []
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg11.eq_unread hf10
    sl_exec (disch := first | sl_exact hfirst | sl_exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]; · iexact H8
    iexact H10

set_option maxHeartbeats 4000000 in
/-- The last point. -/
def runLast (hfirst : ¬First i) (hlast : k0_cond2 i = 1#1) (z7 : Vec F S4096x128 .f32) (z8 : Vec F S4096x128 .f32) (z10 : Vec F S8x128x128 .f32) :
    { P : Stores F // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare z7 ∗ owns (c : Thread nD τ) arg9 fullShare z8 ∗ (∃ d, owns (c : Thread nD τ) arg10 fullShare d) ∗ owns (c : Thread nD τ) arg11 fullShare z10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f P.L6) ∗ (arg8.view.loc (c : Thread nD τ) ↦[arg8.view.set]{fullShare} arg8.view.writes (Elt F) (harg8.unread z7) P.L7) ∗ (arg9.view.loc (c : Thread nD τ) ↦[arg9.view.set]{fullShare} arg9.view.writes (Elt F) (harg9.unread z8) P.L8) ∗ (∃ f, arg10.view.loc (c : Thread nD τ) ↦[arg10.view.set]{fullShare} arg10.view.writes (Elt F) f P.L9) ∗ (arg11.view.loc (c : Thread nD τ) ↦[arg11.view.set]{fullShare} arg11.view.writes (Elt F) (harg11.unread z10) P.L10)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨⟨?L6, ?L7, ?L8, ?L9, ?L10⟩, fun E K => ?run⟩
  case run =>
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%d9, %f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg11.eq_unread hf10
    sl_exec (disch := first | sl_exact hfirst | sl_exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]; · iexact H8
    isplitl [H9]; · iexists _; iexact H9
    iexact H10

end Cert.Kernel3Ideal.Attn

end
-- ==== Proof.AttnPoint.lean ====
module

public import proofs.«01_k».proof.Proof.AttnRun
public import Idealize.ShloMosaic.Lib.Pipeline.ReadBack

@[expose] public section

set_option maxRecDepth 65536
set_option backward.proofsInPublic true

/-! What one grid point of the attention backward computes from the blocks it loads, and that its stores are that. -/

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- What a grid point loads. -/
structure Blocks (F : FTy → Type) where
  kw : Vec F S384x128 .bf16
  vw : Vec F S384x128 .bf16
  q : Vec F S8x128x128 .bf16
  bias : Vec F S1x128x384 .f32
  sink : Vec F S8x1x128 .f32
  dO : Vec F S128x512 .f32

namespace Blocks

variable (B : Blocks F)

/-- The row's shift, every lane. -/
def m1 : FVec F S8x128x128 .f32 := k0_pay15 B.kw B.q B.bias
/-- Exponentials of the shifted scores. -/
def p : FVec F S8x128x384 .f32 :=
  k0_pay18 (k0_pay11 B.kw B.q B.bias) (k0_pay12 B.kw B.q B.bias) (k0_pay13 B.kw B.q B.bias) B.m1 (k0_pay16 B.sink)
/-- The sink's exponential. -/
def ps : FVec F S8x128x128 .f32 := k0_pay19 (k0_pay14 B.sink) B.m1 (k0_pay16 B.sink)
/-- The unnormalised output in the head's own lanes, the sum of the exponentials in the others. -/
def r : FVec F S8x128x128 .f32 :=
  k0_pay20 (k0_pay8 B.vw) (k0_pay11 B.kw B.q B.bias) (k0_pay12 B.kw B.q B.bias) (k0_pay13 B.kw B.q B.bias) B.m1
    (k0_pay16 B.sink)
/-- One over the denominator. -/
def inv : FVec F S8x128x128 .f32 :=
  k0_pay23 (k0_pay8 B.vw) (k0_pay11 B.kw B.q B.bias) (k0_pay12 B.kw B.q B.bias) (k0_pay13 B.kw B.q B.bias)
    (k0_pay14 B.sink) B.m1 (k0_pay16 B.sink)
/-- The row's correction. -/
def delta : FVec F S8x128x128 .f32 := k0_pay27 B.r k0_pay22 B.inv (k0_pay24 B.dO) (k0_pay25 B.dO)
/-- The cotangent, head by head. -/
def doAll : FVec F S1024x128 .bf16 := k0_pay29 k0_pay22 (k0_pay24 B.dO) (k0_pay25 B.dO)
/-- The probabilities' cotangent. -/
def dp : FVec F S8x128x384 .f32 := k0_pay30 (k0_pay8 B.vw) k0_pay22 (k0_pay24 B.dO) (k0_pay25 B.dO)
/-- The first third of the probabilities and of the scores' cotangent, and the part of the middle one. -/
def pr0 : FVec F S8x128x128 .bf16 := k0_pay32 B.p B.inv
def ds0 : FVec F S8x128x128 .bf16 :=
  k0_pay33 (k0_pay8 B.vw) B.p B.r k0_pay22 B.inv (k0_pay24 B.dO) (k0_pay25 B.dO)
def pr1 : FVec F S8x128x128 .f32 := k0_pay34 B.p B.inv
def pr1b : FVec F S8x128x128 .bf16 := k0_pay35 B.p B.inv
def dd1 : FVec F S8x128x128 .f32 :=
  k0_pay36 (k0_pay8 B.vw) B.r k0_pay22 B.inv (k0_pay24 B.dO) (k0_pay25 B.dO)
/-- The probabilities, and the scores' cotangent, of the point. -/
def probs : FVec F S1024x384 .bf16 := k0_pay38 B.p B.inv B.pr0 B.pr1b
def ds : FVec F S1024x384 .bf16 := k0_pay39 B.p B.inv B.delta B.dp B.ds0 B.pr1 B.dd1
/-- The keys' and the values' gradients with the point's share added, and the sinks'. -/
def dkAdd (z : Vec F S384x128 .f32) : FVec F S384x128 .f32 :=
  k0_pay1 (k0_pay9 B.q) B.ds (k0_pay45 z) (constant S128x384 .f32 0x00000000#32)
def dvAdd (z : Vec F S384x128 .f32) : FVec F S384x128 .f32 := k0_pay2 B.doAll B.probs z
def skAdd (z : Vec F S8x128x128 .f32) : FVec F S8x128x128 .f32 :=
  k0_pay28 B.ps B.r k0_pay22 B.inv (k0_pay24 B.dO) (k0_pay25 B.dO) z
/-- The queries' gradient, a fourth of its columns each. -/
def dq0 : FVec F S128x128 .f32 := k0_pay41 (k0_pay7 B.kw) B.p k0_pay21 B.inv B.delta B.dp B.ds0 B.pr1 B.dd1
def dq1 : FVec F S128x128 .f32 := k0_pay42 (k0_pay7 B.kw) B.p k0_pay21 B.inv B.delta B.dp B.ds0 B.pr1 B.dd1
def dq2 : FVec F S128x128 .f32 := k0_pay43 (k0_pay7 B.kw) B.p k0_pay21 B.inv B.delta B.dp B.ds0 B.pr1 B.dd1
def dq3 : FVec F S128x128 .f32 := k0_pay44 (k0_pay7 B.kw) B.p k0_pay21 B.inv B.delta B.dp B.ds0 B.pr1 B.dd1

/-- The stores of the queries' gradient. -/
def dqStores : List (View.Piece (Elt F) S128x512 .f32) :=
  [⟨Rect.unit (s := S128x512) ![0, 384] S128x128.size inb_S128x512_S128x128_0_384, B.dq3⟩,
   ⟨Rect.unit (s := S128x512) ![0, 256] S128x128.size inb_S128x512_S128x128_0_256, B.dq2⟩,
   ⟨Rect.unit (s := S128x512) ![0, 128] S128x128.size inb_S128x512_S128x128_0_128, B.dq1⟩,
   ⟨Rect.unit (s := S128x512) ![0, 0] S128x128.size inb_S128x512_S128x128_0_0, B.dq0⟩]

end Blocks

/-- The rows of the keys a point sees. -/
abbrev band (i : grid0.Coords) : Rect S4096x128 :=
  Rect.unit (s := S4096x128) (k0_off1 i) S384x128.size (k0_off1_inb i)

/-- What is carried from point to point. -/
structure Carried (F : FTy → Type) where
  dk : Vec F S4096x128 .f32
  dv : Vec F S4096x128 .f32
  sk : Vec F S8x128x128 .f32

/-- Before the first point: cleared. -/
def cleared : Carried F := ⟨k0_pay4, k0_pay5, k0_pay6⟩

/-- One point's additions. -/
def step (i : grid0.Coords) (B : Blocks F) (z : Carried F) : Carried F :=
  ⟨(band i).overlay z.dk (B.dkAdd (View.ld z.dk (band i))), (band i).overlay z.dv (B.dvAdd (View.ld z.dv (band i))),
    B.skAdd z.sk⟩

variable (c : Dev nD) (i : grid0.Coords)
  (arg1 : Memref sig .tc .vmem S8x128x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S8x1x128 .f32) (harg4 : arg4.IsWhole) (arg5 : Memref sig .tc .vmem S1x128x384 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128x128 .f32) (harg11 : arg11.IsWhole)
  (x0 : Vec F S8x128x128 .bf16) (x1 : Vec F S4096x128 .bf16) (x2 : Vec F S4096x128 .bf16) (x3 : Vec F S8x1x128 .f32) (x4 : Vec F S1x128x384 .f32) (x5 : Vec F S128x512 .f32)

/-- The blocks loaded of the inputs. -/
def loaded : Blocks F := ⟨View.ld x1 (band i), View.ld x2 (band i), x0, x4, x3, x5⟩

theorem readAt_ld {S : Shape} {e : EltTy} {arg : Memref sig .tc .vmem S e} (h : arg.IsWhole) (x : S.Idx → Elt F e) (R : Rect S) :
    View.readAt (Elt F) arg.view R.toLoadRect (h.unread x) = View.ld x R := by
  rw [View.readAt_eq_ld, h.read_unread]

theorem readAt_whole {S : Shape} {e : EltTy} {arg : Memref sig .tc .vmem S e} (h : arg.IsWhole) (x : S.Idx → Elt F e)
    {off : Fin S.rank → Nat} (h0 : off = fun _ => 0) (inb : ∀ a, off a + S.size a ≤ S.size a) :
    View.readAt (Elt F) arg.view (Rect.unit off S.size inb).toLoadRect (h.unread x) = x := by
  rw [readAt_ld, View.ld_unit_zero h0]

theorem read_writes_overlay {κ : Kind} {sp : Space} {S : Shape} {e : EltTy} (v : View sig κ sp S e)
    (f : v.ty.Contents (Elt F)) (R : Rect S) (w : R.shape.Idx → Elt F e) (L : List (View.Piece (Elt F) S e)) :
    v.read (Elt F) (v.writes (Elt F) f (⟨R, w⟩ :: L)) = R.overlay (v.read (Elt F) (v.writes (Elt F) f L)) w := by
  funext y
  by_cases hy : y ∈ R.set
  · obtain ⟨x, rfl⟩ := R.exists_idx_of_mem hy
    exact (View.read_writes_cons_emb v f R w L x).trans (R.overlay_emb _ _ x).symm
  · rw [View.read_writes_cons_miss v f ⟨R, w⟩ L y hy, R.overlay_of_not_mem _ _ hy]

theorem overlay_whole {S : Shape} {α : Type} {off : Fin S.rank → Nat} (h0 : off = fun _ => 0)
    (inb : ∀ a, off a + S.size a ≤ S.size a) (X w : S.Idx → α) : (Rect.unit off S.size inb).overlay X w = w := by
  subst h0; funext y
  exact (congrArg _ (Rect.emb_whole_apply S y).symm).trans (Rect.overlay_emb (Rect.whole S) X w y)

/-- The same blocks, as the body reads them. -/
def readBlocks : Blocks F :=
  ⟨View.readAt (Elt F) arg2.view (band i).toLoadRect (harg2.unread x1),
   View.readAt (Elt F) arg3.view (band i).toLoadRect (harg3.unread x2),
   View.readAt (Elt F) arg1.view (Rect.unit (s := S8x128x128) ![0, 0, 0] S8x128x128.size inb_S8x128x128_S8x128x128_0_0_0).toLoadRect (harg1.unread x0),
   View.readAt (Elt F) arg5.view (Rect.unit (s := S1x128x384) ![0, 0, 0] S1x128x384.size inb_S1x128x384_S1x128x384_0_0_0).toLoadRect (harg5.unread x4),
   View.readAt (Elt F) arg4.view (Rect.unit (s := S8x1x128) ![0, 0, 0] S8x1x128.size inb_S8x1x128_S8x1x128_0_0_0).toLoadRect (harg4.unread x3),
   View.readAt (Elt F) arg6.view (Rect.unit (s := S128x512) ![0, 0] S128x512.size inb_S128x512_S128x512_0_0).toLoadRect (harg6.unread x5)⟩

theorem readBlocks_eq : readBlocks i arg1 harg1 arg2 harg2 arg3 harg3 arg4 harg4 arg5 harg5 arg6 harg6 x0 x1 x2 x3 x4 x5 = loaded i x0 x1 x2 x3 x4 x5 := by
  unfold readBlocks
  rw [readAt_ld, readAt_ld, readAt_whole harg1 x0 (by decide), readAt_whole harg5 x4 (by decide),
    readAt_whole harg4 x3 (by decide), readAt_whole harg6 x5 (by decide)]
  rfl

/-- A load of the whole scratch. -/
abbrev all3 : LoadRect S8x128x128 :=
  (Rect.unit (s := S8x128x128) ![0, 0, 0] S8x128x128.size inb_S8x128x128_S8x128x128_0_0_0).toLoadRect
/-- A store of the whole scratch, and of the whole of the keys' (or the values') gradient. -/
abbrev store3 (w : Vec F S8x128x128 .f32) : View.Piece (Elt F) S8x128x128 .f32 :=
  ⟨Rect.unit (s := S8x128x128) ![0, 0, 0] S8x128x128.size inb_S8x128x128_S8x128x128_0_0_0, w⟩
abbrev store2 (w : Vec F S4096x128 .f32) : View.Piece (Elt F) S4096x128 .f32 :=
  ⟨Rect.unit (s := S4096x128) ![0, 0] S4096x128.size inb_S4096x128_S4096x128_0_0, w⟩

set_option maxHeartbeats 4000000 in
theorem runMid_dk (hfirst : ¬First i) (hlast : ¬k0_cond2 i = 1#1) (z7 z8 : Vec F S4096x128 .f32) (z10 : Vec F S8x128x128 .f32) :
    arg8.view.read (Elt F) (arg8.view.writes (Elt F) (harg8.unread z7) (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L7)
      = (step i (loaded i x0 x1 x2 x3 x4 x5) ⟨z7, z8, z10⟩).dk := by
  have h : (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L7 = [⟨band i, (readBlocks i arg1 harg1 arg2 harg2 arg3 harg3 arg4 harg4 arg5 harg5 arg6 harg6 x0 x1 x2 x3 x4 x5).dkAdd (View.readAt (Elt F) arg8.view (band i).toLoadRect (harg8.unread z7))⟩] := by unfold runMid; rfl
  unfold step
  rw [h, read_writes_overlay, View.writes_nil, harg8.read_unread, readBlocks_eq, readAt_ld]

set_option maxHeartbeats 4000000 in
theorem runMid_dv (hfirst : ¬First i) (hlast : ¬k0_cond2 i = 1#1) (z7 z8 : Vec F S4096x128 .f32) (z10 : Vec F S8x128x128 .f32) :
    arg9.view.read (Elt F) (arg9.view.writes (Elt F) (harg9.unread z8) (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L8)
      = (step i (loaded i x0 x1 x2 x3 x4 x5) ⟨z7, z8, z10⟩).dv := by
  have h : (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L8 = [⟨band i, (readBlocks i arg1 harg1 arg2 harg2 arg3 harg3 arg4 harg4 arg5 harg5 arg6 harg6 x0 x1 x2 x3 x4 x5).dvAdd (View.readAt (Elt F) arg9.view (band i).toLoadRect (harg9.unread z8))⟩] := by unfold runMid; rfl
  unfold step
  rw [h, read_writes_overlay, View.writes_nil, harg9.read_unread, readBlocks_eq, readAt_ld]

set_option maxHeartbeats 4000000 in
theorem runMid_sk (hfirst : ¬First i) (hlast : ¬k0_cond2 i = 1#1) (z7 z8 : Vec F S4096x128 .f32) (z10 : Vec F S8x128x128 .f32) :
    arg11.view.read (Elt F) (arg11.view.writes (Elt F) (harg11.unread z10) (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L10)
      = (step i (loaded i x0 x1 x2 x3 x4 x5) ⟨z7, z8, z10⟩).sk := by
  have h : (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L10 = [store3 ((readBlocks i arg1 harg1 arg2 harg2 arg3 harg3 arg4 harg4 arg5 harg5 arg6 harg6 x0 x1 x2 x3 x4 x5).skAdd (View.readAt (Elt F) arg11.view all3 (harg11.unread z10)))] := by unfold runMid; rfl
  rw [h, read_writes_overlay, overlay_whole (by decide), readBlocks_eq, readAt_whole harg11 z10 (by decide)]
  rfl

set_option maxHeartbeats 4000000 in
theorem runMid_dq (hfirst : ¬First i) (hlast : ¬k0_cond2 i = 1#1) (z7 z8 : Vec F S4096x128 .f32) (z10 : Vec F S8x128x128 .f32) : (runMid c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L6 = (loaded i x0 x1 x2 x3 x4 x5).dqStores := by
  rw [← readBlocks_eq i arg1 harg1 arg2 harg2 arg3 harg3 arg4 harg4 arg5 harg5 arg6 harg6 x0 x1 x2 x3 x4 x5]; unfold runMid; rfl

set_option maxHeartbeats 4000000 in
theorem runLast_dk (hfirst : ¬First i) (hlast : k0_cond2 i = 1#1) (z7 z8 : Vec F S4096x128 .f32) (z10 : Vec F S8x128x128 .f32) :
    arg8.view.read (Elt F) (arg8.view.writes (Elt F) (harg8.unread z7) (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L7)
      = (step i (loaded i x0 x1 x2 x3 x4 x5) ⟨z7, z8, z10⟩).dk := by
  have h : (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L7 = [⟨band i, (readBlocks i arg1 harg1 arg2 harg2 arg3 harg3 arg4 harg4 arg5 harg5 arg6 harg6 x0 x1 x2 x3 x4 x5).dkAdd (View.readAt (Elt F) arg8.view (band i).toLoadRect (harg8.unread z7))⟩] := by unfold runLast; rfl
  unfold step
  rw [h, read_writes_overlay, View.writes_nil, harg8.read_unread, readBlocks_eq, readAt_ld]

set_option maxHeartbeats 4000000 in
theorem runLast_dv (hfirst : ¬First i) (hlast : k0_cond2 i = 1#1) (z7 z8 : Vec F S4096x128 .f32) (z10 : Vec F S8x128x128 .f32) :
    arg9.view.read (Elt F) (arg9.view.writes (Elt F) (harg9.unread z8) (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L8)
      = (step i (loaded i x0 x1 x2 x3 x4 x5) ⟨z7, z8, z10⟩).dv := by
  have h : (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L8 = [⟨band i, (readBlocks i arg1 harg1 arg2 harg2 arg3 harg3 arg4 harg4 arg5 harg5 arg6 harg6 x0 x1 x2 x3 x4 x5).dvAdd (View.readAt (Elt F) arg9.view (band i).toLoadRect (harg9.unread z8))⟩] := by unfold runLast; rfl
  unfold step
  rw [h, read_writes_overlay, View.writes_nil, harg9.read_unread, readBlocks_eq, readAt_ld]

set_option maxHeartbeats 4000000 in
theorem runLast_sk (hfirst : ¬First i) (hlast : k0_cond2 i = 1#1) (z7 z8 : Vec F S4096x128 .f32) (z10 : Vec F S8x128x128 .f32) :
    arg11.view.read (Elt F) (arg11.view.writes (Elt F) (harg11.unread z10) (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L10)
      = (step i (loaded i x0 x1 x2 x3 x4 x5) ⟨z7, z8, z10⟩).sk := by
  have h : (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L10 = [store3 ((readBlocks i arg1 harg1 arg2 harg2 arg3 harg3 arg4 harg4 arg5 harg5 arg6 harg6 x0 x1 x2 x3 x4 x5).skAdd (View.readAt (Elt F) arg11.view all3 (harg11.unread z10)))] := by unfold runLast; rfl
  rw [h, read_writes_overlay, overlay_whole (by decide), readBlocks_eq, readAt_whole harg11 z10 (by decide)]
  rfl

set_option maxHeartbeats 4000000 in
theorem runLast_dq (hfirst : ¬First i) (hlast : k0_cond2 i = 1#1) (z7 z8 : Vec F S4096x128 .f32) (z10 : Vec F S8x128x128 .f32) : (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L6 = (loaded i x0 x1 x2 x3 x4 x5).dqStores := by
  rw [← readBlocks_eq i arg1 harg1 arg2 harg2 arg3 harg3 arg4 harg4 arg5 harg5 arg6 harg6 x0 x1 x2 x3 x4 x5]; unfold runLast; rfl

set_option maxHeartbeats 4000000 in
theorem runLast_sink (hfirst : ¬First i) (hlast : k0_cond2 i = 1#1) (z7 z8 : Vec F S4096x128 .f32) (z10 : Vec F S8x128x128 .f32) (f : arg10.view.ty.Contents (Elt F)) :
    arg10.view.read (Elt F) (arg10.view.writes (Elt F) f (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L9)
      = k0_pay3 (step i (loaded i x0 x1 x2 x3 x4 x5) ⟨z7, z8, z10⟩).sk := by
  have h : (runLast c i arg1 harg1 arg2 harg2 arg3 harg3 arg4 harg4 arg5 harg5 arg6 harg6 arg7 harg7 arg8 harg8 arg9 harg9 arg10 harg10 arg11 harg11 x0 x1 x2 x3 x4 x5 hfirst hlast z7 z8 z10).1.L9 = [⟨Rect.unit (s := S8x128) ![0, 0] S8x128.size inb_S8x128_S8x128_0_0, k0_pay3 (arg11.view.readCov
      [store3 ((readBlocks i arg1 harg1 arg2 harg2 arg3 harg3 arg4 harg4 arg5 harg5 arg6 harg6 x0 x1 x2 x3 x4 x5).skAdd (View.readAt (Elt F) arg11.view all3 (harg11.unread z10)))] all3)⟩] := by unfold runLast; rfl
  rw [h, read_writes_overlay, overlay_whole (by decide), View.readCov_fill _ _ _ _ _ (by decide),
    View.ld_unit_zero (by decide), readBlocks_eq, readAt_whole harg11 z10 (by decide)]
  rfl

set_option maxHeartbeats 4000000 in
theorem runFirst_dk (hfirst : First i) (hlast : ¬k0_cond2 i = 1#1) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 arg11 harg11 x0 x1 x2 x3 x4 x5 hfirst hlast).1.L7)
      = (step i (loaded i x0 x1 x2 x3 x4 x5) cleared).dk := by
  have h : (runFirst c i arg1 harg1 arg2 harg2 arg3 harg3 arg4 harg4 arg5 harg5 arg6 harg6 arg7 harg7 arg8 harg8 arg9 harg9 arg10 harg10 arg11 harg11 x0 x1 x2 x3 x4 x5 hfirst hlast).1.L7 = [⟨band i, (readBlocks i arg1 harg1 arg2 harg2 arg3 harg3 arg4 harg4 arg5 harg5 arg6 harg6 x0 x1 x2 x3 x4 x5).dkAdd (arg8.view.readCov [store2 k0_pay4] (band i).toLoadRect)⟩, store2 k0_pay4] := by unfold runFirst; rfl
  unfold step cleared
  rw [h, read_writes_overlay, read_writes_overlay, overlay_whole (by decide), readBlocks_eq, View.readCov_fill _ _ _ _ _ (by decide)]

set_option maxHeartbeats 4000000 in
theorem runFirst_dv (hfirst : First i) (hlast : ¬k0_cond2 i = 1#1) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 x0 x1 x2 x3 x4 x5 hfirst hlast).1.L8)
      = (step i (loaded i x0 x1 x2 x3 x4 x5) cleared).dv := by
  have h : (runFirst c i arg1 harg1 arg2 harg2 arg3 harg3 arg4 harg4 arg5 harg5 arg6 harg6 arg7 harg7 arg8 harg8 arg9 harg9 arg10 harg10 arg11 harg11 x0 x1 x2 x3 x4 x5 hfirst hlast).1.L8 = [⟨band i, (readBlocks i arg1 harg1 arg2 harg2 arg3 harg3 arg4 harg4 arg5 harg5 arg6 harg6 x0 x1 x2 x3 x4 x5).dvAdd (arg9.view.readCov [store2 k0_pay5] (band i).toLoadRect)⟩, store2 k0_pay5] := by unfold runFirst; rfl
  unfold step cleared
  rw [h, read_writes_overlay, read_writes_overlay, overlay_whole (by decide), readBlocks_eq, View.readCov_fill _ _ _ _ _ (by decide)]

set_option maxHeartbeats 4000000 in
theorem runFirst_sk (hfirst : First i) (hlast : ¬k0_cond2 i = 1#1) (f : arg11.view.ty.Contents (Elt F)) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 x0 x1 x2 x3 x4 x5 hfirst hlast).1.L10)
      = (step i (loaded i x0 x1 x2 x3 x4 x5) cleared).sk := by
  have h : (runFirst c i arg1 harg1 arg2 harg2 arg3 harg3 arg4 harg4 arg5 harg5 arg6 harg6 arg7 harg7 arg8 harg8 arg9 harg9 arg10 harg10 arg11 harg11 x0 x1 x2 x3 x4 x5 hfirst hlast).1.L10 = [store3 ((readBlocks i arg1 harg1 arg2 harg2 arg3 harg3 arg4 harg4 arg5 harg5 arg6 harg6 x0 x1 x2 x3 x4 x5).skAdd (arg11.view.readCov [store3 k0_pay6] all3)), store3 k0_pay6] := by unfold runFirst; rfl
  unfold step cleared
  rw [h, read_writes_overlay, overlay_whole (by decide), readBlocks_eq, View.readCov_fill _ _ _ _ _ (by decide),
    View.ld_unit_zero (by decide)]

set_option maxHeartbeats 4000000 in
theorem runFirst_dq (hfirst : First i) (hlast : ¬k0_cond2 i = 1#1) : (runFirst c i arg1 harg1 arg2 harg2 arg3 harg3 arg4 harg4 arg5 harg5 arg6 harg6 arg7 harg7 arg8 harg8 arg9 harg9 arg10 harg10 arg11 harg11 x0 x1 x2 x3 x4 x5 hfirst hlast).1.L6 = (loaded i x0 x1 x2 x3 x4 x5).dqStores := by
  rw [← readBlocks_eq i arg1 harg1 arg2 harg2 arg3 harg3 arg4 harg4 arg5 harg5 arg6 harg6 x0 x1 x2 x3 x4 x5]; unfold runFirst; rfl

end Cert.Kernel3Ideal.Attn

end
-- ==== Proof.AttnFrame.lean ====
module

public import proofs.«01_k».proof.Proof.AttnPoint
public import proofs.«01_k».proof.Proof.Gen.Kernel3Ideal.Launch
public import Idealize.ShloMosaic.Lib.Claim
public import Idealize.ShloMosaic.Lib.Pipeline.ReadBack

@[expose] public section

set_option maxRecDepth 65536
set_option backward.proofsInPublic true

/-! The attention backward over its whole grid: what its outputs and its scratch hold point by point, and its run. -/

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, First (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [First, e0]
    word_cmp
   : ∀ t : Fin grid0.N, First (grid0.coords t) ↔ t.val = 0)

theorem last_iff : ∀ t : Fin cfg0.N, k0_cond2 (grid0.coords t) = 1#1 ↔ t.val = 31 :=
  (fun t => by
    have ht : t.val < 32 := Nat.lt_of_lt_of_eq t.isLt N_0
    have e0 : (grid0.coords t 0).val = t.val / 1 % 32 := Pipeline.Grid.coords_val t 0 (by decide) rfl
    simp only [k0_cond2, e0]
    word_cmp
   : ∀ t : Fin grid0.N, k0_cond2 (grid0.coords t) = 1#1 ↔ t.val = 31)

/-- What point `t` loads. -/
abbrev at0 (c : Dev nD) (t : Fin cfg0.N) : Blocks F :=
  loaded (grid0.coords t) (iblk m c 0 t) (iblk m c 1 t) (iblk m c 2 t) (iblk m c 3 t) (iblk m c 4 t) (iblk m c 5 t)

/-- What is carried on from a point. -/
def carried (c : Dev nD) : (n : ℕ) → n < cfg0.N → Carried F
  | 0, h => step (grid0.coords ⟨0, h⟩) (at0 m c ⟨0, h⟩) cleared
  | n + 1, h => step (grid0.coords ⟨n + 1, h⟩) (at0 m c ⟨n + 1, h⟩) (carried c n (Nat.lt_of_succ_lt h))

theorem carried_first (c : Dev nD) (t : Fin cfg0.N) (hz : t.val = 0) :
    carried m c t.val t.isLt = step (grid0.coords t) (at0 m c t) cleared := by
  obtain ⟨n, hn⟩ := t; obtain rfl : n = 0 := hz; rfl

theorem carried_next (c : Dev nD) (t : Fin cfg0.N) (hz : t.val ≠ 0) :
    carried m c t.val t.isLt = step (grid0.coords t) (at0 m c t)
      (carried m c (t.val - 1) (Nat.lt_of_le_of_lt (Nat.sub_le _ _) t.isLt)) := by
  obtain ⟨n, hn⟩ := t
  cases n with
  | zero => exact absurd rfl hz
  | succ n => rfl

/-- The invariant: after a point the scratch holds what that point carries on. -/
def inv0 (c : Dev nD) : (n : ℕ) → n ≤ cfg0.N → sProp 𝕄
  | 0, _ => Pipeline.ΦA spec0 c
  | n + 1, hn => iprop(owns (c : Thread nD τ) (Memref.whole cc0_scratch0) fullShare (carried m c n hn).sk
      ∗ ∃ r, prngReg c r)

theorem scratch_any (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

theorem inv0_first (c : Dev nD) (n : ℕ) (h : n ≤ cfg0.N) (hz : n = 0) :
    inv0 m c n h = iprop((∃ d, owns (c : Thread nD τ) (Memref.whole cc0_scratch0) fullShare d) ∗ ∃ r, prngReg c r) := by
  subst hz; exact scratch_any c

theorem inv0_next (c : Dev nD) (n : ℕ) (h : n ≤ cfg0.N) (hz : n ≠ 0) :
    inv0 m c n h = iprop(owns (c : Thread nD τ) (Memref.whole cc0_scratch0) fullShare
      (carried m c (n - 1) (by omega)).sk ∗ ∃ r, prngReg c r) := by
  cases n with
  | zero => exact absurd rfl hz
  | succ n => rfl

/-- What the windows hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (at0 m c t).dqStores
    | ⟨7, _⟩ => (carried m c t.val t.isLt).dk
    | ⟨8, _⟩ => (carried m c t.val t.isLt).dv
    | ⟨9, _⟩ => k0_pay3 (carried m c t.val t.isLt).sk
    | ⟨_ + 10, h⟩ => absurd h (Nat.not_lt.2 (Nat.le_add_left _ _))
  Φ t := inv0 m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) :
    (dats m 0 c).Φ t.castSucc = inv0 m c t.val (Nat.le_of_lt t.isLt) := by
  dsimp only [dats]; exact Pipeline.Dat.Φ_castSucc (inv0 m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = View.canon (at0 m c t).dqStores := by
  dsimp only [dats]
theorem after7 (c : Dev nD) (t : Fin cfg0.N) : (dats m 0 c).after 7 t = (carried m c t.val t.isLt).dk := by
  dsimp only [dats]
theorem after8 (c : Dev nD) (t : Fin cfg0.N) : (dats m 0 c).after 8 t = (carried m c t.val t.isLt).dv := by
  dsimp only [dats]
theorem after9 (c : Dev nD) (t : Fin cfg0.N) :
    (dats m 0 c).after 9 t = k0_pay3 (carried m c t.val t.isLt).sk := by
  dsimp only [dats]

theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d
theorem before2 (c : Dev nD) (t : Fin cfg0.N) (d) : (dats m 0 c).before 2 t d = iblk m c 2 t :=
  before0_2_of m _ (A_eq m c 2) (after2 m c) t d
theorem before3 (c : Dev nD) (t : Fin cfg0.N) (d) : (dats m 0 c).before 3 t d = iblk m c 3 t :=
  before0_3_of m _ (A_eq m c 3) (after3 m c) t d
theorem before4 (c : Dev nD) (t : Fin cfg0.N) (d) : (dats m 0 c).before 4 t d = iblk m c 4 t :=
  before0_4_of m _ (A_eq m c 4) (after4 m c) t d
theorem before5 (c : Dev nD) (t : Fin cfg0.N) (d) : (dats m 0 c).before 5 t d = iblk m c 5 t :=
  before0_5_of m _ (A_eq m c 5) (after5 m c) t d

theorem before7 (c : Dev nD) (t : Fin cfg0.N) (hz : t.val ≠ 0) (d) :
    (dats m 0 c).before 7 t d
      = (carried m c (t.val - 1) (Nat.lt_of_le_of_lt (Nat.sub_le _ _) t.isLt)).dk := by
  have hN : t.val < 32 := lt_of_lt_of_eq t.isLt (show cfg0.N = 32 from N_0)
  rw [Dat.before_out_kept _ 7 rfl t hz (Bool.eq_false_iff.mpr fun h => by
      have := (flush0_7 _).mp h; dsimp only at this; omega) (fun _ => rfl) (fun _ _ => rfl)]
  dsimp only [dats]

theorem before8 (c : Dev nD) (t : Fin cfg0.N) (hz : t.val ≠ 0) (d) :
    (dats m 0 c).before 8 t d
      = (carried m c (t.val - 1) (Nat.lt_of_le_of_lt (Nat.sub_le _ _) t.isLt)).dv := by
  have hN : t.val < 32 := lt_of_lt_of_eq t.isLt (show cfg0.N = 32 from N_0)
  rw [Dat.before_out_kept _ 8 rfl t hz (Bool.eq_false_iff.mpr fun h => by
      have := (flush0_8 _).mp h; dsimp only at this; omega) (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (dats m 0 c).leavesExact 9 t)

theorem dq_cover (B : Blocks F) (y : S128x512.Idx) : ∃ p ∈ B.dqStores, y ∈ p.1.set :=
  View.cover_of_tiledL B.dqStores S128x128.size (by rfl) y

theorem idle9 (c : Dev nD) (t : Fin cfg0.N) (h : t.val ≠ 31) : (dats m 0 c).leavesExact 9 t
    = iprop(∃ d, owns (c : Thread nD τ) (win0_9.stage (cfg0.slots t 9)) fullShare ((dats m 0 c).before 9 t d)) :=
  Dat.leavesExact_idle _ 9 t
    (show (!(k0_cond2 (grid0.coords t) == 1#1)) = true by
      have := (last_iff t).not.mpr h; simpa using this)
    (Bool.eq_false_iff.mpr fun hf => by
      have hN : t.val < 32 := lt_of_lt_of_eq t.isLt (show cfg0.N = 32 from N_0)
      have := (flush0_9 _).mp hf; omega)

theorem live9 (c : Dev nD) (t : Fin cfg0.N) (h : t.val = 31) : (dats m 0 c).leavesExact 9 t
    = owns (c : Thread nD τ) (win0_9.stage (cfg0.slots t 9)) fullShare ((dats m 0 c).after 9 t) := by
  have hi : cfg0.idle 9 (cfg0.grid.coords t) = false :=
    show (!(k0_cond2 (grid0.coords t) == 1#1)) = false by
      have := (last_iff t).mpr h; simpa using this
  unfold Dat.leavesExact; rw [hi]

set_option maxHeartbeats 4000000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8,
    show (dats m 0 c).Φ t.succ = inv0 m c (t.val + 1) t.isLt from rfl,
    show inv0 m c (t.val + 1) t.isLt = iprop(owns (c : Thread nD τ) (Memref.whole cc0_scratch0) fullShare
      (carried m c t.val t.isLt).sk ∗ ∃ r, prngReg c r) from rfl, inv_at]
  rw [inv0_first m c _ _ h, carried_first m c t h, idle9 m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply ((runFirst c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h) (fun hl => by have := (last_iff t).mp hl; omega)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, ⟨%f6, H6⟩, ⟨%f7, H7⟩, ⟨%f8, H8⟩, ⟨%fS, HS⟩⟩
  isplitl [HS Hg]
  · isplitl [HS]
    · unfold owns; iexists _; isplitr
      swap; · iexact HS
      ipureintro; exact runFirst_sk c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h) (fun hl => by have := (last_iff t).mp hl; omega) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runFirst_dq c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h) (fun hl => by have := (last_iff t).mp hl; omega)]; exact View.read_writes_eq_canon _ _ _ (dq_cover _)
  isplitl [H7]
  · unfold owns; iexists _; isplitr
    swap; · iexact H7
    ipureintro; exact runFirst_dk c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h) (fun hl => by have := (last_iff t).mp hl; omega) _
  isplitl [H8]
  · unfold owns; iexists _; isplitr
    swap; · iexact H8
    ipureintro; exact runFirst_dv c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h) (fun hl => by have := (last_iff t).mp hl; omega) _
  iexact H9

set_option maxHeartbeats 4000000 in
theorem body_mid (c : Dev nD) (t : Fin cfg0.N) (h : t.val ≠ 0 ∧ t.val ≠ 31) :
    bodyPre m c t ⊢ wp frame (wpE (defs₀ (F := F)) Variants.none c none) Set.univ (bodyAt0 t) (fun _ => bodyPost m c t) := by
  unfold bodyPre bodyPost bodyAt0
  simp only [before0, before1, before2, before3, before4, before5, before7 m c t h.1, before8 m c t h.1]
  rw [show (dats m 0 c).owesAt () t.succ = (dats m 0 c).owesAt () t.castSucc from rfl,
    after0, after1, after2, after3, after4, after5, after6, after7, after8,
    show (dats m 0 c).Φ t.succ = inv0 m c (t.val + 1) t.isLt from rfl,
    show inv0 m c (t.val + 1) t.isLt = iprop(owns (c : Thread nD τ) (Memref.whole cc0_scratch0) fullShare
      (carried m c t.val t.isLt).sk ∗ ∃ r, prngReg c r) from rfl, inv_at]
  rw [inv0_next m c _ _ h.1, carried_next m c t h.1, idle9 m c t h.2]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply ((runMid c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => h.1 ((first_iff t).mp hf)) (fun hl => h.2 ((last_iff t).mp hl)) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS]; · iexact HS
  iintro ⟨H0, H1, H2, H3, H4, H5, ⟨%f6, H6⟩, H7, H8, HS⟩
  isplitl [HS Hg]
  · isplitl [HS]
    · unfold owns; iexists _; isplitr
      swap; · iexact HS
      ipureintro; exact runMid_sk c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => h.1 ((first_iff t).mp hf)) (fun hl => h.2 ((last_iff t).mp hl)) _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runMid_dq c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => h.1 ((first_iff t).mp hf)) (fun hl => h.2 ((last_iff t).mp hl)) _ _ _]; exact View.read_writes_eq_canon _ _ _ (dq_cover _)
  isplitl [H7]
  · unfold owns; iexists _; isplitr
    swap; · iexact H7
    ipureintro; exact runMid_dk c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => h.1 ((first_iff t).mp hf)) (fun hl => h.2 ((last_iff t).mp hl)) _ _ _
  isplitl [H8]
  · unfold owns; iexists _; isplitr
    swap; · iexact H8
    ipureintro; exact runMid_dv c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => h.1 ((first_iff t).mp hf)) (fun hl => h.2 ((last_iff t).mp hl)) _ _ _
  iexact H9

set_option maxHeartbeats 4000000 in
theorem body_last (c : Dev nD) (t : Fin cfg0.N) (h : t.val = 31) :
    bodyPre m c t ⊢ wp frame (wpE (defs₀ (F := F)) Variants.none c none) Set.univ (bodyAt0 t) (fun _ => bodyPost m c t) := by
  unfold bodyPre bodyPost bodyAt0
  simp only [before0, before1, before2, before3, before4, before5, before7 m c t (show t.val ≠ 0 by omega), before8 m c t (show t.val ≠ 0 by omega)]
  rw [show (dats m 0 c).owesAt () t.succ = (dats m 0 c).owesAt () t.castSucc from rfl,
    after0, after1, after2, after3, after4, after5, after6, after7, after8,
    show (dats m 0 c).Φ t.succ = inv0 m c (t.val + 1) t.isLt from rfl,
    show inv0 m c (t.val + 1) t.isLt = iprop(owns (c : Thread nD τ) (Memref.whole cc0_scratch0) fullShare
      (carried m c t.val t.isLt).sk ∗ ∃ r, prngReg c r) from rfl, inv_at]
  rw [inv0_next m c _ _ (show t.val ≠ 0 by omega), carried_next m c t (show t.val ≠ 0 by omega), live9 m c t h, after9, carried_next m c t (show t.val ≠ 0 by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLast c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexists _; iexact H9
  isplitl [HS]; · iexact HS
  iintro ⟨H0, H1, H2, H3, H4, H5, ⟨%f6, H6⟩, H7, H8, ⟨%f9, H9⟩, HS⟩
  isplitl [HS Hg]
  · isplitl [HS]
    · unfold owns; iexists _; isplitr
      swap; · iexact HS
      ipureintro; exact runLast_sk c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [runLast_dq c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _]; exact View.read_writes_eq_canon _ _ _ (dq_cover _)
  isplitl [H7]
  · unfold owns; iexists _; isplitr
    swap; · iexact H7
    ipureintro; exact runLast_dk c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _
  isplitl [H8]
  · unfold owns; iexists _; isplitr
    swap; · iexact H8
    ipureintro; exact runLast_dv c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _
  unfold owns; iexists _; isplitr
  swap; · iexact H9
  ipureintro; exact runLast_sink c (grid0.coords t) _ _ _ _ _ _ _ _ _ _ _ _ _ _ _ _ _ _ _ _ _ _ (iblk m c 0 t) (iblk m c 1 t) (iblk m c 2 t) (iblk m c 3 t) (iblk m c 4 t) (iblk m c 5 t) (fun hf => by have := (first_iff t).mp hf; omega) ((last_iff t).mpr h) _ _ _ _

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact body_first m c t hz
  by_cases hl : t.val = 31
  · exact body_last m c t hl
  exact body_mid m c t ⟨hz, hl⟩

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = inv0 m c (Fin.last cfg0.N).val (Nat.le_of_lt_succ (Fin.last cfg0.N).isLt) from rfl,
    inv0_next m c _ _ (by rw [Fin.val_last]; have : cfg0.N = 32 := N_0; omega), scratch_any]
  iintro ⟨HS, Hg⟩
  isplitl [HS]
  · iexists _; iexact HS
  iexact Hg

-- the launch rule's implicit arguments are read off its conclusion
set_option backward.isDefEq.respectTransparency.types false in
/-- The whole run: every window's array ends as the points left it, and every counter is zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Attn

end
-- ==== Proof.AttnReal.lean ====
module

public import Idealize.ShloMosaic.Lib.Pointwise
public import Idealize.ShloMosaic.Lib.FinSumWindow

@[expose] public section

set_option maxRecDepth 16384
set_option backward.proofsInPublic true

/-! The gradients of windowed attention with one sink per head, over the real numbers: sums over all keys, of
terms that vanish outside the window. -/

noncomputable section

namespace Cert.Attn

open Idealize.ShloMosaic

/-- The arguments. -/
structure Data where
  Q : Fin 4096 → Fin 8 → Fin 64 → ℝ
  K : Fin 4096 → Fin 2 → Fin 64 → ℝ
  V : Fin 4096 → Fin 2 → Fin 64 → ℝ
  s : Fin 8 → ℝ
  C : Fin 4096 → Fin 512 → ℝ

/-- Row `q` of tile `n`. -/
def tok (n : Fin 32) (q : Fin 128) : Fin 4096 := ⟨128 * n.val + q.val, by omega⟩
/-- Head `r` of group `g`, and a head's group. -/
def head (g : Fin 2) (r : Fin 4) : Fin 8 := ⟨4 * g.val + r.val, by omega⟩
def grp (h : Fin 8) : Fin 2 := ⟨h.val / 4, by omega⟩
/-- A head's column of the output. -/
def col (h : Fin 8) (d : Fin 64) : Fin 512 := ⟨64 * h.val + d.val, by omega⟩

theorem grp_head (g : Fin 2) (r : Fin 4) : grp (head g r) = g := Fin.ext (by simp only [grp, head]; omega)

/-- A row sees a key. -/
abbrev Near (t u : Fin 4096) : Prop := t.val ≤ u.val + 128 ∧ u.val ≤ t.val + 128

namespace Data

variable (D : Data) (t : Fin 4096) (h : Fin 8) (u : Fin 4096)

def score : ℝ := (∑ d, D.K u (grp h) d * D.Q t h d) * (1 / 8)
def E : ℝ := if Near t u then Real.exp (D.score t h u) else 0
def Z : ℝ := ∑ u, D.E t h u + Real.exp (D.s h)
def P : ℝ := D.E t h u / D.Z t h
def dP : ℝ := ∑ d, D.C t (col h d) * D.V u (grp h) d
def corr : ℝ := ∑ u, D.P t h u * D.dP t h u
def dS : ℝ := D.P t h u * (D.dP t h u - D.corr t h)
def gQ (d : Fin 64) : ℝ := ∑ u, D.dS t h u * (1 / 8) * D.K u (grp h) d
def gK (g : Fin 2) (d : Fin 64) : ℝ :=
  ∑ n, ∑ r, ∑ q, D.dS (tok n q) (head g r) u * (1 / 8) * D.Q (tok n q) (head g r) d
def gV (g : Fin 2) (d : Fin 64) : ℝ := ∑ n, ∑ r, ∑ q, D.C (tok n q) (col (head g r) d) * D.P (tok n q) (head g r) u
def gs : ℝ := ∑ n, ∑ q, -(D.corr (tok n q) h * (Real.exp (D.s h) / D.Z (tok n q) h))

theorem E_nonneg : 0 ≤ D.E t h u := by unfold E; split_ifs <;> positivity
theorem Z_pos : 0 < D.Z t h := by
  unfold Z; exact add_pos_of_nonneg_of_pos (Finset.sum_nonneg fun u _ => D.E_nonneg t h u) (Real.exp_pos _)
theorem Z_ne : D.Z t h ≠ 0 := (D.Z_pos t h).ne'
theorem E_far (hu : ¬Near t u) : D.E t h u = 0 := if_neg hu
theorem P_far (hu : ¬Near t u) : D.P t h u = 0 := by unfold P; rw [D.E_far t h u hu, zero_div]
theorem dS_far (hu : ¬Near t u) : D.dS t h u = 0 := by unfold dS; rw [D.P_far t h u hu, zero_mul]

/-- The correction by the exponentials. -/
theorem corr_eq : D.corr t h = (∑ u, D.E t h u * D.dP t h u) / D.Z t h := by
  unfold corr P; rw [Finset.sum_div]; exact Finset.sum_congr rfl fun u _ => by ring

/-- The scores' gradient sums to the sink's, with the sign changed. -/
theorem sum_dS : ∑ u, D.dS t h u = D.corr t h * (Real.exp (D.s h) / D.Z t h) := by
  have hP : ∑ u, D.P t h u = 1 - Real.exp (D.s h) / D.Z t h := by
    unfold P
    rw [← Finset.sum_div, eq_sub_iff_add_eq, ← add_div, div_eq_one_iff_eq (D.Z_ne t h)]; rfl
  unfold dS
  simp only [mul_sub, Finset.sum_sub_distrib, ← Finset.sum_mul, hP]
  show D.corr t h - _ = _
  ring

/-- … and by the unnormalised output. -/
theorem corr_eq_out : D.corr t h = (∑ d, D.C t (col h d) * ∑ u, D.E t h u * D.V u (grp h) d) / D.Z t h := by
  rw [corr_eq]; congr 1; unfold dP
  simp only [Finset.mul_sum]
  rw [Finset.sum_comm]
  exact Finset.sum_congr rfl fun d _ => Finset.sum_congr rfl fun u _ => by ring

end Data

/-! ### Extended reals -/

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (x : ℝ) : Ideal.exp (x : EReal) = ((Real.exp x : ℝ) : EReal) := rfl

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem exp_masked (p : Prop) [Decidable p] (s m : ℝ) :
    Ideal.exp ((if p then (s : EReal) else ⊥) - (m : EReal))
      = (((if p then Real.exp s else 0) * Real.exp (-m) : ℝ) : EReal) := by
  split_ifs
  · rw [← EReal.coe_sub, exp_coe, ← Real.exp_add, sub_eq_add_neg]
  · rw [EReal.bot_sub, zero_mul, EReal.coe_zero]; rfl

theorem masked_ne_top (p : Prop) [Decidable p] (s : ℝ) : (if p then (s : EReal) else ⊥) ≠ ⊤ := by
  split_ifs <;> simp

theorem fold_max_ne_top {ι : Type*} (S : Finset ι) (f : ι → EReal) (hf : ∀ i, f i ≠ ⊤) {b : EReal} (hb : b ≠ ⊤) :
    S.fold max b f ≠ ⊤ := by
  classical
  induction S using Finset.induction_on with
  | empty => simpa using hb
  | insert a S ha ih =>
    rw [Finset.fold_insert ha]
    exact fun h => (max_eq_top.mp h).elim (hf a) ih

theorem max_real {x : EReal} (hx : x ≠ ⊤) (s : ℝ) : ((max x (s : EReal)).toReal : EReal) = max x (s : EReal) :=
  EReal.coe_toReal (fun h => (max_eq_top.mp h).elim hx (EReal.coe_ne_top s))
    (fun h => by have := le_max_right x (s : EReal); rw [h] at this; exact EReal.coe_ne_bot s (le_bot_iff.mp this))

/-! ### Windows of keys -/

/-- A function of the keys, by a position that counts 128 rows before the first. -/
def slot (f : Fin 4096 → ℝ) (x : ℕ) : ℝ := if hx : 128 ≤ x ∧ x < 4224 then f ⟨x - 128, by omega⟩ else 0

theorem slot_in (f : Fin 4096 → ℝ) {x : ℕ} (hx : 128 ≤ x ∧ x < 4224) : slot f x = f ⟨x - 128, by omega⟩ := dif_pos hx
theorem slot_out (f : Fin 4096 → ℝ) {x : ℕ} (hx : ¬(128 ≤ x ∧ x < 4224)) : slot f x = 0 := dif_neg hx
theorem slot_at (f : Fin 4096 → ℝ) (u : Fin 4096) : slot f (u.val + 128) = f u := by
  rw [slot_in f (by omega)]; exact congrArg f (Fin.ext (by simp))
theorem slot_mul (f g : Fin 4096 → ℝ) (x : ℕ) : slot f x * slot g x = slot (fun u => f u * g u) x := by
  unfold slot; split_ifs <;> simp
theorem slot_mul_const (f : Fin 4096 → ℝ) (a : ℝ) (x : ℕ) : slot f x * a = slot (fun u => f u * a) x := by
  unfold slot; split_ifs <;> simp
theorem slot_sum {ι : Type*} (S : Finset ι) (f : ι → Fin 4096 → ℝ) (x : ℕ) :
    ∑ i ∈ S, slot (f i) x = slot (fun u => ∑ i ∈ S, f i u) x := by
  unfold slot; split_ifs <;> simp
theorem slot_congr {f g : Fin 4096 → ℝ} (hfg : ∀ u, f u = g u) (x : ℕ) : slot f x = slot g x := by rw [funext hfg]

theorem near_tile {n : Fin 32} {q : Fin 128} {u : Fin 4096} (hu : Near (tok n q) u) :
    128 * n.val ≤ u.val + 128 ∧ u.val + 128 < 128 * n.val + 384 := by
  simp only [Near, tok] at hu; omega

/-- A sum over a tile's 384 positions is the sum over all keys. -/
theorem sum_slot (n : Fin 32) (f : Fin 4096 → ℝ)
    (hf : ∀ u : Fin 4096, ¬(128 * n.val ≤ u.val + 128 ∧ u.val + 128 < 128 * n.val + 384) → f u = 0) :
    ∑ c : Fin 384, slot f (128 * n.val + c.val) = ∑ u, f u := by
  have e1 : ∑ X : Fin 4352, slot f X.val = ∑ c : Fin 384, slot f (128 * n.val + c.val) := by
    refine FinSumWindow.sum_window (128 * n.val) (by omega) (fun X : Fin 4352 => slot f X.val) fun X hX => ?_
    by_cases hx : 128 ≤ X.val ∧ X.val < 4224
    · rw [slot_in f hx]; exact hf _ (by dsimp only; omega)
    · exact slot_out f hx
  have e2 : ∑ X : Fin 4352, slot f X.val = ∑ u : Fin 4096, slot f (128 + u.val) :=
    FinSumWindow.sum_window 128 (by omega) (fun X : Fin 4352 => slot f X.val) fun X hX => slot_out f (by omega)
  rw [← e1, e2]
  exact Finset.sum_congr rfl fun u _ => by rw [Nat.add_comm, slot_at]

/-- The first key of a tile's own window of 384. -/
abbrev start (n : Fin 32) : ℕ := min (128 * n.val - 128) 3712
/-- Its keys. -/
def key (n : Fin 32) (c : Fin 384) : Fin 4096 := ⟨start n + c.val, by unfold start; omega⟩

theorem near_start {n : Fin 32} {q : Fin 128} {u : Fin 4096} (hu : Near (tok n q) u) :
    start n ≤ u.val ∧ u.val < start n + 384 := by
  simp only [Near, tok, start] at *; omega

theorem sum_key (n : Fin 32) (q : Fin 128) (f : Fin 4096 → ℝ) (hf : ∀ u, ¬Near (tok n q) u → f u = 0) :
    ∑ c : Fin 384, f (key n c) = ∑ u, f u :=
  (FinSumWindow.sum_window (start n) (by unfold start; omega) f fun u hu => hf u fun hn => hu (near_start hn)).symm

theorem sum_slot_near (n : Fin 32) (q : Fin 128) (f : Fin 4096 → ℝ) (hf : ∀ u, ¬Near (tok n q) u → f u = 0) :
    ∑ c : Fin 384, slot f (128 * n.val + c.val) = ∑ u, f u :=
  sum_slot n f fun u hu => hf u fun hn => hu (near_tile hn)

variable (D : Data) (n : Fin 32) (g : Fin 2)

/-- One tile's part of the keys' and the values' gradients. -/
def tK (d : Fin 64) (u : Fin 4096) : ℝ := ∑ r, ∑ q, D.dS (tok n q) (head g r) u * (1 / 8) * D.Q (tok n q) (head g r) d
def tV (d : Fin 64) (u : Fin 4096) : ℝ := ∑ r, ∑ q, D.C (tok n q) (col (head g r) d) * D.P (tok n q) (head g r) u

theorem tK_far (d : Fin 64) {u : Fin 4096} (hu : ¬(128 * n.val ≤ u.val + 128 ∧ u.val + 128 < 128 * n.val + 384)) :
    tK D n g d u = 0 :=
  Finset.sum_eq_zero fun r _ => Finset.sum_eq_zero fun q _ => by
    rw [D.dS_far _ _ _ fun hn => hu (near_tile hn), zero_mul, zero_mul]
theorem tV_far (d : Fin 64) {u : Fin 4096} (hu : ¬(128 * n.val ≤ u.val + 128 ∧ u.val + 128 < 128 * n.val + 384)) :
    tV D n g d u = 0 :=
  Finset.sum_eq_zero fun r _ => Finset.sum_eq_zero fun q _ => by
    rw [D.P_far _ _ _ fun hn => hu (near_tile hn), mul_zero]

theorem tK_off (d : Fin 64) {u : Fin 4096} (hu : ¬(start n ≤ u.val ∧ u.val < start n + 384)) : tK D n g d u = 0 :=
  Finset.sum_eq_zero fun r _ => Finset.sum_eq_zero fun q _ => by
    rw [D.dS_far _ _ _ fun hn => hu (near_start hn), zero_mul, zero_mul]
theorem tV_off (d : Fin 64) {u : Fin 4096} (hu : ¬(start n ≤ u.val ∧ u.val < start n + 384)) : tV D n g d u = 0 :=
  Finset.sum_eq_zero fun r _ => Finset.sum_eq_zero fun q _ => by
    rw [D.P_far _ _ _ fun hn => hu (near_start hn), mul_zero]

/-! ### Constants and comparisons of words -/

theorem ofBits_eighth : Ideal.ofBits FTy.f32 1040187392#32 = ((1 / 8 : ℝ) : EReal) := by
  simp [Ideal.ofBits, Ideal.ieee, -EReal.coe_mul]; norm_num

theorem ofBits_bot : Ideal.ofBits FTy.f32 4286578688#32 = ⊥ := by
  simp [Ideal.ofBits, Ideal.ieee]

theorem le_bits {a b : ℤ} (ha : -2 ^ 31 ≤ a ∧ a < 2 ^ 31) (hb : -2 ^ 31 ≤ b ∧ b < 2 ^ 31) :
    (BitVec.ofInt 32 a).sle (BitVec.ofInt 32 b) = decide (a ≤ b) := by
  rw [BitVec.sle, BitVec.toInt_ofInt, BitVec.toInt_ofInt, Int.bmod_eq_of_le (by omega) (by omega), Int.bmod_eq_of_le (by omega) (by omega)]

theorem lt_bits {a b : ℤ} (ha : -2 ^ 31 ≤ a ∧ a < 2 ^ 31) (hb : -2 ^ 31 ≤ b ∧ b < 2 ^ 31) :
    (BitVec.ofInt 32 a).slt (BitVec.ofInt 32 b) = decide (a < b) := by
  rw [BitVec.slt, BitVec.toInt_ofInt, BitVec.toInt_ofInt, Int.bmod_eq_of_le (by omega) (by omega), Int.bmod_eq_of_le (by omega) (by omega)]

theorem abs_le_bits {a : ℤ} (ha : -2 ^ 31 < a ∧ a < 2 ^ 31) :
    (IntOp.absi (BitVec.ofInt 32 a)).sle (128#32) = decide (-128 ≤ a ∧ a ≤ 128) := by
  have hb : (128#32) = BitVec.ofInt 32 128 := rfl
  have hm : (BitVec.ofInt 32 a).msb = decide (a < 0) := by
    rw [BitVec.msb_eq_toInt, BitVec.toInt_ofInt, Int.bmod_eq_of_le (by omega) (by omega)]
  unfold IntOp.absi
  rw [hm, hb]
  by_cases h : a < 0
  · rw [decide_eq_true h, if_pos rfl, ← BitVec.ofInt_neg, le_bits (by omega) (by omega)]
    exact decide_eq_decide.mpr (by omega)
  · rw [decide_eq_false h, if_neg (by decide), le_bits (by omega) (by omega)]
    exact decide_eq_decide.mpr (by omega)

end Cert.Attn

end
-- ==== Proof.AttnTile.lean ====
module

public import proofs.«01_k».proof.Proof.AttnPoint
public import proofs.«01_k».proof.Proof.AttnReal
public import Idealize.ShloMosaic.Lib.Pointwise

@[expose] public section

set_option maxRecDepth 65536
set_option backward.proofsInPublic true

/-! One tile of the attention backward over the real numbers. -/

noncomputable section

namespace Cert.Kernel3Ideal.Attn

open Idealize.ShloMosaic Cert.Kernel3Ideal.Gen Cert.Attn

variable (D : Data) (n : Fin 32)

/-- A lane's half, and its position there. -/
def half (l : Fin 128) : Fin 2 := ⟨l.val / 64, by omega⟩
def lane (l : Fin 128) : Fin 64 := ⟨l.val % 64, by omega⟩

/-- The blocks that tile `n` loads. -/
def tile : Blocks Ideal where
  kw := fun i => ((D.K (key n (i 0)) (half (i 1)) (lane (i 1)) : ℝ) : EReal)
  vw := fun i => ((D.V (key n (i 0)) (half (i 1)) (lane (i 1)) : ℝ) : EReal)
  q := fun i => (((if half (i 2) = grp (i 0) then D.Q (tok n (i 1)) (i 0) (lane (i 2)) else 0 : ℝ)) : EReal)
  bias := fun i => if Near (tok n (i 1)) (key n (i 2)) then 0 else ⊥
  sink := fun i => ((D.s (i 0) : ℝ) : EReal)
  dO := fun i => ((D.C (tok n (i 0)) (col (head ⟨(i 1).val / 64 % 2, by omega⟩ ⟨(i 1).val / 128, by have := (i 1).isLt; change _ < 512 at this; omega⟩)
    ⟨(i 1).val % 64, by omega⟩) : ℝ) : EReal)

theorem sum_half (F : Fin 2 → Fin 64 → ℝ) : ∑ l : Fin 128, F (half l) (lane l) = ∑ g, ∑ d, F g d := by
  rw [← Fintype.sum_prod_type', ← (finProdFinEquiv (m := 2) (n := 64)).sum_comp]
  refine Finset.sum_congr rfl fun p _ => ?_
  congr 1
  · exact Fin.ext (by simp [half, finProdFinEquiv] <;> omega)
  · exact Fin.ext (by simp [lane, finProdFinEquiv] <;> omega)

theorem sum_own (g : Fin 2) (f : Fin 64 → ℝ) : ∑ l : Fin 128, (if half l = g then f (lane l) else 0) = ∑ d, f d := by
  rw [sum_half fun g' d => if g' = g then f d else 0, Finset.sum_comm]
  exact Finset.sum_congr rfl fun d _ => by rw [Finset.sum_ite_eq' Finset.univ g fun _ => f d, if_pos (Finset.mem_univ _)]

theorem low_bit (l : Fin 128) : IntOp.cmpi .slt (BitVec.ofNat 32 l.val) 64#32 = if l.val < 64 then 1#1 else 0#1 := by
  revert l; decide +kernel
theorem own_bit (h : Fin 8) (l : Fin 128) :
    IntOp.xori (IntOp.xori (IntOp.cmpi .slt (BitVec.ofNat 32 h.val) 4#32) (IntOp.cmpi .slt (BitVec.ofNat 32 l.val) 64#32)) 1#1
      = if half l = grp h then 1#1 else 0#1 := by
  revert h l; decide +kernel

theorem select_ite {α : Type} (p : Prop) [Decidable p] (x y : α) : Scalar.select (if p then 1#1 else 0#1) x y = if p then x else y := by
  split_ifs <;> rfl

variable (h : Fin 8) (q : Fin 128) (l : Fin 128) (c : Fin 384)

theorem score_apply : k0_pay10 (tile D n).kw (tile D n).q (tile D n).bias (ix3 h q c)
    = if Near (tok n q) (key n c) then ((D.score (tok n q) h (key n c) : ℝ) : EReal) else ⊥ := by
  pointwise [k0_pay10, k0_pay9, k0_pay7, tile]
  rw [ofBits_eighth]
  simp only [← EReal.coe_mul, ← coe_sum]
  have e : ∑ x, (if half x = grp h then D.Q (tok n q) h (lane x) else 0) * D.K (key n c) (half x) (lane x)
      = ∑ d, D.K (key n c) (grp h) d * D.Q (tok n q) h d := by
    rw [← sum_own (grp h)]
    refine Finset.sum_congr rfl fun x _ => ?_
    by_cases hx : half x = grp h
    · rw [if_pos hx, if_pos hx, hx, mul_comm]
    · rw [if_neg hx, if_neg hx, zero_mul]
  rw [e]
  split_ifs
  · rw [add_zero]; rfl
  · exact EReal.add_bot _

/-- The largest score of a row, and the row's shift. -/
def top : EReal :=
  Finset.univ.fold max ⊥ fun x : Fin 128 =>
    max (max (if Near (tok n q) (key n ⟨x.val, by omega⟩) then ((D.score (tok n q) h (key n ⟨x.val, by omega⟩) : ℝ) : EReal) else ⊥)
      (if Near (tok n q) (key n ⟨128 + x.val, by omega⟩) then ((D.score (tok n q) h (key n ⟨128 + x.val, by omega⟩) : ℝ) : EReal) else ⊥))
      (if Near (tok n q) (key n ⟨256 + x.val, by omega⟩) then ((D.score (tok n q) h (key n ⟨256 + x.val, by omega⟩) : ℝ) : EReal) else ⊥)
def shift : ℝ := (max (top D n h q) ((D.s h : ℝ) : EReal)).toReal
/-- The factor by which the shift scales the row's exponentials. -/
def ex : ℝ := Real.exp (-shift D n h q)
theorem ex_ne : ex D n h q ≠ 0 := (Real.exp_pos _).ne'

theorem m1_apply : (tile D n).m1 (ix3 h q l) = top D n h q := by
  pointwise [Blocks.m1, k0_pay15, k0_pay11, k0_pay12, k0_pay13, score_apply]
  rw [ofBits_bot]; rfl

theorem shift_eq : max (top D n h q) ((D.s h : ℝ) : EReal) = ((shift D n h q : ℝ) : EReal) := by
  refine (max_real (fold_max_ne_top _ _ (fun x hx => ?_) bot_ne_top) _).symm
  rcases max_eq_top.mp hx with hx | hx
  · rcases max_eq_top.mp hx with hx | hx <;> exact masked_ne_top _ _ hx
  · exact masked_ne_top _ _ hx

theorem sink_apply : (tile D n).sink (ix3 h 0 l) = ((D.s h : ℝ) : EReal) := rfl

theorem p_apply : (tile D n).p (ix3 h q c) = ((D.E (tok n q) h (key n c) * ex D n h q : ℝ) : EReal) := by
  pointwise [Blocks.p, k0_pay18, k0_pay17, k0_pay16, k0_pay14, k0_pay11, k0_pay12, k0_pay13, score_apply, m1_apply, sink_apply, shift_eq]
  have e (c') (hc : c' = c) : Ideal.exp ((if Near (tok n q) (key n c') then ((D.score (tok n q) h (key n c') : ℝ) : EReal) else ⊥)
      - ((shift D n h q : ℝ) : EReal)) = ((D.E (tok n q) h (key n c) * ex D n h q : ℝ) : EReal) := by
    subst hc; exact exp_masked _ _ _
  by_cases h1 : c.val < 128
  · rw [dif_pos h1]; exact e _ rfl
  · rw [dif_neg h1]
    by_cases h2 : c.val - 128 < 128
    · rw [dif_pos h2]; exact e _ (Fin.ext (by dsimp only; omega))
    · rw [dif_neg h2]; exact e _ (Fin.ext (by dsimp only; omega))

theorem ps_apply : (tile D n).ps (ix3 h q l) = ((Real.exp (D.s h) * ex D n h q : ℝ) : EReal) := by
  pointwise [Blocks.ps, k0_pay19, k0_pay17, k0_pay16, k0_pay14, m1_apply, sink_apply, shift_eq]
  rw [← EReal.coe_sub, exp_coe, sub_eq_add_neg, Real.exp_add]; rfl

/-- The row's part of the output, unnormalised, and the sum of its exponentials. -/
def out (d : Fin 64) : ℝ := ∑ u, D.E (tok n q) h u * D.V u (grp h) d
def tot : ℝ := ∑ u, D.E (tok n q) h u

theorem vw_apply : (tile D n).vw (ix2 c l) = ((D.V (key n c) (half l) (lane l) : ℝ) : EReal) := rfl

theorem p_eq : k0_pay18 (k0_pay11 (tile D n).kw (tile D n).q (tile D n).bias) (k0_pay12 (tile D n).kw (tile D n).q (tile D n).bias)
    (k0_pay13 (tile D n).kw (tile D n).q (tile D n).bias) (tile D n).m1 (k0_pay16 (tile D n).sink) = (tile D n).p := rfl

theorem r_apply : (tile D n).r (ix3 h q l)
    = (((if half l = grp h then out D n h q (lane l) else tot D n h q) * ex D n h q : ℝ) : EReal) := by
  have hv : ∑ c, D.E (tok n q) h (key n c) * ex D n h q * D.V (key n c) (grp h) (lane l) = out D n h q (lane l) * ex D n h q := by
    unfold out; rw [Finset.sum_mul, ← sum_key n q _ fun u hu => by rw [D.E_far _ _ _ hu, zero_mul, zero_mul]]
    exact Finset.sum_congr rfl fun c _ => by ring
  have ht : ∑ c, D.E (tok n q) h (key n c) * ex D n h q = tot D n h q * ex D n h q := by
    unfold tot; rw [Finset.sum_mul, ← sum_key n q _ fun u hu => by rw [D.E_far _ _ _ hu, zero_mul]]
  pointwise [Blocks.r, k0_pay20, k0_pay8, vw_apply, p_eq, p_apply, low_bit, select_ite]
  have hv' (hl : half l = grp h) : ∑ c, ((D.E (tok n q) h (key n c) * ex D n h q : ℝ) : EReal) * ((D.V (key n c) (half l) (lane l) : ℝ) : EReal)
      = (((if half l = grp h then out D n h q (lane l) else tot D n h q) * ex D n h q : ℝ) : EReal) := by
    simp only [← EReal.coe_mul, ← coe_sum]
    rw [if_pos hl, hl, hv]
  have ht' (hl : ¬half l = grp h) : ∑ c, ((D.E (tok n q) h (key n c) * ex D n h q : ℝ) : EReal) * 1
      = (((if half l = grp h then out D n h q (lane l) else tot D n h q) * ex D n h q : ℝ) : EReal) := by
    simp only [mul_one, ← coe_sum]
    rw [if_neg hl, ht]
  have hl : half l = grp h ↔ l.val / 64 = h.val / 4 := Fin.ext_iff
  by_cases hh : h.val * 128 + q.val < 512
  · rw [dif_pos hh]
    by_cases h1 : l.val < 64
    · simp only [if_pos h1]; exact hv' (hl.mpr (by omega))
    · simp only [if_neg h1]; exact ht' (fun e => by have := hl.mp e; omega)
  · have eh : (⟨(512 + (h.val * 128 + q.val - 512)) / 128, by omega⟩ : Fin 8) = h := Fin.ext (by dsimp only; omega)
    have eq : (⟨(512 + (h.val * 128 + q.val - 512)) % 128, by omega⟩ : Fin 128) = q := Fin.ext (by dsimp only; omega)
    rw [dif_neg hh]
    simp only [eh, eq]
    by_cases h1 : l.val < 64
    · simp only [if_pos h1]; exact ht' (fun e => by have := hl.mp e; omega)
    · simp only [if_neg h1]; exact hv' (hl.mpr (by omega))

theorem r_eq : k0_pay20 (k0_pay8 (tile D n).vw) (k0_pay11 (tile D n).kw (tile D n).q (tile D n).bias) (k0_pay12 (tile D n).kw (tile D n).q (tile D n).bias)
    (k0_pay13 (tile D n).kw (tile D n).q (tile D n).bias) (tile D n).m1 (k0_pay16 (tile D n).sink) = (tile D n).r := rfl
theorem ps_eq : k0_pay19 (k0_pay14 (tile D n).sink) (tile D n).m1 (k0_pay16 (tile D n).sink) = (tile D n).ps := rfl

theorem inv_apply : (tile D n).inv (ix3 h q l) = ((1 / (D.Z (tok n q) h * ex D n h q) : ℝ) : EReal) := by
  pointwise [Blocks.inv, k0_pay23, k0_pay22, k0_pay21, r_eq, ps_eq, ps_apply, r_apply, own_bit, select_ite]
  have e : (if half l = grp h then
          (((if half ⟨(l.val + 128 - 64) % 128, by omega⟩ = grp h then out D n h q (lane ⟨(l.val + 128 - 64) % 128, by omega⟩)
              else tot D n h q) * ex D n h q : ℝ) : EReal)
        else (((if half l = grp h then out D n h q (lane l) else tot D n h q) * ex D n h q : ℝ) : EReal))
      = ((tot D n h q * ex D n h q : ℝ) : EReal) := by
    by_cases hl : half l = grp h
    · rw [if_pos hl, if_neg]
      intro hr
      rw [← hl] at hr
      have := congrArg Fin.val hr
      simp only [half] at this; omega
    · rw [if_neg hl, if_neg hl]
  refine (congrArg (fun x => Ideal.div 1 (x + _)) e).trans ?_
  rw [← EReal.coe_add, ← add_mul, ← EReal.coe_one]
  exact div_coe _ (mul_ne_zero (D.Z_ne _ _) (ex_ne D n h q))

theorem dO_at (x : Fin 512) (hx : x.val = 128 * (h.val % 4) + l.val) (hl : half l = grp h) :
    (tile D n).dO (ix2 q x) = ((D.C (tok n q) (col h (lane l)) : ℝ) : EReal) := by
  have hv := congrArg Fin.val hl
  simp only [half, grp] at hv
  refine congrArg (fun x => ((D.C (tok n q) x : ℝ) : EReal)) (Fin.ext ?_)
  simp only [col, head, lane, ix2_1]; omega

theorem do_apply : k0_pay26 k0_pay22 (k0_pay24 (tile D n).dO) (k0_pay25 (tile D n).dO) (ix3 h q l)
    = (((if half l = grp h then D.C (tok n q) (col h (lane l)) else 0) : ℝ) : EReal) := by
  pointwise [k0_pay26, k0_pay24, k0_pay25, k0_pay22, k0_pay21, own_bit, select_ite]
  by_cases hl : half l = grp h
  · rw [if_pos hl, if_pos hl]
    split_ifs <;> exact dO_at D n h q l _ (by dsimp only; omega) hl
  · rw [if_neg hl, if_neg hl, EReal.coe_zero]

theorem delta_apply : (tile D n).delta (ix3 h q l) = ((D.corr (tok n q) h : ℝ) : EReal) := by
  pointwise [Blocks.delta, k0_pay27, do_apply, r_apply, inv_apply]
  simp only [← EReal.coe_mul, ← EReal.coe_sub, ← coe_sum, ← EReal.coe_add]
  refine congrArg _ ?_
  have e : ∑ x, (if half x = grp h then D.C (tok n q) (col h (lane x)) else 0)
      * ((if half x = grp h then out D n h q (lane x) else tot D n h q) * ex D n h q)
      = (∑ d, D.C (tok n q) (col h d) * out D n h q d) * ex D n h q := by
    rw [Finset.sum_mul, ← sum_own (grp h)]
    refine Finset.sum_congr rfl fun x _ => ?_
    by_cases hx : half x = grp h
    · rw [if_pos hx, if_pos hx, if_pos hx]; ring
    · rw [if_neg hx, if_neg hx, if_neg hx, zero_mul]
  have := ex_ne D n h q
  have := D.Z_ne (tok n q) h
  rw [e, D.corr_eq_out]
  simp only [sub_self, Finset.sum_const_zero, add_zero]
  unfold out
  field_simp

theorem dp_apply : (tile D n).dp (ix3 h q c) = ((D.dP (tok n q) h (key n c) : ℝ) : EReal) := by
  pointwise [Blocks.dp, k0_pay30, k0_pay29, k0_pay8, do_apply, vw_apply]
  simp only [← EReal.coe_mul, ← coe_sum]
  refine congrArg _ ?_
  unfold Data.dP
  rw [← sum_own (grp h)]
  refine Finset.sum_congr rfl fun x _ => ?_
  by_cases hx : half x = grp h
  · rw [if_pos hx, if_pos hx, hx]
  · rw [if_neg hx, if_neg hx, zero_mul]

theorem delta_eq : k0_pay27 (tile D n).r k0_pay22 (tile D n).inv (k0_pay24 (tile D n).dO) (k0_pay25 (tile D n).dO) = (tile D n).delta := rfl
theorem dp_eq : k0_pay30 (k0_pay8 (tile D n).vw) k0_pay22 (k0_pay24 (tile D n).dO) (k0_pay25 (tile D n).dO) = (tile D n).dp := rfl

/-- The head, and the position in the tile, of a row among the heads' rows. -/
def hd (x : Fin 1024) : Fin 8 := ⟨x.val / 128, by omega⟩
def pos (x : Fin 1024) : Fin 128 := ⟨x.val % 128, by omega⟩

theorem sum_rows (F : Fin 8 → Fin 128 → ℝ) : ∑ x : Fin 1024, F (hd x) (pos x) = ∑ h, ∑ q, F h q := by
  rw [← Fintype.sum_prod_type', ← (finProdFinEquiv (m := 8) (n := 128)).sum_comp]
  refine Finset.sum_congr rfl fun p _ => ?_
  congr 1
  · exact Fin.ext (by simp [hd, finProdFinEquiv] <;> omega)
  · exact Fin.ext (by simp [pos, finProdFinEquiv] <;> omega)

theorem sum_grp (g : Fin 2) (f : Fin 8 → ℝ) : ∑ h, (if g = grp h then f h else 0) = ∑ r, f (head g r) := by
  have e (F : Fin 8 → ℝ) : ∑ h, F h = ∑ g, ∑ r, F (head g r) := by
    rw [← Fintype.sum_prod_type', ← (finProdFinEquiv (m := 2) (n := 4)).sum_comp]
    refine Finset.sum_congr rfl fun p _ => congrArg F (Fin.ext ?_)
    simp [head, finProdFinEquiv] <;> omega
  rw [e, Finset.sum_comm]
  simp only [grp_head, Finset.sum_ite_eq, Finset.mem_univ, if_true]

variable (x : Fin 1024)

theorem probs_apply : (tile D n).probs (ix2 x c) = ((D.P (tok n (pos x)) (hd x) (key n c) : ℝ) : EReal) := by
  have e (c') (hc : c' = c) : ((D.E (tok n (pos x)) (hd x) (key n c') * ex D n (hd x) (pos x) : ℝ) : EReal)
      * ((1 / (D.Z (tok n (pos x)) (hd x) * ex D n (hd x) (pos x)) : ℝ) : EReal) = ((D.P (tok n (pos x)) (hd x) (key n c) : ℝ) : EReal) := by
    subst hc
    have := ex_ne D n (hd x) (pos x)
    have := D.Z_ne (tok n (pos x)) (hd x)
    rw [← EReal.coe_mul]
    refine congrArg _ ?_
    unfold Data.P; field_simp
  pointwise [Blocks.probs, Blocks.pr0, Blocks.pr1b, k0_pay38, k0_pay37, k0_pay35, k0_pay34, k0_pay32, k0_pay31, p_apply, inv_apply]
  by_cases h1 : c.val < 128
  · rw [dif_pos h1]; exact e _ rfl
  · rw [dif_neg h1]
    by_cases h2 : c.val - 128 < 128
    · rw [dif_pos h2]; exact e _ (Fin.ext (by dsimp only; omega))
    · rw [dif_neg h2]; exact e _ (Fin.ext (by dsimp only; omega))

theorem ds_apply : (tile D n).ds (ix2 x c) = ((D.dS (tok n (pos x)) (hd x) (key n c) : ℝ) : EReal) := by
  have e (c') (hc : c' = c) : ((D.E (tok n (pos x)) (hd x) (key n c') * ex D n (hd x) (pos x) : ℝ) : EReal)
      * ((1 / (D.Z (tok n (pos x)) (hd x) * ex D n (hd x) (pos x)) : ℝ) : EReal)
      * (((D.dP (tok n (pos x)) (hd x) (key n c') : ℝ) : EReal) - ((D.corr (tok n (pos x)) (hd x) : ℝ) : EReal))
      = ((D.dS (tok n (pos x)) (hd x) (key n c) : ℝ) : EReal) := by
    subst hc
    have := ex_ne D n (hd x) (pos x)
    have := D.Z_ne (tok n (pos x)) (hd x)
    rw [← EReal.coe_mul, ← EReal.coe_sub, ← EReal.coe_mul]
    refine congrArg _ ?_
    unfold Data.dS Data.P; field_simp
  pointwise [Blocks.ds, Blocks.ds0, Blocks.pr1, Blocks.dd1, k0_pay39, k0_pay37, k0_pay36, k0_pay35, k0_pay34, k0_pay33, k0_pay31, p_apply, inv_apply, delta_eq, dp_eq, dp_apply, delta_apply]
  by_cases h1 : c.val < 128
  · rw [dif_pos h1]; exact e _ rfl
  · rw [dif_neg h1]
    by_cases h2 : c.val - 128 < 128
    · rw [dif_pos h2]; exact e _ (Fin.ext (by dsimp only; omega))
    · rw [dif_neg h2]; exact e _ (Fin.ext (by dsimp only; omega))

theorem ds_eq : k0_pay39 (tile D n).p (tile D n).inv (tile D n).delta (tile D n).dp (tile D n).ds0 (tile D n).pr1 (tile D n).dd1
    = (tile D n).ds := rfl

theorem skAdd_apply (z : Vec Ideal S8x128x128 .f32) : (tile D n).skAdd z (ix3 h q l)
    = z (ix3 h q l) + ((-(D.corr (tok n q) h * (Real.exp (D.s h) / D.Z (tok n q) h)) : ℝ) : EReal) := by
  pointwise [Blocks.skAdd, k0_pay28, delta_eq, delta_apply, ps_apply, inv_apply]
  refine congrArg (z (ix3 h q l) + ·) ?_
  have := ex_ne D n h q
  have := D.Z_ne (tok n q) h
  rw [← EReal.coe_mul, ← EReal.coe_zero, ← EReal.coe_sub, ← EReal.coe_mul]
  refine congrArg _ ?_
  field_simp
  ring

theorem dvAdd_apply (z : Vec Ideal S384x128 .f32) : (tile D n).dvAdd z (ix2 c l)
    = z (ix2 c l) + ((tV D n (half l) (lane l) (key n c) : ℝ) : EReal) := by
  have hd0 (x : Fin 1024) : k0_pay26 k0_pay22 (k0_pay24 (tile D n).dO) (k0_pay25 (tile D n).dO) (ix3 ⟨x.val / 128, by omega⟩ ⟨x.val % 128, by omega⟩ l)
      = (((if half l = grp (hd x) then D.C (tok n (pos x)) (col (hd x) (lane l)) else 0) : ℝ) : EReal) := do_apply D n (hd x) (pos x) l
  pointwise [Blocks.dvAdd, k0_pay2, Blocks.doAll, k0_pay29, hd0, probs_apply]
  refine congrArg (z (ix2 c l) + ·) ?_
  simp only [← EReal.coe_mul, ← coe_sum]
  refine congrArg _ ?_
  rw [sum_rows fun h q => (if half l = grp h then D.C (tok n q) (col h (lane l)) else 0) * D.P (tok n q) h (key n c)]
  unfold tV
  rw [← sum_grp (half l) fun h => ∑ q, D.C (tok n q) (col h (lane l)) * D.P (tok n q) h (key n c)]
  refine Finset.sum_congr rfl fun h _ => ?_
  split_ifs
  · rfl
  · simp

theorem dkAdd_apply (z : Vec Ideal S384x128 .f32) : (tile D n).dkAdd z (ix2 c l)
    = z (ix2 c l) + ((tK D n (half l) (lane l) (key n c) : ℝ) : EReal) := by
  have hq0 (x : Fin 1024) : (tile D n).q (ix3 ⟨x.val / 128, by omega⟩ ⟨x.val % 128, by omega⟩ l)
      = (((if half l = grp (hd x) then D.Q (tok n (pos x)) (hd x) (lane l) else 0) : ℝ) : EReal) := rfl
  pointwise [Blocks.dkAdd, k0_pay1, k0_pay9, k0_pay45, hq0, ds_apply]
  refine congrArg (z (ix2 c l) + ·) ?_
  rw [ofBits_eighth]
  simp only [← EReal.coe_mul, ← coe_sum]
  refine congrArg _ ?_
  rw [sum_rows fun h q => (if half l = grp h then D.Q (tok n q) h (lane l) else 0) * D.dS (tok n q) h (key n c)]
  unfold tK
  rw [← sum_grp (half l) fun h => ∑ q, D.dS (tok n q) h (key n c) * (1 / 8) * D.Q (tok n q) h (lane l), Finset.sum_mul]
  refine Finset.sum_congr rfl fun h _ => ?_
  split_ifs
  · rw [Finset.sum_mul]; exact Finset.sum_congr rfl fun q _ => by ring
  · simp

theorem kw_apply : (tile D n).kw (ix2 c l) = ((D.K (key n c) (half l) (lane l) : ℝ) : EReal) := rfl

/-- One head's queries' gradient, in the lanes of its group. -/
theorem dq_head (hx : half l = grp (hd x)) :
    (∑ c, (tile D n).ds (ix2 x c) * (tile D n).kw (ix2 c l)) * Ideal.ofBits FTy.f32 1040187392#32
      = ((D.gQ (tok n (pos x)) (hd x) (lane l) : ℝ) : EReal) := by
  simp only [ds_apply, kw_apply]
  rw [ofBits_eighth]
  simp only [← EReal.coe_mul, ← coe_sum]
  refine congrArg _ ?_
  unfold Data.gQ
  rw [hx, ← sum_key n (pos x) _ fun u hu => by rw [D.dS_far _ _ _ hu, zero_mul, zero_mul], Finset.sum_mul]
  exact Finset.sum_congr rfl fun c _ => by ring

theorem dq_lanes (r : Fin 4) (x y : Fin 1024) (hx : x.val = 128 * r.val + q.val) (hy : y.val = 512 + (128 * r.val + q.val)) :
    (if l.val < 64 then (∑ c, (tile D n).ds (ix2 x c) * (tile D n).kw (ix2 c l)) * Ideal.ofBits FTy.f32 1040187392#32
      else (∑ c, (tile D n).ds (ix2 y c) * (tile D n).kw (ix2 c l)) * Ideal.ofBits FTy.f32 1040187392#32)
      = ((D.gQ (tok n q) (head (half l) r) (lane l) : ℝ) : EReal) := by
  have hpx : pos x = q := Fin.ext (by simp only [pos]; omega)
  have hpy : pos y = q := Fin.ext (by simp only [pos]; omega)
  split_ifs with h
  · have hh : hd x = head (half l) r := Fin.ext (by simp only [hd, head, half]; omega)
    rw [dq_head D n l x (by rw [hh, grp_head]), hpx, hh]
  · have hh : hd y = head (half l) r := Fin.ext (by simp only [hd, head, half]; omega)
    rw [dq_head D n l y (by rw [hh, grp_head]), hpy, hh]

theorem dq0_apply : (tile D n).dq0 (ix2 q l) = ((D.gQ (tok n q) (head (half l) 0) (lane l) : ℝ) : EReal) := by
  pointwise [Blocks.dq0, k0_pay41, k0_pay40, k0_pay21, k0_pay7, ds_eq, low_bit, select_ite]
  exact dq_lanes D n q l 0 _ _ (by simp) (by simp)
theorem dq1_apply : (tile D n).dq1 (ix2 q l) = ((D.gQ (tok n q) (head (half l) 1) (lane l) : ℝ) : EReal) := by
  pointwise [Blocks.dq1, k0_pay42, k0_pay40, k0_pay21, k0_pay7, ds_eq, low_bit, select_ite]
  exact dq_lanes D n q l 1 _ _ (by simp) (by simp; omega)
theorem dq2_apply : (tile D n).dq2 (ix2 q l) = ((D.gQ (tok n q) (head (half l) 2) (lane l) : ℝ) : EReal) := by
  pointwise [Blocks.dq2, k0_pay43, k0_pay40, k0_pay21, k0_pay7, ds_eq, low_bit, select_ite]
  exact dq_lanes D n q l 2 _ _ (by simp) (by simp; omega)
theorem dq3_apply : (tile D n).dq3 (ix2 q l) = ((D.gQ (tok n q) (head (half l) 3) (lane l) : ℝ) : EReal) := by
  pointwise [Blocks.dq3, k0_pay44, k0_pay40, k0_pay21, k0_pay7, ds_eq, low_bit, select_ite]
  exact dq_lanes D n q l 3 _ _ (by simp) (by simp; omega)

end Cert.Kernel3Ideal.Attn

end
-- ==== Proof.AttnEntry.lean ====
module

public import proofs.«01_k».proof.Proof.AttnFrame
public import proofs.«01_k».proof.Proof.AttnTile
public import Idealize.ShloMosaic.Lib.Pipeline.ValueKit
public import Idealize.ShloMosaic.Lib.StableHlo.ReadAt

@[expose] public section

set_option maxRecDepth 65536
set_option backward.proofsInPublic true

/-! The blocks that the attention backward's points load, from the arguments. -/

noncomputable section

namespace Cert.Kernel3Ideal.Attn

open Idealize.ShloMosaic Idealize.ShloMosaic.TcCoe Idealize.SL.Sem Cert.Kernel3Ideal.Gen Cert.Attn

/-- The arguments hold the data's numbers. -/
structure Holds (m : (ℓ : Loc nD τ sig) → Buf (Elt Ideal) ℓ) (c : Dev nD) (D : Data) : Prop where
  q : m ((c.tc : Thread nD τ).loc main_arg0) = fun i => ((D.Q (i 0) (i 1) (i 2) : ℝ) : EReal)
  k : m ((c.tc : Thread nD τ).loc main_arg1) = fun i => ((D.K (i 0) (i 1) (i 2) : ℝ) : EReal)
  v : m ((c.tc : Thread nD τ).loc main_arg2) = fun i => ((D.V (i 0) (i 1) (i 2) : ℝ) : EReal)
  s : m ((c.tc : Thread nD τ).loc main_arg3) = fun i => ((D.s (i 0) : ℝ) : EReal)
  ct : m ((c.tc : Thread nD τ).loc main_arg4) = fun i => ((D.C (i 0) (i 1) : ℝ) : EReal)

/-- Which bias a point takes. -/
def pick (n : ℕ) : ℕ := if n = 0 then 0 else if n = 31 then 2 else 1

theorem idx_val : ∀ t : Fin cfg0.N, win0_0.index t = ![0, t.val, 0]
    ∧ win0_1.index t = ![0, 0]
    ∧ win0_2.index t = ![0, 0]
    ∧ win0_3.index t = ![0, 0, 0]
    ∧ win0_4.index t = ![pick t.val, 0, 0]
    ∧ win0_5.index t = ![t.val, 0]
    ∧ win0_6.index t = ![t.val, 0]
    ∧ win0_7.index t = ![0, 0]
    ∧ win0_8.index t = ![0, 0]
    ∧ win0_9.index t = ![0, 0] := by decide +kernel

theorem point_lt (t : Fin cfg0.N) : t.val < 32 := N_0 ▸ t.isLt
/-- The tile of a point. -/
def at_ (t : Fin cfg0.N) : Fin 32 := ⟨t.val, point_lt t⟩

theorem pick_lt (n : ℕ) : pick n < 3 := by unfold pick; split_ifs <;> omega

variable (m : (ℓ : Loc nD τ sig) → Buf (Elt Ideal) ℓ) (c : Dev nD) (t : Fin cfg0.N)

theorem blk0 (h : Fin 8) (q l : Fin 128) : iblk m c 0 t (ix3 h q l) = V m c main_v10 (ix3 h (tok (at_ t) q) l) := by
  unfold tok at_
  blk_ext [iblk, idx_val t]
theorem blk1 (u : Fin 4096) (l : Fin 128) : iblk m c 1 t (ix2 u l) = V m c main_v17 (ix2 u l) := by
  blk_ext [iblk, idx_val t]
theorem blk2 (u : Fin 4096) (l : Fin 128) : iblk m c 2 t (ix2 u l) = V m c main_v19 (ix2 u l) := by
  blk_ext [iblk, idx_val t]
theorem blk3 (h : Fin 8) (l : Fin 128) : iblk m c 3 t (ix3 h 0 l) = V m c main_v15 (ix3 h 0 l) := by
  blk_ext [iblk, idx_val t]
theorem blk4 (q : Fin 128) (x : Fin 384) : iblk m c 4 t (ix3 0 q x) = V m c main_v31 (ix3 ⟨pick t.val, pick_lt _⟩ q x) := by
  blk_ext [iblk, idx_val t]
theorem blk5 (q : Fin 128) (x : Fin 512) : iblk m c 5 t (ix2 q x) = V m c main_v13 (ix2 (tok (at_ t) q) x) := by
  unfold tok at_
  blk_ext [iblk, idx_val t]

theorem entry10 (h : Fin 8) (u : Fin 4096) (l : Fin 128) : V m c main_v10 (ix3 h u l)
    = if half l = grp h then m (c, Proc.tc.devRef main_arg0) (ix3 u h (lane l)) else (0 : EReal) := by
  have e (x : Fin 8) (y : Fin 64) (hx : x = h) (hy : y = lane l) :
      m (c, Proc.tc.devRef main_arg0) (ix3 u x y) = m (c, Proc.tc.devRef main_arg0) (ix3 u h (lane l)) := by rw [hx, hy]
  unfold V
  after_reads_at
  by_cases hh : h.val < 4
  · rw [dif_pos hh]
    after_reads_at
    by_cases hl : l.val < 64
    · have hg : half l = grp h := Fin.ext (by simp [half, grp]; omega)
      refine (dif_pos hl).trans (Eq.trans ?_ (if_pos hg).symm)
      exact e _ _ rfl (Fin.ext (by simp [lane] <;> omega))
    · have hg : ¬half l = grp h := fun h' => by simp [half, grp, Fin.ext_iff] at h'; omega
      exact (dif_neg hl).trans (if_neg hg).symm
  · rw [dif_neg hh]
    after_reads_at
    by_cases hl : l.val < 64
    · have hg : ¬half l = grp h := fun h' => by simp [half, grp, Fin.ext_iff] at h'; omega
      exact (dif_pos hl).trans (if_neg hg).symm
    · have hg : half l = grp h := Fin.ext (by simp [half, grp]; omega)
      refine (dif_neg hl).trans (Eq.trans ?_ (if_pos hg).symm)
      exact e _ _ (Fin.ext (by simp <;> omega)) (Fin.ext (by simp [lane] <;> omega))
theorem entry17 (u : Fin 4096) (l : Fin 128) : V m c main_v17 (ix2 u l) = m (c, Proc.tc.devRef main_arg1) (ix3 u (half l) (lane l)) := by
  unfold V
  after_reads_at
  rfl
theorem entry19 (u : Fin 4096) (l : Fin 128) : V m c main_v19 (ix2 u l) = m (c, Proc.tc.devRef main_arg2) (ix3 u (half l) (lane l)) := by
  unfold V
  after_reads_at
  rfl
theorem entry15 (h : Fin 8) (l : Fin 128) : V m c main_v15 (ix3 h 0 l) = m (c, Proc.tc.devRef main_arg3) (ix1 h) := by
  unfold V
  after_reads_at
theorem entry13 (u : Fin 4096) (x : Fin 512) : V m c main_v13 (ix2 u x)
    = m (c, Proc.tc.devRef main_arg4) (ix2 u (col (head ⟨x.val / 64 % 2, by omega⟩ ⟨x.val / 128, by omega⟩) ⟨x.val % 64, by omega⟩)) := by
  unfold V
  after_reads_at
  exact congrArg (fun h => m (c, Proc.tc.devRef main_arg4) (ix2 u h)) (Fin.ext (by simp [col, head]; omega))

theorem bias_bits (p : Fin 3) (q : Fin 128) (x : Fin 384) :
    IntOp.cmpi CmpIPredicate.sle
      (IntOp.absi (IntOp.subi (IntOp.addi (BitVec.ofNat 32 q.val) (IntOp.muli 128#32 (BitVec.ofNat 32 p.val))) (BitVec.ofNat 32 x.val))) 128#32
      = if q.val + 128 * p.val ≤ x.val + 128 ∧ x.val ≤ q.val + 128 * p.val + 128 then 1#1 else 0#1 := by
  have hn (a : ℕ) : BitVec.ofNat 32 a = BitVec.ofInt 32 a := (BitVec.ofInt_natCast 32 a).symm
  have hc : (128#32) = BitVec.ofInt 32 128 := rfl
  have e : IntOp.subi (IntOp.addi (BitVec.ofNat 32 q.val) (IntOp.muli 128#32 (BitVec.ofNat 32 p.val))) (BitVec.ofNat 32 x.val)
      = BitVec.ofInt 32 ((q.val : ℤ) + 128 * p.val - x.val) := by
    rw [hn q.val, hn p.val, hn x.val, hc]
    simp only [IntOp.subi, IntOp.addi, IntOp.muli, BitVec.sub_eq_add_neg, ← BitVec.ofInt_neg, ← BitVec.ofInt_add, ← BitVec.ofInt_mul]
    congr 1
  rw [e]
  simp only [IntOp.cmpi]
  rw [abs_le_bits (by omega)]
  split_ifs with hO
  · rw [decide_eq_true (by omega)]; rfl
  · rw [decide_eq_false (by omega)]; rfl

theorem entry31 (p : Fin 3) (q : Fin 128) (x : Fin 384) : V m c main_v31 (ix3 p q x)
    = if q.val + 128 * p.val ≤ x.val + 128 ∧ x.val ≤ q.val + 128 * p.val + 128 then (0 : EReal) else ⊥ := by
  unfold V
  after_reads_at
  rw [id]
  pointwise []
  rw [bias_bits, select_ite, ofBits_bot]

theorem coord : ∀ t : Fin cfg0.N, (grid0.coords t 0).val = t.val :=
  (fun t => by
    have e0 : (grid0.coords t 0).val = t.val / 1 % 32 := Pipeline.Grid.coords_val t 0 (by decide) rfl
    have := point_lt t
    omega
   : ∀ t : Fin grid0.N, (grid0.coords t 0).val = t.val)

theorem band_row (t : Fin cfg0.N) (y : Fin 384) (l : Fin 128) :
    (band (grid0.coords t)).idx (ix2 y l) = ix2 (key (at_ t) y) l := by
  refine Shape.idx_ext₂ ?_ ?_
  · rw [Rect.idx_unit_val]
    refine (congrArg (· + y.val) (congrFun (off_eq _) 0)).trans ?_
    show start (grid0.coords t) + y.val = Cert.Attn.start (at_ t) + y.val
    unfold start Cert.Attn.start
    rw [coord]; rfl
  · rw [Rect.idx_unit_val]
    exact (congrArg (· + l.val) (congrFun (off_eq _) 1)).trans (Nat.zero_add _)

theorem Blocks.eq_of {A B : Blocks Ideal} (h1 : A.kw = B.kw) (h2 : A.vw = B.vw) (h3 : A.q = B.q) (h4 : A.bias = B.bias)
    (h5 : A.sink = B.sink) (h6 : A.dO = B.dO) : A = B := by
  cases A; cases B; simp_all

variable (D : Data) (H : Holds m c D)
include H

/-- What a point loads is its tile. -/
theorem at0_eq : at0 m c t = tile D (at_ t) := by
  have hk : View.ld (iblk m c 1 t) (band (grid0.coords t)) = (tile D (at_ t)).kw := by
    funext i
    obtain ⟨y, l, rfl⟩ : ∃ y l, i = ix2 y l := ⟨i 0, i 1, eq_ix2 i⟩
    show iblk m c 1 t ((band (grid0.coords t)).idx (ix2 y l)) = _
    rw [band_row, blk1, entry17, congrFun H.k]
    rfl
  have hv : View.ld (iblk m c 2 t) (band (grid0.coords t)) = (tile D (at_ t)).vw := by
    funext i
    obtain ⟨y, l, rfl⟩ : ∃ y l, i = ix2 y l := ⟨i 0, i 1, eq_ix2 i⟩
    show iblk m c 2 t ((band (grid0.coords t)).idx (ix2 y l)) = _
    rw [band_row, blk2, entry19, congrFun H.v]
    rfl
  have hq : iblk m c 0 t = (tile D (at_ t)).q := by
    funext i
    obtain ⟨h, q, l, rfl⟩ : ∃ h q l, i = ix3 h q l := ⟨i 0, i 1, i 2, eq_ix3 i⟩
    rw [blk0, entry10, congrFun H.q]
    show (if half l = grp h then ((D.Q _ h (lane l) : ℝ) : EReal) else 0)
      = (((if half l = grp h then D.Q (tok (at_ t) q) h (lane l) else 0 : ℝ)) : EReal)
    split_ifs
    · rfl
    · rfl
  have hs : iblk m c 3 t = (tile D (at_ t)).sink := by
    funext i
    obtain ⟨h, z, l, rfl⟩ : ∃ h z l, i = ix3 h z l := ⟨i 0, i 1, i 2, eq_ix3 i⟩
    obtain rfl : z = 0 := Subsingleton.elim _ _
    rw [blk3, entry15, congrFun H.s]
    rfl
  have hb : iblk m c 4 t = (tile D (at_ t)).bias := by
    funext i
    obtain ⟨z, q, x, rfl⟩ : ∃ z q x, i = ix3 z q x := ⟨i 0, i 1, i 2, eq_ix3 i⟩
    obtain rfl : z = 0 := Subsingleton.elim _ _
    rw [blk4, entry31]
    show _ = if Near (tok (at_ t) q) (key (at_ t) x) then (0 : EReal) else ⊥
    refine if_congr ?_ rfl rfl
    have := point_lt t
    simp only [Near, tok, key, Cert.Attn.start, at_, pick]
    split_ifs <;> omega
  have hc : iblk m c 5 t = (tile D (at_ t)).dO := by
    funext i
    obtain ⟨q, x, rfl⟩ : ∃ q x, i = ix2 q x := ⟨i 0, i 1, eq_ix2 i⟩
    rw [blk5, entry13, congrFun H.ct]
    rfl
  exact Blocks.eq_of hk hv hq hb hs hc
end Cert.Kernel3Ideal.Attn

end
-- ==== Proof.AttnTotal.lean ====
module

public import proofs.«01_k».proof.Proof.AttnEntry

@[expose] public section

set_option maxRecDepth 65536
set_option backward.proofsInPublic true

/-! What the attention backward leaves after its last point: the gradients. -/

noncomputable section

namespace Cert.Kernel3Ideal.Attn

open Idealize.ShloMosaic Idealize.ShloMosaic.TcCoe Idealize.SL.Sem Cert.Kernel3Ideal.Gen Cert.Attn

/-- The sum over the tiles up to one. -/
def upTo (n : ℕ) (f : Fin 32 → ℝ) : ℝ := ∑ k ∈ Finset.univ.filter fun k : Fin 32 => k.val ≤ n, f k

theorem upTo_zero (f : Fin 32 → ℝ) : upTo 0 f = f 0 := by
  unfold upTo
  rw [show (Finset.univ.filter fun k : Fin 32 => k.val ≤ 0) = {0} from by decide, Finset.sum_singleton]
theorem upTo_succ (n : ℕ) (h : n + 1 < 32) (f : Fin 32 → ℝ) : upTo (n + 1) f = upTo n f + f ⟨n + 1, h⟩ := by
  unfold upTo
  have e : (Finset.univ.filter fun k : Fin 32 => k.val ≤ n + 1) = insert ⟨n + 1, h⟩ (Finset.univ.filter fun k : Fin 32 => k.val ≤ n) := by
    ext k
    simp only [Finset.mem_filter, Finset.mem_univ, true_and, Finset.mem_insert, Fin.ext_iff]
    omega
  rw [e, Finset.sum_insert (by simp), add_comm]
theorem upTo_last (f : Fin 32 → ℝ) : upTo 31 f = ∑ k, f k := by
  unfold upTo
  refine Finset.sum_congr (Finset.filter_true_of_mem fun k _ => by omega) fun _ _ => rfl

/-- An update of a point's band by a function that vanishes off the band. -/
theorem band_add (t : Fin cfg0.N) (z : Vec Ideal S4096x128 .f32) (G : Vec Ideal S384x128 .f32) (T : Fin 4096 → Fin 128 → ℝ)
    (hG : ∀ y l, G (ix2 y l) = View.ld z (band (grid0.coords t)) (ix2 y l) + ((T (key (at_ t) y) l : ℝ) : EReal))
    (hT : ∀ u l, ¬(Cert.Attn.start (at_ t) ≤ u.val ∧ u.val < Cert.Attn.start (at_ t) + 384) → T u l = 0) (u : Fin 4096) (l : Fin 128) :
    (band (grid0.coords t)).overlay z G (ix2 u l) = z (ix2 u l) + ((T u l : ℝ) : EReal) := by
  by_cases hu : Cert.Attn.start (at_ t) ≤ u.val ∧ u.val < Cert.Attn.start (at_ t) + 384
  · obtain ⟨y, rfl⟩ : ∃ y, u = key (at_ t) y := ⟨⟨u.val - Cert.Attn.start (at_ t), by omega⟩, Fin.ext (by simp only [key]; omega)⟩
    rw [← band_row]
    refine ((band (grid0.coords t)).overlay_emb z G (ix2 y l)).trans ((hG y l).trans ?_)
    rfl
  · rw [hT u l hu, EReal.coe_zero, add_zero]
    refine (band (grid0.coords t)).overlay_of_not_mem z G fun hm => hu ?_
    obtain ⟨j, hj⟩ := (band (grid0.coords t)).exists_idx_of_mem hm
    obtain ⟨y, l', rfl⟩ : ∃ (y : Fin 384) (l' : Fin 128), j = ix2 y l' := ⟨j 0, j 1, eq_ix2 j⟩
    rw [band_row] at hj
    have := congrArg Fin.val (congrFun hj 0)
    simp only [key] at this
    change Cert.Attn.start (at_ t) + y.val = u.val at this
    omega

variable (m : (ℓ : Loc nD τ sig) → Buf (Elt Ideal) ℓ) (c : Dev nD) (t : Fin cfg0.N) (D : Data)

theorem step_dk (z : Carried Ideal) (u : Fin 4096) (l : Fin 128) :
    (step (grid0.coords t) (tile D (at_ t)) z).dk (ix2 u l) = z.dk (ix2 u l) + ((tK D (at_ t) (half l) (lane l) u : ℝ) : EReal) :=
  band_add t z.dk _ (fun u l => tK D (at_ t) (half l) (lane l) u) (fun y l => dkAdd_apply D (at_ t) l y _)
    (fun u l hu => tK_off D _ _ _ hu) u l
theorem step_dv (z : Carried Ideal) (u : Fin 4096) (l : Fin 128) :
    (step (grid0.coords t) (tile D (at_ t)) z).dv (ix2 u l) = z.dv (ix2 u l) + ((tV D (at_ t) (half l) (lane l) u : ℝ) : EReal) :=
  band_add t z.dv _ (fun u l => tV D (at_ t) (half l) (lane l) u) (fun y l => dvAdd_apply D (at_ t) l y _)
    (fun u l hu => tV_off D _ _ _ hu) u l

/-- A row's part of a sink's gradient. -/
def tS (n : Fin 32) (h : Fin 8) (q : Fin 128) : ℝ := -(D.corr (tok n q) h * (Real.exp (D.s h) / D.Z (tok n q) h))

/-- What is carried on holds the tiles' parts so far. -/
structure SoFar (n : ℕ) (z : Carried Ideal) : Prop where
  dk : ∀ u l, z.dk (ix2 u l) = ((upTo n fun k => tK D k (half l) (lane l) u : ℝ) : EReal)
  dv : ∀ u l, z.dv (ix2 u l) = ((upTo n fun k => tV D k (half l) (lane l) u : ℝ) : EReal)
  sk : ∀ h q l, z.sk (ix3 h q l) = ((upTo n fun k => tS D k h q : ℝ) : EReal)

theorem cleared_dk (u l) : (cleared (F := Ideal)).dk (ix2 u l) = 0 := by
  pointwise [cleared, k0_pay4]
theorem cleared_dv (u l) : (cleared (F := Ideal)).dv (ix2 u l) = 0 := by
  pointwise [cleared, k0_pay5]
theorem cleared_sk (h q l) : (cleared (F := Ideal)).sk (ix3 h q l) = 0 := by
  pointwise [cleared, k0_pay6]

theorem dq_at (j : Fin 4) (y : S128x128.Idx) (a : Fin 4096) (b : Fin 512) (ha : a.val = 128 * t.val + (y 0).val) (hb : b.val = 128 * j.val + (y 1).val) :
    ((D.gQ (tok (at_ t) (y 0)) (head (half (y 1)) j) (lane (y 1)) : ℝ) : EReal)
      = ((D.gQ a (head ⟨b.val / 64 % 2, by omega⟩ ⟨b.val / 128, by omega⟩) ⟨b.val % 64, by omega⟩ : ℝ) : EReal) := by
  have hy : (y 1).val < 128 := (y 1).isLt
  have e0 : a = tok (at_ t) (y 0) := Fin.ext ha
  have e1 : (⟨b.val / 64 % 2, by omega⟩ : Fin 2) = half (y 1) := Fin.ext (by simp only [half]; omega)
  have e2 : (⟨b.val / 128, by omega⟩ : Fin 4) = j := Fin.ext (by simp only; omega)
  have e3 : (⟨b.val % 64, by omega⟩ : Fin 64) = lane (y 1) := Fin.ext (by simp only [lane]; omega)
  rw [e0, e1, e2, e3]

variable (H : Holds m c D)
include H

theorem carried_soFar : (n : ℕ) → (hn : n < cfg0.N) → SoFar D n (carried m c n hn)
  | 0, h => by
    show SoFar D 0 (step (grid0.coords ⟨0, h⟩) (at0 m c ⟨0, h⟩) cleared)
    rw [at0_eq m c ⟨0, h⟩ D H]
    refine ⟨fun u l => ?_, fun u l => ?_, fun x q l => ?_⟩
    · rw [step_dk, cleared_dk, zero_add, upTo_zero]; rfl
    · rw [step_dv, cleared_dv, zero_add, upTo_zero]; rfl
    · refine (skAdd_apply D _ x q l _).trans ?_
      rw [cleared_sk, zero_add, upTo_zero]; rfl
  | n + 1, h => by
    have ih := carried_soFar n (Nat.lt_of_succ_lt h)
    have hn : n + 1 < 32 := N_0 ▸ h
    show SoFar D (n + 1) (step (grid0.coords ⟨n + 1, h⟩) (at0 m c ⟨n + 1, h⟩) (carried m c n (Nat.lt_of_succ_lt h)))
    rw [at0_eq m c ⟨n + 1, h⟩ D H]
    refine ⟨fun u l => ?_, fun u l => ?_, fun x q l => ?_⟩
    · rw [step_dk, ih.dk, upTo_succ n hn, EReal.coe_add]; rfl
    · rw [step_dv, ih.dv, upTo_succ n hn, EReal.coe_add]; rfl
    · refine (skAdd_apply D _ x q l _).trans ?_
      rw [ih.sk, upTo_succ n hn, EReal.coe_add]; rfl

/-- The last point. -/
def last : Fin cfg0.N := ⟨31, by rw [show cfg0.N = 32 from N_0]; decide⟩

theorem out_dk : (dats m 0 c).arrAt 7 cfg0.N = fun i => ((D.gK (i 0) (half (i 1)) (lane (i 1)) : ℝ) : EReal) := by
  refine (dats m 0 c).arrAt_eq_of_after_last 7 last (by decide +kernel) _ fun y => ?_
  blk_simp [idx_val last]
  rw [after7]
  obtain ⟨u, l, rfl⟩ : ∃ (u : Fin 4096) (l : Fin 128), y = ix2 u l := ⟨y 0, y 1, eq_ix2 y⟩
  refine ((carried_soFar m c D H last.val last.isLt).dk u l).trans ?_
  rw [show last.val = 31 from rfl, upTo_last]; rfl
theorem out_dv : (dats m 0 c).arrAt 8 cfg0.N = fun i => ((D.gV (i 0) (half (i 1)) (lane (i 1)) : ℝ) : EReal) := by
  refine (dats m 0 c).arrAt_eq_of_after_last 8 last (by decide +kernel) _ fun y => ?_
  blk_simp [idx_val last]
  rw [after8]
  obtain ⟨u, l, rfl⟩ : ∃ (u : Fin 4096) (l : Fin 128), y = ix2 u l := ⟨y 0, y 1, eq_ix2 y⟩
  refine ((carried_soFar m c D H last.val last.isLt).dv u l).trans ?_
  rw [show last.val = 31 from rfl, upTo_last]; rfl
theorem out_ds : (dats m 0 c).arrAt 9 cfg0.N = fun i => ((D.gs (i 0) : ℝ) : EReal) := by
  refine (dats m 0 c).arrAt_eq_of_after_last 9 last (by decide +kernel) _ fun y => ?_
  blk_simp [idx_val last]
  rw [after9]
  obtain ⟨h, l, rfl⟩ : ∃ (h : Fin 8) (l : Fin 128), y = ix2 h l := ⟨y 0, y 1, eq_ix2 y⟩
  have e := (carried_soFar m c D H last.val last.isLt).sk
  generalize (carried m c last.val last.isLt).sk = z at e ⊢
  have e' : k0_pay3 z (ix2 h l) = ((∑ q, upTo last.val fun k => tS D k h q : ℝ) : EReal) := by
    pointwise [k0_pay3, e]
    rw [coe_sum]
  refine e'.trans ?_
  simp only [show last.val = 31 from rfl, upTo_last]
  rw [Finset.sum_comm]; rfl

theorem out_dq : (dats m 0 c).arrAt 6 cfg0.N = fun i => ((D.gQ (i 0) (head ⟨(i 1).val / 64 % 2, by omega⟩
    ⟨(i 1).val / 128, by have := (i 1).isLt; change _ < 512 at this; omega⟩) ⟨(i 1).val % 64, by omega⟩ : ℝ) : EReal) := by
  refine (dats m 0 c).arrAt_eq_of_covers 6 _ (by decide +kernel) fun t hf y => ?_
  blk_simp [idx_val t]
  rw [after6, at0_eq m c t D H]
  unfold Blocks.dqStores
  canon_tiles y h
  · refine ((congrArg (tile D (at_ t)).dq3 (eq_ix2 y)).trans (dq3_apply D (at_ t) (y 0) (y 1))).trans ?_
    exact dq_at t D 3 y _ _ (by blk_simp [idx_val t]; omega) (by rw [h1]; rfl)
  · refine ((congrArg (tile D (at_ t)).dq2 (eq_ix2 y)).trans (dq2_apply D (at_ t) (y 0) (y 1))).trans ?_
    exact dq_at t D 2 y _ _ (by blk_simp [idx_val t]; omega) (by rw [h1]; rfl)
  · refine ((congrArg (tile D (at_ t)).dq1 (eq_ix2 y)).trans (dq1_apply D (at_ t) (y 0) (y 1))).trans ?_
    exact dq_at t D 1 y _ _ (by blk_simp [idx_val t]; omega) (by rw [h1]; rfl)
  · refine ((congrArg (tile D (at_ t)).dq0 (eq_ix2 y)).trans (dq0_apply D (at_ t) (y 0) (y 1))).trans ?_
    exact dq_at t D 0 y _ _ (by blk_simp [idx_val t]; omega) (by rw [h1]; exact (Nat.zero_add _).symm)
end Cert.Kernel3Ideal.Attn

end
-- ==== Proof.AttnScores.lean ====
module

public import proofs.«01_k».proof.Proof.Gen.Reference3Ideal.Read
public import proofs.«01_k».proof.Proof.AttnReal
public import Idealize.ShloMosaic.Lib.Pointwise

@[expose] public section

set_option maxRecDepth 16384
set_option backward.proofsInPublic true

noncomputable section

namespace Cert.Reference3Ideal.Attn

open Idealize.ShloMosaic Cert.Reference3Ideal.Read Cert.Attn

variable (D : Data)

def xq : (⟨S4096x8x64, .f32⟩ : BufTy).Contents (Elt Ideal) := fun i => ((D.Q (i 0) (i 1) (i 2) : ℝ) : EReal)
def xk : (⟨S4096x2x64, .f32⟩ : BufTy).Contents (Elt Ideal) := fun i => ((D.K (i 0) (i 1) (i 2) : ℝ) : EReal)
def xv : (⟨S4096x2x64, .f32⟩ : BufTy).Contents (Elt Ideal) := fun i => ((D.V (i 0) (i 1) (i 2) : ℝ) : EReal)
def xs : (⟨S8, .f32⟩ : BufTy).Contents (Elt Ideal) := fun i => ((D.s (i 0) : ℝ) : EReal)
def xc : (⟨S4096x512, .f32⟩ : BufTy).Contents (Elt Ideal) := fun i => ((D.C (i 0) (i 1) : ℝ) : EReal)

theorem fold_max_attained {ι : Type*} (S : Finset ι) (f : ι → EReal) (hS : S.Nonempty) :
    ∃ i ∈ S, f i = S.fold max ⊥ f := by
  classical
  induction hS using Finset.Nonempty.cons_induction with
  | singleton a => exact ⟨a, Finset.mem_singleton_self a, by simp⟩
  | cons a S ha hS ih =>
    obtain ⟨i, hi, e⟩ := ih
    rw [Finset.fold_cons]
    rcases max_choice (f a) (S.fold max ⊥ f) with h | h
    · exact ⟨a, Finset.mem_cons_self a S, h.symm⟩
    · exact ⟨i, Finset.mem_cons_of_mem hi, e.trans h.symm⟩

theorem uitofp_one : FloatOps.uitofp (F := Ideal) FTy.f32 (BitVec.ofBool true) = (1 : EReal) := by
  show ((((1 : ℕ) : ℝ)) : EReal) = 1
  norm_num
theorem uitofp_zero : FloatOps.uitofp (F := Ideal) FTy.f32 (BitVec.ofBool false) = (0 : EReal) := by
  show ((((BitVec.ofBool false).toNat : ℝ)) : EReal) = 0
  norm_num

/-- A position of a tile's window holds a key that the row sees. -/
abbrev Ok (n : Fin 32) (q : Fin 128) (c : Fin 384) : Prop :=
  (128 ≤ 128 * n.val + c.val ∧ 128 * n.val + c.val < 4224) ∧ q.val ≤ c.val ∧ c.val ≤ q.val + 256

theorem window_slot (n : Fin 32) (c : Fin 384) (f : Fin 4096 → ℝ) :
    (if h : c.val < 128 then
      if h : n.val * 128 + c.val < 128 then (0 : EReal)
      else if h1 : n.val * 128 + c.val - 128 < 4096 then (f ⟨n.val * 128 + c.val - 128, h1⟩ : EReal) else 0
    else
      if h : c.val - 128 < 128 then
        if h : (1 + n.val) * 128 + (c.val - 128) < 128 then 0
        else
          if h1 : (1 + n.val) * 128 + (c.val - 128) - 128 < 4096 then (f ⟨(1 + n.val) * 128 + (c.val - 128) - 128, h1⟩ : EReal)
          else 0
      else
        if h : (2 + n.val) * 128 + (c.val - 128 - 128) < 128 then 0
        else
          if h1 : (2 + n.val) * 128 + (c.val - 128 - 128) - 128 < 4096 then
            (f ⟨(2 + n.val) * 128 + (c.val - 128 - 128) - 128, h1⟩ : EReal)
          else 0) = ((slot f (128 * n.val + c.val) : ℝ) : EReal) := by
  have A (y z : ℕ) (hz : y = z) : (if h : y < 128 then (0 : EReal) else if h1 : y - 128 < 4096 then (f ⟨y - 128, h1⟩ : EReal) else 0)
      = ((slot f z : ℝ) : EReal) := by
    subst hz
    by_cases h : y < 128
    · rw [dif_pos h, slot_out f (by omega), EReal.coe_zero]
    · rw [dif_neg h]
      by_cases h1 : y - 128 < 4096
      · rw [dif_pos h1, slot_in f (by omega)]
      · rw [dif_neg h1, slot_out f (by omega), EReal.coe_zero]
  by_cases h : c.val < 128
  · rw [dif_pos h]; refine A _ _ ?_; omega
  · rw [dif_neg h]
    by_cases h' : c.val - 128 < 128
    · rw [dif_pos h']; refine A _ _ ?_; omega
    · rw [dif_neg h']; refine A _ _ ?_; omega

theorem mask_bits (n : Fin 32) (q : Fin 128) (c : Fin 384) :
    IntOp.andi
      (IntOp.andi
        (IntOp.cmpi CmpIPredicate.sle
          (IntOp.absi
            (IntOp.subi (IntOp.addi (IntOp.muli (BitVec.ofNat 32 n.val) 128#32) (BitVec.ofNat 32 q.val))
              (IntOp.addi (IntOp.subi (IntOp.muli (BitVec.ofNat 32 n.val) 128#32) 128#32) (BitVec.ofNat 32 c.val))))
          128#32)
        (IntOp.cmpi CmpIPredicate.sge
          (IntOp.addi (IntOp.subi (IntOp.muli (BitVec.ofNat 32 n.val) 128#32) 128#32) (BitVec.ofNat 32 c.val)) 0#32))
      (IntOp.cmpi CmpIPredicate.slt
        (IntOp.addi (IntOp.subi (IntOp.muli (BitVec.ofNat 32 n.val) 128#32) 128#32) (BitVec.ofNat 32 c.val)) 4096#32) =
    if Ok n q c then 1 else 0 := by
  have hn (a : ℕ) : BitVec.ofNat 32 a = BitVec.ofInt 32 a := (BitVec.ofInt_natCast 32 a).symm
  have hc : (128#32) = BitVec.ofInt 32 128 := rfl
  have h0 : (0#32) = BitVec.ofInt 32 0 := rfl
  have h4 : (4096#32) = BitVec.ofInt 32 4096 := rfl
  have e1 : IntOp.subi (IntOp.addi (IntOp.muli (BitVec.ofNat 32 n.val) 128#32) (BitVec.ofNat 32 q.val))
      (IntOp.addi (IntOp.subi (IntOp.muli (BitVec.ofNat 32 n.val) 128#32) 128#32) (BitVec.ofNat 32 c.val))
      = BitVec.ofInt 32 ((q.val : ℤ) + 128 - c.val) := by
    rw [hn n.val, hn q.val, hn c.val, hc]
    simp only [IntOp.subi, IntOp.addi, IntOp.muli, BitVec.sub_eq_add_neg, ← BitVec.ofInt_neg, ← BitVec.ofInt_add, ← BitVec.ofInt_mul]
    congr 1; ring
  have e2 : IntOp.addi (IntOp.subi (IntOp.muli (BitVec.ofNat 32 n.val) 128#32) 128#32) (BitVec.ofNat 32 c.val)
      = BitVec.ofInt 32 (128 * (n.val : ℤ) + c.val - 128) := by
    rw [hn n.val, hn c.val, hc]
    simp only [IntOp.subi, IntOp.addi, IntOp.muli, BitVec.sub_eq_add_neg, ← BitVec.ofInt_neg, ← BitVec.ofInt_add, ← BitVec.ofInt_mul]
    congr 1; ring
  rw [e1, e2]
  simp only [IntOp.cmpi]
  rw [abs_le_bits (by omega), h0, h4, le_bits (by omega) (by omega), lt_bits (by omega) (by omega)]
  by_cases hO : Ok n q c
  · rw [if_pos hO, decide_eq_true (by omega), decide_eq_true (by omega), decide_eq_true (by omega)]; rfl
  · rw [if_neg hO]
    by_cases h1 : -128 ≤ (q.val : ℤ) + 128 - c.val ∧ (q.val : ℤ) + 128 - c.val ≤ 128
    · by_cases h2 : (0 : ℤ) ≤ 128 * (n.val : ℤ) + c.val - 128
      · rw [decide_eq_true h1, decide_eq_true h2, decide_eq_false (by omega)]; rfl
      · rw [decide_eq_true h1, decide_eq_false h2, decide_eq_true (by omega)]; rfl
    · rw [decide_eq_false h1]
      by_cases h2 : (0 : ℤ) ≤ 128 * (n.val : ℤ) + c.val - 128
      · rw [decide_eq_true h2]
        by_cases h3 : 128 * (n.val : ℤ) + c.val - 128 < (4096 : ℤ)
        · rw [decide_eq_true h3]; rfl
        · rw [decide_eq_false h3]; rfl
      · rw [decide_eq_false h2, decide_eq_true (by omega)]; rfl

theorem v16 (n : Fin 32) (c : Fin 384) (g : Fin 2) (d : Fin 64) :
    val_main_v16 (F := Ideal) (xk D) (ix5 0 n c g d) = ((slot (fun u => D.K u g d) (128 * n.val + c.val) : ℝ) : EReal) := by
  pointwise [val_main_v16, val_main_v15, val_main_v14, val_main_v13, val_main_v7, val_main_v4, val_main_v3, val_main_cst, val_main_v1, xk]
  exact window_slot n c fun u => D.K u g d

theorem v20 (n : Fin 32) (c : Fin 384) (g : Fin 2) (d : Fin 64) :
    val_main_v20 (F := Ideal) (xv D) (ix5 0 n c g d) = ((slot (fun u => D.V u g d) (128 * n.val + c.val) : ℝ) : EReal) := by
  pointwise [val_main_v20, val_main_v19, val_main_v18, val_main_v17, val_main_v12, val_main_v9, val_main_v8, val_main_cst_2, val_main_v2, xv]
  exact window_slot n c fun u => D.V u g d

theorem v21 (n : Fin 32) (q : Fin 128) (g : Fin 2) (r : Fin 4) (d : Fin 64) :
    val_main_v21 (F := Ideal) (xq D) (ix6 0 n q g r d) = ((D.Q (tok n q) (head g r) d : ℝ) : EReal) := by
  pointwise [val_main_v21, val_main_v0, xq, tok, head, Nat.mul_comm]

theorem v110 (n : Fin 32) (q : Fin 128) (g : Fin 2) (r : Fin 4) (d : Fin 64) :
    val_main_v110 (F := Ideal) (xc D) (ix6 0 n g d r q) = ((D.C (tok n q) (col (head g r) d) : ℝ) : EReal) := by
  pointwise [val_main_v110, val_main_v109, val_main_v108, xc]
  congr 2 <;> (simp only [tok, head, col, Fin.mk.injEq]; omega)

theorem v63 (g : Fin 2) (r : Fin 4) :
    val_main_v63 (F := Ideal) (xs D) (ix6 0 0 g r 0 0) = ((D.s (head g r) : ℝ) : EReal) := by
  pointwise [val_main_v63, val_main_v62, xs, head, Nat.mul_comm]

theorem v61_1 (n : Fin 32) (q : Fin 128) (g : Fin 2) (r : Fin 4) (c : Fin 384) :
    val_main_v61_1 (F := Ideal) (ix6 0 n g r q c) = if Ok n q c then 1 else 0 := by
  pointwise [val_main_v61_1, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c, val_main_c_6, val_main_c_7, val_main_c_8, val_main_c_9]
  exact mask_bits n q c

theorem v25 (n : Fin 32) (q : Fin 128) (g : Fin 2) (r : Fin 4) (c : Fin 384) :
    val_main_v25 (F := Ideal) (xq D) (xk D) (ix6 0 n g r q c)
      = ((slot (fun u => D.score (tok n q) (head g r) u) (128 * n.val + c.val) : ℝ) : EReal) := by
  pointwise [val_main_v25, val_main_v24, val_main_v23, val_main_v22, val_main_cst_5, v16, v21]
  rw [ofBits_eighth]
  simp only [← EReal.coe_mul, ← coe_sum, slot_mul_const, slot_sum, Data.score, grp_head]

/-- The scores: the masked ones are `⊥`. -/
theorem v61 (n : Fin 32) (q : Fin 128) (g : Fin 2) (r : Fin 4) (c : Fin 384) :
    val_main_v61_0 (F := Ideal) (xq D) (xk D) (ix6 0 n g r q c)
      = if Ok n q c then ((slot (fun u => D.score (tok n q) (head g r) u) (128 * n.val + c.val) : ℝ) : EReal) else ⊥ := by
  pointwise [val_main_v61_0, v25, v61_1, val_main_call0_v2, val_main_call0_v0, val_main_cst_10]
  rw [show (id (constant (F := Ideal) S_ FTy.f32 4286578688#32) ix0) = ⊥ from ofBits_bot]
  by_cases h : Ok n q c
  · rw [if_pos h, if_pos h]; rfl
  · rw [if_neg h, if_neg h]; rfl

theorem drop_row (a : Fin 1) (n : Fin 32) (g : Fin 2) (r : Fin 4) (q : Fin 128) (c : Fin 384) :
    Gen.reducesTo_S1x32x2x4x128x384_S1x32x2x4x128_d5.drop (ix6 a n g r q c) = ix5 a n g r q := by
  funext b
  fin_cases b <;> rfl

theorem v61_ne_top (i : S1x32x2x4x128x384.Idx) : val_main_v61_0 (F := Ideal) (xq D) (xk D) i ≠ ⊤ := by
  idx_vars i
  rw [Subsingleton.elim i0 0, v61]
  exact masked_ne_top _ _

/-- The largest score of a row: below `⊤`, and one of the scores. -/
theorem v64 (n : Fin 32) (q : Fin 128) (g : Fin 2) (r : Fin 4) :
    val_main_v64 (F := Ideal) (xq D) (xk D) (ix5 0 n g r q) ≠ ⊤ ∧
      ∃ c, val_main_v61_0 (F := Ideal) (xq D) (xk D) (ix6 0 n g r q c) = val_main_v64 (F := Ideal) (xq D) (xk D) (ix5 0 n g r q) := by
  pointwise [val_main_v64, val_main_cst_11]
  rw [ofBits_bot]
  refine ⟨fold_max_ne_top _ _ (v61_ne_top D) bot_ne_top, ?_⟩
  obtain ⟨i, hi, e⟩ := fold_max_attained (Finset.univ.filter fun i => Gen.reducesTo_S1x32x2x4x128x384_S1x32x2x4x128_d5.drop i = ix5 0 n g r q)
    (val_main_v61_0 (F := Ideal) (xq D) (xk D)) ⟨ix6 0 n g r q 0, by
      rw [Finset.mem_filter]; exact ⟨Finset.mem_univ _, drop_row 0 n g r q 0⟩⟩
  rw [Finset.mem_filter] at hi
  refine ⟨i 5, ?_⟩
  rw [← e]
  congr 1
  have h := hi.2
  idx_vars i
  rw [drop_row] at h
  have e (a) := congrFun h a
  have e1 := e 1; have e2 := e 2; have e3 := e 3; have e4 := e 4
  simp only [ix5_1, ix5_2, ix5_3, ix5_4] at e1 e2 e3 e4
  rw [e1, e2, e3, e4, Subsingleton.elim i0 0]

theorem v70 (n : Fin 32) (q : Fin 128) (g : Fin 2) (r : Fin 4) :
    val_main_v70 (F := Ideal) (xq D) (xk D) (ix6 0 n g r q 0) = val_main_v64 (F := Ideal) (xq D) (xk D) (ix5 0 n g r q) := by
  rw [val_main_v70_apply]
  exact congrArg _ (eq_ix5 _)

/-- The shift of a row, a real number. -/
def shift (n : Fin 32) (q : Fin 128) (g : Fin 2) (r : Fin 4) : ℝ :=
  (max (val_main_v64 (F := Ideal) (xq D) (xk D) (ix5 0 n g r q)) ((D.s (head g r) : ℝ) : EReal)).toReal

theorem v72 (n : Fin 32) (q : Fin 128) (g : Fin 2) (r : Fin 4) :
    val_main_v72 (F := Ideal) (xq D) (xk D) (xs D) (ix6 0 n g r q 0) = ((shift D n q g r : ℝ) : EReal) := by
  rw [val_main_v72_apply, v70]
  pointwise [val_main_v71, v63]
  exact (max_real (v64 D n q g r).1 _).symm

/-- The number of scores that reach the largest is not zero. -/
theorem v69 (n : Fin 32) (q : Fin 128) (g : Fin 2) (r : Fin 4) :
    val_main_v69 (F := Ideal) (xq D) (xk D) (ix5 0 n g r q) ≠ 0 := by
  obtain ⟨c, hc⟩ := (v64 D n q g r).2
  have hk (k : Fin 384) : val_main_v68 (F := Ideal) (xq D) (xk D) (idx_main_v69 (ix5 0 n g r q) k)
      = if val_main_v61_0 (F := Ideal) (xq D) (xk D) (ix6 0 n g r q k) = val_main_v64 (F := Ideal) (xq D) (xk D) (ix5 0 n g r q)
        then 1 else 0 := by
    rw [val_main_v68_apply, val_main_v67_apply, show idx_main_v69 (ix5 0 n g r q) k = ix6 0 n g r q k from eq_ix6 _]
    pointwise [val_main_v66, val_main_v65]
    by_cases h : val_main_v61_0 (F := Ideal) (xq D) (xk D) (ix6 0 n g r q k) = val_main_v64 (F := Ideal) (xq D) (xk D) (ix5 0 n g r q)
    · rw [if_pos h, decide_eq_true h]; exact uitofp_one
    · rw [if_neg h, decide_eq_false h]; exact uitofp_zero
  rw [val_main_v69_apply, Finset.sum_congr rfl fun k _ => hk k]
  pointwise [val_main_cst_12]
  have h1 : (1 : EReal) ≤ ∑ k : Fin 384, if val_main_v61_0 (F := Ideal) (xq D) (xk D) (ix6 0 n g r q k) = val_main_v64 (F := Ideal) (xq D) (xk D) (ix5 0 n g r q)
        then 1 else 0 := by
    refine le_trans (by rw [if_pos hc]) (Finset.single_le_sum (f := fun k : Fin 384 => if val_main_v61_0 (F := Ideal) (xq D) (xk D) (ix6 0 n g r q k) = val_main_v64 (F := Ideal) (xq D) (xk D) (ix5 0 n g r q)
        then (1 : EReal) else 0) (fun k _ => by dsimp only; split_ifs <;> simp) (Finset.mem_univ c))
  exact (lt_of_lt_of_le zero_lt_one h1).ne'

end Cert.Reference3Ideal.Attn

end
-- ==== Proof.AttnRef.lean ====
module

public import proofs.«01_k».proof.Proof.AttnScores

@[expose] public section

set_option maxRecDepth 16384
set_option backward.proofsInPublic true

noncomputable section

namespace Cert.Reference3Ideal.Attn

open Idealize.ShloMosaic Cert.Reference3Ideal.Read Cert.Attn

variable (D : Data)

/-- The factor by which a row's shift scales its exponentials. -/
def ex (n : Fin 32) (q : Fin 128) (g : Fin 2) (r : Fin 4) : ℝ := Real.exp (-shift D n q g r)
theorem ex_ne (n : Fin 32) (q : Fin 128) (g : Fin 2) (r : Fin 4) : ex D n q g r ≠ 0 := (Real.exp_pos _).ne'

theorem slot_E (n : Fin 32) (q : Fin 128) (h : Fin 8) (c : Fin 384) :
    slot (D.E (tok n q) h) (128 * n.val + c.val)
      = if Ok n q c then Real.exp (slot (D.score (tok n q) h) (128 * n.val + c.val)) else 0 := by
  by_cases hx : 128 ≤ 128 * n.val + c.val ∧ 128 * n.val + c.val < 4224
  · rw [slot_in _ hx, slot_in _ hx]
    have : Ok n q c ↔ Near (tok n q) ⟨128 * n.val + c.val - 128, by omega⟩ := by
      simp only [Ok, Near, tok]; omega
    unfold Data.E
    by_cases hn : Ok n q c
    · rw [if_pos hn, if_pos (this.mp hn)]
    · rw [if_neg hn, if_neg (fun h => hn (this.mpr h))]
  · rw [slot_out _ hx, if_neg fun h => hx h.1]

variable (n : Fin 32) (q : Fin 128) (g : Fin 2) (r : Fin 4) (c : Fin 384)

theorem v93 : val_main_v93 (F := Ideal) (xq D) (xk D) (xs D) (ix6 0 n g r q c)
      = ((slot (D.E (tok n q) (head g r)) (128 * n.val + c.val) * ex D n q g r : ℝ) : EReal) := by
  pointwise [val_main_v93, val_main_v92, val_main_v91, v72, v61]
  rw [slot_E]
  exact exp_masked _ _ _

theorem v98 : val_main_v98 (F := Ideal) (xq D) (xk D) (xs D) (ix6 0 n g r q 0)
      = ((Real.exp (D.s (head g r)) * ex D n q g r : ℝ) : EReal) := by
  rw [val_main_v98_apply, val_main_v97_apply, v72]
  pointwise [val_main_v96, v63]
  rw [← EReal.coe_sub, exp_coe, sub_eq_add_neg, Real.exp_add]; rfl

theorem v94 : val_main_v94 (F := Ideal) (xq D) (xk D) (xs D) (ix5 0 n g r q)
      = (((∑ u, D.E (tok n q) (head g r) u) * ex D n q g r : ℝ) : EReal) := by
  rw [val_main_v94_apply]
  simp only [show ∀ k, idx_main_v94 (ix5 0 n g r q) k = ix6 0 n g r q k from fun k => eq_ix6 _, v93, ← coe_sum]
  pointwise [val_main_cst_19]
  rw [← Finset.sum_mul, sum_slot_near n q _ (D.E_far _ _)]

theorem v99 : val_main_v99 (F := Ideal) (xq D) (xk D) (xs D) (ix6 0 n g r q 0)
      = ((D.Z (tok n q) (head g r) * ex D n q g r : ℝ) : EReal) := by
  rw [val_main_v99_apply, v98]
  pointwise [val_main_v95, v94]
  rw [← EReal.coe_add, ← add_mul]; rfl

theorem zx_ne : D.Z (tok n q) (head g r) * ex D n q g r ≠ 0 := mul_ne_zero (D.Z_ne _ _) (ex_ne D n q g r)

theorem v101 : val_main_v101 (F := Ideal) (xq D) (xk D) (xs D) (ix6 0 n g r q c)
      = ((slot (D.P (tok n q) (head g r)) (128 * n.val + c.val) : ℝ) : EReal) := by
  rw [val_main_v101_apply, v93]
  pointwise [val_main_v100, v99]
  rw [div_coe _ (zx_ne D n q g r), mul_div_mul_right _ _ (ex_ne D n q g r), div_eq_mul_inv, slot_mul_const]; rfl

theorem v104 : val_main_v104 (F := Ideal) (xq D) (xk D) (xs D) (ix6 0 n g r q 0)
      = ((1 / ((D.Z (tok n q) (head g r) * ex D n q g r) * (D.Z (tok n q) (head g r) * ex D n q g r)) : ℝ) : EReal) := by
  pointwise [val_main_v104, val_main_v103, val_main_v102, val_main_cst_20, v99]
  rw [← EReal.coe_mul, ← EReal.coe_one, div_coe _ (mul_ne_zero (zx_ne D n q g r) (zx_ne D n q g r))]

theorem v111 : val_main_v111 (F := Ideal) (xv D) (xc D) (ix6 0 n g r q c)
      = ((slot (D.dP (tok n q) (head g r)) (128 * n.val + c.val) : ℝ) : EReal) := by
  pointwise [val_main_v111, v110, v20]
  simp only [← EReal.coe_mul, ← coe_sum]
  simp only [mul_comm (D.C _ _), slot_mul_const, slot_sum]
  refine congrArg _ (slot_congr (fun u => ?_) _)
  unfold Data.dP; rw [grp_head]; exact Finset.sum_congr rfl fun d _ => mul_comm _ _

theorem v119 : val_main_v119 (F := Ideal) (xq D) (xk D) (xv D) (xs D) (xc D) (ix6 0 n g r q 0)
      = ((-(D.corr (tok n q) (head g r) / (D.Z (tok n q) (head g r) * ex D n q g r)) : ℝ) : EReal) := by
  rw [val_main_v119_apply]
  pointwise [val_main_v118]
  rw [val_main_v117_apply]
  simp only [show ∀ k, idx_main_v117 (ix5 0 n g r q) k = ix6 0 n g r q k from fun k => eq_ix6 _, val_main_v116_apply,
    val_main_v115_apply, v93, v111]
  pointwise [val_main_v114, v104, val_main_cst_21]
  simp only [← EReal.coe_mul, ← coe_sum, ← EReal.coe_neg]
  refine congrArg (fun a : ℝ => (a : EReal)) (congrArg (fun a : ℝ => -a) ?_)
  rw [D.corr_eq, ← sum_slot_near n q _ fun u hu => by rw [D.E_far _ _ _ hu, zero_mul], Finset.sum_div, Finset.sum_div]
  refine Finset.sum_congr rfl fun c _ => ?_
  rw [← slot_mul]
  have := ex_ne D n q g r
  have := D.Z_ne (tok n q) (head g r)
  field_simp

theorem v121 : val_main_v121 (F := Ideal) (xq D) (xk D) (xv D) (xs D) (xc D) (ix6 0 n g r q c)
      = ((slot (D.dP (tok n q) (head g r)) (128 * n.val + c.val) / (D.Z (tok n q) (head g r) * ex D n q g r) : ℝ) : EReal) := by
  rw [val_main_v121_apply, v111]
  pointwise [val_main_v120, v99]
  exact div_coe _ (zx_ne D n q g r)

theorem filter_row : (Finset.univ.filter fun i => Gen.reducesTo_S1x32x2x4x128x1_S32x2x4x128_d0_5.drop i = ix4 n g r q)
    = {ix6 0 n g r q 0} := by
  ext i
  idx_vars i
  rw [Finset.mem_filter, Finset.mem_singleton, Subsingleton.elim i0 0, Subsingleton.elim i5 0]
  have hd : Gen.reducesTo_S1x32x2x4x128x1_S32x2x4x128_d0_5.drop (ix6 0 i1 i2 i3 i4 0) = ix4 i1 i2 i3 i4 := by
    funext b; fin_cases b <;> rfl
  rw [hd]
  constructor
  · intro h
    have e (a) := congrFun h.2 a
    have e0 := e 0; have e1 := e 1; have e2 := e 2; have e3 := e 3
    simp only [ix4_0, ix4_1, ix4_2, ix4_3] at e0 e1 e2 e3
    rw [e0, e1, e2, e3]
  · intro h
    have e (a) := congrFun h a
    have e0 := e 1; have e1 := e 2; have e2 := e 3; have e3 := e 4
    simp only [ix6_1, ix6_2, ix6_3, ix6_4] at e0 e1 e2 e3
    rw [e0, e1, e2, e3]; exact ⟨Finset.mem_univ _, rfl⟩

theorem sum_tiles (f : S1x32x2x4x128x1.Idx → EReal) :
    ∑ i with Gen.reducesTo_S1x32x2x4x128x1_S1x2x4x1_d1_4.drop i = ix4 0 g r 0, f i = ∑ n, ∑ q, f (ix6 0 n g r q 0) := by
  rw [← Fintype.sum_prod_type']
  refine Finset.sum_nbij' (fun i => ((i 1 : Fin 32), (i 4 : Fin 128))) (fun p => ix6 0 p.1 g r p.2 0) (fun _ _ => Finset.mem_univ _)
    (fun p _ => ?_) (fun i hi => ?_) (fun _ _ => rfl) (fun i hi => ?_)
  · rw [Finset.mem_filter]
    refine ⟨Finset.mem_univ _, ?_⟩
    funext b; fin_cases b <;> rfl
  · have h := (Finset.mem_filter.mp hi).2
    idx_vars i
    have hd : Gen.reducesTo_S1x32x2x4x128x1_S1x2x4x1_d1_4.drop (ix6 i0 i1 i2 i3 i4 i5) = ix4 i0 i2 i3 i5 := by
      funext b; fin_cases b <;> rfl
    rw [hd] at h
    have e (a) := congrFun h a
    have e0 := e 0; have e1 := e 1; have e2 := e 2; have e3 := e 3
    simp only [ix4_0, ix4_1, ix4_2, ix4_3] at e0 e1 e2 e3
    rw [e0, e1, e2, e3]
  · have h := (Finset.mem_filter.mp hi).2
    idx_vars i
    have hd : Gen.reducesTo_S1x32x2x4x128x1_S1x2x4x1_d1_4.drop (ix6 i0 i1 i2 i3 i4 i5) = ix4 i0 i2 i3 i5 := by
      funext b; fin_cases b <;> rfl
    rw [hd] at h
    have e (a) := congrFun h a
    have e0 := e 0; have e1 := e 1; have e2 := e 2; have e3 := e 3
    simp only [ix4_0, ix4_1, ix4_2, ix4_3] at e0 e1 e2 e3
    rw [e0, e1, e2, e3]

theorem v126 : val_main_v126 (F := Ideal) (xq D) (xk D) (xv D) (xs D) (xc D) (ix4 n g r q)
      = val_main_v119 (F := Ideal) (xq D) (xk D) (xv D) (xs D) (xc D) (ix6 0 n g r q 0) := by
  pointwise [val_main_v126, val_main_cst_23]
  unfold Ideal.hostReduceAdd
  rw [zero_add, filter_row, Finset.sum_singleton]

theorem v122 : val_main_v122 (F := Ideal) (xq D) (xk D) (xv D) (xs D) (xc D) (ix6 0 n g r q 0)
      = ((-(D.corr (tok n q) (head g r) * (Real.exp (D.s (head g r)) / D.Z (tok n q) (head g r))) : ℝ) : EReal) := by
  rw [val_main_v122_apply, v119, v98]
  pointwise []
  rw [← EReal.coe_mul]
  congr 1
  have := ex_ne D n q g r
  have := D.Z_ne (tok n q) (head g r)
  field_simp

theorem v130 : val_main_v130 (F := Ideal) (xq D) (xk D) (xv D) (xs D) (xc D) (ix6 0 n g r q c)
      = ((slot (D.dS (tok n q) (head g r)) (128 * n.val + c.val) : ℝ) : EReal) := by
  rw [val_main_v130_apply, val_main_v129_apply, v121, v93]
  pointwise [val_main_v128, val_main_v127, v126, v119]
  rw [← EReal.coe_add, ← EReal.coe_mul]
  congr 1
  have := ex_ne D n q g r
  have := D.Z_ne (tok n q) (head g r)
  by_cases hx : 128 ≤ 128 * n.val + c.val ∧ 128 * n.val + c.val < 4224
  · rw [slot_in _ hx, slot_in _ hx, slot_in _ hx]
    unfold Data.dS Data.P
    field_simp
    ring
  · rw [slot_out _ hx, slot_out _ hx, slot_out _ hx, zero_mul, mul_zero]

theorem v133 : val_main_v133 (F := Ideal) (xq D) (xk D) (xv D) (xs D) (xc D) (ix6 0 n g r q 0)
      = ((-(D.corr (tok n q) (head g r) * (Real.exp (D.s (head g r)) / D.Z (tok n q) (head g r))) : ℝ) : EReal) := by
  pointwise [val_main_v133]
  rw [val_main_v132_apply]
  simp only [show ∀ k, idx_main_v132 (ix5 0 n g r q) k = ix6 0 n g r q k from fun k => eq_ix6 _, val_main_v131_apply, v130]
  pointwise [val_main_cst_24]
  simp only [← coe_sum, ← EReal.coe_neg]
  refine congrArg (fun a : ℝ => (a : EReal)) ?_
  rw [Finset.sum_neg_distrib, sum_slot_near n q _ (D.dS_far _ _), D.sum_dS]

/-- The terms of the largest score's own derivative cancel. -/
theorem v134 : val_main_v134 (F := Ideal) (xq D) (xk D) (xv D) (xs D) (xc D) (ix6 0 n g r q 0) = 0 := by
  rw [val_main_v134_apply, val_main_v125_apply, v122, v133]
  pointwise []
  rw [← EReal.coe_neg, ← EReal.coe_add, neg_neg, add_neg_cancel, EReal.coe_zero]

theorem v134' (i : S1x32x2x4x128x1.Idx) : val_main_v134 (F := Ideal) (xq D) (xk D) (xv D) (xs D) (xc D) i = 0 := by
  idx_vars i
  rw [Subsingleton.elim i0 0, Subsingleton.elim i5 0, v134]

theorem v145 : val_main_v145 (F := Ideal) (xq D) (xk D) (xv D) (xs D) (xc D) (ix6 0 n g r q c)
      = ((slot (D.dS (tok n q) (head g r)) (128 * n.val + c.val) : ℝ) : EReal) := by
  rw [val_main_v145_apply, v130, val_main_v144_apply]
  pointwise [val_main_v143, val_main_v142, val_main_v141]
  have h140 : val_main_v140 (F := Ideal) (xq D) (xk D) (xv D) (xs D) (xc D) (ix4 n g r q) = 0 := by
    pointwise [val_main_v140, val_main_cst_26]
    unfold Ideal.hostReduceAdd
    rw [zero_add]
    refine Finset.sum_eq_zero fun i _ => ?_
    rw [val_main_v139_apply, v134']; exact zero_mul _
  rw [h140, Ideal.div, if_neg (v69 D n q g r), zero_mul, zero_mul, add_zero]

theorem v150 : val_main_v150 (F := Ideal) (xq D) (xk D) (xv D) (xs D) (xc D) (ix6 0 n g r q c)
      = ((slot (fun u => D.dS (tok n q) (head g r) u * (1 / 8)) (128 * n.val + c.val) : ℝ) : EReal) := by
  have h0 : val_main_call1_v0 (F := Ideal) (ix6 0 n g r q c) = 0 := by
    pointwise [val_main_call1_v0, val_main_call1_cst]
  pointwise [val_main_v150, val_main_v149, val_main_cst_28, val_main_v148, v145, v61_1]
  rw [h0, ofBits_eighth, ← slot_mul_const]
  by_cases h : Ok n q c
  · rw [if_pos h, EReal.coe_mul]; rfl
  · rw [if_neg h]
    have : slot (D.dS (tok n q) (head g r)) (128 * n.val + c.val) = 0 := by
      by_cases hx : 128 ≤ 128 * n.val + c.val ∧ 128 * n.val + c.val < 4224
      · rw [slot_in _ hx]
        refine D.dS_far _ _ _ fun hn => h ⟨hx, ?_⟩
        simp only [Near, tok] at hn; omega
      · exact slot_out _ hx
    rw [this, zero_mul, EReal.coe_zero]; exact zero_mul _

theorem v123 : val_main_v123 (F := Ideal) (xq D) (xk D) (xv D) (xs D) (xc D) (ix4 0 g r 0) = ((D.gs (head g r) : ℝ) : EReal) := by
  pointwise [val_main_v123, val_main_cst_22]
  unfold Ideal.hostReduceAdd
  rw [zero_add, sum_tiles]
  simp only [v122, ← coe_sum]; rfl

theorem v136 : val_main_v136 (F := Ideal) (xq D) (xk D) (xv D) (xs D) (xc D) (ix4 0 g r 0) = 0 := by
  pointwise [val_main_v136, val_main_cst_25]
  unfold Ideal.hostReduceAdd
  rw [zero_add]
  refine Finset.sum_eq_zero fun i _ => ?_
  rw [val_main_v135_apply, v134']; exact zero_mul _

theorem filter_head : (Finset.univ.filter fun i => Gen.reducesTo_S1x1x2x4x1x1_S2x4_d0_1_4_5.drop i = ix2 g r) = {ix6 0 0 g r 0 0} := by
  ext i
  idx_vars i
  rw [Finset.mem_filter, Finset.mem_singleton, Subsingleton.elim i0 0, Subsingleton.elim i1 0, Subsingleton.elim i4 0,
    Subsingleton.elim i5 0]
  have hd : Gen.reducesTo_S1x1x2x4x1x1_S2x4_d0_1_4_5.drop (ix6 0 0 i2 i3 0 0) = ix2 i2 i3 := by
    funext b; fin_cases b <;> rfl
  rw [hd]
  constructor
  · intro h
    have e0 := congrFun h.2 0; have e1 := congrFun h.2 1
    simp only [ix2_0, ix2_1] at e0 e1
    rw [e0, e1]
  · intro h
    have e0 := congrFun h 2; have e1 := congrFun h 3
    simp only [ix6_2, ix6_3] at e0 e1
    rw [e0, e1]; exact ⟨Finset.mem_univ _, rfl⟩

theorem v146 : val_main_v146 (F := Ideal) (xq D) (xk D) (xv D) (xs D) (xc D) (ix2 g r) = ((D.gs (head g r) : ℝ) : EReal) := by
  unfold val_main_v146
  simp only [Host.reduceAdd, Ideal.hostReduceAdd_def]
  unfold Ideal.hostReduceAdd
  rw [filter_head, Finset.sum_singleton, val_main_v138_apply]
  pointwise [val_main_cst_27, val_main_v124, val_main_v137, v123, v136]

/-- The sinks' gradients. -/
theorem v187 (h : Fin 8) (l : Fin 128) :
    val_main_v187 (F := Ideal) (xq D) (xk D) (xv D) (xs D) (xc D) (ix2 h l) = ((D.gs h : ℝ) : EReal) := by
  pointwise [val_main_v187, val_main_v186, val_main_v147, v146]
  refine congrArg (fun h => ((D.gs h : ℝ) : EReal)) (Fin.ext ?_)
  simp only [head]; omega

theorem v152 (d : Fin 64) : val_main_v152 (F := Ideal) (xq D) (xk D) (xv D) (xs D) (xc D) (ix6 0 n g q r d)
      = ((D.gQ (tok n q) (head g r) d : ℝ) : EReal) := by
  pointwise [val_main_v152, val_main_v151, v150, v16]
  simp only [← EReal.coe_mul, ← coe_sum, slot_mul]
  rw [sum_slot_near n q _ fun u hu => by rw [D.dS_far _ _ _ hu, zero_mul, zero_mul]]
  unfold Data.gQ; rw [grp_head]

theorem v183 (t : Fin 4096) (x : Fin 512) : val_main_v183 (F := Ideal) (xq D) (xk D) (xv D) (xs D) (xc D) (ix2 t x)
      = ((D.gQ t (head ⟨x.val / 64 % 2, by omega⟩ ⟨x.val / 128, by omega⟩) ⟨x.val % 64, by omega⟩ : ℝ) : EReal) := by
  pointwise [val_main_v183, val_main_v182, val_main_v181, val_main_v156, val_main_v153, v152]
  refine congrArg (fun t => ((D.gQ t _ _ : ℝ) : EReal)) (Fin.ext ?_)
  simp only [tok]; omega

/-- A key lies in one third of at most three tiles' windows. -/
theorem third (T : Fin 32 → Fin 4096 → ℝ) (j b : ℕ) (C : Prop) [Decidable C] (u : Fin 4096) (x : ℕ) (hC : C ↔ j ≤ b ∧ b - j < 32)
    (pf : C → b - j < 32) (hx : C → x = u.val + 128) :
    (if h : C then ((slot (T ⟨b - j, pf h⟩) x : ℝ) : EReal) else 0) = ((∑ n, (if n.val + j = b then T n u else 0) : ℝ) : EReal) := by
  by_cases h : C
  · have hj := hC.mp h
    rw [dif_pos h, hx h, slot_at, Finset.sum_eq_single ⟨b - j, pf h⟩]
    · rw [if_pos (by dsimp only; omega)]
    · intro n _ hn
      exact if_neg fun e => hn (Fin.ext (by dsimp only; omega))
    · exact fun hn => absurd (Finset.mem_univ _) hn
  · rw [dif_neg h, Finset.sum_eq_zero, EReal.coe_zero]
    exact fun n _ => if_neg fun e => h (hC.mpr (by omega))

theorem third₀ (T : Fin 32 → Fin 4096 → ℝ) (b : ℕ) (C : Prop) [Decidable C] (u : Fin 4096) (x : ℕ) (hC : C ↔ b < 32)
    (pf : C → b < 32) (hx : C → x = u.val + 128) :
    (if h : C then ((slot (T ⟨b, pf h⟩) x : ℝ) : EReal) else 0) = ((∑ n, (if n.val + 0 = b then T n u else 0) : ℝ) : EReal) :=
  third T 0 b C u x ⟨fun h => ⟨Nat.zero_le _, hC.mp h⟩, fun h => hC.mpr h.2⟩ pf hx

theorem thirds (T : Fin 32 → Fin 4096 → ℝ) (u : Fin 4096)
    (hT : ∀ n, ¬(128 * n.val ≤ u.val + 128 ∧ u.val + 128 < 128 * n.val + 384) → T n u = 0) :
    ∑ n : Fin 32, (if n.val + 2 = (128 + u.val) / 128 then T n u else 0) + ∑ n : Fin 32, (if n.val + 1 = (128 + u.val) / 128 then T n u else 0)
      + ∑ n : Fin 32, (if n.val + 0 = (128 + u.val) / 128 then T n u else 0) = ∑ n, T n u := by
  rw [← Finset.sum_add_distrib, ← Finset.sum_add_distrib]
  refine Finset.sum_congr rfl fun n _ => ?_
  by_cases h : 128 * n.val ≤ u.val + 128 ∧ u.val + 128 < 128 * n.val + 384
  · rcases (show n.val + 2 = (128 + u.val) / 128 ∨ n.val + 1 = (128 + u.val) / 128 ∨ n.val = (128 + u.val) / 128 by omega) with e | e | e
    · rw [if_pos e, if_neg (by omega), if_neg (by omega)]; ring
    · rw [if_neg (by omega), if_pos e, if_neg (by omega)]; ring
    · rw [if_neg (by omega), if_neg (by omega), if_pos (by omega)]; ring
  · rw [hT n h]; simp

theorem v155 (d : Fin 64) : val_main_v155 (F := Ideal) (xq D) (xk D) (xv D) (xs D) (xc D) (ix5 0 n c g d)
      = ((slot (tK D n g d) (128 * n.val + c.val) : ℝ) : EReal) := by
  pointwise [val_main_v155, val_main_v154, val_main_v151, v150, v21]
  simp only [← EReal.coe_mul, ← coe_sum, slot_mul_const, slot_sum]
  refine congrArg _ (slot_congr (fun u => ?_) _)
  unfold tK; rw [Finset.sum_comm]

theorem v113 (d : Fin 64) : val_main_v113 (F := Ideal) (xq D) (xk D) (xs D) (xc D) (ix5 0 n c g d)
      = ((slot (tV D n g d) (128 * n.val + c.val) : ℝ) : EReal) := by
  pointwise [val_main_v113, val_main_v112, v110, v101]
  simp only [← EReal.coe_mul, ← coe_sum, mul_comm (D.C _ _), slot_mul_const, slot_sum]
  refine congrArg _ (slot_congr (fun u => ?_) _)
  unfold tV; exact Finset.sum_congr rfl fun r _ => Finset.sum_congr rfl fun q _ => mul_comm _ _

theorem v184 (u : Fin 4096) (l : Fin 128) : val_main_v184 (F := Ideal) (xq D) (xk D) (xv D) (xs D) (xc D) (ix2 u l)
      = ((D.gK u ⟨l.val / 64, by omega⟩ ⟨l.val % 64, by omega⟩ : ℝ) : EReal) := by
  pointwise [val_main_v184, val_main_v179, val_main_v177, val_main_v172, val_main_v171, val_main_v170, val_main_v169, val_main_v168, val_main_v167, val_main_v166, val_main_v165, v155, val_main_cst_32, val_main_cst_33, val_main_cst_34]
  refine (congrArg₂ (fun a b : EReal => a + b) (congrArg₂ (fun a b : EReal => a + b)
    (third (fun n => tK D n ⟨l.val / 64, by omega⟩ ⟨l.val % 64, by omega⟩) 2 ((128 + u.val) / 128) _ u _ (by omega) (by omega) (by omega))
    (third (fun n => tK D n ⟨l.val / 64, by omega⟩ ⟨l.val % 64, by omega⟩) 1 ((128 + u.val) / 128) _ u _ (by omega) (by omega) (by omega)))
    (third₀ (fun n => tK D n ⟨l.val / 64, by omega⟩ ⟨l.val % 64, by omega⟩) ((128 + u.val) / 128) _ u _ (by omega) (by omega) (by omega))).trans ?_
  rw [← EReal.coe_add, ← EReal.coe_add]
  exact congrArg _ (thirds (tK D · _ _) u (tK_far D · _ _))

theorem v185 (u : Fin 4096) (l : Fin 128) : val_main_v185 (F := Ideal) (xq D) (xk D) (xs D) (xc D) (ix2 u l)
      = ((D.gV u ⟨l.val / 64, by omega⟩ ⟨l.val % 64, by omega⟩ : ℝ) : EReal) := by
  pointwise [val_main_v185, val_main_v175, val_main_v173, val_main_v164, val_main_v163, val_main_v162, val_main_v161, val_main_v160, val_main_v159, val_main_v158, val_main_v157, v113, val_main_cst_29, val_main_cst_30, val_main_cst_31]
  refine (congrArg₂ (fun a b : EReal => a + b) (congrArg₂ (fun a b : EReal => a + b)
    (third (fun n => tV D n ⟨l.val / 64, by omega⟩ ⟨l.val % 64, by omega⟩) 2 ((128 + u.val) / 128) _ u _ (by omega) (by omega) (by omega))
    (third (fun n => tV D n ⟨l.val / 64, by omega⟩ ⟨l.val % 64, by omega⟩) 1 ((128 + u.val) / 128) _ u _ (by omega) (by omega) (by omega)))
    (third₀ (fun n => tV D n ⟨l.val / 64, by omega⟩ ⟨l.val % 64, by omega⟩) ((128 + u.val) / 128) _ u _ (by omega) (by omega) (by omega))).trans ?_
  rw [← EReal.coe_add, ← EReal.coe_add]
  exact congrArg _ (thirds (tV D · _ _) u (tV_far D · _ _))

end Cert.Reference3Ideal.Attn

end
-- ==== Proof.AttnValue.lean ====
module

public import proofs.«01_k».proof.Proof.AttnTotal
public import proofs.«01_k».proof.Proof.AttnRef
public import proofs.«01_k».proof.Proof.Gen.Pre_finite_attn
public import Idealize.ShloMosaic.Lib.ReduceAll

@[expose] public section

set_option maxRecDepth 16384
set_option backward.proofsInPublic true

/-! The attention backward's results at finite arguments are the reference's. -/

noncomputable section

namespace Cert.Attn

open Idealize.ShloMosaic Cert.Pre_finite_attn

theorem real_of_lt (x : EReal) (h : FloatOps.cmpf (F := Ideal) (φ := .f32) .olt (FloatOps.absf (F := Ideal) (φ := .f32) x) (Ideal.ofBits .f32 2139095040#32) = 1#1) :
    ((x.toReal : ℝ) : EReal) = x := by
  have hi : Ideal.ofBits FTy.f32 2139095040#32 = ⊤ := by simp [Ideal.ofBits, Ideal.ieee]
  rw [hi] at h
  have h' : max x (-x) < ⊤ := by
    by_contra hn
    have : FloatOps.cmpf (F := Ideal) (φ := .f32) .olt (FloatOps.absf (F := Ideal) (φ := .f32) x) ⊤ = 0#1 := by
      exact congrArg BitVec.ofBool (decide_eq_false hn)
    rw [this] at h
    exact absurd h (by decide)
  refine EReal.coe_toReal (fun e => ?_) (fun e => ?_)
  · rw [e] at h'
    simp at h'
  · rw [e] at h'
    simp at h'

instance : Subsingleton S_.Idx := ⟨fun a b => funext fun i => i.elim0⟩

theorem finite_args (a0 a1 a2 a3 a4) (h : fn (F := Ideal) a0 a1 a2 a3 a4 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i)
      ∧ (∀ i, (((a4 i : EReal).toReal : ℝ) : EReal) = a4 i) := by
  have e := congrFun h ix0
  simp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · exact real_of_lt _ (Host.reduce_andi_all _ _ _ _ _ e0 i)
  · exact real_of_lt _ (Host.reduce_andi_all _ _ _ _ _ e1 i)
  · exact real_of_lt _ (Host.reduce_andi_all _ _ _ _ _ e2 i)
  · exact real_of_lt _ (Host.reduce_andi_all _ _ _ _ _ e3 i)
  · exact real_of_lt _ (Host.reduce_andi_all _ _ _ _ _ e4 i)

end Cert.Attn

namespace Cert.Kernel3Ideal.Attn

open Idealize.ShloMosaic Idealize.ShloMosaic.TcCoe Idealize.SL.Sem Cert.Kernel3Ideal.Gen Cert.Attn

section
variable {F : FTy → Type} [FloatOps F]

/-- The run, its results named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32_0) = (dats m 0 c).arrAt 6 cfg0.N
      ∧ r.2.mem ((c.tc : Thread nD τ).loc main_v32_1) = (dats m 0 c).arrAt 7 cfg0.N
      ∧ r.2.mem ((c.tc : Thread nD τ).loc main_v32_2) = (dats m 0 c).arrAt 8 cfg0.N
      ∧ r.2.mem ((c.tc : Thread nD τ).loc main_v32_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    have g (b) (hb) := (h.1 c).2 b hb
    ⟨(h.1 c).1 6, (h.1 c).1 7, (h.1 c).1 8, (h.1 c).1 9,
      (g main_arg0 (Pipeline.mem_restRefs_of main_arg0 (by decide) (by decide))).trans (V_main_arg0 m c),
      (g main_arg1 (Pipeline.mem_restRefs_of main_arg1 (by decide) (by decide))).trans (V_main_arg1 m c),
      (g main_arg2 (Pipeline.mem_restRefs_of main_arg2 (by decide) (by decide))).trans (V_main_arg2 m c),
      (g main_arg3 (Pipeline.mem_restRefs_of main_arg3 (by decide) (by decide))).trans (V_main_arg3 m c),
      (g main_arg4 (Pipeline.mem_restRefs_of main_arg4 (by decide) (by decide))).trans (V_main_arg4 m c)⟩) (run_main m ρ)
end

variable (m : (ℓ : Loc nD τ sig) → Buf (Elt Ideal) ℓ) (c : Dev nD)

/-- Finite arguments hold real numbers. -/
theorem data (h : Pre_finite_attn.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    ∃ D, Holds m c D := by
  obtain ⟨h0, h1, h2, h3, h4⟩ := finite_args _ _ _ _ _ h
  refine ⟨⟨fun t x d => (m ((c.tc : Thread nD τ).loc main_arg0) (ix3 t x d) : EReal).toReal,
    fun t x d => (m ((c.tc : Thread nD τ).loc main_arg1) (ix3 t x d) : EReal).toReal,
    fun t x d => (m ((c.tc : Thread nD τ).loc main_arg2) (ix3 t x d) : EReal).toReal,
    fun x => (m ((c.tc : Thread nD τ).loc main_arg3) (ix1 x) : EReal).toReal,
    fun t x => (m ((c.tc : Thread nD τ).loc main_arg4) (ix2 t x) : EReal).toReal⟩, ?_, ?_, ?_, ?_, ?_⟩
  · funext i
    refine (h0 i).symm.trans ?_
    exact congrArg (fun j => ((m ((c.tc : Thread nD τ).loc main_arg0) j : EReal).toReal : EReal)) (eq_ix3 i)
  · funext i
    refine (h1 i).symm.trans ?_
    exact congrArg (fun j => ((m ((c.tc : Thread nD τ).loc main_arg1) j : EReal).toReal : EReal)) (eq_ix3 i)
  · funext i
    refine (h2 i).symm.trans ?_
    exact congrArg (fun j => ((m ((c.tc : Thread nD τ).loc main_arg2) j : EReal).toReal : EReal)) (eq_ix3 i)
  · funext i
    refine (h3 i).symm.trans ?_
    exact congrArg (fun j => ((m ((c.tc : Thread nD τ).loc main_arg3) j : EReal).toReal : EReal)) (eq_ix1 i)
  · funext i
    refine (h4 i).symm.trans ?_
    exact congrArg (fun j => ((m ((c.tc : Thread nD τ).loc main_arg4) j : EReal).toReal : EReal)) (eq_ix2 i)

variable (D : Data) (H : Holds m c D)
include H
open Cert.Reference3Ideal.Read Cert.Reference3Ideal.Attn

theorem value_dq : val_main_v183 (F := Ideal) (xq D) (xk D) (xv D) (xs D) (xc D) = (dats m 0 c).arrAt 6 cfg0.N := by
  rw [out_dq m c D H]
  funext i
  obtain ⟨t, x, rfl⟩ : ∃ (t : Fin 4096) (x : Fin 512), i = ix2 t x := ⟨i 0, i 1, eq_ix2 i⟩
  exact v183 D t x
theorem value_dk : val_main_v184 (F := Ideal) (xq D) (xk D) (xv D) (xs D) (xc D) = (dats m 0 c).arrAt 7 cfg0.N := by
  rw [out_dk m c D H]
  funext i
  obtain ⟨u, l, rfl⟩ : ∃ (u : Fin 4096) (l : Fin 128), i = ix2 u l := ⟨i 0, i 1, eq_ix2 i⟩
  exact v184 D u l
theorem value_dv : val_main_v185 (F := Ideal) (xq D) (xk D) (xs D) (xc D) = (dats m 0 c).arrAt 8 cfg0.N := by
  rw [out_dv m c D H]
  funext i
  obtain ⟨u, l, rfl⟩ : ∃ (u : Fin 4096) (l : Fin 128), i = ix2 u l := ⟨i 0, i 1, eq_ix2 i⟩
  exact v185 D u l
theorem value_ds : val_main_v187 (F := Ideal) (xq D) (xk D) (xv D) (xs D) (xc D) = (dats m 0 c).arrAt 9 cfg0.N := by
  rw [out_ds m c D H]
  funext i
  obtain ⟨h, l, rfl⟩ : ∃ (h : Fin 8) (l : Fin 128), i = ix2 h l := ⟨i 0, i 1, eq_ix2 i⟩
  exact v187 D h l

end Cert.Kernel3Ideal.Attn

end
-- ==== Proof.FwdTile.lean ====
module

public import proofs.«01_k».proof.Proof.AttnTile
public import proofs.«01_k».proof.Proof.Gen.Kernel4Ideal.Skeleton

@[expose] public section

set_option maxRecDepth 65536
set_option backward.proofsInPublic true

/-! The attention forward on one tile: the output over the probabilities. The scores, the exponentials and their
    products with the values are those of the backward. -/

noncomputable section

namespace Cert.Attn

/-- An entry of the output. -/
def Data.O (D : Data) (t : Fin 4096) (h : Fin 8) (d : Fin 64) : ℝ := ∑ u, D.V u (grp h) d * D.P t h u

theorem Data.O_eq (D : Data) (t : Fin 4096) (h : Fin 8) (d : Fin 64) : D.O t h d = (∑ u, D.E t h u * D.V u (grp h) d) / D.Z t h := by
  unfold Data.O Data.P; rw [Finset.sum_div]; exact Finset.sum_congr rfl fun u _ => by ring

end Cert.Attn

namespace Cert.Kernel4Ideal.Attn

open Idealize.ShloMosaic Cert.Kernel4Ideal.Gen Cert.Attn Cert.Kernel3Ideal.Attn

/-- The quotient that every store takes its part of. -/
def quot (B : Blocks Ideal) : FVec Ideal S8x128x128 .f32 :=
  k0_pay12 (k0_pay2 B.vw) (k0_pay7 B.sink) (k0_pay8 B.kw B.q B.bias B.sink) (k0_pay9 B.kw B.q B.bias B.sink)
    (k0_pay10 B.kw B.q B.bias B.sink) (k0_pay11 B.kw B.q B.bias B.sink)

theorem quot_eq (B : Blocks Ideal) :
    quot B = divf B.r (addf (dynamicRotate 2 64#32 none B.r rotates_S8x128x128_d2) B.ps) := rfl

variable (D : Data) (n : Fin 32) (h : Fin 8) (q l : Fin 128)

/-- In a head's own lanes the quotient is the head's output. -/
theorem quot_apply (hl : half l = grp h) : quot (tile D n) (ix3 h q l) = ((D.O (tok n q) h (lane l) : ℝ) : EReal) := by
  rw [quot_eq]
  pointwise [r_apply, ps_apply]
  have hr : ¬half ⟨(l.val + 128 - 64) % 128, by omega⟩ = grp h := by
    intro hr
    rw [← hl] at hr
    have := congrArg Fin.val hr
    simp only [half] at this; omega
  rw [if_pos hl, if_neg hr, ← EReal.coe_add, ← add_mul]
  refine (div_coe _ (mul_ne_zero (D.Z_ne (tok n q) h) (ex_ne D n h q))).trans (congrArg _ ?_)
  rw [mul_div_mul_right _ _ (ex_ne D n h q), D.O_eq]; rfl

/-- A store's part: head `j` of the first group beside that of the second. -/
def part (B : Blocks Ideal) (j : Fin 4) : FVec Ideal S128x128 .f32 :=
  select k0_pay13 (fun i => quot B (ix3 (head 0 j) (i 0) (i 1))) (fun i => quot B (ix3 (head 1 j) (i 0) (i 1)))

theorem part_apply (j : Fin 4) : part (tile D n) j (ix2 q l) = ((D.O (tok n q) (head (half l) j) (lane l) : ℝ) : EReal) := by
  have e (g : Fin 2) (hg : half l = g) : quot (tile D n) (ix3 (head g j) q l) = ((D.O (tok n q) (head (half l) j) (lane l) : ℝ) : EReal) := by
    rw [quot_apply D n _ q l (by rw [hg, grp_head]), hg]
  pointwise [part, k0_pay13, low_bit, select_ite]
  split_ifs with h1
  · exact e 0 (Fin.ext (by simp only [half]; show _ = 0; omega))
  · exact e 1 (Fin.ext (by simp only [half]; show _ = 1; omega))

section

variable (B : Blocks Ideal)

theorem part0 : k0_pay14 (k0_pay2 B.vw) (k0_pay7 B.sink) (k0_pay8 B.kw B.q B.bias B.sink) (k0_pay9 B.kw B.q B.bias B.sink)
    (k0_pay10 B.kw B.q B.bias B.sink) (k0_pay11 B.kw B.q B.bias B.sink) = part B 0 := by
  funext i; obtain ⟨x, y, rfl⟩ : ∃ x y, i = ix2 x y := ⟨i 0, i 1, eq_ix2 i⟩
  pointwise [k0_pay14, part]; rfl
theorem part1 : k0_pay15 (k0_pay2 B.vw) (k0_pay7 B.sink) (k0_pay8 B.kw B.q B.bias B.sink) (k0_pay9 B.kw B.q B.bias B.sink)
    (k0_pay10 B.kw B.q B.bias B.sink) (k0_pay11 B.kw B.q B.bias B.sink) = part B 1 := by
  funext i; obtain ⟨x, y, rfl⟩ : ∃ x y, i = ix2 x y := ⟨i 0, i 1, eq_ix2 i⟩
  pointwise [k0_pay15, part]; rfl
theorem part2 : k0_pay16 (k0_pay2 B.vw) (k0_pay7 B.sink) (k0_pay8 B.kw B.q B.bias B.sink) (k0_pay9 B.kw B.q B.bias B.sink)
    (k0_pay10 B.kw B.q B.bias B.sink) (k0_pay11 B.kw B.q B.bias B.sink) = part B 2 := by
  funext i; obtain ⟨x, y, rfl⟩ : ∃ x y, i = ix2 x y := ⟨i 0, i 1, eq_ix2 i⟩
  pointwise [k0_pay16, part]; rfl
theorem part3 : k0_pay1 (quot B) k0_pay13 = part B 3 := by
  funext i; obtain ⟨x, y, rfl⟩ : ∃ x y, i = ix2 x y := ⟨i 0, i 1, eq_ix2 i⟩
  pointwise [k0_pay1, part]; rfl

end

end Cert.Kernel4Ideal.Attn

end
-- ==== Proof.FwdEntry.lean ====
module

public import proofs.«01_k».proof.Proof.FwdTile
public import proofs.«01_k».proof.Proof.AttnEntry
public import proofs.«01_k».proof.Proof.Gen.Kernel4Ideal.Value

@[expose] public section

set_option maxRecDepth 65536
set_option backward.proofsInPublic true

/-! What the attention forward's points load and store, and its result. -/

noncomputable section

namespace Cert.Kernel4Ideal.Attn

open Idealize.ShloMosaic Idealize.ShloMosaic.TcCoe Idealize.SL.Sem Cert.Kernel4Ideal.Gen Cert.Attn
open Cert.Kernel3Ideal.Attn (Blocks Blocks.eq_of tile half lane select_ite bias_bits pick pick_lt)

/-- The arguments hold the data's numbers. -/
structure Holds (m : (ℓ : Loc nD τ sig) → Buf (Elt Ideal) ℓ) (c : Dev nD) (D : Data) : Prop where
  q : m ((c.tc : Thread nD τ).loc main_arg0) = fun i => ((D.Q (i 0) (i 1) (i 2) : ℝ) : EReal)
  k : m ((c.tc : Thread nD τ).loc main_arg1) = fun i => ((D.K (i 0) (i 1) (i 2) : ℝ) : EReal)
  v : m ((c.tc : Thread nD τ).loc main_arg2) = fun i => ((D.V (i 0) (i 1) (i 2) : ℝ) : EReal)
  s : m ((c.tc : Thread nD τ).loc main_arg3) = fun i => ((D.s (i 0) : ℝ) : EReal)

theorem idx_val : ∀ t : Fin cfg0.N, win0_0.index t = ![0, t.val, 0] ∧ win0_1.index t = ![0, 0] ∧ win0_2.index t = ![0, 0]
    ∧ win0_3.index t = ![0, 0, 0] ∧ win0_4.index t = ![pick t.val, 0, 0] ∧ win0_5.index t = ![t.val, 0] := by decide +kernel

/-- The tile of a point. -/
def at_ (t : Fin cfg0.N) : Fin 32 := ⟨t.val, N_0 ▸ t.isLt⟩

/-- The rows of the keys a point sees. -/
abbrev band (i : grid0.Coords) : Rect S4096x128 := Rect.unit (s := S4096x128) (k0_off1 i) S384x128.size (k0_off1_inb i)

theorem band_row (t : Fin cfg0.N) (y : Fin 384) (l : Fin 128) : (band (grid0.coords t)).idx (ix2 y l) = ix2 (key (at_ t) y) l :=
  Cert.Kernel3Ideal.Attn.band_row t y l

variable (m : (ℓ : Loc nD τ sig) → Buf (Elt Ideal) ℓ) (c : Dev nD) (t : Fin cfg0.N)

/-- A group's heads, in the group's own lanes. -/
theorem entry10 (h : Fin 8) (u : Fin 4096) (l : Fin 128) : V m c main_v10 (ix3 h u l)
    = if half l = grp h then m (c, Proc.tc.devRef main_arg0) (ix3 u h (lane l)) else (0 : EReal) := by
  have e (x : Fin 8) (y : Fin 64) (hx : x = h) (hy : y = lane l) :
      m (c, Proc.tc.devRef main_arg0) (ix3 u x y) = m (c, Proc.tc.devRef main_arg0) (ix3 u h (lane l)) := by rw [hx, hy]
  have hg : half l = grp h ↔ l.val / 64 = h.val / 4 := Fin.ext_iff
  unfold V
  after_reads_at
  by_cases hh : h.val < 4
  · rw [dif_pos hh]
    after_reads_at
    by_cases hl : l.val < 64
    · exact (dif_pos hl).trans ((e _ _ rfl (Fin.ext (by simp [lane] <;> omega))).trans (if_pos (hg.mpr (by omega))).symm)
    · exact (dif_neg hl).trans (if_neg fun h' => by have := hg.mp h'; omega).symm
  · rw [dif_neg hh]
    after_reads_at
    by_cases hl : l.val < 64
    · exact (dif_pos hl).trans (if_neg fun h' => by have := hg.mp h'; omega).symm
    · exact (dif_neg hl).trans ((e _ _ (Fin.ext (by simp <;> omega)) (Fin.ext (by simp [lane] <;> omega))).trans
        (if_pos (hg.mpr (by omega))).symm)

theorem entry28 (p : Fin 3) (q : Fin 128) (x : Fin 384) : V m c main_v28 (ix3 p q x)
    = if q.val + 128 * p.val ≤ x.val + 128 ∧ x.val ≤ q.val + 128 * p.val + 128 then (0 : EReal) else ⊥ := by
  unfold V
  after_reads_at
  rw [id]
  pointwise []
  rw [bias_bits, select_ite, ofBits_bot]

variable (D : Data) (H : Holds m c D)
include H

/-- The queries' block of a point. -/
theorem load_q : iblk m c 0 t = (tile D (at_ t)).q := by
  funext i
  obtain ⟨h, q, l, rfl⟩ : ∃ h q l, i = ix3 h q l := ⟨i 0, i 1, i 2, eq_ix3 i⟩
  have e : iblk m c 0 t (ix3 h q l) = V m c main_v10 (ix3 h (tok (at_ t) q) l) := by
    unfold tok at_
    blk_ext [iblk, idx_val t]
  rw [e, entry10, congrFun H.q]
  show (if half l = grp h then ((D.Q (tok (at_ t) q) h (lane l) : ℝ) : EReal) else 0)
    = (((if half l = grp h then D.Q (tok (at_ t) q) h (lane l) else 0 : ℝ)) : EReal)
  exact (apply_ite _ _ _ _).symm
/-- The keys' and the values', the rows a point sees. -/
theorem load_k : View.ld (iblk m c 1 t) (band (grid0.coords t)) = (tile D (at_ t)).kw := by
  funext i
  obtain ⟨y, l, rfl⟩ : ∃ y l, i = ix2 y l := ⟨i 0, i 1, eq_ix2 i⟩
  have e (u : Fin 4096) : iblk m c 1 t (ix2 u l) = m (c, Proc.tc.devRef main_arg1) (ix3 u (half l) (lane l)) := by
    refine Eq.trans (b := V m c main_v14 (ix2 u l)) (by blk_ext [iblk, idx_val t]) ?_
    unfold V
    after_reads_at
    rfl
  show iblk m c 1 t ((band (grid0.coords t)).idx (ix2 y l)) = _
  rw [band_row, e, congrFun H.k]; rfl
theorem load_v : View.ld (iblk m c 2 t) (band (grid0.coords t)) = (tile D (at_ t)).vw := by
  funext i
  obtain ⟨y, l, rfl⟩ : ∃ y l, i = ix2 y l := ⟨i 0, i 1, eq_ix2 i⟩
  have e (u : Fin 4096) : iblk m c 2 t (ix2 u l) = m (c, Proc.tc.devRef main_arg2) (ix3 u (half l) (lane l)) := by
    refine Eq.trans (b := V m c main_v16 (ix2 u l)) (by blk_ext [iblk, idx_val t]) ?_
    unfold V
    after_reads_at
    rfl
  show iblk m c 2 t ((band (grid0.coords t)).idx (ix2 y l)) = _
  rw [band_row, e, congrFun H.v]; rfl
/-- The sinks, in every lane. -/
theorem load_s : iblk m c 3 t = (tile D (at_ t)).sink := by
  funext i
  obtain ⟨h, z, l, rfl⟩ : ∃ h z l, i = ix3 h z l := ⟨i 0, i 1, i 2, eq_ix3 i⟩
  obtain rfl : z = 0 := Subsingleton.elim _ _
  have e : iblk m c 3 t (ix3 h 0 l) = m (c, Proc.tc.devRef main_arg3) (ix1 h) := by
    refine Eq.trans (b := V m c main_v12 (ix3 h 0 l)) (by blk_ext [iblk, idx_val t]) ?_
    unfold V
    after_reads_at
  rw [e, congrFun H.s]; rfl
omit H in
/-- The mask. -/
theorem load_bias : iblk m c 4 t = (tile D (at_ t)).bias := by
  funext i
  obtain ⟨z, q, x, rfl⟩ : ∃ z q x, i = ix3 z q x := ⟨i 0, i 1, i 2, eq_ix3 i⟩
  obtain rfl : z = 0 := Subsingleton.elim _ _
  have e : iblk m c 4 t (ix3 0 q x) = V m c main_v28 (ix3 ⟨pick t.val, pick_lt _⟩ q x) := by blk_ext [iblk, idx_val t]
  rw [e, entry28]
  show _ = if Near (tok (at_ t) q) (key (at_ t) x) then (0 : EReal) else ⊥
  refine if_congr ?_ rfl rfl
  have : t.val < 32 := N_0 ▸ t.isLt
  simp only [Near, tok, key, start, at_, pick]
  split_ifs <;> omega

/-- The result in the order of its columns, the two groups' heads in pairs. -/
def result (D : Data) (u : Fin 4096) (x : Fin 512) : ℝ :=
  D.O u (head ⟨x.val / 64 % 2, by omega⟩ ⟨x.val / 128, by omega⟩) ⟨x.val % 64, by omega⟩

omit H in
theorem part_at (j : Fin 4) (y : S128x128.Idx) (a : Fin 4096) (b : Fin 512) (ha : a.val = 128 * t.val + (y 0).val)
    (hb : b.val = 128 * j.val + (y 1).val) : part (tile D (at_ t)) j y = ((result D a b : ℝ) : EReal) := by
  have hy : (y 1).val < 128 := (y 1).isLt
  refine ((congrArg (part (tile D (at_ t)) j) (eq_ix2 y)).trans (part_apply D (at_ t) (y 0) (y 1) j)).trans ?_
  unfold result
  rw [show a = tok (at_ t) (y 0) from Fin.ext ha, show (⟨b.val / 64 % 2, by omega⟩ : Fin 2) = half (y 1) from Fin.ext (by simp only [half]; omega),
    show (⟨b.val / 128, by omega⟩ : Fin 4) = j from Fin.ext (by simp only; omega),
    show (⟨b.val % 64, by omega⟩ : Fin 64) = lane (y 1) from Fin.ext (by simp only [lane]; omega)]

/-- The body's blocks, as it reads them, are the point's tile. -/
theorem reads : (⟨View.readAt (Elt Ideal) (ms0_1 t).view (band (grid0.coords t)).toLoadRect ((hs0_1 t).unread (iblk m c 1 t)),
      View.readAt (Elt Ideal) (ms0_2 t).view (band (grid0.coords t)).toLoadRect ((hs0_2 t).unread (iblk m c 2 t)),
      View.readAt (Elt Ideal) (ms0_0 t).view (Rect.unit (s := S8x128x128) ![0, 0, 0] S8x128x128.size inb_S8x128x128_S8x128x128_0_0_0).toLoadRect
        ((hs0_0 t).unread (iblk m c 0 t)),
      View.readAt (Elt Ideal) (ms0_4 t).view (Rect.unit (s := S1x128x384) ![0, 0, 0] S1x128x384.size inb_S1x128x384_S1x128x384_0_0_0).toLoadRect
        ((hs0_4 t).unread (iblk m c 4 t)),
      View.readAt (Elt Ideal) (ms0_3 t).view (Rect.unit (s := S8x1x128) ![0, 0, 0] S8x1x128.size inb_S8x1x128_S8x1x128_0_0_0).toLoadRect
        ((hs0_3 t).unread (iblk m c 3 t)), (tile D (at_ t)).dO⟩ : Blocks Ideal) = tile D (at_ t) := by
  refine Blocks.eq_of (Eq.trans ?_ (load_k m c t D H)) (Eq.trans ?_ (load_v m c t D H)) (Eq.trans ?_ (load_q m c t D H))
    (Eq.trans ?_ (load_bias m c t D)) (Eq.trans ?_ (load_s m c t D H)) rfl
  · simp only [View.readAt_eq_ld, (hs0_1 t).read_unread]; rfl
  · simp only [View.readAt_eq_ld, (hs0_2 t).read_unread]; rfl
  · exact (View.readAt_eq_ld _ _ _).trans ((View.ld_unit_zero (by funext a; fin_cases a <;> rfl) _ _).trans ((hs0_0 t).read_unread _))
  · exact (View.readAt_eq_ld _ _ _).trans ((View.ld_unit_zero (by funext a; fin_cases a <;> rfl) _ _).trans ((hs0_4 t).read_unread _))
  · exact (View.readAt_eq_ld _ _ _).trans ((View.ld_unit_zero (by funext a; fin_cases a <;> rfl) _ _).trans ((hs0_3 t).read_unread _))

/-- The stores of a body. -/
def stored (B : Blocks Ideal) : List (View.Piece (Elt Ideal) S128x512 .f32) :=
  [⟨Rect.unit (s := S128x512) ![0, 384] S128x128.size inb_S128x512_S128x128_0_384, k0_pay1 (quot B) k0_pay13⟩,
   ⟨Rect.unit (s := S128x512) ![0, 256] S128x128.size inb_S128x512_S128x128_0_256, k0_pay16 (k0_pay2 B.vw) (k0_pay7 B.sink) (k0_pay8 B.kw B.q B.bias B.sink)
      (k0_pay9 B.kw B.q B.bias B.sink) (k0_pay10 B.kw B.q B.bias B.sink) (k0_pay11 B.kw B.q B.bias B.sink)⟩,
   ⟨Rect.unit (s := S128x512) ![0, 128] S128x128.size inb_S128x512_S128x128_0_128, k0_pay15 (k0_pay2 B.vw) (k0_pay7 B.sink) (k0_pay8 B.kw B.q B.bias B.sink)
      (k0_pay9 B.kw B.q B.bias B.sink) (k0_pay10 B.kw B.q B.bias B.sink) (k0_pay11 B.kw B.q B.bias B.sink)⟩,
   ⟨Rect.unit (s := S128x512) ![0, 0] S128x128.size inb_S128x512_S128x128_0_0, k0_pay14 (k0_pay2 B.vw) (k0_pay7 B.sink) (k0_pay8 B.kw B.q B.bias B.sink)
      (k0_pay9 B.kw B.q B.bias B.sink) (k0_pay10 B.kw B.q B.bias B.sink) (k0_pay11 B.kw B.q B.bias B.sink)⟩]

omit H in
theorem stored_eq (B : Blocks Ideal) : stored B
    = [⟨Rect.unit (s := S128x512) ![0, 384] S128x128.size inb_S128x512_S128x128_0_384, part B 3⟩,
       ⟨Rect.unit (s := S128x512) ![0, 256] S128x128.size inb_S128x512_S128x128_0_256, part B 2⟩,
       ⟨Rect.unit (s := S128x512) ![0, 128] S128x128.size inb_S128x512_S128x128_0_128, part B 1⟩,
       ⟨Rect.unit (s := S128x512) ![0, 0] S128x128.size inb_S128x512_S128x128_0_0, part B 0⟩] := by
  unfold stored; rw [part0, part1, part2, part3]

set_option maxHeartbeats 2000000 in
omit H in
theorem run_stored (i : grid0.Coords) (arg1 : Memref sig .tc .vmem S8x128x128 .bf16) (harg1 : arg1.IsWhole) (arg2 : Memref sig .tc .vmem S4096x128 .bf16)
    (harg2 : arg2.IsWhole) (arg3 : Memref sig .tc .vmem S4096x128 .bf16) (harg3 : arg3.IsWhole) (arg4 : Memref sig .tc .vmem S8x1x128 .f32) (harg4 : arg4.IsWhole)
    (arg5 : Memref sig .tc .vmem S1x128x384 .f32) (harg5 : arg5.IsWhole) (arg6 : Memref sig .tc .vmem S128x512 .f32) (harg6 : arg6.IsWhole)
    (x0 : Vec Ideal S8x128x128 .bf16) (x1 x2 : Vec Ideal S4096x128 .bf16) (x3 : Vec Ideal S8x1x128 .f32) (x4 : Vec Ideal S1x128x384 .f32)
    (z : Vec Ideal S128x512 .f32) :
    (kernelRun0_A c i arg1 harg1 arg2 harg2 arg3 harg3 arg4 harg4 arg5 harg5 arg6 harg6 x0 x1 x2 x3 x4).1
    = stored ⟨View.readAt (Elt Ideal) arg2.view (band i).toLoadRect (harg2.unread x1),
      View.readAt (Elt Ideal) arg3.view (band i).toLoadRect (harg3.unread x2),
      View.readAt (Elt Ideal) arg1.view (Rect.unit (s := S8x128x128) ![0, 0, 0] S8x128x128.size inb_S8x128x128_S8x128x128_0_0_0).toLoadRect (harg1.unread x0),
      View.readAt (Elt Ideal) arg5.view (Rect.unit (s := S1x128x384) ![0, 0, 0] S1x128x384.size inb_S1x128x384_S1x128x384_0_0_0).toLoadRect (harg5.unread x4),
      View.readAt (Elt Ideal) arg4.view (Rect.unit (s := S8x1x128) ![0, 0, 0] S8x1x128.size inb_S8x1x128_S8x1x128_0_0_0).toLoadRect (harg4.unread x3), z⟩ := by
  unfold kernelRun0_A; rfl

theorem stores : (kernelRun0_A (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t)).1
    = stored (tile D (at_ t)) :=
  (run_stored c (grid0.coords t) _ _ _ _ _ _ _ _ _ _ _ _ _ _ _ _ _ (tile D (at_ t)).dO).trans (congrArg stored (reads m c t D H))

theorem after5 : (dats m 0 c).after 5 t = View.canon
      [⟨Rect.unit (s := S128x512) ![0, 384] S128x128.size inb_S128x512_S128x128_0_384, part (tile D (at_ t)) 3⟩,
       ⟨Rect.unit (s := S128x512) ![0, 256] S128x128.size inb_S128x512_S128x128_0_256, part (tile D (at_ t)) 2⟩,
       ⟨Rect.unit (s := S128x512) ![0, 128] S128x128.size inb_S128x512_S128x128_0_128, part (tile D (at_ t)) 1⟩,
       ⟨Rect.unit (s := S128x512) ![0, 0] S128x128.size inb_S128x512_S128x128_0_0, part (tile D (at_ t)) 0⟩] := by
  rw [after0_5, outsAt0, out0_A_5, stores m c t D H, stored_eq]
  exact View.read_writes_eq_canon _ _ _ (View.cover_of_tiledL _ S128x128.size (by rfl))

/-- The result. -/
theorem value : (dats m 0 c).arrAt 5 cfg0.N = fun i => ((result D (i 0) (i 1) : ℝ) : EReal) := by
  refine (dats m 0 c).arrAt_eq_of_covers 5 _ (by decide +kernel) fun t hf y => ?_
  blk_simp [idx_val t]
  rw [after5 m c t D H]
  canon_tiles y h
  · exact part_at t D 3 y _ _ (by blk_simp [idx_val t]; omega) (by blk_simp [idx_val t]; omega)
  · exact part_at t D 2 y _ _ (by blk_simp [idx_val t]; omega) (by blk_simp [idx_val t]; omega)
  · exact part_at t D 1 y _ _ (by blk_simp [idx_val t]; omega) (by blk_simp [idx_val t]; omega)
  · exact part_at t D 0 y _ _ (by blk_simp [idx_val t]; omega) (by blk_simp [idx_val t]; omega)

end Cert.Kernel4Ideal.Attn

end
-- ==== Proof.FwdRef.lean ====
module

public import proofs.«01_k».proof.Proof.AttnRef
public import proofs.«01_k».proof.Proof.FwdTile
public import proofs.«01_k».proof.Proof.Gen.Reference4Ideal.Read

@[expose] public section

set_option maxRecDepth 65536
set_option backward.proofsInPublic true

/-! The attention forward's reference: its probabilities are those of the backward's. -/

noncomputable section

namespace Cert.Reference4Ideal.Attn

open Idealize.ShloMosaic Cert.Reference4Ideal.Read Cert.Attn
open Cert.Reference3Ideal.Attn (xq xk xv xs v20 v101)

variable (D : Data)

theorem same57 : val_main_v57 (F := Ideal) (xq D) (xk D) = Cert.Reference3Ideal.Read.val_main_v61_0 (F := Ideal) (xq D) (xk D) := rfl
theorem same74 : val_main_v74 (F := Ideal) (xq D) (xk D) (xs D) = Cert.Reference3Ideal.Read.val_main_v101 (F := Ideal) (xq D) (xk D) (xs D) := rfl
theorem same16 : val_main_v16 (F := Ideal) (xv D) = Cert.Reference3Ideal.Read.val_main_v20 (F := Ideal) (xv D) := rfl

variable (n : Fin 32) (q : Fin 128) (g : Fin 2) (r : Fin 4) (d : Fin 64)

theorem v75 : val_main_v75 (F := Ideal) (xq D) (xk D) (xv D) (xs D) (ix6 0 n g d r q) = ((D.O (tok n q) (head g r) d : ℝ) : EReal) := by
  pointwise [val_main_v75, same74, same16, v20, v101]
  simp only [← EReal.coe_mul, ← coe_sum, slot_mul]
  refine congrArg _ ?_
  rw [sum_slot_near n q _ fun u hu => by rw [D.P_far _ _ _ hu, mul_zero]]
  unfold Data.O; rw [grp_head]

theorem value (u : Fin 4096) (x : Fin 512) : val_main_v80 (F := Ideal) (xq D) (xk D) (xv D) (xs D) (ix2 u x)
    = ((D.O u (head ⟨x.val / 64 % 2, by omega⟩ ⟨x.val / 128, by omega⟩) ⟨x.val % 64, by omega⟩ : ℝ) : EReal) := by
  pointwise [val_main_v80, val_main_v79, val_main_v78, val_main_v77, val_main_v76, v75]
  rw [show tok ⟨u.val / 128, by omega⟩ ⟨u.val % 128, by omega⟩ = u from Fin.ext (by simp only [tok]; omega)]

end Cert.Reference4Ideal.Attn

end
-- ==== Proof.FwdValue.lean ====
module

public import proofs.«01_k».proof.Proof.AttnValue
public import proofs.«01_k».proof.Proof.FwdEntry
public import proofs.«01_k».proof.Proof.FwdRef
public import proofs.«01_k».proof.Proof.Gen.Pre_finite_attn_fwd

@[expose] public section

set_option maxRecDepth 16384
set_option backward.proofsInPublic true

/-! The attention forward's result at finite arguments is the reference's. -/

noncomputable section

namespace Cert.Kernel4Ideal.Attn

open Idealize.ShloMosaic Idealize.ShloMosaic.TcCoe Idealize.SL.Sem Cert.Kernel4Ideal.Gen Cert.Attn

variable (m : (ℓ : Loc nD τ sig) → Buf (Elt Ideal) ℓ) (c : Dev nD)

/-- Finite arguments hold real numbers. -/
theorem data (h : Pre_finite_attn_fwd.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    ∃ D, Holds m c D := by
  have e := congrFun h ix0
  simp only [Pre_finite_attn_fwd.fn] at e
  obtain ⟨e, e3⟩ := IntOp.andi_eq_one.1 e
  obtain ⟨e, e2⟩ := IntOp.andi_eq_one.1 e
  obtain ⟨e0, e1⟩ := IntOp.andi_eq_one.1 e
  have r {S : Shape} (a : FVec Ideal S .f32) (H : ∀ i, FloatOps.cmpf (F := Ideal) (φ := .f32) .olt (FloatOps.absf (F := Ideal) (φ := .f32) (a i))
      (Ideal.ofBits .f32 2139095040#32) = 1#1) : a = fun i => (((a i : EReal).toReal : ℝ) : EReal) :=
    funext fun i => (real_of_lt _ (H i)).symm
  refine ⟨⟨fun t x d => (m ((c.tc : Thread nD τ).loc main_arg0) (ix3 t x d) : EReal).toReal,
    fun t x d => (m ((c.tc : Thread nD τ).loc main_arg1) (ix3 t x d) : EReal).toReal,
    fun t x d => (m ((c.tc : Thread nD τ).loc main_arg2) (ix3 t x d) : EReal).toReal,
    fun x => (m ((c.tc : Thread nD τ).loc main_arg3) (ix1 x) : EReal).toReal, fun _ _ => 0⟩, ?_, ?_, ?_, ?_⟩
  · refine (r _ fun i => Host.reduce_andi_all _ _ _ _ _ e0 i).trans (funext fun i => ?_)
    exact congrArg (fun j => ((m ((c.tc : Thread nD τ).loc main_arg0) j : EReal).toReal : EReal)) (eq_ix3 i)
  · refine (r _ fun i => Host.reduce_andi_all _ _ _ _ _ e1 i).trans (funext fun i => ?_)
    exact congrArg (fun j => ((m ((c.tc : Thread nD τ).loc main_arg1) j : EReal).toReal : EReal)) (eq_ix3 i)
  · refine (r _ fun i => Host.reduce_andi_all _ _ _ _ _ e2 i).trans (funext fun i => ?_)
    exact congrArg (fun j => ((m ((c.tc : Thread nD τ).loc main_arg2) j : EReal).toReal : EReal)) (eq_ix3 i)
  · refine (r _ fun i => Host.reduce_andi_all _ _ _ _ _ e3 i).trans (funext fun i => ?_)
    exact congrArg (fun j => ((m ((c.tc : Thread nD τ).loc main_arg3) j : EReal).toReal : EReal)) (eq_ix1 i)

/-- The reference's result is the kernel's. -/
theorem value_ref (D : Data) (H : Holds m c D) :
    Cert.Reference4Ideal.Read.val_main_v80 (F := Ideal) (Cert.Reference3Ideal.Attn.xq D) (Cert.Reference3Ideal.Attn.xk D)
      (Cert.Reference3Ideal.Attn.xv D) (Cert.Reference3Ideal.Attn.xs D) = (dats m 0 c).arrAt 5 cfg0.N := by
  rw [value m c D H]
  funext i
  obtain ⟨t, x, rfl⟩ : ∃ (t : Fin 4096) (x : Fin 512), i = ix2 t x := ⟨i 0, i 1, eq_ix2 i⟩
  exact Cert.Reference4Ideal.Attn.value D t x

end Cert.Kernel4Ideal.Attn

end
-- ==== Proof.ParamsTile.lean ====
module

public import proofs.«01_k».proof.Proof.AttnReal
public import proofs.«01_k».proof.Proof.Gen.Kernel5Ideal.Skeleton
public import Idealize.ShloMosaic.Lib.Pointwise

@[expose] public section

set_option maxRecDepth 65536
set_option backward.proofsInPublic true

/-! The recurrence parameters' gradients: matrices of reals, the kernel's 0/1 masks, and what its products with them
select. -/

noncomputable section

namespace Cert.Params

open Idealize.ShloMosaic Cert.Kernel5Ideal Cert.Kernel5Ideal.Gen

/-- A matrix of reals as an array. -/
def mat {n m : ℕ} {φ : FTy} (f : Fin n → Fin m → ℝ) : FVec Ideal ⟨2, ![n, m]⟩ φ := fun i => ((f (i 0) (i 1) : ℝ) : EReal)

/-! Arithmetic of such arrays. -/

section arith

variable {n m : ℕ} (f g : Fin n → Fin m → ℝ) {φ : FTy}

theorem mat_mul : mulf (mat f (φ := φ)) (mat g) = mat fun r s => f r s * g r s := funext fun _ => (EReal.coe_mul _ _).symm

theorem mat_add : addf (mat f (φ := φ)) (mat g) = mat fun r s => f r s + g r s := funext fun _ => (EReal.coe_add _ _).symm

theorem mat_sub : subf (mat f (φ := φ)) (mat g) = mat fun r s => f r s - g r s := funext fun _ => (EReal.coe_sub _ _).symm

theorem mat_div (h : ∀ r s, g r s ≠ 0) : divf (mat f (φ := φ)) (mat g) = mat fun r s => f r s / g r s :=
  funext fun _ => Cert.Attn.div_coe _ (h _ _)

theorem mat_exp : exp (mat f (φ := φ)) = mat fun r s => Real.exp (f r s) := funext fun _ => rfl

theorem mat_cos : cos (mat f (φ := φ)) = mat fun r s => Real.cos (f r s) := funext fun _ => rfl

theorem mat_sin : sin (mat f (φ := φ)) = mat fun r s => Real.sin (f r s) := funext fun _ => rfl

end arith

theorem mat_trunc {n m : ℕ} (f : Fin n → Fin m → ℝ) (h : FTy.bits .bf16 < FTy.bits .f32) :
    truncf .bf16 (mat f : FVec Ideal ⟨2, ![n, m]⟩ .f32) h = mat f := rfl

theorem mat_ext {n m : ℕ} (f : Fin n → Fin m → ℝ) (h : FTy.bits .bf16 < FTy.bits .f32) :
    extf .f32 (mat f : FVec Ideal ⟨2, ![n, m]⟩ .bf16) h = mat f := rfl

/-! The kernel's products. -/

section dots

theorem dot_slab (f : Fin 128 → Fin 512 → ℝ) (g : Fin 512 → Fin 64 → ℝ) :
    matmul dot_S128x512_S512x64_S128x64_1_0_0_1_n_n none (mat f : FVec Ideal S128x512 .bf16) (mat g : FVec Ideal S512x64 .bf16)
      (constant S128x64 .f32 0x00000000#32) = mat fun r s => ∑ k, f r k * g k s := by
  refine funext fun i => ?_
  obtain ⟨r, s, rfl⟩ : ∃ r s, i = ix2 r s := ⟨i 0, i 1, eq_ix2 i⟩
  pointwise [mat]
  simp only [← EReal.coe_mul, ← Cert.Attn.coe_sum]

theorem dot_row (f : Fin 32 → Fin 2048 → ℝ) (g : Fin 2048 → Fin 64 → ℝ) :
    matmul dot_S32x2048_S2048x64_S32x64_1_0_0_1_n_n none (mat f : FVec Ideal S32x2048 .bf16) (mat g : FVec Ideal S2048x64 .bf16)
      (constant S32x64 .f32 0x00000000#32) = mat fun r s => ∑ k, f r k * g k s := by
  refine funext fun i => ?_
  obtain ⟨r, s, rfl⟩ : ∃ r s, i = ix2 r s := ⟨i 0, i 1, eq_ix2 i⟩
  pointwise [mat]
  simp only [← EReal.coe_mul, ← Cert.Attn.coe_sum]

theorem dot_repeat (f : Fin 1024 → Fin 64 → ℝ) (g : Fin 64 → Fin 64 → ℝ) :
    matmul dot_S1024x64_S64x64_S1024x64_1_0_0_1_n_n none (mat f : FVec Ideal S1024x64 .bf16) (mat g : FVec Ideal S64x64 .bf16)
      (constant S1024x64 .f32 0x00000000#32) = mat fun r s => ∑ k, f r k * g k s := by
  refine funext fun i => ?_
  obtain ⟨r, s, rfl⟩ : ∃ r s, i = ix2 r s := ⟨i 0, i 1, eq_ix2 i⟩
  pointwise [mat]
  simp only [← EReal.coe_mul, ← Cert.Attn.coe_sum]

theorem dot_gather (f g : Fin 1024 → Fin 64 → ℝ) :
    matmul dot_S1024x64_S1024x64_S64x64_0_0_1_1_n_n none (mat f : FVec Ideal S1024x64 .bf16) (mat g : FVec Ideal S1024x64 .bf16)
      (constant S64x64 .f32 0x00000000#32) = mat fun r s => ∑ k, f k r * g k s := by
  refine funext fun i => ?_
  obtain ⟨r, s, rfl⟩ : ∃ r s, i = ix2 r s := ⟨i 0, i 1, eq_ix2 i⟩
  pointwise [mat]
  simp only [← EReal.coe_mul, ← Cert.Attn.coe_sum]

end dots

/-! The masks. -/

/-- A count's remainder, as the kernel takes it. -/
def rem (b : BitVec 32) (n : ℕ) : BitVec 32 :=
  let d := Scalar.select (Scalar.cmpi .eq b 0#32) 1#32 b
  let r := IntOp.remsi .vector (BitVec.ofNat 32 n) d
  Scalar.select (IntOp.andi (IntOp.xori (IntOp.cmpi .slt r 0#32) (Scalar.cmpi .slt d 0#32)) (IntOp.cmpi .ne r 0#32)) (IntOp.addi r d) r

/-- A count's quotient, as the kernel takes it. -/
def quo (b : BitVec 32) (n : ℕ) : BitVec 32 :=
  let x := BitVec.ofNat 32 n
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt b 0#32)) (Scalar.extui (Scalar.cmpi .slt b 0#32))))
      (IntOp.cmpi .ne (IntOp.remsi .vector x b) 0#32))
    (IntOp.subi (IntOp.divsi .vector x b) 1#32) (IntOp.divsi .vector x b)

theorem rem_64 : ∀ n : Fin 2048, rem 64#32 n.val = BitVec.ofNat 32 (n.val % 64) := by decide +kernel

theorem quo_64 : ∀ n : Fin 2048, quo 64#32 n.val = BitVec.ofNat 32 (n.val / 64) := by decide +kernel

theorem quo_16 : ∀ n : Fin 1024, quo 16#32 n.val = BitVec.ofNat 32 (n.val / 16) := by decide +kernel

theorem cmpi_other {a b : ℕ} (ha : a < 4096) (hb : b < 4096) (h : a ≠ b) :
    IntOp.cmpi .eq (BitVec.ofNat 32 a) (BitVec.ofNat 32 b) = 0#1 := by
  have w : BitVec.ofNat 32 a ≠ BitVec.ofNat 32 b := fun w => h (by
    have := congrArg BitVec.toNat w
    rw [BitVec.toNat_ofNat, BitVec.toNat_ofNat] at this
    omega)
  show BitVec.ofBool (BitVec.ofNat 32 a == BitVec.ofNat 32 b) = 0#1
  rw [beq_eq_false_iff_ne.mpr w]
  rfl

/-- Two small counts compared, as a number. -/
theorem same {a b : ℕ} (ha : a < 4096) (hb : b < 4096) :
    (FloatOps.sitofp .f32 (BitVec.setWidth 32 (IntOp.cmpi .eq (BitVec.ofNat 32 a) (BitVec.ofNat 32 b))) : Ideal .f32)
      = (((if a = b then 1 else 0 : ℝ)) : EReal) := by
  by_cases h : a = b
  · subst h
    rw [if_pos rfl, show IntOp.cmpi .eq (BitVec.ofNat 32 a) (BitVec.ofNat 32 a) = 1#1 from by simp [IntOp.cmpi]]
    show (((BitVec.setWidth 32 1#1).toInt : ℝ) : EReal) = _
    norm_num
  · rw [if_neg h, cmpi_other ha hb h]
    show (((BitVec.setWidth 32 0#1).toInt : ℝ) : EReal) = _
    norm_num

theorem spread_eq : (k0_pay1 (F := Ideal)) = mat fun r s => if r.val % 64 = s.val then 1 else 0 := by
  refine funext fun i => ?_
  obtain ⟨r, s, rfl⟩ : ∃ r s, i = ix2 r s := ⟨i 0, i 1, eq_ix2 i⟩
  pointwise [k0_pay1, mat]
  change FloatOps.sitofp .f32 (BitVec.setWidth 32 (IntOp.cmpi .eq (rem 64#32 r.val) (BitVec.ofNat 32 s.val))) = _
  rw [rem_64 ⟨r.val, by omega⟩]
  exact same (by omega) (by omega)

theorem keep_eq : k0_pay3 (F := Ideal) k0_pay2 (iota .tc S128x512 32 [1] iota_S128x512_d1_w32)
    = mat fun r s => if r.val / 16 = s.val / 64 then 1 else 0 := by
  refine funext fun i => ?_
  obtain ⟨r, s, rfl⟩ : ∃ r s, i = ix2 r s := ⟨i 0, i 1, eq_ix2 i⟩
  pointwise [k0_pay3, k0_pay2, mat]
  change FloatOps.sitofp .f32 (BitVec.setWidth 32 (IntOp.cmpi .eq (quo 16#32 r.val) (quo 64#32 s.val))) = _
  rw [quo_16 ⟨r.val, by omega⟩, quo_64 ⟨s.val, by omega⟩]
  exact same (by omega) (by omega)

theorem repeat_eq : k0_pay8 (F := Ideal) k0_pay4 k0_pay5 k0_pay6 k0_pay7 = mat fun r s => if r.val / 16 = s.val then 1 else 0 := by
  refine funext fun i => ?_
  obtain ⟨r, s, rfl⟩ : ∃ r s, i = ix2 r s := ⟨i 0, i 1, eq_ix2 i⟩
  pointwise [k0_pay8, k0_pay4, k0_pay5, k0_pay6, k0_pay7, mat]
  change FloatOps.sitofp .f32 (BitVec.setWidth 32 (IntOp.cmpi .eq (quo 16#32 r.val) (BitVec.ofNat 32 s.val))) = _
  rw [quo_16 r]
  exact same (by omega) (by omega)

theorem group_eq : (k0_pay78 (F := Ideal)) = mat fun r s => if r.val = s.val / 64 then 1 else 0 := by
  refine funext fun i => ?_
  obtain ⟨r, s, rfl⟩ : ∃ r s, i = ix2 r s := ⟨i 0, i 1, eq_ix2 i⟩
  pointwise [k0_pay78, mat]
  change FloatOps.sitofp .f32 (BitVec.setWidth 32 (IntOp.cmpi .eq (BitVec.ofNat 32 r.val) (quo 64#32 s.val))) = _
  rw [quo_64 s]
  exact same (by omega) (by omega)

theorem pick_eq : k0_pay79 (F := Ideal) (iota .tc S2048x64 32 [0] iota_S2048x64_d0_w32) 64#32
    = mat fun r s => if r.val % 64 = s.val then 1 else 0 := by
  refine funext fun i => ?_
  obtain ⟨r, s, rfl⟩ : ∃ r s, i = ix2 r s := ⟨i 0, i 1, eq_ix2 i⟩
  pointwise [k0_pay79, mat]
  change FloatOps.sitofp .f32 (BitVec.setWidth 32 (IntOp.cmpi .eq (rem 64#32 r.val) (BitVec.ofNat 32 s.val))) = _
  rw [rem_64 r]
  exact same (by omega) (by omega)

/-! What the products select. -/

/-- A sum in which one term stays. -/
theorem sum_one {ι : Type} [Fintype ι] [DecidableEq ι] (j : ι) (p : ι → Prop) [DecidablePred p] (h : ∀ k, p k ↔ k = j) (f : ι → ℝ) :
    ∑ k, f k * (if p k then 1 else 0) = f j := by
  rw [Finset.sum_eq_single j (fun k _ hk => by rw [if_neg (fun w => hk ((h k).mp w)), mul_zero]) (fun w => absurd (Finset.mem_univ j) w),
    if_pos ((h j).mpr rfl), mul_one]

/-- A number's three parts, each times a weight. -/
theorem three (a b c : ℝ) (h : b = 0) (h' : c = 0) : a + b + c = a := by rw [h, h', add_zero, add_zero]

/-- A slab's rows as its own numbers: row `r`'s stand in its group's 64 columns. -/
def dense (T : Fin 128 → Fin 64 → ℝ) (r : Fin 128) (c : Fin 512) : ℝ :=
  if r.val / 16 = c.val / 64 then T r ⟨c.val % 64, by omega⟩ else 0

theorem slab_eq (T : Fin 128 → Fin 64 → ℝ) (v : Vec Ideal S1x1x128x512 .f32)
    (h : shapeCast S128x512 v shapeCasts_S1x1x128x512_S128x512 = (mat (dense T) : FVec Ideal S128x512 .f32)) :
    k0_pay20 k0_pay1 (k0_pay3 k0_pay2 (iota .tc S128x512 32 [1] iota_S128x512_d1_w32)) v = mat T := by
  unfold k0_pay20
  rw [spread_eq, keep_eq]
  simp only [h, mat_mul, mat_sub, mat_trunc, mat_ext, dot_slab, mat_add]
  refine congrArg mat (funext fun r => funext fun s => ?_)
  refine (three _ _ _ (by simp) (by simp)).trans ?_
  have e : ∀ k : Fin 512, dense T r k * (if r.val / 16 = k.val / 64 then 1 else 0) * (if k.val % 64 = s.val then 1 else 0)
      = T r s * (if k.val / 64 = r.val / 16 ∧ k.val % 64 = s.val then 1 else 0) := fun k => by
    unfold dense
    by_cases h1 : r.val / 16 = k.val / 64 <;> by_cases h2 : k.val % 64 = s.val
    · rw [if_pos h1, if_pos h1, if_pos h2, if_pos ⟨h1.symm, h2⟩, show (⟨k.val % 64, by omega⟩ : Fin 64) = s from Fin.ext h2, mul_one]
    all_goals simp [h1, h2, eq_comm]
  rw [Finset.sum_congr rfl fun k _ => e k]
  exact sum_one (⟨64 * (r.val / 16) + s.val, by omega⟩ : Fin 512) _ (fun k => by rw [Fin.ext_iff]; simp only; omega) fun _ => T r s

/-- A row of numbers over its groups, in the first of eight rows. -/
def topRow (L : Fin 32 → Fin 64 → ℝ) (r : Fin 8) (c : Fin 2048) : ℝ := if r.val = 0 then L ⟨c.val / 64, by omega⟩ ⟨c.val % 64, by omega⟩ else 0

theorem row_eq (L : Fin 32 → Fin 64 → ℝ) (v : Vec Ideal S1x8x2048 .f32)
    (h : shapeCast S8x2048 v shapeCasts_S1x8x2048_S8x2048 = (mat (topRow L) : FVec Ideal S8x2048 .f32)) :
    k0_pay82 k0_pay78 (k0_pay79 (iota .tc S2048x64 32 [0] iota_S2048x64_d0_w32) 64#32) v = mat L := by
  have hr : broadcastTo S32x2048 (shapeCast S1x2048 (multiReduction .add [0] S2048 (mat (topRow L) : FVec Ideal S8x2048 .f32) 0x00000000#32
      reduces_S8x2048_S2048 (.inl rfl) rfl) shapeCasts_S2048_S1x2048) broadcasts_S1x2048_S32x2048
      = mat fun _ c => L ⟨c.val / 64, by omega⟩ ⟨c.val % 64, by omega⟩ := by
    refine funext fun i => ?_
    obtain ⟨r, c, rfl⟩ : ∃ r c, i = ix2 r c := ⟨i 0, i 1, eq_ix2 i⟩
    pointwise [mat]
    simp only [← Cert.Attn.coe_sum]
    congr 1
    simp [Fin.sum_univ_succ, topRow]
  unfold k0_pay82
  rw [group_eq, pick_eq]
  simp only [h, hr, mat_mul, mat_sub, mat_trunc, mat_ext, dot_row, mat_add]
  refine congrArg mat (funext fun r => funext fun s => ?_)
  refine (three _ _ _ (by simp) (by simp)).trans ?_
  have e : ∀ k : Fin 2048, (if r.val = k.val / 64 then 1 else 0) * L ⟨k.val / 64, by omega⟩ ⟨k.val % 64, by omega⟩
      * (if k.val % 64 = s.val then 1 else 0) = L r s * (if k.val / 64 = r.val ∧ k.val % 64 = s.val then 1 else 0) := fun k => by
    by_cases h1 : r.val = k.val / 64 <;> by_cases h2 : k.val % 64 = s.val
    · rw [if_pos h1, if_pos h2, if_pos ⟨h1.symm, h2⟩, show (⟨k.val % 64, by omega⟩ : Fin 64) = s from Fin.ext h2,
        show (⟨k.val / 64, by omega⟩ : Fin 32) = r from Fin.ext h1.symm, one_mul]
    all_goals simp [h1, h2, eq_comm]
  rw [Finset.sum_congr rfl fun k _ => e k]
  exact sum_one (⟨64 * r.val + s.val, by omega⟩ : Fin 2048) _ (fun k => by rw [Fin.ext_iff]; simp only; omega) fun _ => L r s

/-- A channel's group. -/
def own (r : Fin 1024) : Fin 64 := ⟨r.val / 16, by omega⟩

/-- A group's channel `c`. -/
def chan (r : Fin 64) (c : Fin 16) : Fin 1024 := ⟨16 * r.val + c.val, by omega⟩

theorem own_chan (r : Fin 64) (c : Fin 16) : own (chan r c) = r := Fin.ext (by unfold own chan; simp only; omega)

/-- Groups' numbers repeated over their channels: the mask's row keeps one. -/
theorem repeat_sum (f : Fin 64 → Fin 64 → ℝ) (r : Fin 1024) (s : Fin 64) :
    ∑ k : Fin 64, (if r.val / 16 = k.val then 1 else 0) * f k s = f (own r) s := by
  rw [Finset.sum_congr rfl fun k _ => mul_comm _ (f k s)]
  exact sum_one (own r) _ (fun k => by rw [Fin.ext_iff]; unfold own; simp only; omega) fun k => f k s

/-- Channels' numbers summed over their group: the mask's column keeps 16. -/
theorem gather_sum (f : Fin 1024 → Fin 64 → ℝ) (r s : Fin 64) :
    ∑ k : Fin 1024, (if k.val / 16 = r.val then 1 else 0) * f k s = ∑ c, f (chan r c) s := by
  rw [← (finProdFinEquiv (m := 64) (n := 16)).sum_comp, Fintype.sum_prod_type, Finset.sum_eq_single r]
  · refine Finset.sum_congr rfl fun c _ => ?_
    rw [show finProdFinEquiv (r, c) = chan r c from Fin.ext (by simp [chan, finProdFinEquiv]; omega),
      if_pos (by unfold chan; simp only; omega), one_mul]
  · intro b _ hb
    refine Finset.sum_eq_zero fun c _ => ?_
    rw [if_neg, zero_mul]
    intro w
    refine hb (Fin.ext ?_)
    simp [finProdFinEquiv] at w
    omega
  · exact fun w => absurd (Finset.mem_univ r) w

end Cert.Params

end
-- ==== Proof.ParamsMath.lean ====
module

public import proofs.«01_k».proof.Proof.ParamsTile

@[expose] public section

set_option maxRecDepth 65536
set_option backward.proofsInPublic true

/-! The recurrence parameters' gradients over the real numbers, and the kernel's values. -/

noncomputable section

namespace Cert.Params

open Idealize.ShloMosaic Cert.Kernel5Ideal Cert.Kernel5Ideal.Gen

/-- The arguments: the poles' parts, the steps' logarithms, the input weights' parts; the cotangents of the decays, of the
scaled input weights and of the output weights, each in parts. A row is a direction and a group; a channel's, one of its
group's 16. -/
structure Data where
  A : Fin 64 → Fin 64 → ℝ
  B : Fin 64 → Fin 64 → ℝ
  T : Fin 64 → ℝ
  Br : Fin 1024 → Fin 64 → ℝ
  Bi : Fin 1024 → Fin 64 → ℝ
  Gr : Fin 1024 → Fin 64 → ℝ
  Gi : Fin 1024 → Fin 64 → ℝ
  Cr : Fin 1024 → Fin 64 → ℝ
  Ci : Fin 1024 → Fin 64 → ℝ
  Lr : Fin 64 → Fin 64 → ℝ
  Li : Fin 64 → Fin 64 → ℝ
  pole : ∀ r s, A r s * A r s + B r s * B r s ≠ 0

namespace Data

variable (D : Data) (r s : Fin 64) (x : Fin 1024)

/-- The step. -/
def dt : ℝ := Real.exp (D.T r)

/-- The decay's modulus. -/
def mag : ℝ := Real.exp (D.dt r * D.A r s)

/-- The decay's real part. -/
def lr : ℝ := D.mag r s * Real.cos (D.dt r * D.B r s)

/-- The decay's imaginary part. -/
def li : ℝ := D.mag r s * Real.sin (D.dt r * D.B r s)

/-- The pole's squared modulus. -/
def den : ℝ := D.A r s * D.A r s + D.B r s * D.B r s

/-- The scale's numerator, real part. -/
def nr : ℝ := (D.lr r s - 1) * D.A r s + D.li r s * D.B r s

/-- The scale's numerator, imaginary part. -/
def ni : ℝ := D.li r s * D.A r s - (D.lr r s - 1) * D.B r s

/-- The input weights' real parts' gradient. -/
def gbr : ℝ := D.nr (own x) s / D.den (own x) s * D.Gr x s + D.ni (own x) s / D.den (own x) s * D.Gi x s

/-- The input weights' imaginary parts' gradient. -/
def gbi : ℝ := D.nr (own x) s / D.den (own x) s * D.Gi x s - D.ni (own x) s / D.den (own x) s * D.Gr x s

/-- The scale's cotangent, real part. -/
def sr : ℝ := ∑ c, (D.Br (chan r c) s * D.Gr (chan r c) s + D.Bi (chan r c) s * D.Gi (chan r c) s)

/-- The scale's cotangent, imaginary part. -/
def si : ℝ := ∑ c, (D.Br (chan r c) s * D.Gi (chan r c) s - D.Bi (chan r c) s * D.Gr (chan r c) s)

/-- The denominator's cotangent. -/
def gden : ℝ := (0 - (D.sr r s * D.nr r s + D.si r s * D.ni r s)) / (D.den r s * D.den r s)

/-- The decay's whole cotangent, real part. -/
def glr : ℝ := D.Lr r s + D.sr r s / D.den r s * D.A r s - D.si r s / D.den r s * D.B r s

/-- The decay's whole cotangent, imaginary part. -/
def gli : ℝ := D.Li r s + D.sr r s / D.den r s * D.B r s + D.si r s / D.den r s * D.A r s

/-- The modulus's cotangent. -/
def gmag : ℝ := (D.glr r s * D.lr r s + D.gli r s * D.li r s) / D.mag r s

/-- The angle's cotangent. -/
def gang : ℝ := D.gli r s * D.lr r s - D.glr r s * D.li r s

/-- The poles' real parts' gradient. -/
def gar : ℝ := D.sr r s / D.den r s * (D.lr r s - 1) + D.si r s / D.den r s * D.li r s + D.gden r s * 2 * D.A r s
    + D.gmag r s * D.mag r s * D.dt r

/-- The poles' imaginary parts' gradient. -/
def gai : ℝ := D.sr r s / D.den r s * D.li r s - D.si r s / D.den r s * (D.lr r s - 1) + D.gden r s * 2 * D.B r s
    + D.gang r s * D.dt r

/-- The steps' logarithms' gradient. -/
def gdt : ℝ := (∑ s, (D.gmag r s * D.mag r s * D.A r s + D.gang r s * D.B r s)) * D.dt r

theorem mag_ne : D.mag r s ≠ 0 := (Real.exp_pos _).ne'

theorem den_ne : D.den r s ≠ 0 := D.pole r s

theorem den_ne2 : D.den r s * D.den r s ≠ 0 := mul_ne_zero (D.den_ne r s) (D.den_ne r s)

end Data

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_none : Ideal.ofBits .f32 0x00000000#32 = ((0 : ℝ) : EReal) := by
  simp [Ideal.ofBits, Ideal.ieee, -EReal.coe_mul]

/-- A number in every place. -/
theorem mat_fill {x : Ideal .f32} {y : ℝ} (h : x = (y : EReal)) : (broadcast S64x64 x : FVec Ideal S64x64 .f32) = mat fun _ _ => y :=
  funext fun _ => h

theorem one_fill : (broadcast S64x64 (Scalar.ofBits .f32 0x3F800000#32) : FVec Ideal S64x64 .f32) = mat fun _ _ => 1 :=
  mat_fill ofBits_one

theorem two_fill : (broadcast S64x64 (Scalar.ofBits .f32 0x40000000#32) : FVec Ideal S64x64 .f32) = mat fun _ _ => 2 :=
  mat_fill ofBits_two

theorem zero_fill : (broadcast S64x64 (Scalar.ofBits .f32 0x00000000#32) : FVec Ideal S64x64 .f32) = mat fun _ _ => 0 :=
  mat_fill ofBits_none

/-- A column in every column. -/
theorem mat_wide (f : Fin 64 → ℝ) : broadcastTo S64x64 (mat fun r (_ : Fin 1) => f r : FVec Ideal S64x1 .f32) broadcasts_S64x1_S64x64
    = mat fun r _ => f r := by
  refine funext fun i => ?_
  obtain ⟨r, s, rfl⟩ : ∃ r s, i = ix2 r s := ⟨i 0, i 1, eq_ix2 i⟩
  pointwise [mat]

/-- A matrix's rows summed. -/
theorem mat_sum (f : Fin 64 → Fin 64 → ℝ) : shapeCast S64x1 (multiReduction .add [1] S64 (mat f : FVec Ideal S64x64 .f32) 0x00000000#32
    reduces_S64x64_S64 (.inl rfl) rfl) shapeCasts_S64_S64x1 = (mat fun r _ => ∑ s, f r s : FVec Ideal S64x1 .f32) := by
  refine funext fun i => ?_
  obtain ⟨r, s, rfl⟩ : ∃ r s, i = ix2 r s := ⟨i 0, i 1, eq_ix2 i⟩
  pointwise [mat]
  simp only [← Cert.Attn.coe_sum]

variable (D : Data)

/-- The loaded blocks hold the data's numbers. -/
structure Loads (v817 v820 : Vec Ideal S1x2x32x64 .f32) (v823 : Vec Ideal S64x1 .f32) (v878 v881 : Vec Ideal S1x2x32x16x64 .f32)
    (v884 v886 : Vec Ideal S1x1024x64 .f32) : Prop where
  a : k0_pay85 v817 = mat D.A
  b : k0_pay86 v820 = mat D.B
  t : v823 = (mat fun r _ => D.T r : FVec Ideal S64x1 .f32)
  br : k0_pay97 v878 = mat D.Br
  bi : k0_pay98 v881 = mat D.Bi
  gr : k0_pay99 v884 = mat D.Gr
  gi : k0_pay100 v886 = mat D.Gi

theorem dt_eq : k0_pay87 (mat fun r (_ : Fin 1) => D.T r : FVec Ideal S64x1 .f32) = mat fun r _ => D.dt r := by
  refine funext fun i => ?_
  obtain ⟨r, s, rfl⟩ : ∃ r s, i = ix2 r s := ⟨i 0, i 1, eq_ix2 i⟩
  pointwise [k0_pay87, mat]
  rfl

variable {D} {v817 v820 : Vec Ideal S1x2x32x64 .f32} {v823 : Vec Ideal S64x1 .f32} {v878 v881 : Vec Ideal S1x2x32x16x64 .f32}
  {v884 v886 : Vec Ideal S1x1024x64 .f32} (H : Loads D v817 v820 v823 v878 v881 v884 v886)

section
include H

theorem mag_eq : k0_pay88 v817 v823 = mat D.mag := by
  unfold k0_pay88; simp only [H.a, H.t, dt_eq, mat_wide, mat_mul, mat_exp]; rfl

theorem step_eq : k0_pay89 v823 = mat fun r _ => D.dt r := by
  unfold k0_pay89; simp only [H.t, dt_eq, mat_wide]

end

variable (D)

theorem lr_eq : k0_pay90 (mat D.B) (mat D.mag) (mat fun r _ => D.dt r) = (mat D.lr : FVec Ideal S64x64 .f32) := by
  unfold k0_pay90; simp only [mat_mul, mat_cos]; rfl

theorem li_eq : k0_pay91 (mat D.B) (mat fun r _ => D.dt r) (mat D.mag) = (mat D.li : FVec Ideal S64x64 .f32) := by
  unfold k0_pay91; simp only [mat_wide, mat_mul, mat_sin]; rfl

theorem den_eq : k0_pay92 (mat D.A) (mat D.B) = (mat D.den : FVec Ideal S64x64 .f32) := by
  unfold k0_pay92; simp only [mat_mul, mat_add]; rfl

theorem nr_eq : k0_pay93 (mat D.A) (mat D.B) (mat fun r _ => D.dt r) (mat D.mag) (mat fun r _ => D.dt r)
    = (mat D.nr : FVec Ideal S64x64 .f32) := by
  unfold k0_pay93; simp only [lr_eq, li_eq, one_fill, mat_mul, mat_add, mat_sub]; rfl

theorem ni_eq : k0_pay94 (mat D.A) (mat D.B) (mat fun r _ => D.dt r) (mat D.mag) (mat fun r _ => D.dt r)
    = (mat D.ni : FVec Ideal S64x64 .f32) := by
  unfold k0_pay94; simp only [lr_eq, li_eq, one_fill, mat_mul, mat_sub]; rfl

/-- The kernel's repetition over channels. -/
abbrev rep : FVec Ideal S1024x64 .f32 := mat fun r s => if r.val / 16 = s.val then 1 else 0

theorem fr_eq : k0_pay95 rep (mat D.A) (mat D.B) (mat fun r _ => D.dt r) (mat D.mag) (mat fun r _ => D.dt r)
    = (mat fun x s => D.nr (own x) s / D.den (own x) s : FVec Ideal S1024x64 .f32) := by
  unfold k0_pay95
  simp only [nr_eq, den_eq, mat_div _ _ D.den_ne, mat_sub, mat_trunc, mat_ext, dot_repeat, mat_add]
  exact congrArg mat (funext fun r => funext fun s =>
    (three _ _ _ (by simp) (by simp)).trans (repeat_sum (fun r s => D.nr r s / D.den r s) r s))

theorem fi_eq : k0_pay96 rep (mat D.A) (mat D.B) (mat fun r _ => D.dt r) (mat D.mag) (mat fun r _ => D.dt r)
    = (mat fun x s => D.ni (own x) s / D.den (own x) s : FVec Ideal S1024x64 .f32) := by
  unfold k0_pay96
  simp only [ni_eq, den_eq, mat_div _ _ D.den_ne, mat_sub, mat_trunc, mat_ext, dot_repeat, mat_add]
  exact congrArg mat (funext fun r => funext fun s =>
    (three _ _ _ (by simp) (by simp)).trans (repeat_sum (fun r s => D.ni r s / D.den r s) r s))

variable {D}

section
include H

theorem gbr_eq : k0_pay101 (mat fun x s => D.nr (own x) s / D.den (own x) s) (mat fun x s => D.ni (own x) s / D.den (own x) s) v884 v886
    = (mat fun x s => D.gbr s x : FVec Ideal S1024x64 .f32) := by
  unfold k0_pay101; simp only [H.gr, H.gi, mat_mul, mat_add]; rfl

theorem gbi_eq : k0_pay102 (mat fun x s => D.nr (own x) s / D.den (own x) s) (mat fun x s => D.ni (own x) s / D.den (own x) s) v884 v886
    = (mat fun x s => D.gbi s x : FVec Ideal S1024x64 .f32) := by
  unfold k0_pay102; simp only [H.gr, H.gi, mat_mul, mat_sub]; rfl

theorem sr_eq : k0_pay103 rep v878 v881 v884 v886 = mat D.sr := by
  unfold k0_pay103
  simp only [H.br, H.bi, H.gr, H.gi, mat_mul, mat_add, mat_sub, mat_trunc, mat_ext, dot_gather]
  exact congrArg mat (funext fun r => funext fun s =>
    (three _ _ _ (by simp) (by simp)).trans (gather_sum (fun x s => D.Br x s * D.Gr x s + D.Bi x s * D.Gi x s) r s))

theorem cross_eq : k0_pay104 v878 v881 v884 v886 = mat fun x s => D.Br x s * D.Gi x s - D.Bi x s * D.Gr x s := by
  unfold k0_pay104; simp only [H.br, H.bi, H.gr, H.gi, mat_mul, mat_sub]

theorem si_eq : k0_pay107 (k0_pay104 v878 v881 v884 v886) (k0_pay105 rep) (k0_pay106 v878 v881 v884 v886) = mat D.si := by
  unfold k0_pay107 k0_pay105 k0_pay106
  simp only [cross_eq H, mat_add, mat_sub, mat_trunc, mat_ext, dot_gather]
  exact congrArg mat (funext fun r => funext fun s =>
    (three _ _ _ (by simp) (by simp)).trans (gather_sum (fun x s => D.Br x s * D.Gi x s - D.Bi x s * D.Gr x s) r s))

local notation "𝕏" => k0_pay104 v878 v881 v884 v886

theorem qr_eq : k0_pay108 (mat D.den) (mat D.sr) = (mat fun r s => D.sr r s / D.den r s : FVec Ideal S64x64 .f32) := by
  unfold k0_pay108; simp only [mat_div _ _ D.den_ne]

theorem qi_eq : k0_pay109 (mat D.den) 𝕏 (k0_pay105 rep) (k0_pay106 v878 v881 v884 v886)
    = (mat fun r s => D.si r s / D.den r s : FVec Ideal S64x64 .f32) := by
  unfold k0_pay109; simp only [si_eq H, mat_div _ _ D.den_ne]

theorem gden_eq : k0_pay110 (mat D.den) (mat D.nr) (mat D.ni) (mat D.sr) 𝕏 (k0_pay105 rep) (k0_pay106 v878 v881 v884 v886)
    = mat D.gden := by
  unfold k0_pay110; simp only [si_eq H, zero_fill, mat_mul, mat_add, mat_sub, mat_div _ _ D.den_ne2]; rfl

variable {v937 v943 : Vec Ideal S1x64x64 .f32}

theorem glr_eq (h : shapeCast S64x64 v937 shapeCasts_S1x64x64_S64x64 = (mat D.Lr : FVec Ideal S64x64 .f32)) :
    k0_pay111 (mat D.A) (mat D.B) (mat D.den) (mat D.sr) 𝕏 (k0_pay105 rep) (k0_pay106 v878 v881 v884 v886) v937 = mat D.glr := by
  unfold k0_pay111; simp only [h, qr_eq H, qi_eq H, mat_mul, mat_add, mat_sub]; rfl

theorem gli_eq (h : shapeCast S64x64 v943 shapeCasts_S1x64x64_S64x64 = (mat D.Li : FVec Ideal S64x64 .f32)) :
    k0_pay112 (mat D.A) (mat D.B) (mat D.den) (mat D.sr) 𝕏 (k0_pay105 rep) (k0_pay106 v878 v881 v884 v886) v943 = mat D.gli := by
  unfold k0_pay112; simp only [h, qr_eq H, qi_eq H, mat_mul, mat_add]; rfl

theorem car_eq : k0_pay113 (mat D.A) (mat D.lr) (mat D.li) (mat D.den) (mat D.nr) (mat D.ni) (mat D.sr) 𝕏 (k0_pay105 rep)
    (k0_pay106 v878 v881 v884 v886) = mat fun r s => D.sr r s / D.den r s * (D.lr r s - 1) + D.si r s / D.den r s * D.li r s
      + D.gden r s * 2 * D.A r s := by
  unfold k0_pay113; simp only [qr_eq H, qi_eq H, gden_eq H, one_fill, two_fill, mat_mul, mat_add, mat_sub]

theorem cai_eq : k0_pay114 (mat D.lr) (mat D.li) (mat D.den) (mat D.sr) 𝕏 (k0_pay105 rep)
    (k0_pay106 v878 v881 v884 v886) = mat fun r s => D.sr r s / D.den r s * D.li r s - D.si r s / D.den r s * (D.lr r s - 1) := by
  unfold k0_pay114; simp only [qr_eq H, qi_eq H, one_fill, mat_mul, mat_sub]

end

variable (D)

theorem gmag_eq : k0_pay115 (mat D.mag) (mat D.lr) (mat D.li) (mat D.glr) (mat D.gli) = (mat D.gmag : FVec Ideal S64x64 .f32) := by
  unfold k0_pay115; simp only [mat_mul, mat_add, mat_div _ _ D.mag_ne]; rfl

theorem gang_eq : k0_pay116 (mat D.lr) (mat D.li) (mat D.glr) (mat D.gli) = (mat D.gang : FVec Ideal S64x64 .f32) := by
  unfold k0_pay116; simp only [mat_mul, mat_sub]; rfl

theorem gar_eq : k0_pay117 (mat fun r _ => D.dt r) (mat D.mag) (mat D.lr) (mat D.li) (mat D.glr) (mat D.gli)
    (mat fun r s => D.sr r s / D.den r s * (D.lr r s - 1) + D.si r s / D.den r s * D.li r s + D.gden r s * 2 * D.A r s)
      = (mat D.gar : FVec Ideal S64x64 .f32) := by
  unfold k0_pay117; simp only [gmag_eq, mat_wide, mat_mul, mat_add]; rfl

theorem gai_eq : k0_pay118 (mat D.B) (mat fun r _ => D.dt r) (mat D.lr) (mat D.li) (mat D.gden) (mat D.glr) (mat D.gli)
    (mat fun r s => D.sr r s / D.den r s * D.li r s - D.si r s / D.den r s * (D.lr r s - 1)) (Scalar.ofBits .f32 0x40000000#32)
      = (mat D.gai : FVec Ideal S64x64 .f32) := by
  unfold k0_pay118; simp only [gang_eq, two_fill, mat_wide, mat_mul, mat_add]; rfl

theorem gdt_eq : k0_pay119 (mat D.A) (mat D.B) (mat fun r _ => D.dt r) (mat D.mag) (mat D.lr) (mat D.li) (mat D.glr) (mat D.gli)
    = (mat fun r _ => D.gdt r : FVec Ideal S64x1 .f32) := by
  unfold k0_pay119; simp only [gmag_eq, gang_eq, mat_mul, mat_add]
  exact (congrArg (fun v => mulf v _) (mat_sum _)).trans (mat_mul _ _)

end Cert.Params

end
-- ==== Proof.ParamsRun.lean ====
module

public import proofs.«01_k».proof.Proof.ParamsMath
public import proofs.«01_k».proof.Proof.Gen.Kernel5Ideal.Value
public import Idealize.ShloMosaic.Lib.Pipeline.ValueKit

@[expose] public section

set_option maxRecDepth 65536
set_option backward.proofsInPublic true

/-! What the recurrence parameters' body stores, over the blocks it loads. -/

noncomputable section

namespace Cert.Params

open Idealize.ShloMosaic Idealize.ShloMosaic.TcCoe Idealize.SL.Sem Cert.Kernel5Ideal Cert.Kernel5Ideal.Gen

/-- Slabs as they are loaded, by part and slab. -/
abbrev Slabs := Fin 2 → Fin 8 → Vec Ideal S1x1x128x512 .f32

/-- The decays' cotangents' rows as they are loaded, by part and direction. -/
abbrev Rows := Fin 2 → Fin 2 → Vec Ideal S1x8x2048 .f32

/-- One slab of a block. -/
def slabOf (arg : Memref sig .tc .vmem S2x4x128x512 .f32) (harg : arg.IsWhole) (x : Vec Ideal S2x4x128x512 .f32) (q : Fin 2) (k : Fin 4) :
    Vec Ideal S1x1x128x512 .f32 :=
  View.readAt (Elt Ideal) arg.view (Rect.unit (s := S2x4x128x512) ![q.val, k.val, 0, 0] S1x1x128x512.size
    (by intro a; fin_cases a <;> simp <;> omega)).toLoadRect (harg.unread x)

/-- One part's rows of a block. -/
def rowsOf (arg : Memref sig .tc .vmem S2x8x2048 .f32) (harg : arg.IsWhole) (x : Vec Ideal S2x8x2048 .f32) (q : Fin 2) :
    Vec Ideal S1x8x2048 .f32 :=
  View.readAt (Elt Ideal) arg.view (Rect.unit (s := S2x8x2048) ![q.val, 0, 0] S1x8x2048.size
    (by intro a; fin_cases a <;> simp <;> omega)).toLoadRect (harg.unread x)

/-- Two blocks' slabs in the order of their channels. -/
def slabsOf (arg arg' : Memref sig .tc .vmem S2x4x128x512 .f32) (harg : arg.IsWhole) (harg' : arg'.IsWhole) (x x' : Vec Ideal S2x4x128x512 .f32) : Slabs :=
  fun q => ![slabOf arg harg x q 0, slabOf arg harg x q 1, slabOf arg harg x q 2, slabOf arg harg x q 3,
    slabOf arg' harg' x' q 0, slabOf arg' harg' x' q 1, slabOf arg' harg' x' q 2, slabOf arg' harg' x' q 3]

/-- The kernel's mask of a slab's own columns. -/
abbrev keep : FVec Ideal S128x512 .f32 := k0_pay3 k0_pay2 (iota .tc S128x512 32 [1] iota_S128x512_d1_w32)

/-- The kernel's mask of a row's own columns. -/
abbrev pick : FVec Ideal S2048x64 .f32 := k0_pay79 (iota .tc S2048x64 32 [0] iota_S2048x64_d0_w32) 64#32

/-- A slab's numbers, one column to a state. -/
abbrev sel (v : Vec Ideal S1x1x128x512 .f32) : FVec Ideal S128x64 .f32 := k0_pay20 k0_pay1 keep v

/-- The output weights' stores. -/
def outStores (r : Fin 8 → Vec Ideal S1x1x128x512 .f32) : List (View.Piece (Elt Ideal) S1024x64 .f32) :=
  [⟨Rect.unit (s := S1024x64) ![896, 0] S128x64.size inb_S1024x64_S128x64_896_0, sel (r 7)⟩,
   ⟨Rect.unit (s := S1024x64) ![768, 0] S128x64.size inb_S1024x64_S128x64_768_0, sel (r 6)⟩,
   ⟨Rect.unit (s := S1024x64) ![640, 0] S128x64.size inb_S1024x64_S128x64_640_0, sel (r 5)⟩,
   ⟨Rect.unit (s := S1024x64) ![512, 0] S128x64.size inb_S1024x64_S128x64_512_0, sel (r 4)⟩,
   ⟨Rect.unit (s := S1024x64) ![384, 0] S128x64.size inb_S1024x64_S128x64_384_0, sel (r 3)⟩,
   ⟨Rect.unit (s := S1024x64) ![256, 0] S128x64.size inb_S1024x64_S128x64_256_0, sel (r 2)⟩,
   ⟨Rect.unit (s := S1024x64) ![128, 0] S128x64.size inb_S1024x64_S128x64_128_0, sel (r 1)⟩,
   ⟨Rect.unit (s := S1024x64) ![0, 0] S128x64.size inb_S1024x64_S128x64_0_0, sel (r 0)⟩]

/-- A slab's numbers with their part. -/
abbrev sel1 (v : Vec Ideal S1x1x128x512 .f32) : FVec Ideal S1x128x64 .f32 := shapeCast S1x128x64 (sel v) shapeCasts_S128x64_S1x128x64

/-- The scaled input weights' stores. -/
def inStores (r : Slabs) : List (View.Piece (Elt Ideal) S2x1024x64 .f32) :=
  [⟨Rect.unit (s := S2x1024x64) ![1, 896, 0] S1x128x64.size inb_S2x1024x64_S1x128x64_1_896_0, sel1 (r 1 7)⟩,
   ⟨Rect.unit (s := S2x1024x64) ![1, 768, 0] S1x128x64.size inb_S2x1024x64_S1x128x64_1_768_0, sel1 (r 1 6)⟩,
   ⟨Rect.unit (s := S2x1024x64) ![1, 640, 0] S1x128x64.size inb_S2x1024x64_S1x128x64_1_640_0, sel1 (r 1 5)⟩,
   ⟨Rect.unit (s := S2x1024x64) ![1, 512, 0] S1x128x64.size inb_S2x1024x64_S1x128x64_1_512_0, sel1 (r 1 4)⟩,
   ⟨Rect.unit (s := S2x1024x64) ![0, 896, 0] S1x128x64.size inb_S2x1024x64_S1x128x64_0_896_0, sel1 (r 0 7)⟩,
   ⟨Rect.unit (s := S2x1024x64) ![0, 768, 0] S1x128x64.size inb_S2x1024x64_S1x128x64_0_768_0, sel1 (r 0 6)⟩,
   ⟨Rect.unit (s := S2x1024x64) ![0, 640, 0] S1x128x64.size inb_S2x1024x64_S1x128x64_0_640_0, sel1 (r 0 5)⟩,
   ⟨Rect.unit (s := S2x1024x64) ![0, 512, 0] S1x128x64.size inb_S2x1024x64_S1x128x64_0_512_0, sel1 (r 0 4)⟩,
   ⟨Rect.unit (s := S2x1024x64) ![1, 384, 0] S1x128x64.size inb_S2x1024x64_S1x128x64_1_384_0, sel1 (r 1 3)⟩,
   ⟨Rect.unit (s := S2x1024x64) ![1, 256, 0] S1x128x64.size inb_S2x1024x64_S1x128x64_1_256_0, sel1 (r 1 2)⟩,
   ⟨Rect.unit (s := S2x1024x64) ![1, 128, 0] S1x128x64.size inb_S2x1024x64_S1x128x64_1_128_0, sel1 (r 1 1)⟩,
   ⟨Rect.unit (s := S2x1024x64) ![1, 0, 0] S1x128x64.size inb_S2x1024x64_S1x128x64_1_0_0, sel1 (r 1 0)⟩,
   ⟨Rect.unit (s := S2x1024x64) ![0, 384, 0] S1x128x64.size inb_S2x1024x64_S1x128x64_0_384_0, sel1 (r 0 3)⟩,
   ⟨Rect.unit (s := S2x1024x64) ![0, 256, 0] S1x128x64.size inb_S2x1024x64_S1x128x64_0_256_0, sel1 (r 0 2)⟩,
   ⟨Rect.unit (s := S2x1024x64) ![0, 128, 0] S1x128x64.size inb_S2x1024x64_S1x128x64_0_128_0, sel1 (r 0 1)⟩,
   ⟨Rect.unit (s := S2x1024x64) ![0, 0, 0] S1x128x64.size inb_S2x1024x64_S1x128x64_0_0_0, sel1 (r 0 0)⟩]

/-- A row's numbers by group and state, with their part. -/
abbrev top1 (v : Vec Ideal S1x8x2048 .f32) : FVec Ideal S1x32x64 .f32 := shapeCast S1x32x64 (k0_pay82 k0_pay78 pick v) shapeCasts_S32x64_S1x32x64

/-- The decays' cotangents' stores. -/
def rowStores (r : Rows) : List (View.Piece (Elt Ideal) S2x64x64 .f32) :=
  [⟨Rect.unit (s := S2x64x64) ![1, 32, 0] S1x32x64.size inb_S2x64x64_S1x32x64_1_32_0, top1 (r 1 1)⟩,
   ⟨Rect.unit (s := S2x64x64) ![0, 32, 0] S1x32x64.size inb_S2x64x64_S1x32x64_0_32_0, top1 (r 0 1)⟩,
   ⟨Rect.unit (s := S2x64x64) ![1, 0, 0] S1x32x64.size inb_S2x64x64_S1x32x64_1_0_0, top1 (r 1 0)⟩,
   ⟨Rect.unit (s := S2x64x64) ![0, 0, 0] S1x32x64.size inb_S2x64x64_S1x32x64_0_0_0, top1 (r 0 0)⟩]

/-- What the body loads. -/
structure Blocks where
  v817 : Vec Ideal S1x2x32x64 .f32
  v820 : Vec Ideal S1x2x32x64 .f32
  v823 : Vec Ideal S64x1 .f32
  v878 : Vec Ideal S1x2x32x16x64 .f32
  v881 : Vec Ideal S1x2x32x16x64 .f32
  v884 : Vec Ideal S1x1024x64 .f32
  v886 : Vec Ideal S1x1024x64 .f32
  v937 : Vec Ideal S1x64x64 .f32
  v943 : Vec Ideal S1x64x64 .f32

namespace Blocks

variable (b : Blocks)

/-- The kernel's repetition over channels. -/
abbrev rep' : FVec Ideal S1024x64 .f32 := k0_pay8 k0_pay4 k0_pay5 k0_pay6 k0_pay7

abbrev ar : FVec Ideal S64x64 .f32 := k0_pay85 b.v817
abbrev ai : FVec Ideal S64x64 .f32 := k0_pay86 b.v820
abbrev dt : FVec Ideal S64x1 .f32 := k0_pay87 b.v823
abbrev mag : FVec Ideal S64x64 .f32 := k0_pay88 b.v817 b.v823
abbrev wide : FVec Ideal S64x64 .f32 := k0_pay89 b.v823
abbrev lr : FVec Ideal S64x64 .f32 := k0_pay90 b.ai b.mag b.wide
abbrev li : FVec Ideal S64x64 .f32 := k0_pay91 b.ai b.dt b.mag
abbrev den : FVec Ideal S64x64 .f32 := k0_pay92 b.ar b.ai
abbrev nr : FVec Ideal S64x64 .f32 := k0_pay93 b.ar b.ai b.dt b.mag b.wide
abbrev ni : FVec Ideal S64x64 .f32 := k0_pay94 b.ar b.ai b.dt b.mag b.wide
abbrev fr : FVec Ideal S1024x64 .f32 := k0_pay95 rep' b.ar b.ai b.dt b.mag b.wide
abbrev fi : FVec Ideal S1024x64 .f32 := k0_pay96 rep' b.ar b.ai b.dt b.mag b.wide
abbrev gbr : FVec Ideal S1024x64 .f32 := k0_pay101 b.fr b.fi b.v884 b.v886
abbrev gbi : FVec Ideal S1024x64 .f32 := k0_pay102 b.fr b.fi b.v884 b.v886
abbrev sr : FVec Ideal S64x64 .f32 := k0_pay103 rep' b.v878 b.v881 b.v884 b.v886
abbrev x : FVec Ideal S1024x64 .f32 := k0_pay104 b.v878 b.v881 b.v884 b.v886
abbrev y : FVec Ideal S1024x64 .bf16 := k0_pay106 b.v878 b.v881 b.v884 b.v886
abbrev gden : FVec Ideal S64x64 .f32 := k0_pay110 b.den b.nr b.ni b.sr b.x (k0_pay105 rep') b.y
abbrev glr : FVec Ideal S64x64 .f32 := k0_pay111 b.ar b.ai b.den b.sr b.x (k0_pay105 rep') b.y b.v937
abbrev gli : FVec Ideal S64x64 .f32 := k0_pay112 b.ar b.ai b.den b.sr b.x (k0_pay105 rep') b.y b.v943
abbrev car : FVec Ideal S64x64 .f32 := k0_pay113 b.ar b.lr b.li b.den b.nr b.ni b.sr b.x (k0_pay105 rep') b.y
abbrev cai : FVec Ideal S64x64 .f32 := k0_pay114 b.lr b.li b.den b.sr b.x (k0_pay105 rep') b.y
abbrev gar : FVec Ideal S64x64 .f32 := k0_pay117 b.dt b.mag b.lr b.li b.glr b.gli b.car
abbrev gai : FVec Ideal S64x64 .f32 := k0_pay118 b.ai b.dt b.lr b.li b.gden b.glr b.gli b.cai (Scalar.ofBits .f32 0x40000000#32)
abbrev gdt : FVec Ideal S64x1 .f32 := k0_pay119 b.ar b.ai b.dt b.mag b.lr b.li b.glr b.gli

end Blocks

/-- The stores of the poles', the steps' and the input weights' gradients. -/
def whole64 (w : FVec Ideal S64x64 .f32) : List (View.Piece (Elt Ideal) S64x64 .f32) :=
  [⟨Rect.unit (s := S64x64) ![0, 0] S64x64.size inb_S64x64_S64x64_0_0, w⟩]
def whole1 (w : FVec Ideal S64x1 .f32) : List (View.Piece (Elt Ideal) S64x1 .f32) :=
  [⟨Rect.unit (s := S64x1) ![0, 0] S64x1.size inb_S64x1_S64x1_0_0, w⟩]
def whole1024 (w : FVec Ideal S1024x64 .f32) : List (View.Piece (Elt Ideal) S1024x64 .f32) :=
  [⟨Rect.unit (s := S1024x64) ![0, 0] S1024x64.size inb_S1024x64_S1024x64_0_0, w⟩]

section run

variable (c : Dev nD) (arg0 : Memref sig .tc .vmem S1x2x32x64 .f32) (harg0 : arg0.IsWhole) (arg1 : Memref sig .tc .vmem S1x2x32x64 .f32)
  (harg1 : arg1.IsWhole) (arg2 : Memref sig .tc .vmem S64x1 .f32) (harg2 : arg2.IsWhole) (arg3 : Memref sig .tc .vmem S1x2x32x16x64 .f32)
  (harg3 : arg3.IsWhole) (arg4 : Memref sig .tc .vmem S1x2x32x16x64 .f32) (harg4 : arg4.IsWhole)
  (arg5 : Memref sig .tc .vmem S2x4x128x512 .f32) (harg5 : arg5.IsWhole) (arg6 : Memref sig .tc .vmem S2x4x128x512 .f32) (harg6 : arg6.IsWhole)
  (arg7 : Memref sig .tc .vmem S2x4x128x512 .f32) (harg7 : arg7.IsWhole) (arg8 : Memref sig .tc .vmem S2x4x128x512 .f32) (harg8 : arg8.IsWhole)
  (arg9 : Memref sig .tc .vmem S2x8x2048 .f32) (harg9 : arg9.IsWhole) (arg10 : Memref sig .tc .vmem S2x8x2048 .f32) (harg10 : arg10.IsWhole)
  (arg11 : Memref sig .tc .vmem S64x64 .f32) (harg11 : arg11.IsWhole) (arg12 : Memref sig .tc .vmem S64x64 .f32) (harg12 : arg12.IsWhole)
  (arg13 : Memref sig .tc .vmem S64x1 .f32) (harg13 : arg13.IsWhole) (arg14 : Memref sig .tc .vmem S1024x64 .f32) (harg14 : arg14.IsWhole)
  (arg15 : Memref sig .tc .vmem S1024x64 .f32) (harg15 : arg15.IsWhole) (arg16 : Memref sig .tc .vmem S1024x64 .f32) (harg16 : arg16.IsWhole)
  (arg17 : Memref sig .tc .vmem S1024x64 .f32) (harg17 : arg17.IsWhole) (arg18 : Memref sig .tc .vmem S2x1024x64 .f32) (harg18 : arg18.IsWhole)
  (arg19 : Memref sig .tc .vmem S2x64x64 .f32) (harg19 : arg19.IsWhole)
  (x0 x1 : Vec Ideal S1x2x32x64 .f32) (x2 : Vec Ideal S64x1 .f32) (x3 x4 : Vec Ideal S1x2x32x16x64 .f32)
  (x5 x6 x7 x8 : Vec Ideal S2x4x128x512 .f32) (x9 x10 : Vec Ideal S2x8x2048 .f32)

/-- What the body loads, its stored rows too. -/
def blocksOf : Blocks where
  v817 := View.readAt (Elt Ideal) arg0.view (Rect.unit (s := S1x2x32x64) ![0, 0, 0, 0] S1x2x32x64.size inb_S1x2x32x64_S1x2x32x64_0_0_0_0).toLoadRect (harg0.unread x0)
  v820 := View.readAt (Elt Ideal) arg1.view (Rect.unit (s := S1x2x32x64) ![0, 0, 0, 0] S1x2x32x64.size inb_S1x2x32x64_S1x2x32x64_0_0_0_0).toLoadRect (harg1.unread x1)
  v823 := View.readAt (Elt Ideal) arg2.view (Rect.unit (s := S64x1) ![0, 0] S64x1.size inb_S64x1_S64x1_0_0).toLoadRect (harg2.unread x2)
  v878 := View.readAt (Elt Ideal) arg3.view (Rect.unit (s := S1x2x32x16x64) ![0, 0, 0, 0, 0] S1x2x32x16x64.size inb_S1x2x32x16x64_S1x2x32x16x64_0_0_0_0_0).toLoadRect (harg3.unread x3)
  v881 := View.readAt (Elt Ideal) arg4.view (Rect.unit (s := S1x2x32x16x64) ![0, 0, 0, 0, 0] S1x2x32x16x64.size inb_S1x2x32x16x64_S1x2x32x16x64_0_0_0_0_0).toLoadRect (harg4.unread x4)
  v884 := arg18.view.readCov (inStores (slabsOf arg5 arg6 harg5 harg6 x5 x6)) (Rect.unit (s := S2x1024x64) ![0, 0, 0] S1x1024x64.size inb_S2x1024x64_S1x1024x64_0_0_0).toLoadRect
  v886 := arg18.view.readCov (inStores (slabsOf arg5 arg6 harg5 harg6 x5 x6)) (Rect.unit (s := S2x1024x64) ![1, 0, 0] S1x1024x64.size inb_S2x1024x64_S1x1024x64_1_0_0).toLoadRect
  v937 := arg19.view.readCov (rowStores fun q => ![rowsOf arg9 harg9 x9 q, rowsOf arg10 harg10 x10 q]) (Rect.unit (s := S2x64x64) ![0, 0, 0] S1x64x64.size inb_S2x64x64_S1x64x64_0_0_0).toLoadRect
  v943 := arg19.view.readCov (rowStores fun q => ![rowsOf arg9 harg9 x9 q, rowsOf arg10 harg10 x10 q]) (Rect.unit (s := S2x64x64) ![1, 0, 0] S1x64x64.size inb_S2x64x64_S1x64x64_1_0_0).toLoadRect

local notation "ℝun" => kernelRun0_A c arg0 harg0 arg1 harg1 arg2 harg2 arg3 harg3 arg4 harg4 arg5 harg5 arg6 harg6 arg7 harg7 arg8 harg8 arg9
  harg9 arg10 harg10 arg11 harg11 arg12 harg12 arg13 harg13 arg14 harg14 arg15 harg15 arg16 harg16 arg17 harg17 arg18 harg18 arg19 harg19 x0 x1 x2
  x3 x4 x5 x6 x7 x8 x9 x10

local notation "𝔹" => blocksOf arg0 harg0 arg1 harg1 arg2 harg2 arg3 harg3 arg4 harg4 arg5 harg5 arg6 harg6 arg9 harg9 arg10 harg10 arg18 arg19
  x0 x1 x2 x3 x4 x5 x6 x9 x10

set_option maxHeartbeats 4000000 in
theorem run_gcr : ℝun.2.2.2.2.2.1 = outStores (slabsOf arg7 arg8 harg7 harg8 x7 x8 0) := by unfold kernelRun0_A; rfl

set_option maxHeartbeats 4000000 in
theorem run_gci : ℝun.2.2.2.2.2.2.1 = outStores (slabsOf arg7 arg8 harg7 harg8 x7 x8 1) := by unfold kernelRun0_A; rfl

set_option maxHeartbeats 4000000 in
theorem run_gbr : ℝun.2.2.2.1 = whole1024 (𝔹).gbr := by unfold kernelRun0_A; rfl

set_option maxHeartbeats 4000000 in
theorem run_gbi : ℝun.2.2.2.2.1 = whole1024 (𝔹).gbi := by unfold kernelRun0_A; rfl

set_option maxHeartbeats 4000000 in
theorem run_gdt : ℝun.2.2.1 = whole1 (𝔹).gdt := by unfold kernelRun0_A; rfl

set_option maxHeartbeats 4000000 in
theorem run_gai : ℝun.2.1 = whole64 (𝔹).gai := by unfold kernelRun0_A; rfl

set_option maxHeartbeats 4000000 in
theorem run_gar : ℝun.1 = whole64 (𝔹).gar := by unfold kernelRun0_A; rfl

end run

end Cert.Params

end
-- ==== Proof.ParamsEntry.lean ====
module

public import proofs.«01_k».proof.Proof.ParamsMath
public import proofs.«01_k».proof.Proof.Gen.Kernel5Ideal.Value
public import Idealize.ShloMosaic.Lib.Pipeline.ValueKit
public import Idealize.ShloMosaic.Lib.StableHlo.ReadAt

@[expose] public section

set_option maxRecDepth 65536
set_option backward.proofsInPublic true

/-! The blocks the recurrence parameters' kernel loads. -/

noncomputable section

namespace Cert.Params

open Idealize.ShloMosaic Idealize.ShloMosaic.TcCoe Idealize.SL.Sem Cert.Kernel5Ideal Cert.Kernel5Ideal.Gen

/-- Group `g` of direction `d`. -/
def grp (d : Fin 2) (g : Fin 32) : Fin 64 := ⟨32 * d.val + g.val, by omega⟩

/-- The arguments hold the data's numbers. -/
structure Holds (m : (ℓ : Loc nD τ sig) → Buf (Elt Ideal) ℓ) (c : Dev nD) (D : Data) : Prop where
  a : ∀ d g s, m (c, Proc.tc.devRef main_arg0) (ix3 d g s) = ((D.A (grp d g) s : ℝ) : EReal)
  b : ∀ d g s, m (c, Proc.tc.devRef main_arg1) (ix3 d g s) = ((D.B (grp d g) s : ℝ) : EReal)
  t : ∀ d g, m (c, Proc.tc.devRef main_arg2) (ix2 d g) = ((D.T (grp d g) : ℝ) : EReal)
  br : ∀ d g s x, m (c, Proc.tc.devRef main_arg3) (ix4 d g s x) = ((D.Br (chan (grp d g) x) s : ℝ) : EReal)
  bi : ∀ d g s x, m (c, Proc.tc.devRef main_arg4) (ix4 d g s x) = ((D.Bi (chan (grp d g) x) s : ℝ) : EReal)
  lr : ∀ d g s, m (c, Proc.tc.devRef main_arg5) (ix3 d g s) = ((D.Lr (grp d g) s : ℝ) : EReal)
  li : ∀ d g s, m (c, Proc.tc.devRef main_arg6) (ix3 d g s) = ((D.Li (grp d g) s : ℝ) : EReal)
  gr : ∀ d g s x, m (c, Proc.tc.devRef main_arg7) (ix4 d g s x) = ((D.Gr (chan (grp d g) x) s : ℝ) : EReal)
  gi : ∀ d g s x, m (c, Proc.tc.devRef main_arg8) (ix4 d g s x) = ((D.Gi (chan (grp d g) x) s : ℝ) : EReal)
  cr : ∀ d g x s, m (c, Proc.tc.devRef main_arg9) (ix4 d g x s) = ((D.Cr (chan (grp d g) x) s : ℝ) : EReal)
  ci : ∀ d g x s, m (c, Proc.tc.devRef main_arg10) (ix4 d g x s) = ((D.Ci (chan (grp d g) x) s : ℝ) : EReal)

variable (m : (ℓ : Loc nD τ sig) → Buf (Elt Ideal) ℓ) (c : Dev nD)

/-- The one of two parts. -/
def part {α : Type} (f g : α) (q : Fin 2) : α := if q.val < 1 then f else g

theorem part_fst {α : Type} (f g : α) {q : Fin 2} (h : q.val < 1) : f = part f g q := (if_pos h).symm

theorem part_snd {α : Type} (f g : α) {q : Fin 2} (h : ¬q.val < 1) : g = part f g q := (if_neg h).symm

/-- A slab's 128 channels. -/
def chans (f : Fin 1024 → Fin 64 → ℝ) (k : Fin 8) (r : Fin 128) (s : Fin 64) : ℝ := f ⟨128 * k.val + r.val, by omega⟩ s

/-- A direction's groups. -/
def groups (f : Fin 64 → Fin 64 → ℝ) (d : Fin 2) (g : Fin 32) (s : Fin 64) : ℝ := f (grp d g) s

/-- A choice by whether two small counts are one. -/
theorem select_same {α : Type} {a b : ℕ} (ha : a < 4096) (hb : b < 4096) (x y : α) :
    Scalar.select (IntOp.cmpi .eq (BitVec.ofNat 32 a) (BitVec.ofNat 32 b)) x y = if a = b then x else y := by
  by_cases h : a = b
  · subst h
    rw [if_pos rfl, show IntOp.cmpi .eq (BitVec.ofNat 32 a) (BitVec.ofNat 32 a) = 1#1 from by simp [IntOp.cmpi]]; rfl
  · rw [if_neg h, cmpi_other ha hb h]; rfl

/-- A slab's entry: its channel's numbers in its group's columns. -/
theorem dense_at (T : Fin 128 → Fin 64 → ℝ) (r : Fin 128) (x : Fin 512) {X Z : EReal}
    (hX : X = ((T r ⟨x.val % 64, by omega⟩ : ℝ) : EReal)) (hZ : Z = ((0 : ℝ) : EReal)) :
    Scalar.select (IntOp.cmpi .eq (BitVec.ofNat 32 (r.val / 16)) (BitVec.ofNat 32 (x.val / 64))) X Z = ((dense T r x : ℝ) : EReal) := by
  rw [select_same (by omega) (by omega), hX, hZ]
  exact (apply_ite _ _ _ _).symm

theorem chan_at (f : Fin 1024 → Fin 64 → ℝ) (d : Fin 2) (k : Fin 4) (r : Fin 128) (s : Fin 64) (e : Fin 8) (he : e.val = 4 * d.val + k.val) :
    f (chan (grp d ⟨k.val * 8 + r.val / 16, by omega⟩) ⟨r.val % 16, by omega⟩) s = chans f e r s := by
  unfold chans
  exact congrArg (fun x => f x s) (Fin.ext (by unfold chan grp; simp only [he]; omega))

variable {m c} {D : Data} (H : Holds m c D)
include H

theorem entry_a (z : Fin 1) (d : Fin 2) (g : Fin 32) (s : Fin 64) : V m c main_v26 (ix4 z d g s) = ((D.A (grp d g) s : ℝ) : EReal) := by
  unfold V
  after_reads_at
  exact H.a d g s

theorem entry_b (z : Fin 1) (d : Fin 2) (g : Fin 32) (s : Fin 64) : V m c main_v27 (ix4 z d g s) = ((D.B (grp d g) s : ℝ) : EReal) := by
  unfold V
  after_reads_at
  exact H.b d g s

theorem entry_t (r : Fin 64) (z : Fin 1) : V m c main_v28 (ix2 r z) = ((D.T r : ℝ) : EReal) := by
  unfold V
  after_reads_at
  exact (H.t _ _).trans (congrArg (fun x => ((D.T x : ℝ) : EReal)) (Fin.ext (by unfold grp; simp only; omega)))

theorem entry_br (z : Fin 1) (d : Fin 2) (g : Fin 32) (x : Fin 16) (s : Fin 64) :
    V m c main_v30 (ix5 z d g x s) = ((D.Br (chan (grp d g) x) s : ℝ) : EReal) := by
  unfold V
  after_reads_at
  exact H.br d g s x

theorem entry_bi (z : Fin 1) (d : Fin 2) (g : Fin 32) (x : Fin 16) (s : Fin 64) :
    V m c main_v32 (ix5 z d g x s) = ((D.Bi (chan (grp d g) x) s : ℝ) : EReal) := by
  unfold V
  after_reads_at
  exact H.bi d g s x

theorem entry_gb0 (q : Fin 2) (k : Fin 4) (r : Fin 128) (x : Fin 512) :
    V m c main_v34 (ix4 q k r x) = ((dense (chans (part D.Gr D.Gi q) ⟨k.val, by omega⟩) r x : ℝ) : EReal) := by
  unfold V
  after_reads_at
  refine dense_at _ r x ?_ ?_
  · by_cases hq : q.val < 1
    · rw [dif_pos hq]
      after_reads_at
      exact (H.gr _ _ _ _).trans (congrArg Real.toEReal ((chan_at D.Gr 0 k r _ ⟨k.val, by omega⟩ (by simp)).trans
        (congrArg (fun f => chans f ⟨k.val, by omega⟩ r _) (part_fst D.Gr D.Gi hq))))
    · rw [dif_neg hq]
      after_reads_at
      exact (H.gi _ _ _ _).trans (congrArg Real.toEReal ((chan_at D.Gi 0 k r _ ⟨k.val, by omega⟩ (by simp)).trans
        (congrArg (fun f => chans f ⟨k.val, by omega⟩ r _) (part_snd D.Gr D.Gi hq))))
  · exact ofBits_none

theorem entry_gb1 (q : Fin 2) (k : Fin 4) (r : Fin 128) (x : Fin 512) :
    V m c main_v36 (ix4 q k r x) = ((dense (chans (part D.Gr D.Gi q) ⟨4 + k.val, by omega⟩) r x : ℝ) : EReal) := by
  unfold V
  after_reads_at
  refine dense_at _ r x ?_ ?_
  · by_cases hq : q.val < 1
    · rw [dif_pos hq]
      after_reads_at
      exact (H.gr _ _ _ _).trans (congrArg Real.toEReal ((chan_at D.Gr 1 k r _ ⟨4 + k.val, by omega⟩ (by simp)).trans
        (congrArg (fun f => chans f ⟨4 + k.val, by omega⟩ r _) (part_fst D.Gr D.Gi hq))))
    · rw [dif_neg hq]
      after_reads_at
      exact (H.gi _ _ _ _).trans (congrArg Real.toEReal ((chan_at D.Gi 1 k r _ ⟨4 + k.val, by omega⟩ (by simp)).trans
        (congrArg (fun f => chans f ⟨4 + k.val, by omega⟩ r _) (part_snd D.Gr D.Gi hq))))
  · exact ofBits_none

theorem entry_gc0 (q : Fin 2) (k : Fin 4) (r : Fin 128) (x : Fin 512) :
    V m c main_v38 (ix4 q k r x) = ((dense (chans (part D.Cr D.Ci q) ⟨k.val, by omega⟩) r x : ℝ) : EReal) := by
  unfold V
  after_reads_at
  refine dense_at _ r x ?_ ?_
  · by_cases hq : q.val < 1
    · rw [dif_pos hq]
      after_reads_at
      exact (H.cr _ _ _ _).trans (congrArg Real.toEReal ((chan_at D.Cr 0 k r _ ⟨k.val, by omega⟩ (by simp)).trans
        (congrArg (fun f => chans f ⟨k.val, by omega⟩ r _) (part_fst D.Cr D.Ci hq))))
    · rw [dif_neg hq]
      after_reads_at
      exact (H.ci _ _ _ _).trans (congrArg Real.toEReal ((chan_at D.Ci 0 k r _ ⟨k.val, by omega⟩ (by simp)).trans
        (congrArg (fun f => chans f ⟨k.val, by omega⟩ r _) (part_snd D.Cr D.Ci hq))))
  · exact ofBits_none

theorem entry_gc1 (q : Fin 2) (k : Fin 4) (r : Fin 128) (x : Fin 512) :
    V m c main_v40 (ix4 q k r x) = ((dense (chans (part D.Cr D.Ci q) ⟨4 + k.val, by omega⟩) r x : ℝ) : EReal) := by
  unfold V
  after_reads_at
  refine dense_at _ r x ?_ ?_
  · by_cases hq : q.val < 1
    · rw [dif_pos hq]
      after_reads_at
      exact (H.cr _ _ _ _).trans (congrArg Real.toEReal ((chan_at D.Cr 1 k r _ ⟨4 + k.val, by omega⟩ (by simp)).trans
        (congrArg (fun f => chans f ⟨4 + k.val, by omega⟩ r _) (part_fst D.Cr D.Ci hq))))
    · rw [dif_neg hq]
      after_reads_at
      exact (H.ci _ _ _ _).trans (congrArg Real.toEReal ((chan_at D.Ci 1 k r _ ⟨4 + k.val, by omega⟩ (by simp)).trans
        (congrArg (fun f => chans f ⟨4 + k.val, by omega⟩ r _) (part_snd D.Cr D.Ci hq))))
  · exact ofBits_none

theorem entry_gl0 (q : Fin 2) (k : Fin 8) (x : Fin 2048) :
    V m c main_v42 (ix3 q k x) = ((topRow (groups (part D.Lr D.Li q) 0) k x : ℝ) : EReal) := by
  unfold V
  after_reads_at
  by_cases hk : k.val < 1
  · rw [dif_pos hk]
    after_reads_at
    refine Eq.trans ?_ (congrArg Real.toEReal (if_pos (show k.val = 0 by omega)).symm)
    by_cases hq : q.val < 1
    · rw [dif_pos hq]
      after_reads_at
      exact (H.lr _ _ _).trans (congrArg (fun f => ((groups f 0 _ _ : ℝ) : EReal)) (part_fst D.Lr D.Li hq))
    · rw [dif_neg hq]
      after_reads_at
      exact (H.li _ _ _).trans (congrArg (fun f => ((groups f 0 _ _ : ℝ) : EReal)) (part_snd D.Lr D.Li hq))
  · rw [dif_neg hk]
    after_reads_at
    exact Eq.trans EReal.coe_zero.symm (congrArg Real.toEReal (if_neg (show ¬k.val = 0 by omega)).symm)

theorem entry_gl1 (q : Fin 2) (k : Fin 8) (x : Fin 2048) :
    V m c main_v44 (ix3 q k x) = ((topRow (groups (part D.Lr D.Li q) 1) k x : ℝ) : EReal) := by
  unfold V
  after_reads_at
  by_cases hk : k.val < 1
  · rw [dif_pos hk]
    after_reads_at
    refine Eq.trans ?_ (congrArg Real.toEReal (if_pos (show k.val = 0 by omega)).symm)
    by_cases hq : q.val < 1
    · rw [dif_pos hq]
      after_reads_at
      exact (H.lr _ _ _).trans (congrArg (fun f => ((groups f 1 _ _ : ℝ) : EReal)) (part_fst D.Lr D.Li hq))
    · rw [dif_neg hq]
      after_reads_at
      exact (H.li _ _ _).trans (congrArg (fun f => ((groups f 1 _ _ : ℝ) : EReal)) (part_snd D.Lr D.Li hq))
  · rw [dif_neg hk]
    after_reads_at
    exact Eq.trans EReal.coe_zero.symm (congrArg Real.toEReal (if_neg (show ¬k.val = 0 by omega)).symm)

end Cert.Params

end
-- ==== Proof.ParamsKernel.lean ====
module

public import proofs.«01_k».proof.Proof.ParamsRun
public import proofs.«01_k».proof.Proof.ParamsEntry

@[expose] public section

set_option maxRecDepth 65536
set_option backward.proofsInPublic true

/-! What the recurrence parameters' body reads and computes from blocks that hold the data. -/

noncomputable section

namespace Cert.Params

open Idealize.ShloMosaic Idealize.ShloMosaic.TcCoe Idealize.SL.Sem Cert.Kernel5Ideal Cert.Kernel5Ideal.Gen

/-! Loads and stores. -/

/-- A loaded slab holds its channels. -/
theorem slab_load (arg : Memref sig .tc .vmem S2x4x128x512 .f32) (harg : arg.IsWhole) (x : Vec Ideal S2x4x128x512 .f32) (q : Fin 2) (k : Fin 4)
    (T : Fin 128 → Fin 64 → ℝ) (h : ∀ r y, x (ix4 q k r y) = ((dense T r y : ℝ) : EReal)) : sel (slabOf arg harg x q k) = mat T := by
  refine slab_eq T _ (funext fun i => ?_)
  obtain ⟨r, y, rfl⟩ : ∃ r y, i = ix2 r y := ⟨i 0, i 1, eq_ix2 i⟩
  unfold slabOf
  rw [View.readAt_eq_ld, harg.read_unread]
  pointwise [mat]
  refine Eq.trans ?_ (h r y)
  blk_ext []

theorem row_load (arg : Memref sig .tc .vmem S2x8x2048 .f32) (harg : arg.IsWhole) (x : Vec Ideal S2x8x2048 .f32) (q : Fin 2)
    (L : Fin 32 → Fin 64 → ℝ) (h : ∀ k y, x (ix3 q k y) = ((topRow L k y : ℝ) : EReal)) :
    k0_pay82 k0_pay78 pick (rowsOf arg harg x q) = mat L := by
  refine row_eq L _ (funext fun i => ?_)
  obtain ⟨r, y, rfl⟩ : ∃ r y, i = ix2 r y := ⟨i 0, i 1, eq_ix2 i⟩
  unfold rowsOf
  rw [View.readAt_eq_ld, harg.read_unread]
  pointwise [mat]
  refine Eq.trans ?_ (h r y)
  blk_ext []

/-- A slab's entry at its channel. -/
theorem chans_at (f : Fin 1024 → Fin 64 → ℝ) (k : Fin 8) (i : (⟨2, ![128, 64]⟩ : Shape).Idx) (a : Fin 1024) (b : Fin 64)
    (ha : a.val = 128 * k.val + (i 0).val) (hb : b.val = (i 1).val) :
    (mat (chans f k) : FVec Ideal S128x64 .f32) i = ((f a b : ℝ) : EReal) := by
  show ((chans f k (i 0) (i 1) : ℝ) : EReal) = _
  unfold chans
  rw [show a = ⟨128 * k.val + (i 0).val, by have : (i 0).val < 128 := (i 0).isLt; omega⟩ from Fin.ext ha, show b = i 1 from Fin.ext hb]

/-- Two blocks' slabs hold their channels. -/
theorem slabs_load (arg arg' : Memref sig .tc .vmem S2x4x128x512 .f32) (harg : arg.IsWhole) (harg' : arg'.IsWhole)
    (x x' : Vec Ideal S2x4x128x512 .f32) (f : Fin 2 → Fin 1024 → Fin 64 → ℝ)
    (h : ∀ q (k : Fin 4) r y, x (ix4 q k r y) = ((dense (chans (f q) ⟨k.val, by omega⟩) r y : ℝ) : EReal))
    (h' : ∀ q (k : Fin 4) r y, x' (ix4 q k r y) = ((dense (chans (f q) ⟨4 + k.val, by omega⟩) r y : ℝ) : EReal)) (q : Fin 2) (k : Fin 8) :
    sel (slabsOf arg arg' harg harg' x x' q k) = mat (chans (f q) k) := by
  fin_cases k
  · exact slab_load arg harg x q 0 _ (h q 0)
  · exact slab_load arg harg x q 1 _ (h q 1)
  · exact slab_load arg harg x q 2 _ (h q 2)
  · exact slab_load arg harg x q 3 _ (h q 3)
  · exact slab_load arg' harg' x' q 0 _ (h' q 0)
  · exact slab_load arg' harg' x' q 1 _ (h' q 1)
  · exact slab_load arg' harg' x' q 2 _ (h' q 2)
  · exact slab_load arg' harg' x' q 3 _ (h' q 3)

/-- The output weights' stores leave all channels. -/
theorem out_canon (r : Fin 8 → Vec Ideal S1x1x128x512 .f32) (f : Fin 1024 → Fin 64 → ℝ) (h : ∀ k, sel (r k) = mat (chans f k)) (i : S1024x64.Idx) :
    View.canon (outStores r) i = ((f (i 0) (i 1) : ℝ) : EReal) := by
  unfold outStores
  simp only [h]
  canon_tiles i e
  all_goals exact chans_at f _ _ _ _ (by first | (rw [e0]; rfl) | (rw [e0]; exact (Nat.zero_add _).symm)) e1

theorem sel1_at (f : Fin 1024 → Fin 64 → ℝ) (k : Fin 8) (v : Vec Ideal S1x1x128x512 .f32) (h : sel v = mat (chans f k))
    (i : (⟨3, ![1, 128, 64]⟩ : Shape).Idx) (a : Fin 1024) (b : Fin 64) (ha : a.val = 128 * k.val + (i 1).val) (hb : b.val = (i 2).val) :
    sel1 v i = ((f a b : ℝ) : EReal) := by
  obtain ⟨z, r, s, rfl⟩ : ∃ z r s, i = ix3 z r s := ⟨i 0, i 1, i 2, eq_ix3 i⟩
  show shapeCast S1x128x64 (sel v) shapeCasts_S128x64_S1x128x64 (ix3 z r s) = _
  rw [h]
  pointwise []
  exact chans_at f k _ a b ha hb

/-- The scaled input weights' stores leave both parts. -/
theorem in_canon (r : Slabs) (f : Fin 2 → Fin 1024 → Fin 64 → ℝ) (h : ∀ q k, sel (r q k) = mat (chans (f q) k)) (i : S2x1024x64.Idx) :
    View.canon (inStores r) i = ((f (i 0) (i 1) (i 2) : ℝ) : EReal) := by
  have at_ (q : Fin 2) (k : Fin 8) (y : (⟨3, ![1, 128, 64]⟩ : Shape).Idx) (h0 : (i 0).val = q.val) (h1 : (i 1).val = 128 * k.val + (y 1).val)
      (h2 : (i 2).val = (y 2).val) : sel1 (r q k) y = ((f (i 0) (i 1) (i 2) : ℝ) : EReal) := by
    rw [show i 0 = q from Fin.ext h0]
    exact sel1_at (f q) k _ (h q k) y _ _ h1 h2
  unfold inStores
  canon_tiles i e
  all_goals
    have z : (i 0).val = 0 := by omega
    exact at_ _ _ i (by rw [e0, z]; rfl) (by first | (rw [e1]; rfl) | (rw [e1]; exact (Nat.zero_add _).symm)) e2

/-- One part of what they leave. -/
theorem gr_read {arg : Memref sig .tc .vmem S2x1024x64 .f32} (r : Slabs) (f : Fin 2 → Fin 1024 → Fin 64 → ℝ) (h : ∀ q k, sel (r q k) = mat (chans (f q) k)) :
    k0_pay99 (arg.view.readCov (inStores r) (Rect.unit (s := S2x1024x64) ![0, 0, 0] S1x1024x64.size inb_S2x1024x64_S1x1024x64_0_0_0).toLoadRect)
      = mat (f 0) := by
  rw [View.readCov_eq_canon']
  funext i
  obtain ⟨x, s, rfl⟩ : ∃ x s, i = ix2 x s := ⟨i 0, i 1, eq_ix2 i⟩
  pointwise [k0_pay99, mat]
  exact (in_canon r f h _).trans rfl

theorem gi_read {arg : Memref sig .tc .vmem S2x1024x64 .f32} (r : Slabs) (f : Fin 2 → Fin 1024 → Fin 64 → ℝ) (h : ∀ q k, sel (r q k) = mat (chans (f q) k)) :
    k0_pay100 (arg.view.readCov (inStores r) (Rect.unit (s := S2x1024x64) ![1, 0, 0] S1x1024x64.size inb_S2x1024x64_S1x1024x64_1_0_0).toLoadRect)
      = mat (f 1) := by
  rw [View.readCov_eq_canon']
  funext i
  obtain ⟨x, s, rfl⟩ : ∃ x s, i = ix2 x s := ⟨i 0, i 1, eq_ix2 i⟩
  pointwise [k0_pay100, mat]
  exact (in_canon r f h _).trans rfl

/-- The decays' cotangents' stores leave both parts. -/
theorem top1_at (L : Fin 32 → Fin 64 → ℝ) (v : Vec Ideal S1x8x2048 .f32) (h : k0_pay82 k0_pay78 pick v = mat L)
    (i : (⟨3, ![1, 32, 64]⟩ : Shape).Idx) : top1 v i = ((L (i 1) (i 2) : ℝ) : EReal) := by
  obtain ⟨z, r, s, rfl⟩ : ∃ z r s, i = ix3 z r s := ⟨i 0, i 1, i 2, eq_ix3 i⟩
  show shapeCast S1x32x64 (k0_pay82 k0_pay78 pick v) shapeCasts_S32x64_S1x32x64 (ix3 z r s) = _
  rw [h]
  pointwise []
  rfl

theorem row_canon (r : Rows) (f : Fin 2 → Fin 64 → Fin 64 → ℝ) (h : ∀ q d, k0_pay82 k0_pay78 pick (r q d) = mat (groups (f q) d)) (i : S2x64x64.Idx) :
    View.canon (rowStores r) i = ((f (i 0) (i 1) (i 2) : ℝ) : EReal) := by
  have at_ (q : Fin 2) (d : Fin 2) (y : (⟨3, ![1, 32, 64]⟩ : Shape).Idx) (h0 : (i 0).val = q.val) (h1 : (i 1).val = 32 * d.val + (y 1).val)
      (h2 : (i 2).val = (y 2).val) : top1 (r q d) y = ((f (i 0) (i 1) (i 2) : ℝ) : EReal) := by
    rw [show i 0 = q from Fin.ext h0, show i 1 = grp d (y 1) from Fin.ext h1, show i 2 = y 2 from Fin.ext h2]
    exact top1_at _ _ (h q d) y
  unfold rowStores
  canon_tiles i e
  all_goals
    have z : (i 0).val = 0 := by omega
    exact at_ _ _ i (by rw [e0, z]; rfl) (by first | (rw [e1]; rfl) | (rw [e1]; exact (Nat.zero_add _).symm)) e2

theorem lr_read {arg : Memref sig .tc .vmem S2x64x64 .f32} (r : Rows) (f : Fin 2 → Fin 64 → Fin 64 → ℝ)
    (h : ∀ q d, k0_pay82 k0_pay78 pick (r q d) = mat (groups (f q) d)) :
    shapeCast S64x64 (arg.view.readCov (Val := Elt Ideal) (rowStores r) (Rect.unit (s := S2x64x64) ![0, 0, 0] S1x64x64.size inb_S2x64x64_S1x64x64_0_0_0).toLoadRect)
      shapeCasts_S1x64x64_S64x64 = (mat (f 0) : FVec Ideal S64x64 .f32) := by
  rw [View.readCov_eq_canon']
  funext i
  obtain ⟨x, s, rfl⟩ : ∃ x s, i = ix2 x s := ⟨i 0, i 1, eq_ix2 i⟩
  pointwise [mat]
  exact (row_canon r f h _).trans rfl

theorem li_read {arg : Memref sig .tc .vmem S2x64x64 .f32} (r : Rows) (f : Fin 2 → Fin 64 → Fin 64 → ℝ)
    (h : ∀ q d, k0_pay82 k0_pay78 pick (r q d) = mat (groups (f q) d)) :
    shapeCast S64x64 (arg.view.readCov (Val := Elt Ideal) (rowStores r) (Rect.unit (s := S2x64x64) ![1, 0, 0] S1x64x64.size inb_S2x64x64_S1x64x64_1_0_0).toLoadRect)
      shapeCasts_S1x64x64_S64x64 = (mat (f 1) : FVec Ideal S64x64 .f32) := by
  rw [View.readCov_eq_canon']
  funext i
  obtain ⟨x, s, rfl⟩ : ∃ x s, i = ix2 x s := ⟨i 0, i 1, eq_ix2 i⟩
  pointwise [mat]
  exact (row_canon r f h _).trans rfl

/-- A point's blocks hold the data's numbers. -/
structure Ins (D : Data) (x0 x1 : Vec Ideal S1x2x32x64 .f32) (x2 : Vec Ideal S64x1 .f32) (x3 x4 : Vec Ideal S1x2x32x16x64 .f32)
    (x5 x6 x7 x8 : Vec Ideal S2x4x128x512 .f32) (x9 x10 : Vec Ideal S2x8x2048 .f32) : Prop where
  a : ∀ z d g s, x0 (ix4 z d g s) = ((D.A (grp d g) s : ℝ) : EReal)
  b : ∀ z d g s, x1 (ix4 z d g s) = ((D.B (grp d g) s : ℝ) : EReal)
  t : ∀ r z, x2 (ix2 r z) = ((D.T r : ℝ) : EReal)
  br : ∀ z d g x s, x3 (ix5 z d g x s) = ((D.Br (chan (grp d g) x) s : ℝ) : EReal)
  bi : ∀ z d g x s, x4 (ix5 z d g x s) = ((D.Bi (chan (grp d g) x) s : ℝ) : EReal)
  gb0 : ∀ q (k : Fin 4) r y, x5 (ix4 q k r y) = ((dense (chans (part D.Gr D.Gi q) ⟨k.val, by omega⟩) r y : ℝ) : EReal)
  gb1 : ∀ q (k : Fin 4) r y, x6 (ix4 q k r y) = ((dense (chans (part D.Gr D.Gi q) ⟨4 + k.val, by omega⟩) r y : ℝ) : EReal)
  gc0 : ∀ q (k : Fin 4) r y, x7 (ix4 q k r y) = ((dense (chans (part D.Cr D.Ci q) ⟨k.val, by omega⟩) r y : ℝ) : EReal)
  gc1 : ∀ q (k : Fin 4) r y, x8 (ix4 q k r y) = ((dense (chans (part D.Cr D.Ci q) ⟨4 + k.val, by omega⟩) r y : ℝ) : EReal)
  gl0 : ∀ q k y, x9 (ix3 q k y) = ((topRow (groups (part D.Lr D.Li q) 0) k y : ℝ) : EReal)
  gl1 : ∀ q k y, x10 (ix3 q k y) = ((topRow (groups (part D.Lr D.Li q) 1) k y : ℝ) : EReal)

namespace Blocks

theorem rep_val : rep' = rep := repeat_eq

variable (b : Blocks) (D : Data) (H : Loads D b.v817 b.v820 b.v823 b.v878 b.v881 b.v884 b.v886)
include H

theorem dt_val : b.dt = mat fun r _ => D.dt r := by show k0_pay87 b.v823 = _; rw [H.t, dt_eq]
theorem lr_val : b.lr = mat D.lr := by
  show k0_pay90 (k0_pay86 b.v820) (k0_pay88 b.v817 b.v823) (k0_pay89 b.v823) = _; rw [H.b, mag_eq H, step_eq H]; exact lr_eq D
theorem li_val : b.li = mat D.li := by
  show k0_pay91 (k0_pay86 b.v820) b.dt (k0_pay88 b.v817 b.v823) = _; rw [H.b, mag_eq H, b.dt_val D H]; exact li_eq D
theorem den_val : b.den = mat D.den := by show k0_pay92 (k0_pay85 b.v817) (k0_pay86 b.v820) = _; rw [H.a, H.b]; exact den_eq D
theorem nr_val : b.nr = mat D.nr := by
  show k0_pay93 (k0_pay85 b.v817) (k0_pay86 b.v820) b.dt (k0_pay88 b.v817 b.v823) (k0_pay89 b.v823) = _
  rw [H.a, H.b, mag_eq H, step_eq H, b.dt_val D H]; exact nr_eq D
theorem ni_val : b.ni = mat D.ni := by
  show k0_pay94 (k0_pay85 b.v817) (k0_pay86 b.v820) b.dt (k0_pay88 b.v817 b.v823) (k0_pay89 b.v823) = _
  rw [H.a, H.b, mag_eq H, step_eq H, b.dt_val D H]; exact ni_eq D
theorem fr_val : b.fr = mat fun x s => D.nr (own x) s / D.den (own x) s := by
  show k0_pay95 rep' (k0_pay85 b.v817) (k0_pay86 b.v820) b.dt (k0_pay88 b.v817 b.v823) (k0_pay89 b.v823) = _
  rw [H.a, H.b, mag_eq H, step_eq H, b.dt_val D H, rep_val]; exact fr_eq D
theorem fi_val : b.fi = mat fun x s => D.ni (own x) s / D.den (own x) s := by
  show k0_pay96 rep' (k0_pay85 b.v817) (k0_pay86 b.v820) b.dt (k0_pay88 b.v817 b.v823) (k0_pay89 b.v823) = _
  rw [H.a, H.b, mag_eq H, step_eq H, b.dt_val D H, rep_val]; exact fi_eq D
theorem gbr_val : b.gbr = mat fun x s => D.gbr s x := by
  show k0_pay101 b.fr b.fi b.v884 b.v886 = _; rw [b.fr_val D H, b.fi_val D H]; exact gbr_eq H
theorem gbi_val : b.gbi = mat fun x s => D.gbi s x := by
  show k0_pay102 b.fr b.fi b.v884 b.v886 = _; rw [b.fr_val D H, b.fi_val D H]; exact gbi_eq H
theorem sr_val : b.sr = mat D.sr := by show k0_pay103 rep' b.v878 b.v881 b.v884 b.v886 = _; rw [rep_val]; exact sr_eq H
theorem gden_val : b.gden = mat D.gden := by
  show k0_pay110 b.den b.nr b.ni b.sr b.x (k0_pay105 rep') b.y = _
  rw [b.den_val D H, b.nr_val D H, b.ni_val D H, b.sr_val D H, rep_val]; exact gden_eq H
theorem glr_val (h : shapeCast S64x64 b.v937 shapeCasts_S1x64x64_S64x64 = (mat D.Lr : FVec Ideal S64x64 .f32)) : b.glr = mat D.glr := by
  show k0_pay111 (k0_pay85 b.v817) (k0_pay86 b.v820) b.den b.sr b.x (k0_pay105 rep') b.y b.v937 = _
  rw [H.a, H.b, b.den_val D H, b.sr_val D H, rep_val]; exact glr_eq H h
theorem gli_val (h : shapeCast S64x64 b.v943 shapeCasts_S1x64x64_S64x64 = (mat D.Li : FVec Ideal S64x64 .f32)) : b.gli = mat D.gli := by
  show k0_pay112 (k0_pay85 b.v817) (k0_pay86 b.v820) b.den b.sr b.x (k0_pay105 rep') b.y b.v943 = _
  rw [H.a, H.b, b.den_val D H, b.sr_val D H, rep_val]; exact gli_eq H h

variable (hr : shapeCast S64x64 b.v937 shapeCasts_S1x64x64_S64x64 = (mat D.Lr : FVec Ideal S64x64 .f32))
  (hi : shapeCast S64x64 b.v943 shapeCasts_S1x64x64_S64x64 = (mat D.Li : FVec Ideal S64x64 .f32))
include hr hi

theorem gar_val : b.gar = mat D.gar := by
  show k0_pay117 b.dt (k0_pay88 b.v817 b.v823) b.lr b.li b.glr b.gli
    (k0_pay113 (k0_pay85 b.v817) b.lr b.li b.den b.nr b.ni b.sr b.x (k0_pay105 rep') b.y) = _
  rw [H.a, b.dt_val D H, mag_eq H, b.lr_val D H, b.li_val D H, b.glr_val D H hr, b.gli_val D H hi, b.den_val D H, b.nr_val D H, b.ni_val D H,
    b.sr_val D H, rep_val, car_eq H]
  exact gar_eq D
theorem gai_val : b.gai = mat D.gai := by
  show k0_pay118 (k0_pay86 b.v820) b.dt b.lr b.li b.gden b.glr b.gli (k0_pay114 b.lr b.li b.den b.sr b.x (k0_pay105 rep') b.y)
    (Scalar.ofBits .f32 0x40000000#32) = _
  rw [H.b, b.dt_val D H, b.lr_val D H, b.li_val D H, b.gden_val D H, b.glr_val D H hr, b.gli_val D H hi, b.den_val D H, b.sr_val D H, rep_val, cai_eq H]
  exact gai_eq D
theorem gdt_val : b.gdt = mat fun r _ => D.gdt r := by
  show k0_pay119 (k0_pay85 b.v817) (k0_pay86 b.v820) b.dt (k0_pay88 b.v817 b.v823) b.lr b.li b.glr b.gli = _
  rw [H.a, H.b, b.dt_val D H, mag_eq H, b.lr_val D H, b.li_val D H, b.glr_val D H hr, b.gli_val D H hi]
  exact gdt_eq D

end Blocks

section values

variable (c : Dev nD) (arg0 : Memref sig .tc .vmem S1x2x32x64 .f32) (harg0 : arg0.IsWhole) (arg1 : Memref sig .tc .vmem S1x2x32x64 .f32)
  (harg1 : arg1.IsWhole) (arg2 : Memref sig .tc .vmem S64x1 .f32) (harg2 : arg2.IsWhole) (arg3 : Memref sig .tc .vmem S1x2x32x16x64 .f32)
  (harg3 : arg3.IsWhole) (arg4 : Memref sig .tc .vmem S1x2x32x16x64 .f32) (harg4 : arg4.IsWhole)
  (arg5 : Memref sig .tc .vmem S2x4x128x512 .f32) (harg5 : arg5.IsWhole) (arg6 : Memref sig .tc .vmem S2x4x128x512 .f32) (harg6 : arg6.IsWhole)
  (arg9 : Memref sig .tc .vmem S2x8x2048 .f32) (harg9 : arg9.IsWhole) (arg10 : Memref sig .tc .vmem S2x8x2048 .f32) (harg10 : arg10.IsWhole)
  (arg18 : Memref sig .tc .vmem S2x1024x64 .f32) (arg19 : Memref sig .tc .vmem S2x64x64 .f32)
  (x0 x1 : Vec Ideal S1x2x32x64 .f32) (x2 : Vec Ideal S64x1 .f32) (x3 x4 : Vec Ideal S1x2x32x16x64 .f32)
  (x5 x6 x7 x8 : Vec Ideal S2x4x128x512 .f32) (x9 x10 : Vec Ideal S2x8x2048 .f32) (D : Data) (H : Ins D x0 x1 x2 x3 x4 x5 x6 x7 x8 x9 x10)

local notation "𝔹" => blocksOf arg0 harg0 arg1 harg1 arg2 harg2 arg3 harg3 arg4 harg4 arg5 harg5 arg6 harg6 arg9 harg9 arg10 harg10 arg18 arg19
  x0 x1 x2 x3 x4 x5 x6 x9 x10

include H

theorem loads : Loads D (𝔹).v817 (𝔹).v820 (𝔹).v823 (𝔹).v878 (𝔹).v881 (𝔹).v884 (𝔹).v886 := by
  have row (f : Fin 64 → Fin 64 → ℝ) (r : Fin 64) (d : Fin 2) (g : Fin 32) (s s' : Fin 64) (h : r.val = 32 * d.val + g.val) (hs : s'.val = s.val) :
      ((f (grp d g) s' : ℝ) : EReal) = ((f r s : ℝ) : EReal) := by
    rw [show grp d g = r from Fin.ext h.symm, Fin.ext hs]
  have chn (f : Fin 1024 → Fin 64 → ℝ) (r : Fin 1024) (d : Fin 2) (g : Fin 32) (x : Fin 16) (s : Fin 64) (h : r.val = 16 * (32 * d.val + g.val) + x.val) :
      ((f (chan (grp d g) x) s : ℝ) : EReal) = ((f r s : ℝ) : EReal) := by
    rw [show chan (grp d g) x = r from Fin.ext h.symm]
  refine ⟨?_, ?_, ?_, ?_, ?_, gr_read _ (part D.Gr D.Gi) (slabs_load _ _ _ _ _ _ _ H.gb0 H.gb1), gi_read _ (part D.Gr D.Gi) (slabs_load _ _ _ _ _ _ _ H.gb0 H.gb1)⟩
  · rw [show (𝔹).v817 = x0 from (View.readAt_eq_ld _ _ _).trans ((View.ld_unit_zero (by funext a; fin_cases a <;> rfl) _ _).trans (harg0.read_unread _))]
    funext i
    obtain ⟨r, s, rfl⟩ : ∃ r s, i = ix2 r s := ⟨i 0, i 1, eq_ix2 i⟩
    pointwise [k0_pay85, mat]
    exact (H.a _ _ _ _).trans (row D.A r _ _ _ _ (by simp only; omega) rfl)
  · rw [show (𝔹).v820 = x1 from (View.readAt_eq_ld _ _ _).trans ((View.ld_unit_zero (by funext a; fin_cases a <;> rfl) _ _).trans (harg1.read_unread _))]
    funext i
    obtain ⟨r, s, rfl⟩ : ∃ r s, i = ix2 r s := ⟨i 0, i 1, eq_ix2 i⟩
    pointwise [k0_pay86, mat]
    exact (H.b _ _ _ _).trans (row D.B r _ _ _ _ (by simp only; omega) rfl)
  · rw [show (𝔹).v823 = x2 from (View.readAt_eq_ld _ _ _).trans ((View.ld_unit_zero (by funext a; fin_cases a <;> rfl) _ _).trans (harg2.read_unread _))]
    funext i
    obtain ⟨r, s, rfl⟩ : ∃ r s, i = ix2 r s := ⟨i 0, i 1, eq_ix2 i⟩
    exact H.t r s
  · rw [show (𝔹).v878 = x3 from (View.readAt_eq_ld _ _ _).trans ((View.ld_unit_zero (by funext a; fin_cases a <;> rfl) _ _).trans (harg3.read_unread _))]
    funext i
    obtain ⟨r, s, rfl⟩ : ∃ r s, i = ix2 r s := ⟨i 0, i 1, eq_ix2 i⟩
    pointwise [k0_pay97, mat]
    exact (H.br _ _ _ _ _).trans (chn D.Br r _ _ _ _ (by simp only; omega))
  · rw [show (𝔹).v881 = x4 from (View.readAt_eq_ld _ _ _).trans ((View.ld_unit_zero (by funext a; fin_cases a <;> rfl) _ _).trans (harg4.read_unread _))]
    funext i
    obtain ⟨r, s, rfl⟩ : ∃ r s, i = ix2 r s := ⟨i 0, i 1, eq_ix2 i⟩
    pointwise [k0_pay98, mat]
    exact (H.bi _ _ _ _ _).trans (chn D.Bi r _ _ _ _ (by simp only; omega))

/-- The decays' cotangents as the body reads them. -/
theorem rows (q d : Fin 2) : k0_pay82 k0_pay78 pick ((![rowsOf arg9 harg9 x9 q, rowsOf arg10 harg10 x10 q] : Fin 2 → _) d) = mat (groups (part D.Lr D.Li q) d) := by
  fin_cases d
  · exact row_load arg9 harg9 x9 q _ (H.gl0 q)
  · exact row_load arg10 harg10 x10 q _ (H.gl1 q)

theorem lr_load : shapeCast S64x64 (𝔹).v937 shapeCasts_S1x64x64_S64x64 = (mat D.Lr : FVec Ideal S64x64 .f32) :=
  lr_read _ (part D.Lr D.Li) (rows _ _ _ _ _ _ _ _ _ _ _ _ _ _ _ D H)

theorem li_load : shapeCast S64x64 (𝔹).v943 shapeCasts_S1x64x64_S64x64 = (mat D.Li : FVec Ideal S64x64 .f32) :=
  li_read _ (part D.Lr D.Li) (rows _ _ _ _ _ _ _ _ _ _ _ _ _ _ _ D H)

end values

end Cert.Params

end
-- ==== Proof.ParamsBlocks.lean ====
module

public import proofs.«01_k».proof.Proof.ParamsKernel

@[expose] public section

set_option maxRecDepth 65536
set_option backward.proofsInPublic true

/-! The recurrence parameters' kernel's blocks. -/

noncomputable section

namespace Cert.Params

open Idealize.ShloMosaic Idealize.ShloMosaic.TcCoe Idealize.SL.Sem Cert.Kernel5Ideal Cert.Kernel5Ideal.Gen

theorem idx_val : ∀ t : Fin cfg0.N, win0_0.index t = ![0, 0, 0, 0] ∧ win0_1.index t = ![0, 0, 0, 0] ∧ win0_2.index t = ![0, 0]
    ∧ win0_3.index t = ![0, 0, 0, 0, 0] ∧ win0_4.index t = ![0, 0, 0, 0, 0] ∧ win0_5.index t = ![0, 0, 0, 0] ∧ win0_6.index t = ![0, 0, 0, 0]
    ∧ win0_7.index t = ![0, 0, 0, 0] ∧ win0_8.index t = ![0, 0, 0, 0] ∧ win0_9.index t = ![0, 0, 0] ∧ win0_10.index t = ![0, 0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] := by decide +kernel

variable (m : (ℓ : Loc nD τ sig) → Buf (Elt Ideal) ℓ) (c : Dev nD) (D : Data) (H : Holds m c D) (t : Fin cfg0.N)
include H

/-! The blocks. -/

omit H in
theorem block_a (z : Fin 1) (d : Fin 2) (g : Fin 32) (s : Fin 64) : iblk m c 0 t (ix4 z d g s) = V m c main_v26 (ix4 z d g s) := by blk_ext [iblk, idx_val t]
omit H in
theorem block_b (z : Fin 1) (d : Fin 2) (g : Fin 32) (s : Fin 64) : iblk m c 1 t (ix4 z d g s) = V m c main_v27 (ix4 z d g s) := by blk_ext [iblk, idx_val t]
omit H in
theorem block_t (r : Fin 64) (z : Fin 1) : iblk m c 2 t (ix2 r z) = V m c main_v28 (ix2 r z) := by blk_ext [iblk, idx_val t]
omit H in
theorem block_br (z : Fin 1) (d : Fin 2) (g : Fin 32) (x : Fin 16) (s : Fin 64) : iblk m c 3 t (ix5 z d g x s) = V m c main_v30 (ix5 z d g x s) := by blk_ext [iblk, idx_val t]
omit H in
theorem block_bi (z : Fin 1) (d : Fin 2) (g : Fin 32) (x : Fin 16) (s : Fin 64) : iblk m c 4 t (ix5 z d g x s) = V m c main_v32 (ix5 z d g x s) := by blk_ext [iblk, idx_val t]
omit H in
theorem block_gb0 (q : Fin 2) (k : Fin 4) (r : Fin 128) (x : Fin 512) : iblk m c 5 t (ix4 q k r x) = V m c main_v34 (ix4 q k r x) := by blk_ext [iblk, idx_val t]
omit H in
theorem block_gb1 (q : Fin 2) (k : Fin 4) (r : Fin 128) (x : Fin 512) : iblk m c 6 t (ix4 q k r x) = V m c main_v36 (ix4 q k r x) := by blk_ext [iblk, idx_val t]
omit H in
theorem block_gc0 (q : Fin 2) (k : Fin 4) (r : Fin 128) (x : Fin 512) : iblk m c 7 t (ix4 q k r x) = V m c main_v38 (ix4 q k r x) := by blk_ext [iblk, idx_val t]
omit H in
theorem block_gc1 (q : Fin 2) (k : Fin 4) (r : Fin 128) (x : Fin 512) : iblk m c 8 t (ix4 q k r x) = V m c main_v40 (ix4 q k r x) := by blk_ext [iblk, idx_val t]
omit H in
theorem block_gl0 (q : Fin 2) (k : Fin 8) (x : Fin 2048) : iblk m c 9 t (ix3 q k x) = V m c main_v42 (ix3 q k x) := by blk_ext [iblk, idx_val t]
omit H in
theorem block_gl1 (q : Fin 2) (k : Fin 8) (x : Fin 2048) : iblk m c 10 t (ix3 q k x) = V m c main_v44 (ix3 q k x) := by blk_ext [iblk, idx_val t]

theorem ins : Ins D (iblk m c 0 t) (iblk m c 1 t) (iblk m c 2 t) (iblk m c 3 t) (iblk m c 4 t) (iblk m c 5 t) (iblk m c 6 t) (iblk m c 7 t)
    (iblk m c 8 t) (iblk m c 9 t) (iblk m c 10 t) where
  a z d g s := (block_a m c t z d g s).trans (entry_a H z d g s)
  b z d g s := (block_b m c t z d g s).trans (entry_b H z d g s)
  t r z := (block_t m c t r z).trans (entry_t H r z)
  br z d g x s := (block_br m c t z d g x s).trans (entry_br H z d g x s)
  bi z d g x s := (block_bi m c t z d g x s).trans (entry_bi H z d g x s)
  gb0 q k r x := (block_gb0 m c t q k r x).trans (entry_gb0 H q k r x)
  gb1 q k r x := (block_gb1 m c t q k r x).trans (entry_gb1 H q k r x)
  gc0 q k r x := (block_gc0 m c t q k r x).trans (entry_gc0 H q k r x)
  gc1 q k r x := (block_gc1 m c t q k r x).trans (entry_gc1 H q k r x)
  gl0 q k x := (block_gl0 m c t q k x).trans (entry_gl0 H q k x)
  gl1 q k x := (block_gl1 m c t q k x).trans (entry_gl1 H q k x)

end Cert.Params

end
-- ==== Proof.ParamsPoint.lean ====
module

public import proofs.«01_k».proof.Proof.ParamsBlocks

@[expose] public section

set_option maxRecDepth 65536
set_option backward.proofsInPublic true

/-! The recurrence parameters' kernel's seven results. -/

noncomputable section

namespace Cert.Params

open Idealize.ShloMosaic Idealize.ShloMosaic.TcCoe Idealize.SL.Sem Cert.Kernel5Ideal Cert.Kernel5Ideal.Gen

/-! What a whole store leaves. -/

theorem read_whole64 {κ : Kind} {sp : Space} (v : View sig κ sp S64x64 .f32) (f : v.ty.Contents (Elt Ideal)) (w : FVec Ideal S64x64 .f32) :
    v.read (Elt Ideal) (v.writes (Elt Ideal) f (whole64 w)) = w :=
  (View.read_writes_eq_canon v f (whole64 w) (View.cover_of_tiledL _ S64x64.size (by rfl))).trans (View.canon_unit_zero (by funext a; fin_cases a <;> rfl) _ _)
theorem read_whole1 {κ : Kind} {sp : Space} (v : View sig κ sp S64x1 .f32) (f : v.ty.Contents (Elt Ideal)) (w : FVec Ideal S64x1 .f32) :
    v.read (Elt Ideal) (v.writes (Elt Ideal) f (whole1 w)) = w :=
  (View.read_writes_eq_canon v f (whole1 w) (View.cover_of_tiledL _ S64x1.size (by rfl))).trans (View.canon_unit_zero (by funext a; fin_cases a <;> rfl) _ _)
theorem read_whole1024 {κ : Kind} {sp : Space} (v : View sig κ sp S1024x64 .f32) (f : v.ty.Contents (Elt Ideal)) (w : FVec Ideal S1024x64 .f32) :
    v.read (Elt Ideal) (v.writes (Elt Ideal) f (whole1024 w)) = w :=
  (View.read_writes_eq_canon v f (whole1024 w) (View.cover_of_tiledL _ S1024x64.size (by rfl))).trans (View.canon_unit_zero (by funext a; fin_cases a <;> rfl) _ _)

/-! The point. -/

variable (m : (ℓ : Loc nD τ sig) → Buf (Elt Ideal) ℓ) (c : Dev nD) (D : Data) (H : Holds m c D) (t : Fin cfg0.N)
include H

/-- What the point loads. -/
def pointBlocks : Blocks :=
  blocksOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_9 t) (hs0_9 t) (ms0_10 t) (hs0_10 t) scM0_0 scM0_1 (iblk m c 0 t) (iblk m c 1 t) (iblk m c 2 t) (iblk m c 3 t) (iblk m c 4 t) (iblk m c 5 t)
    (iblk m c 6 t) (iblk m c 9 t) (iblk m c 10 t)

theorem point_loads : Loads D (pointBlocks m c t).v817 (pointBlocks m c t).v820 (pointBlocks m c t).v823 (pointBlocks m c t).v878 (pointBlocks m c t).v881
    (pointBlocks m c t).v884 (pointBlocks m c t).v886 := loads _ _ _ _ _ _ _ _ _ _ _ _ _ _ _ _ _ _ _ _ _ _ _ _ _ _ _ _ _ _ _ D (ins m c D H t)

theorem point_lr : shapeCast S64x64 (pointBlocks m c t).v937 shapeCasts_S1x64x64_S64x64 = (mat D.Lr : FVec Ideal S64x64 .f32) :=
  lr_load _ _ _ _ _ _ _ _ _ _ _ _ _ _ _ _ _ _ _ _ _ _ _ _ _ _ _ _ _ _ _ D (ins m c D H t)

theorem point_li : shapeCast S64x64 (pointBlocks m c t).v943 shapeCasts_S1x64x64_S64x64 = (mat D.Li : FVec Ideal S64x64 .f32) :=
  li_load _ _ _ _ _ _ _ _ _ _ _ _ _ _ _ _ _ _ _ _ _ _ _ _ _ _ _ _ _ _ _ D (ins m c D H t)

theorem after_gar : (dats m 0 c).after 11 t = (mat D.gar : FVec Ideal S64x64 .f32) := by
  rw [after0_11]
  unfold outsAt0
  dsimp only
  unfold out0_A_11
  rw [run_gar]
  exact (read_whole64 _ _ _).trans ((pointBlocks m c t).gar_val D (point_loads m c D H t) (point_lr m c D H t) (point_li m c D H t))

theorem after_gai : (dats m 0 c).after 12 t = (mat D.gai : FVec Ideal S64x64 .f32) := by
  rw [after0_12]
  unfold outsAt0
  dsimp only
  unfold out0_A_12
  rw [run_gai]
  exact (read_whole64 _ _ _).trans ((pointBlocks m c t).gai_val D (point_loads m c D H t) (point_lr m c D H t) (point_li m c D H t))

theorem after_gdt : (dats m 0 c).after 13 t = (mat fun r _ => D.gdt r : FVec Ideal S64x1 .f32) := by
  rw [after0_13]
  unfold outsAt0
  dsimp only
  unfold out0_A_13
  rw [run_gdt]
  exact (read_whole1 _ _ _).trans ((pointBlocks m c t).gdt_val D (point_loads m c D H t) (point_lr m c D H t) (point_li m c D H t))

theorem after_gbr : (dats m 0 c).after 14 t = (mat fun x s => D.gbr s x : FVec Ideal S1024x64 .f32) := by
  rw [after0_14]
  unfold outsAt0
  dsimp only
  unfold out0_A_14
  rw [run_gbr]
  exact (read_whole1024 _ _ _).trans ((pointBlocks m c t).gbr_val D (point_loads m c D H t))

theorem after_gbi : (dats m 0 c).after 15 t = (mat fun x s => D.gbi s x : FVec Ideal S1024x64 .f32) := by
  rw [after0_15]
  unfold outsAt0
  dsimp only
  unfold out0_A_15
  rw [run_gbi]
  exact (read_whole1024 _ _ _).trans ((pointBlocks m c t).gbi_val D (point_loads m c D H t))

theorem after_gcr : (dats m 0 c).after 16 t = (mat D.Cr : FVec Ideal S1024x64 .f32) := by
  rw [after0_16]
  unfold outsAt0
  dsimp only
  unfold out0_A_16
  rw [run_gcr]
  refine (View.read_writes_eq_canon _ _ (outStores _) (View.cover_of_tiledL _ S128x64.size (by rfl))).trans ?_
  exact funext (out_canon _ (part D.Cr D.Ci 0) (slabs_load _ _ _ _ _ _ (part D.Cr D.Ci) (ins m c D H t).gc0 (ins m c D H t).gc1 0))

theorem after_gci : (dats m 0 c).after 17 t = (mat D.Ci : FVec Ideal S1024x64 .f32) := by
  rw [after0_17]
  unfold outsAt0
  dsimp only
  unfold out0_A_17
  rw [run_gci]
  refine (View.read_writes_eq_canon _ _ (outStores _) (View.cover_of_tiledL _ S128x64.size (by rfl))).trans ?_
  exact funext (out_canon _ (part D.Cr D.Ci 1) (slabs_load _ _ _ _ _ _ (part D.Cr D.Ci) (ins m c D H t).gc0 (ins m c D H t).gc1 1))

/-! The results. -/

theorem value_gar : (dats m 0 c).arrAt 11 cfg0.N = (mat D.gar : FVec Ideal S64x64 .f32) := by
  refine (dats m 0 c).arrAt_eq_of_covers 11 _ (by decide +kernel) fun t hf y => ?_
  rw [after_gar m c D H t]
  blk_ext [idx_val t]

theorem value_gai : (dats m 0 c).arrAt 12 cfg0.N = (mat D.gai : FVec Ideal S64x64 .f32) := by
  refine (dats m 0 c).arrAt_eq_of_covers 12 _ (by decide +kernel) fun t hf y => ?_
  rw [after_gai m c D H t]
  blk_ext [idx_val t]

theorem value_gdt : (dats m 0 c).arrAt 13 cfg0.N = (mat fun r _ => D.gdt r : FVec Ideal S64x1 .f32) := by
  refine (dats m 0 c).arrAt_eq_of_covers 13 _ (by decide +kernel) fun t hf y => ?_
  rw [after_gdt m c D H t]
  blk_ext [idx_val t]

theorem value_gbr : (dats m 0 c).arrAt 14 cfg0.N = (mat fun x s => D.gbr s x : FVec Ideal S1024x64 .f32) := by
  refine (dats m 0 c).arrAt_eq_of_covers 14 _ (by decide +kernel) fun t hf y => ?_
  rw [after_gbr m c D H t]
  blk_ext [idx_val t]

theorem value_gbi : (dats m 0 c).arrAt 15 cfg0.N = (mat fun x s => D.gbi s x : FVec Ideal S1024x64 .f32) := by
  refine (dats m 0 c).arrAt_eq_of_covers 15 _ (by decide +kernel) fun t hf y => ?_
  rw [after_gbi m c D H t]
  blk_ext [idx_val t]

theorem value_gcr : (dats m 0 c).arrAt 16 cfg0.N = (mat D.Cr : FVec Ideal S1024x64 .f32) := by
  refine (dats m 0 c).arrAt_eq_of_covers 16 _ (by decide +kernel) fun t hf y => ?_
  rw [after_gcr m c D H t]
  blk_ext [idx_val t]

theorem value_gci : (dats m 0 c).arrAt 17 cfg0.N = (mat D.Ci : FVec Ideal S1024x64 .f32) := by
  refine (dats m 0 c).arrAt_eq_of_covers 17 _ (by decide +kernel) fun t hf y => ?_
  rw [after_gci m c D H t]
  blk_ext [idx_val t]

end Cert.Params

end
-- ==== Proof.ParamsRef.lean ====
module

public import proofs.«01_k».proof.Proof.ParamsEntry
public import proofs.«01_k».proof.Proof.Gen.Reference5Ideal.Read

@[expose] public section

set_option maxRecDepth 65536
set_option backward.proofsInPublic true

/-! The recurrence parameters' reference, number by number. -/

noncomputable section

namespace Cert.Reference5Ideal.Params

open Idealize.ShloMosaic Cert.Reference5Ideal.Read Cert.Params
open Cert.Attn (coe_sum div_coe)

/-! The arguments. -/

/-- Numbers by direction, group and state. -/
def byState (f : Fin 64 → Fin 64 → ℝ) : FVec Ideal S2x32x64 .f32 := fun i => ((f (grp (i 0) (i 1)) (i 2) : ℝ) : EReal)

/-- Numbers by direction and group. -/
def byGroup (f : Fin 64 → ℝ) : FVec Ideal S2x32 .f32 := fun i => ((f (grp (i 0) (i 1)) : ℝ) : EReal)

/-- Numbers by direction, group, state and channel. -/
def byChan (f : Fin 1024 → Fin 64 → ℝ) : FVec Ideal S2x32x64x16 .f32 := fun i => ((f (chan (grp (i 0) (i 1)) (i 3)) (i 2) : ℝ) : EReal)

variable (D : Data) (d : Fin 2) (g : Fin 32) (s : Fin 64) (x : Fin 16)

abbrev xa := byState D.A
abbrev xb := byState D.B
abbrev xt := byGroup D.T

abbrev xbr := byChan D.Br
abbrev xbi := byChan D.Bi
abbrev xlr := byState D.Lr
abbrev xli := byState D.Li
abbrev xgr := byChan D.Gr
abbrev xgi := byChan D.Gi

/-- Numbers by direction, group, channel and state. -/
def byOut (f : Fin 1024 → Fin 64 → ℝ) : FVec Ideal S2x32x16x64 .f32 := fun i => ((f (chan (grp (i 0) (i 1)) (i 2)) (i 3) : ℝ) : EReal)

theorem v1 : val_main_v1 (F := Ideal) (xt D) (ix2 d g) = ((D.dt (grp d g) : ℝ) : EReal) := by
  pointwise [val_main_v1, byGroup]; rfl

theorem v5 : val_main_v5 (F := Ideal) (xa D) (xt D) (ix3 d g s) = ((D.mag (grp d g) s : ℝ) : EReal) := by
  pointwise [val_main_v5, val_main_v4, val_main_v3, val_main_v2, v1, byState]
  rw [← EReal.coe_mul]; rfl

theorem v8 : val_main_v8 (F := Ideal) (xb D) (xt D) (ix3 d g s) = ((Real.cos (D.dt (grp d g) * D.B (grp d g) s) : ℝ) : EReal) := by
  pointwise [val_main_v8, val_main_v7, val_main_v6, val_main_v2, v1, byState]
  rw [← EReal.coe_mul]; rfl

theorem v9 : val_main_v9 (F := Ideal) (xb D) (xt D) (ix3 d g s) = ((Real.sin (D.dt (grp d g) * D.B (grp d g) s) : ℝ) : EReal) := by
  pointwise [val_main_v9, val_main_v7, val_main_v6, val_main_v2, v1, byState]
  rw [← EReal.coe_mul]; rfl

theorem v13 : val_main_v13 (F := Ideal) (xb D) (xt D) (ix3 d g s) = ((Real.sin (D.dt (grp d g) * D.B (grp d g) s) : ℝ) : EReal) := v9 D d g s
theorem v14 : val_main_v14 (F := Ideal) (xb D) (xt D) (ix3 d g s) = ((Real.cos (D.dt (grp d g) * D.B (grp d g) s) : ℝ) : EReal) := v8 D d g s

theorem v20 : val_main_v20 (F := Ideal) (xa D) (xb D) (xt D) (ix3 d g s) = ((D.lr (grp d g) s - 1 : ℝ) : EReal) := by
  pointwise [val_main_v20, val_main_v10, val_main_v19, val_main_cst_0, v5, v8]
  rw [← EReal.coe_one, ← EReal.coe_mul, ← EReal.coe_sub]; rfl

theorem v30 : val_main_v30 (F := Ideal) (xa D) (xb D) (xt D) (ix3 d g s) = ((D.lr (grp d g) s - 1 : ℝ) : EReal) := v20 D d g s

theorem v15 : val_main_v15 (F := Ideal) (xa D) (xb D) (xt D) (ix3 d g s) = ((D.li (grp d g) s : ℝ) : EReal) := by
  pointwise [val_main_v15, v5, v13]
  rw [← EReal.coe_mul]; rfl

theorem v18 : val_main_v18 (F := Ideal) (xa D) (xb D) (ix3 d g s) = ((D.den (grp d g) s : ℝ) : EReal) := by
  pointwise [val_main_v18, val_main_v16, val_main_v17, byState]
  rw [← EReal.coe_mul, ← EReal.coe_mul, ← EReal.coe_add]; rfl

theorem v23 : val_main_v23 (F := Ideal) (xa D) (xb D) (xt D) (ix3 d g s) = ((D.nr (grp d g) s : ℝ) : EReal) := by
  pointwise [val_main_v23, val_main_v21, val_main_v22, v20, v15, byState]
  rw [← EReal.coe_mul, ← EReal.coe_mul, ← EReal.coe_add]; rfl

theorem v32 : val_main_v32 (F := Ideal) (xa D) (xb D) (xt D) (ix3 d g s) = ((D.ni (grp d g) s : ℝ) : EReal) := by
  pointwise [val_main_v32, val_main_v28, val_main_v31, v30, v15, byState]
  rw [← EReal.coe_mul, ← EReal.coe_mul, ← EReal.coe_sub]; rfl

theorem v24 : val_main_v24 (F := Ideal) (xa D) (xb D) (xt D) (ix3 d g s) = ((D.nr (grp d g) s / D.den (grp d g) s : ℝ) : EReal) := by
  pointwise [val_main_v24, v23, v18]
  exact div_coe _ (D.den_ne _ _)

theorem v33 : val_main_v33 (F := Ideal) (xa D) (xb D) (xt D) (ix3 d g s) = ((D.ni (grp d g) s / D.den (grp d g) s : ℝ) : EReal) := by
  pointwise [val_main_v33, v32, v18]
  exact div_coe _ (D.den_ne _ _)

theorem v36 : val_main_v36 (F := Ideal) (xa D) (xb D) (ix3 d g s) = ((1 / (D.den (grp d g) s * D.den (grp d g) s) : ℝ) : EReal) := by
  pointwise [val_main_v36, val_main_v35, val_main_v34, val_main_cst_3, v18]
  rw [← EReal.coe_one, ← EReal.coe_mul]
  exact div_coe _ (D.den_ne2 _ _)

theorem v27 : val_main_v27 (F := Ideal) (xa D) (xb D) (ix3 d g s) = ((1 / (D.den (grp d g) s * D.den (grp d g) s) : ℝ) : EReal) := v36 D d g s

theorem v74 : val_main_v74 (F := Ideal) (xbr D) (xbi D) (xgr D) (xgi D) (ix3 d g s) = ((D.si (grp d g) s : ℝ) : EReal) := by
  pointwise [val_main_v74, val_main_v58, val_main_v57, val_main_v56, val_main_v55, val_main_v52, val_main_v73, val_main_v72, val_main_v71, val_main_v70,
    val_main_v66, val_main_cst_4, val_main_cst_5, val_main_cst_8, val_main_cst_9, byChan]
  simp only [Finset.univ_unique, Finset.sum_singleton, ← EReal.coe_neg, ← EReal.coe_mul, ← coe_sum, ← EReal.coe_add, ← Finset.sum_add_distrib]
  exact congrArg Real.toEReal (Finset.sum_congr rfl fun _ _ => by ring)

theorem v82 : val_main_v82 (F := Ideal) (xbr D) (xbi D) (xgr D) (xgi D) (ix3 d g s) = ((D.sr (grp d g) s : ℝ) : EReal) := by
  pointwise [val_main_v82, val_main_v64, val_main_v63, val_main_v62, val_main_v61, val_main_v51, val_main_v81, val_main_v80, val_main_v79, val_main_v78,
    val_main_v65, val_main_cst_6, val_main_cst_7, val_main_cst_10, val_main_cst_11, byChan]
  simp only [Finset.univ_unique, Finset.sum_singleton, ← EReal.coe_neg, ← EReal.coe_mul, ← coe_sum, ← EReal.coe_add, ← Finset.sum_add_distrib]
  exact congrArg Real.toEReal (Finset.sum_congr rfl fun _ _ => by ring)

theorem v97 : val_main_v97 (F := Ideal) (xa D) (xb D) (xt D) (xbr D) (xbi D) (xgr D) (xgi D) (ix3 d g s) = ((D.gden (grp d g) s : ℝ) : EReal) := by
  pointwise [val_main_v97, val_main_v85, val_main_v84, val_main_v83, val_main_v96, val_main_v95, val_main_v94, v74, v82, v36, v27, v32, v23]
  simp only [← EReal.coe_neg, ← EReal.coe_mul, ← EReal.coe_add]
  refine congrArg Real.toEReal ?_
  unfold Data.gden; ring

theorem v86 : val_main_v86 (F := Ideal) (xa D) (xb D) (xbr D) (xbi D) (xgr D) (xgi D) (ix3 d g s) = ((D.si (grp d g) s / D.den (grp d g) s : ℝ) : EReal) := by
  pointwise [val_main_v86, v74, v18]
  exact div_coe _ (D.den_ne _ _)

theorem v98 : val_main_v98 (F := Ideal) (xa D) (xb D) (xbr D) (xbi D) (xgr D) (xgi D) (ix3 d g s) = ((D.sr (grp d g) s / D.den (grp d g) s : ℝ) : EReal) := by
  pointwise [val_main_v98, v82, v18]
  exact div_coe _ (D.den_ne _ _)

theorem v102 : val_main_v102 (F := Ideal) (xa D) (xb D) (xbr D) (xbi D) (xli D) (xgr D) (xgi D) (ix3 d g s) = ((D.gli (grp d g) s : ℝ) : EReal) := by
  pointwise [val_main_v102, val_main_v93, val_main_v92, val_main_v101, v86, v98, byState]
  simp only [← EReal.coe_mul, ← EReal.coe_add]
  refine congrArg Real.toEReal ?_
  unfold Data.gli; ring

theorem v106 : val_main_v106 (F := Ideal) (xa D) (xb D) (xbr D) (xbi D) (xlr D) (xgr D) (xgi D) (ix3 d g s) = ((D.glr (grp d g) s : ℝ) : EReal) := by
  pointwise [val_main_v106, val_main_v90, val_main_v89, val_main_v87, val_main_v105, v86, v98, byState]
  simp only [← EReal.coe_neg, ← EReal.coe_mul, ← EReal.coe_add]
  refine congrArg Real.toEReal ?_
  unfold Data.glr; ring

theorem v117 : val_main_v117 (F := Ideal) (xa D) (xb D) (xt D) (xbr D) (xbi D) (xli D) (xgr D) (xgi D) (ix3 d g s) = ((D.gli (grp d g) s * D.lr (grp d g) s : ℝ) : EReal) := by
  pointwise [val_main_v117, val_main_v115, v102, v5, v14]
  simp only [← EReal.coe_mul]
  refine congrArg Real.toEReal ?_
  unfold Data.lr; ring

theorem v128 : val_main_v128 (F := Ideal) (xa D) (xb D) (xt D) (xbr D) (xbi D) (xlr D) (xgr D) (xgi D) (ix3 d g s) = ((-(D.glr (grp d g) s * D.li (grp d g) s) : ℝ) : EReal) := by
  pointwise [val_main_v128, val_main_v127, val_main_v124, v106, v5, v9]
  simp only [← EReal.coe_neg, ← EReal.coe_mul]
  refine congrArg Real.toEReal ?_
  unfold Data.li; ring

theorem v136 : val_main_v136 (F := Ideal) (xa D) (xb D) (xt D) (xbr D) (xbi D) (xlr D) (xli D) (xgr D) (xgi D) (ix3 d g s) = ((D.gmag (grp d g) s * D.mag (grp d g) s : ℝ) : EReal) := by
  pointwise [val_main_v136, val_main_v126, val_main_v116, val_main_v125, v102, v106, v5, v8, v13]
  simp only [← EReal.coe_mul, ← EReal.coe_add]
  refine congrArg Real.toEReal ?_
  unfold Data.gmag; rw [div_mul_cancel₀ _ (D.mag_ne _ _)]; unfold Data.lr Data.li; ring

theorem v131 : val_main_v131 (F := Ideal) (xa D) (xb D) (xt D) (xbr D) (xbi D) (xlr D) (xli D) (xgr D) (xgi D) (ix3 d g s) = ((D.gai (grp d g) s : ℝ) : EReal) := by
  pointwise [val_main_v131, val_main_v120, val_main_v110, val_main_v108, val_main_v100, val_main_v88, val_main_v87, val_main_v99, val_main_v107,
    val_main_v109, val_main_v119, val_main_v118, val_main_v130, val_main_v129, val_main_v2, v1, v30, v86, v98, v15, v97, v117, v128, byState]
  simp only [← EReal.coe_neg, ← EReal.coe_mul, ← EReal.coe_add]
  refine congrArg Real.toEReal ?_
  unfold Data.gai Data.gang; ring

theorem v139 : val_main_v139 (F := Ideal) (xa D) (xb D) (xt D) (xbr D) (xbi D) (xlr D) (xli D) (xgr D) (xgi D) (ix3 d g s) = ((D.gar (grp d g) s : ℝ) : EReal) := by
  pointwise [val_main_v139, val_main_v114, val_main_v112, val_main_v104, val_main_v91, val_main_v103, val_main_v111, val_main_v113, val_main_v138,
    val_main_v137, val_main_v2, v1, v20, v86, v98, v15, v97, v136, byState]
  simp only [← EReal.coe_mul, ← EReal.coe_add]
  refine congrArg Real.toEReal ?_
  unfold Data.gar; ring

theorem v145 : val_main_v145 (F := Ideal) (xa D) (xb D) (xt D) (xbr D) (xbi D) (xlr D) (xli D) (xgr D) (xgi D) (ix2 d g) = ((D.gdt (grp d g) : ℝ) : EReal) := by
  pointwise [val_main_v145, val_main_v144, val_main_v143, val_main_v135, val_main_v123, val_main_v122, val_main_v121, val_main_v134, val_main_v133,
    val_main_v132, val_main_v142, val_main_v141, val_main_v140, val_main_cst_12, val_main_cst_13, val_main_cst_14, val_main_cst_15, v1, v117, v128, v136, byState]
  simp only [Finset.univ_unique, Finset.sum_singleton, ← EReal.coe_mul, ← coe_sum, ← EReal.coe_add, ← Finset.sum_add_distrib]
  refine congrArg Real.toEReal ?_
  unfold Data.gdt
  exact congrArg (fun y => y * D.dt (grp d g)) (Finset.sum_congr rfl fun s _ => by unfold Data.gang; ring)

/-! The results. -/

theorem grp_row (r : Fin 64) : grp ⟨r.val / 32, by omega⟩ ⟨r.val % 32, by omega⟩ = r := Fin.ext (by unfold grp; simp only; omega)

theorem chan_row (r : Fin 1024) : chan (grp ⟨r.val / 512, by omega⟩ ⟨r.val / 16 % 32, by omega⟩) ⟨r.val % 16, by omega⟩ = r :=
  Fin.ext (by unfold chan grp; simp only; omega)

theorem gar : val_main_v146 (F := Ideal) (xa D) (xb D) (xt D) (xbr D) (xbi D) (xlr D) (xli D) (xgr D) (xgi D) = (mat D.gar : FVec Ideal S64x64 .f32) := by
  funext i
  obtain ⟨r, s, rfl⟩ : ∃ r s, i = ix2 r s := ⟨i 0, i 1, eq_ix2 i⟩
  pointwise [val_main_v146, v139, mat]
  rw [grp_row]

theorem gai : val_main_v147 (F := Ideal) (xa D) (xb D) (xt D) (xbr D) (xbi D) (xlr D) (xli D) (xgr D) (xgi D) = (mat D.gai : FVec Ideal S64x64 .f32) := by
  funext i
  obtain ⟨r, s, rfl⟩ : ∃ r s, i = ix2 r s := ⟨i 0, i 1, eq_ix2 i⟩
  pointwise [val_main_v147, v131, mat]
  rw [grp_row]

theorem gdt : val_main_v148 (F := Ideal) (xa D) (xb D) (xt D) (xbr D) (xbi D) (xlr D) (xli D) (xgr D) (xgi D) = (mat fun r _ => D.gdt r : FVec Ideal S64x1 .f32) := by
  funext i
  obtain ⟨r, s, rfl⟩ : ∃ r s, i = ix2 r s := ⟨i 0, i 1, eq_ix2 i⟩
  pointwise [val_main_v148, v145, mat]
  rw [grp_row]

theorem v77 : val_main_v77 (F := Ideal) (xa D) (xb D) (xt D) (xgr D) (xgi D) (ix4 d g s x) = ((D.gbr s (chan (grp d g) x) : ℝ) : EReal) := by
  pointwise [val_main_v77, val_main_v54, val_main_v53, val_main_v47, val_main_v52, val_main_v76, val_main_v75, val_main_v37, val_main_v65, v24, v33, byChan]
  simp only [← EReal.coe_neg, ← EReal.coe_mul, ← EReal.coe_add]
  refine congrArg Real.toEReal ?_
  unfold Data.gbr; rw [own_chan]; ring

theorem gbr : val_main_v150 (F := Ideal) (xa D) (xb D) (xt D) (xgr D) (xgi D) = (mat fun x s => D.gbr s x : FVec Ideal S1024x64 .f32) := by
  funext i
  obtain ⟨r, s, rfl⟩ : ∃ r s, i = ix2 r s := ⟨i 0, i 1, eq_ix2 i⟩
  pointwise [val_main_v150, val_main_v149, v77, mat]
  rw [chan_row]

theorem v69 : val_main_v69 (F := Ideal) (xa D) (xb D) (xt D) (xgr D) (xgi D) (ix4 d g s x) = ((D.gbi s (chan (grp d g) x) : ℝ) : EReal) := by
  pointwise [val_main_v69, val_main_v60, val_main_v59, val_main_v44, val_main_v51, val_main_v68, val_main_v67, val_main_v40, val_main_v66, v24, v33, byChan]
  simp only [← EReal.coe_neg, ← EReal.coe_mul, ← EReal.coe_add]
  refine congrArg Real.toEReal ?_
  unfold Data.gbi; rw [own_chan]; ring

theorem gbi : val_main_v152 (F := Ideal) (xa D) (xb D) (xt D) (xgr D) (xgi D) = (mat fun x s => D.gbi s x : FVec Ideal S1024x64 .f32) := by
  funext i
  obtain ⟨r, s, rfl⟩ : ∃ r s, i = ix2 r s := ⟨i 0, i 1, eq_ix2 i⟩
  pointwise [val_main_v152, val_main_v151, v69, mat]
  rw [chan_row]

theorem gcr : val_main_v153 (F := Ideal) (byOut D.Cr) = (mat D.Cr : FVec Ideal S1024x64 .f32) := by
  funext i
  obtain ⟨r, s, rfl⟩ : ∃ r s, i = ix2 r s := ⟨i 0, i 1, eq_ix2 i⟩
  pointwise [val_main_v153, byOut, mat]
  rw [chan_row]

theorem gci : val_main_v154 (F := Ideal) (byOut D.Ci) = (mat D.Ci : FVec Ideal S1024x64 .f32) := by
  funext i
  obtain ⟨r, s, rfl⟩ : ∃ r s, i = ix2 r s := ⟨i 0, i 1, eq_ix2 i⟩
  pointwise [val_main_v154, byOut, mat]
  rw [chan_row]

end Cert.Reference5Ideal.Params

end
-- ==== Proof.ParamsValue.lean ====
module

public import proofs.«01_k».proof.Proof.AttnValue
public import proofs.«01_k».proof.Proof.ParamsEntry
public import proofs.«01_k».proof.Proof.ParamsRef
public import proofs.«01_k».proof.Proof.Gen.Pre_regular_params

@[expose] public section

set_option maxRecDepth 16384
set_option backward.proofsInPublic true

/-! Regular arguments hold data, and the reference reads them. -/

noncomputable section

namespace Cert.Params

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- A row's direction and group, and a channel's place in its group. -/
def dirOf (r : Fin 64) : Fin 2 := ⟨r.val / 32, by omega⟩
def groupOf (r : Fin 64) : Fin 32 := ⟨r.val % 32, by omega⟩
def placeOf (x : Fin 1024) : Fin 16 := ⟨x.val % 16, by omega⟩

theorem dirOf_grp (d : Fin 2) (g : Fin 32) : dirOf (grp d g) = d := Fin.ext (by unfold dirOf grp; simp only; omega)
theorem groupOf_grp (d : Fin 2) (g : Fin 32) : groupOf (grp d g) = g := Fin.ext (by unfold groupOf grp; simp only; omega)
theorem placeOf_chan (r : Fin 64) (x : Fin 16) : placeOf (chan r x) = x := Fin.ext (by unfold placeOf chan; simp only; omega)

/-- Real numbers whose squares' sum is above zero. -/
theorem pole_of_gt (a b : ℝ) (h : FloatOps.cmpf (F := Ideal) (φ := .f32) .ogt (FloatOps.addf (F := Ideal) (φ := .f32)
      (FloatOps.mulf (F := Ideal) (φ := .f32) (a : EReal) (a : EReal)) (FloatOps.mulf (F := Ideal) (φ := .f32) (b : EReal) (b : EReal)))
      (Ideal.ofBits .f32 0x00000000#32) = 1#1) : a * a + b * b ≠ 0 := by
  rw [ofBits_none] at h
  have h' : ((0 : ℝ) : EReal) < (a : EReal) * a + (b : EReal) * b := by
    by_contra hn
    exact absurd ((congrArg BitVec.ofBool (decide_eq_false hn)).symm.trans h) (by decide)
  rw [← EReal.coe_mul, ← EReal.coe_mul, ← EReal.coe_add, EReal.coe_lt_coe_iff] at h'
  exact h'.ne'

/-- Regular arguments hold real numbers, the poles not zero. -/
theorem data (h : Pre_regular_params.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) = fun _ => 1#1) :
    ∃ D, Holds m c D := by
  have e := congrFun h ix0
  simp only [Pre_regular_params.fn, Pre_regular_params.fn_part1, Pre_regular_params.fn_part2, Pre_regular_params.fn_part3] at e
  obtain ⟨e, ep⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r {S : Shape} (a : FVec Ideal S .f32) (H : ∀ i, FloatOps.cmpf (F := Ideal) (φ := .f32) .olt (FloatOps.absf (F := Ideal) (φ := .f32) (a i))
      (Ideal.ofBits .f32 2139095040#32) = 1#1) (i : S.Idx) : a i = (((a i : EReal).toReal : ℝ) : EReal) :=
    (Cert.Attn.real_of_lt _ (H i)).symm
  have r0 := r (m ((c.tc : Thread nD τ).loc main_arg0)) fun i => Host.reduce_andi_all _ _ _ _ _ e0 i
  have r1 := r (m ((c.tc : Thread nD τ).loc main_arg1)) fun i => Host.reduce_andi_all _ _ _ _ _ e1 i
  have r2 := r (m ((c.tc : Thread nD τ).loc main_arg2)) fun i => Host.reduce_andi_all _ _ _ _ _ e2 i
  have r3 := r (m ((c.tc : Thread nD τ).loc main_arg3)) fun i => Host.reduce_andi_all _ _ _ _ _ e3 i
  have r4 := r (m ((c.tc : Thread nD τ).loc main_arg4)) fun i => Host.reduce_andi_all _ _ _ _ _ e4 i
  have r5 := r (m ((c.tc : Thread nD τ).loc main_arg5)) fun i => Host.reduce_andi_all _ _ _ _ _ e5 i
  have r6 := r (m ((c.tc : Thread nD τ).loc main_arg6)) fun i => Host.reduce_andi_all _ _ _ _ _ e6 i
  have r7 := r (m ((c.tc : Thread nD τ).loc main_arg7)) fun i => Host.reduce_andi_all _ _ _ _ _ e7 i
  have r8 := r (m ((c.tc : Thread nD τ).loc main_arg8)) fun i => Host.reduce_andi_all _ _ _ _ _ e8 i
  have r9 := r (m ((c.tc : Thread nD τ).loc main_arg9)) fun i => Host.reduce_andi_all _ _ _ _ _ e9 i
  have r10 := r (m ((c.tc : Thread nD τ).loc main_arg10)) fun i => Host.reduce_andi_all _ _ _ _ _ e10 i
  have hp (i : S2x32x64.Idx) := Host.reduce_andi_all _ _ _ _ _ ep i
  refine ⟨⟨fun r s => (m ((c.tc : Thread nD τ).loc main_arg0) (ix3 (dirOf r) (groupOf r) s) : EReal).toReal,
    fun r s => (m ((c.tc : Thread nD τ).loc main_arg1) (ix3 (dirOf r) (groupOf r) s) : EReal).toReal,
    fun r => (m ((c.tc : Thread nD τ).loc main_arg2) (ix2 (dirOf r) (groupOf r)) : EReal).toReal,
    fun x s => (m ((c.tc : Thread nD τ).loc main_arg3) (ix4 (dirOf (own x)) (groupOf (own x)) s (placeOf x)) : EReal).toReal,
    fun x s => (m ((c.tc : Thread nD τ).loc main_arg4) (ix4 (dirOf (own x)) (groupOf (own x)) s (placeOf x)) : EReal).toReal,
    fun x s => (m ((c.tc : Thread nD τ).loc main_arg7) (ix4 (dirOf (own x)) (groupOf (own x)) s (placeOf x)) : EReal).toReal,
    fun x s => (m ((c.tc : Thread nD τ).loc main_arg8) (ix4 (dirOf (own x)) (groupOf (own x)) s (placeOf x)) : EReal).toReal,
    fun x s => (m ((c.tc : Thread nD τ).loc main_arg9) (ix4 (dirOf (own x)) (groupOf (own x)) (placeOf x) s) : EReal).toReal,
    fun x s => (m ((c.tc : Thread nD τ).loc main_arg10) (ix4 (dirOf (own x)) (groupOf (own x)) (placeOf x) s) : EReal).toReal,
    fun r s => (m ((c.tc : Thread nD τ).loc main_arg5) (ix3 (dirOf r) (groupOf r) s) : EReal).toReal,
    fun r s => (m ((c.tc : Thread nD τ).loc main_arg6) (ix3 (dirOf r) (groupOf r) s) : EReal).toReal, fun r s => ?_⟩, ?_, ?_, ?_, ?_, ?_, ?_, ?_, ?_, ?_, ?_, ?_⟩
  · refine pole_of_gt _ _ ?_
    rw [← r0, ← r1]
    exact hp _
  · intro d g s; show _ = _; simp only [dirOf_grp, groupOf_grp]; exact r0 _
  · intro d g s; show _ = _; simp only [dirOf_grp, groupOf_grp]; exact r1 _
  · intro d g; show _ = _; simp only [dirOf_grp, groupOf_grp]; exact r2 _
  · intro d g s x; show _ = _; simp only [own_chan, placeOf_chan, dirOf_grp, groupOf_grp]; exact r3 _
  · intro d g s x; show _ = _; simp only [own_chan, placeOf_chan, dirOf_grp, groupOf_grp]; exact r4 _
  · intro d g s; show _ = _; simp only [dirOf_grp, groupOf_grp]; exact r5 _
  · intro d g s; show _ = _; simp only [dirOf_grp, groupOf_grp]; exact r6 _
  · intro d g s x; show _ = _; simp only [own_chan, placeOf_chan, dirOf_grp, groupOf_grp]; exact r7 _
  · intro d g s x; show _ = _; simp only [own_chan, placeOf_chan, dirOf_grp, groupOf_grp]; exact r8 _
  · intro d g x s; show _ = _; simp only [own_chan, placeOf_chan, dirOf_grp, groupOf_grp]; exact r9 _
  · intro d g x s; show _ = _; simp only [own_chan, placeOf_chan, dirOf_grp, groupOf_grp]; exact r10 _

/-! The arguments as arrays. -/

open Cert.Reference5Ideal.Params (byState byGroup byChan byOut)

variable {m c} {D : Data} (H : Holds m c D)
include H

theorem Holds.a0 : m ((c.tc : Thread nD τ).loc main_arg0) = byState D.A := funext fun i => (congrArg _ (eq_ix3 i)).trans (H.a _ _ _)
theorem Holds.a1 : m ((c.tc : Thread nD τ).loc main_arg1) = byState D.B := funext fun i => (congrArg _ (eq_ix3 i)).trans (H.b _ _ _)
theorem Holds.a2 : m ((c.tc : Thread nD τ).loc main_arg2) = byGroup D.T := funext fun i => (congrArg _ (eq_ix2 i)).trans (H.t _ _)
theorem Holds.a3 : m ((c.tc : Thread nD τ).loc main_arg3) = byChan D.Br := funext fun i => (congrArg _ (eq_ix4 i)).trans (H.br _ _ _ _)
theorem Holds.a4 : m ((c.tc : Thread nD τ).loc main_arg4) = byChan D.Bi := funext fun i => (congrArg _ (eq_ix4 i)).trans (H.bi _ _ _ _)
theorem Holds.a5 : m ((c.tc : Thread nD τ).loc main_arg5) = byState D.Lr := funext fun i => (congrArg _ (eq_ix3 i)).trans (H.lr _ _ _)
theorem Holds.a6 : m ((c.tc : Thread nD τ).loc main_arg6) = byState D.Li := funext fun i => (congrArg _ (eq_ix3 i)).trans (H.li _ _ _)
theorem Holds.a7 : m ((c.tc : Thread nD τ).loc main_arg7) = byChan D.Gr := funext fun i => (congrArg _ (eq_ix4 i)).trans (H.gr _ _ _ _)
theorem Holds.a8 : m ((c.tc : Thread nD τ).loc main_arg8) = byChan D.Gi := funext fun i => (congrArg _ (eq_ix4 i)).trans (H.gi _ _ _ _)
theorem Holds.a9 : m ((c.tc : Thread nD τ).loc main_arg9) = byOut D.Cr := funext fun i => (congrArg _ (eq_ix4 i)).trans (H.cr _ _ _ _)
theorem Holds.a10 : m ((c.tc : Thread nD τ).loc main_arg10) = byOut D.Ci := funext fun i => (congrArg _ (eq_ix4 i)).trans (H.ci _ _ _ _)

end Cert.Params

end
-- ==== Proof.PolesTile.lean ====
module

public import proofs.«01_k».proof.Proof.ParamsValue
public import proofs.«01_k».proof.Proof.Gen.Kernel6Ideal.Value

@[expose] public section

set_option maxRecDepth 65536
set_option backward.proofsInPublic true

/-! The recurrence parameters: the decays' powers, the scaled weights, and the slabs the kernel spreads them over. -/

noncomputable section

namespace Cert.Poles

open Idealize.ShloMosaic Cert.Params Cert.Kernel6Ideal Cert.Kernel6Ideal.Gen

/-- A matrix of extended reals as an array. -/
def arr {n m : ℕ} {φ : FTy} (f : Fin n → Fin m → EReal) : FVec Ideal ⟨2, ![n, m]⟩ φ := fun i => f (i 0) (i 1)

/-! The decays' powers. -/

variable (D : Data)

/-- The decay's power `2 ^ n`, real part. -/
def powr (n : ℕ) (r s : Fin 64) : ℝ := Real.exp ((2 : ℝ) ^ n * D.dt r * D.A r s) * Real.cos ((2 : ℝ) ^ n * D.dt r * D.B r s)

/-- The decay's power `2 ^ n`, imaginary part. -/
def powi (n : ℕ) (r s : Fin 64) : ℝ := Real.exp ((2 : ℝ) ^ n * D.dt r * D.A r s) * Real.sin ((2 : ℝ) ^ n * D.dt r * D.B r s)

theorem powr_zero : powr D 0 = D.lr := funext fun r => funext fun s => by simp [powr, Data.lr, Data.mag]

theorem powi_zero : powi D 0 = D.li := funext fun r => funext fun s => by simp [powi, Data.li, Data.mag]

theorem exp_twice (n : ℕ) (a b : ℝ) : Real.exp ((2 : ℝ) ^ (n + 1) * a * b) = Real.exp ((2 : ℝ) ^ n * a * b) * Real.exp ((2 : ℝ) ^ n * a * b) := by
  rw [← Real.exp_add]; congr 1; ring

theorem twice (n : ℕ) (a b : ℝ) : (2 : ℝ) ^ (n + 1) * a * b = 2 * ((2 : ℝ) ^ n * a * b) := by ring

theorem step_r (n : ℕ) : subf (mulf (mat (powr D n) (φ := .f32)) (mat (powr D n))) (mulf (mat (powi D n)) (mat (powi D n))) = mat (powr D (n + 1)) := by
  rw [mat_mul, mat_mul, mat_sub]
  refine congrArg mat (funext fun r => funext fun s => ?_)
  unfold powr powi
  rw [exp_twice, twice n _ (D.B r s), Real.cos_two_mul]
  have := Real.sin_sq_add_cos_sq ((2 : ℝ) ^ n * D.dt r * D.B r s)
  linear_combination (-(Real.exp ((2 : ℝ) ^ n * D.dt r * D.A r s) * Real.exp ((2 : ℝ) ^ n * D.dt r * D.A r s))) * this

theorem step_i (n : ℕ) : mulf (mulf (broadcast S64x64 (Scalar.ofBits .f32 0x40000000#32)) (mat (powr D n) (φ := .f32))) (mat (powi D n)) = mat (powi D (n + 1)) := by
  rw [show (broadcast S64x64 (Scalar.ofBits .f32 0x40000000#32) : FVec Ideal S64x64 .f32) = mat fun _ _ => 2 from two_fill, mat_mul, mat_mul]
  refine congrArg mat (funext fun r => funext fun s => ?_)
  unfold powr powi
  rw [exp_twice, twice n _ (D.B r s), Real.sin_two_mul]
  ring

/-- The decay, real part. -/
abbrev real0 : FVec Ideal S64x64 .f32 := mat (powr D 0)

/-- The decay, imaginary part. -/
abbrev imag0 : FVec Ideal S64x64 .f32 := mat (powi D 0)

theorem r1 : k0_pay14 (imag0 D) (mulf (real0 D) (real0 D)) = mat (powr D 1) := step_r D 0
theorem i1 : k0_pay15 (real0 D) (imag0 D) = mat (powi D 1) := step_i D 0
theorem r2 : k0_pay16 (real0 D) (imag0 D) (mulf (real0 D) (real0 D)) = mat (powr D 2) := by unfold k0_pay16; rw [r1, i1]; exact step_r D 1
theorem i2 : k0_pay17 (real0 D) (imag0 D) (mulf (real0 D) (real0 D)) = mat (powi D 2) := by unfold k0_pay17; rw [r1, i1]; exact step_i D 1
theorem r3 : k0_pay18 (real0 D) (imag0 D) (mulf (real0 D) (real0 D)) = mat (powr D 3) := by unfold k0_pay18; rw [r2, i2]; exact step_r D 2
theorem i3 : k0_pay19 (real0 D) (imag0 D) (mulf (real0 D) (real0 D)) = mat (powi D 3) := by unfold k0_pay19; rw [r2, i2]; exact step_i D 2
theorem r4 : k0_pay20 (real0 D) (imag0 D) (mulf (real0 D) (real0 D)) = mat (powr D 4) := by unfold k0_pay20; rw [r3, i3]; exact step_r D 3
theorem i4 : k0_pay21 (real0 D) (imag0 D) (mulf (real0 D) (real0 D)) = mat (powi D 4) := by unfold k0_pay21; rw [r3, i3]; exact step_i D 3
theorem r5 : k0_pay22 (real0 D) (imag0 D) (mulf (real0 D) (real0 D)) = mat (powr D 5) := by unfold k0_pay22; rw [r4, i4]; exact step_r D 4
theorem i5 : k0_pay23 (real0 D) (imag0 D) (mulf (real0 D) (real0 D)) = mat (powi D 5) := by unfold k0_pay23; rw [r4, i4]; exact step_i D 4
theorem r6 : k0_pay24 (real0 D) (imag0 D) (mulf (real0 D) (real0 D)) = shapeCast S1x64x64 (mat (powr D 6) : FVec Ideal S64x64 .f32) shapeCasts_S64x64_S1x64x64 := by
  unfold k0_pay24; rw [r5, i5]; exact congrArg (fun v => shapeCast S1x64x64 v shapeCasts_S64x64_S1x64x64) (step_r D 5)
theorem i6 : k0_pay25 (real0 D) (imag0 D) (mulf (real0 D) (real0 D)) = shapeCast S1x64x64 (mat (powi D 6) : FVec Ideal S64x64 .f32) shapeCasts_S64x64_S1x64x64 := by
  unfold k0_pay25; rw [r5, i5]; exact congrArg (fun v => shapeCast S1x64x64 v shapeCasts_S64x64_S1x64x64) (step_i D 5)

/-! The masks. -/

theorem spread_eq : k0_pay49 (k0_pay26 (F := Ideal) (iota .tc S64x512 32 [0] iota_S64x512_d0_w32) (iota .tc S64x512 32 [1] iota_S64x512_d1_w32) 64#32
    (Scalar.cmpi .eq 64#32 0#32)) = mat fun r s => if r.val = s.val % 64 then 1 else 0 := by
  refine funext fun i => ?_
  obtain ⟨r, s, rfl⟩ : ∃ r s, i = ix2 r s := ⟨i 0, i 1, eq_ix2 i⟩
  pointwise [k0_pay49, k0_pay26, mat]
  change FloatOps.sitofp .f32 (BitVec.setWidth 32 (IntOp.cmpi .eq (BitVec.ofNat 32 r.val) (rem 64#32 s.val))) = _
  rw [rem_64 ⟨s.val, by omega⟩]
  exact same (by omega) (by omega)

theorem spread_tall_eq : k0_pay50 (k0_pay27 (F := Ideal)) = mat fun r s => if r.val % 64 = s.val then 1 else 0 := by
  refine funext fun i => ?_
  obtain ⟨r, s, rfl⟩ : ∃ r s, i = ix2 r s := ⟨i 0, i 1, eq_ix2 i⟩
  pointwise [k0_pay50, k0_pay27, mat]
  change FloatOps.sitofp .f32 (BitVec.setWidth 32 (IntOp.cmpi .eq (rem 64#32 r.val) (BitVec.ofNat 32 s.val))) = _
  rw [rem_64 ⟨r.val, by omega⟩]
  exact same (by omega) (by omega)

theorem keep_wide_eq : k0_pay31 (F := Ideal) (iota .tc S128x512 32 [0] iota_S128x512_d0_w32) 16#32 k0_pay28 k0_pay29 k0_pay30
    = mat fun r s => if r.val / 16 = s.val / 64 then 1 else 0 := by
  refine funext fun i => ?_
  obtain ⟨r, s, rfl⟩ : ∃ r s, i = ix2 r s := ⟨i 0, i 1, eq_ix2 i⟩
  pointwise [k0_pay31, k0_pay28, k0_pay29, k0_pay30, mat]
  change FloatOps.sitofp .f32 (BitVec.setWidth 32 (IntOp.cmpi .eq (quo 16#32 r.val) (quo 64#32 s.val))) = _
  rw [quo_16 ⟨r.val, by omega⟩, quo_64 ⟨s.val, by omega⟩]
  exact same (by omega) (by omega)

theorem keep_tall_eq : k0_pay35 (F := Ideal) (k0_pay33 (iota .tc S512x128 32 [0] iota_S512x128_d0_w32) 64#32 k0_pay32) k0_pay34
    = mat fun r s => if r.val / 64 = s.val / 16 then 1 else 0 := by
  refine funext fun i => ?_
  obtain ⟨r, s, rfl⟩ : ∃ r s, i = ix2 r s := ⟨i 0, i 1, eq_ix2 i⟩
  pointwise [k0_pay35, k0_pay33, k0_pay32, k0_pay34, mat]
  change FloatOps.sitofp .f32 (BitVec.setWidth 32 (IntOp.cmpi .eq (quo 64#32 r.val) (quo 16#32 s.val))) = _
  rw [quo_64 ⟨r.val, by omega⟩, quo_16 ⟨s.val, by omega⟩]
  exact same (by omega) (by omega)

theorem repeat_eq : (k0_pay36 (F := Ideal)) = rep := by
  refine funext fun i => ?_
  obtain ⟨r, s, rfl⟩ : ∃ r s, i = ix2 r s := ⟨i 0, i 1, eq_ix2 i⟩
  pointwise [k0_pay36, rep, mat]
  change FloatOps.sitofp .f32 (BitVec.setWidth 32 (IntOp.cmpi .eq (quo 16#32 r.val) (BitVec.ofNat 32 s.val))) = _
  rw [quo_16 r]
  exact same (by omega) (by omega)

/-! The scale over channels. -/

theorem scale_eq (f : Fin 64 → Fin 64 → ℝ) (n : FVec Ideal S64x64 .f32) (h : divf n (mat D.den) = mat f) :
    k0_pay37 (mat D.den) n = mat fun x s => f (own x) s := by
  unfold k0_pay37
  rw [repeat_eq]
  simp only [h, mat_sub, mat_trunc, mat_ext, show (rep : FVec Ideal S1024x64 .f32) = mat fun r s => if r.val / 16 = s.val then 1 else 0 from rfl]
  refine (congrArg₂ addf (congrArg₂ addf (dot_repeat _ _) (dot_repeat _ _)) (dot_repeat _ _)).trans ?_
  rw [mat_add, mat_add]
  exact congrArg mat (funext fun r => funext fun s => (three _ _ _ (by simp) (by simp)).trans (repeat_sum f r s))

theorem scale_eq' (n : FVec Ideal S64x64 .f32) :
    k0_pay42 (k0_pay38 (mat D.den) n) k0_pay39 (k0_pay40 (mat D.den) n) (k0_pay41 (mat D.den) n) = k0_pay37 (mat D.den) n := rfl

/-! The slabs. -/

/-- A sum of extended reals in which one term stays. -/
theorem sum_stay {n : ℕ} (j : Fin n) (p : Fin n → Prop) [DecidablePred p] (h : ∀ k, p k ↔ k = j) (f : Fin n → EReal) :
    ∑ k, f k * ((if p k then 1 else 0 : ℝ) : EReal) = f j := by
  rw [Finset.sum_eq_single j (fun k _ hk => by rw [if_neg (fun w => hk ((h k).mp w)), EReal.coe_zero, mul_zero]) (fun w => absurd (Finset.mem_univ j) w),
    if_pos ((h j).mpr rfl), EReal.coe_one, mul_one]

theorem mul_keep (x : EReal) (p : Prop) [Decidable p] : x * ((if p then 1 else 0 : ℝ) : EReal) = if p then x else 0 := by
  by_cases h : p
  · rw [if_pos h, if_pos h, EReal.coe_one, mul_one]
  · rw [if_neg h, if_neg h, EReal.coe_zero, mul_zero]

/-- One slab of a block-diagonal array: row `r`'s numbers in its group's 64 columns. -/
def block (f : Fin 2 → Fin 1024 → Fin 64 → EReal) (q : Fin 2) (e : Fin 8) (r : Fin 128) (x : Fin 512) : EReal :=
  if r.val / 16 = x.val / 64 then f q ⟨128 * e.val + r.val, by omega⟩ ⟨x.val % 64, by omega⟩ else 0

abbrev keepWide : FVec Ideal S128x512 .f32 := mat fun r s => if r.val / 16 = s.val / 64 then 1 else 0
abbrev keepTall : FVec Ideal S512x128 .f32 := mat fun r s => if r.val / 64 = s.val / 16 then 1 else 0
abbrev spreadWide : FVec Ideal S64x512 .bf16 := mat fun r s => if r.val = s.val % 64 then 1 else 0
abbrev spreadTall : FVec Ideal S512x64 .bf16 := mat fun r s => if r.val % 64 = s.val then 1 else 0

/-- A slab as the kernel spreads it. -/
abbrev slabW (K : FVec Ideal S128x512 .f32) (S : FVec Ideal S64x512 .bf16) (B : FVec Ideal S128x64 .bf16) : FVec Ideal S1x1x1x128x512 .bf16 :=
  shapeCast S1x1x1x128x512 (truncf .bf16 (mulf (matmul dot_S128x64_S64x512_S128x512_1_0_0_1_n_n none B S (constant S128x512 .f32 0x00000000#32)) K)
    bitsLt_bf16_f32) shapeCasts_S128x512_S1x1x1x128x512

/-- A transposed slab as the kernel spreads it. -/
abbrev slabT (K : FVec Ideal S512x128 .f32) (S : FVec Ideal S512x64 .bf16) (B : FVec Ideal S128x64 .bf16) : FVec Ideal S1x1x1x512x128 .bf16 :=
  shapeCast S1x1x1x512x128 (truncf .bf16 (mulf (matmul dot_S512x64_S128x64_S512x128_1_1_0_0_n_n none S B (constant S512x128 .f32 0x00000000#32)) K)
    bitsLt_bf16_f32) shapeCasts_S512x128_S1x1x1x512x128

theorem slabW_at (B : FVec Ideal S128x64 .bf16) (a b c : Fin 1) (r : Fin 128) (x : Fin 512) :
    slabW keepWide spreadWide B (ix5 a b c r x) = if r.val / 16 = x.val / 64 then B (ix2 r ⟨x.val % 64, by omega⟩) else 0 := by
  unfold slabW
  pointwise [mat]
  refine Eq.trans ?_ (mul_keep _ _)
  refine congrArg₂ (· * ·) ?_ rfl
  exact sum_stay (⟨x.val % 64, by omega⟩ : Fin 64) _ (fun k => by rw [Fin.ext_iff]) fun k => B (ix2 r k)

theorem slabT_at (B : FVec Ideal S128x64 .bf16) (a b c : Fin 1) (x : Fin 512) (r : Fin 128) :
    slabT keepTall spreadTall B (ix5 a b c x r) = if r.val / 16 = x.val / 64 then B (ix2 r ⟨x.val % 64, by omega⟩) else 0 := by
  unfold slabT
  pointwise [mat]
  simp only [eq_comm (a := r.val / 16)]
  refine Eq.trans ?_ (mul_keep (B (ix2 r ⟨x.val % 64, by omega⟩)) (x.val / 64 = r.val / 16))
  refine congrArg₂ (· * ·) ?_ rfl
  refine (Finset.sum_congr rfl fun k _ => mul_comm _ _).trans ?_
  exact sum_stay (⟨x.val % 64, by omega⟩ : Fin 64) _ (fun k => by rw [Fin.ext_iff]; exact eq_comm) fun k => B (ix2 r k)

/-- The eight slabs' rows. -/
abbrev cut (v : FVec Ideal S1024x64 .f32) : Fin 8 → FVec Ideal S128x64 .bf16 :=
  ![truncf .bf16 (extractStridedSlice S128x64 ![0, 0] v slices_S1024x64_o0_0_S128x64) bitsLt_bf16_f32,
    truncf .bf16 (extractStridedSlice S128x64 ![128, 0] v slices_S1024x64_o128_0_S128x64) bitsLt_bf16_f32,
    truncf .bf16 (extractStridedSlice S128x64 ![256, 0] v slices_S1024x64_o256_0_S128x64) bitsLt_bf16_f32,
    truncf .bf16 (extractStridedSlice S128x64 ![384, 0] v slices_S1024x64_o384_0_S128x64) bitsLt_bf16_f32,
    truncf .bf16 (extractStridedSlice S128x64 ![512, 0] v slices_S1024x64_o512_0_S128x64) bitsLt_bf16_f32,
    truncf .bf16 (extractStridedSlice S128x64 ![640, 0] v slices_S1024x64_o640_0_S128x64) bitsLt_bf16_f32,
    truncf .bf16 (extractStridedSlice S128x64 ![768, 0] v slices_S1024x64_o768_0_S128x64) bitsLt_bf16_f32,
    truncf .bf16 (extractStridedSlice S128x64 ![896, 0] v slices_S1024x64_o896_0_S128x64) bitsLt_bf16_f32]

theorem cut_at (f : Fin 1024 → Fin 64 → EReal) (e : Fin 8) (r : Fin 128) (s : Fin 64) :
    cut (arr f) e (ix2 r s) = f ⟨128 * e.val + r.val, by omega⟩ s := by
  fin_cases e
  all_goals
    dsimp only [cut, Matrix.cons_val]
    pointwise [arr]

/-- The stores of a block-diagonal array. -/
def wideStores (P : Fin 2 → Fin 8 → FVec Ideal S1x1x1x128x512 .bf16) : List (View.Piece (Elt Ideal) S2x2x4x128x512 .bf16) :=
  [⟨r0_37, P 1 7⟩, ⟨r0_35, P 1 6⟩, ⟨r0_33, P 1 5⟩, ⟨r0_31, P 1 4⟩, ⟨r0_29, P 1 3⟩, ⟨r0_27, P 1 2⟩, ⟨r0_25, P 1 1⟩, ⟨r0_23, P 1 0⟩,
   ⟨r0_21, P 0 7⟩, ⟨r0_19, P 0 6⟩, ⟨r0_17, P 0 5⟩, ⟨r0_15, P 0 4⟩, ⟨r0_13, P 0 3⟩, ⟨r0_11, P 0 2⟩, ⟨r0_9, P 0 1⟩, ⟨r0_7, P 0 0⟩]

/-- The stores of a transposed block-diagonal array. -/
def tallStores (P : Fin 2 → Fin 8 → FVec Ideal S1x1x1x512x128 .bf16) : List (View.Piece (Elt Ideal) S2x2x4x512x128 .bf16) :=
  [⟨r0_38, P 1 7⟩, ⟨r0_36, P 1 6⟩, ⟨r0_34, P 1 5⟩, ⟨r0_32, P 1 4⟩, ⟨r0_30, P 1 3⟩, ⟨r0_28, P 1 2⟩, ⟨r0_26, P 1 1⟩, ⟨r0_24, P 1 0⟩,
   ⟨r0_22, P 0 7⟩, ⟨r0_20, P 0 6⟩, ⟨r0_18, P 0 5⟩, ⟨r0_16, P 0 4⟩, ⟨r0_14, P 0 3⟩, ⟨r0_12, P 0 2⟩, ⟨r0_10, P 0 1⟩, ⟨r0_8, P 0 0⟩]

/-- A block-diagonal array. -/
def wide (f : Fin 2 → Fin 1024 → Fin 64 → EReal) : FVec Ideal S2x2x4x128x512 .bf16 :=
  fun i => block f (i 0) ⟨4 * (i 1).val + (i 2).val, by have : (i 1).val < 2 := (i 1).isLt; have : (i 2).val < 4 := (i 2).isLt; omega⟩ (i 3) (i 4)

/-- A transposed block-diagonal array. -/
def tall (f : Fin 2 → Fin 1024 → Fin 64 → EReal) : FVec Ideal S2x2x4x512x128 .bf16 :=
  fun i => block f (i 0) ⟨4 * (i 1).val + (i 2).val, by have : (i 1).val < 2 := (i 1).isLt; have : (i 2).val < 4 := (i 2).isLt; omega⟩ (i 4) (i 3)

theorem block_at (f : Fin 2 → Fin 1024 → Fin 64 → EReal) (q q' : Fin 2) (e e' : Fin 8) (r r' : Fin 128) (x x' : Fin 512) (hq : q'.val = q.val)
    (he : e'.val = e.val) (hr : r'.val = r.val) (hx : x'.val = x.val) : block f q e r x = block f q' e' r' x' := by
  rw [show q' = q from Fin.ext hq, show e' = e from Fin.ext he, show r' = r from Fin.ext hr, show x' = x from Fin.ext hx]

theorem wide_canon (f : Fin 2 → Fin 1024 → Fin 64 → EReal) (i : S2x2x4x128x512.Idx) :
    View.canon (wideStores fun q e => slabW keepWide spreadWide (cut (arr (f q)) e)) i = wide f i := by
  have at_ (q : Fin 2) (e : Fin 8) (y : (⟨5, ![1, 1, 1, 128, 512]⟩ : Shape).Idx) (h0 : (i 0).val = q.val) (h1 : 4 * (i 1).val + (i 2).val = e.val)
      (h3 : (i 3).val = (y 3).val) (h4 : (i 4).val = (y 4).val) : slabW keepWide spreadWide (cut (arr (f q)) e) y = wide f i := by
    obtain ⟨a, b, c, r, x, rfl⟩ : ∃ a b c r x, y = ix5 a b c r x := ⟨y 0, y 1, y 2, y 3, y 4, eq_ix5 y⟩
    refine (slabW_at _ a b c r x).trans ?_
    rw [cut_at]
    exact block_at f q _ e _ r _ x _ h0 h1 h3 h4
  unfold wideStores
  canon_tiles i e
  all_goals
    have z0 : (i 0).val = 0 := by omega
    have z1 : (i 1).val = 0 := by omega
    have z2 : (i 2).val = 0 := by omega
    exact at_ _ _ i (by rw [e0, z0]; rfl) (by rw [e1, e2, z1, z2]; rfl) e3 e4

theorem tall_canon (f : Fin 2 → Fin 1024 → Fin 64 → EReal) (i : S2x2x4x512x128.Idx) :
    View.canon (tallStores fun q e => slabT keepTall spreadTall (cut (arr (f q)) e)) i = tall f i := by
  have at_ (q : Fin 2) (e : Fin 8) (y : (⟨5, ![1, 1, 1, 512, 128]⟩ : Shape).Idx) (h0 : (i 0).val = q.val) (h1 : 4 * (i 1).val + (i 2).val = e.val)
      (h3 : (i 3).val = (y 3).val) (h4 : (i 4).val = (y 4).val) : slabT keepTall spreadTall (cut (arr (f q)) e) y = tall f i := by
    obtain ⟨a, b, c, x, r, rfl⟩ : ∃ a b c x r, y = ix5 a b c x r := ⟨y 0, y 1, y 2, y 3, y 4, eq_ix5 y⟩
    refine (slabT_at _ a b c x r).trans ?_
    rw [cut_at]
    exact block_at f q _ e _ r _ x _ h0 h1 h4 h3
  unfold tallStores
  canon_tiles i e
  all_goals
    have z0 : (i 0).val = 0 := by omega
    have z1 : (i 1).val = 0 := by omega
    have z2 : (i 2).val = 0 := by omega
    exact at_ _ _ i (by rw [e0, z0]; rfl) (by rw [e1, e2, z1, z2]; rfl) e3 e4

end Cert.Poles

end
-- ==== Proof.PolesRef.lean ====
module

public import proofs.«01_k».proof.Proof.PolesTile
public import proofs.«01_k».proof.Proof.Gen.Reference6Ideal.Read

@[expose] public section

set_option maxRecDepth 65536
set_option backward.proofsInPublic true

/-! The recurrence parameters' reference, number by number. -/

noncomputable section

namespace Cert.Poles

open Idealize.ShloMosaic Cert.Reference6Ideal.Read Cert.Params Cert.Reference6Ideal
open Cert.Reference5Ideal.Params (byState byGroup)
open Cert.Attn (div_coe)

/-! The weights. -/

/-- An input weight array's numbers by channel and state. -/
def inw (y : FVec Ideal S2x32x64x16 .f32) (x : Fin 1024) (s : Fin 64) : EReal := y (ix4 (dirOf (own x)) (groupOf (own x)) s (placeOf x))

/-- An output weight array's numbers by channel and state. -/
def outw (y : FVec Ideal S2x32x16x64 .f32) (x : Fin 1024) (s : Fin 64) : EReal := y (ix4 (dirOf (own x)) (groupOf (own x)) (placeOf x) s)

variable (D : Data)

/-- The scaled input weights, real part. -/
def barr (y y' : FVec Ideal S2x32x64x16 .f32) (x : Fin 1024) (s : Fin 64) : EReal :=
  ((D.nr (own x) s / D.den (own x) s : ℝ) : EReal) * inw y x s - ((D.ni (own x) s / D.den (own x) s : ℝ) : EReal) * inw y' x s

/-- The scaled input weights, imaginary part. -/
def bari (y y' : FVec Ideal S2x32x64x16 .f32) (x : Fin 1024) (s : Fin 64) : EReal :=
  ((D.nr (own x) s / D.den (own x) s : ℝ) : EReal) * inw y' x s + ((D.ni (own x) s / D.den (own x) s : ℝ) : EReal) * inw y x s

/-- The decays, and their powers over a block. -/
def lam : FVec Ideal S4x64x64 .f32 := fun i => (((![D.lr, D.li, powr D 6, powi D 6] : Fin 4 → Fin 64 → Fin 64 → ℝ) (i 0) (i 1) (i 2) : ℝ) : EReal)

variable (d : Fin 2) (g : Fin 32) (s : Fin 64) (x : Fin 16)

local notation "𝔸" => byState D.A
local notation "𝔹" => byState D.B
local notation "𝕋" => byGroup D.T

theorem ref_step : val_main_v0 (F := Ideal) 𝕋 (ix2 d g) = ((D.dt (grp d g) : ℝ) : EReal) := by
  pointwise [val_main_v0, byGroup]; rfl

theorem ref_mag : val_main_v4 (F := Ideal) 𝔸 𝕋 (ix3 d g s) = ((D.mag (grp d g) s : ℝ) : EReal) := by
  pointwise [val_main_v4, val_main_v3, val_main_v2, val_main_v1, ref_step, byState]
  rw [← EReal.coe_mul]; rfl

theorem ref_lr : val_main_v8 (F := Ideal) 𝔸 𝔹 𝕋 (ix3 d g s) = ((D.lr (grp d g) s : ℝ) : EReal) := by
  pointwise [val_main_v8, val_main_v7, val_main_v6, val_main_v5, val_main_v1, ref_mag, ref_step, byState]
  rw [← EReal.coe_mul]; exact (EReal.coe_mul _ _).symm

theorem ref_li : val_main_v12 (F := Ideal) 𝔸 𝔹 𝕋 (ix3 d g s) = ((D.li (grp d g) s : ℝ) : EReal) := by
  pointwise [val_main_v12, val_main_v11, val_main_v10, val_main_v9, val_main_v1, ref_mag, ref_step, byState]
  rw [← EReal.coe_mul]; exact (EReal.coe_mul _ _).symm

theorem ref_den : val_main_v15 (F := Ideal) 𝔸 𝔹 (ix3 d g s) = ((D.den (grp d g) s : ℝ) : EReal) := by
  pointwise [val_main_v15, val_main_v13, val_main_v14, byState]
  rw [← EReal.coe_mul, ← EReal.coe_mul, ← EReal.coe_add]; rfl

theorem ref_fr : val_main_v21 (F := Ideal) 𝔸 𝔹 𝕋 (ix3 d g s) = ((D.nr (grp d g) s / D.den (grp d g) s : ℝ) : EReal) := by
  pointwise [val_main_v21, val_main_v20, val_main_v19, val_main_v18, val_main_v17, val_main_v16, val_main_cst, ref_lr, ref_li, ref_den, byState]
  rw [← EReal.coe_one, ← EReal.coe_sub, ← EReal.coe_mul, ← EReal.coe_mul, ← EReal.coe_add]
  exact div_coe _ (D.den_ne _ _)

theorem ref_fi : val_main_v27 (F := Ideal) 𝔸 𝔹 𝕋 (ix3 d g s) = ((D.ni (grp d g) s / D.den (grp d g) s : ℝ) : EReal) := by
  pointwise [val_main_v27, val_main_v26, val_main_v25, val_main_v24, val_main_v23, val_main_v22, val_main_cst_0, ref_lr, ref_li, ref_den, byState]
  rw [← EReal.coe_one, ← EReal.coe_sub, ← EReal.coe_mul, ← EReal.coe_mul, ← EReal.coe_sub]
  exact div_coe _ (D.den_ne _ _)

variable (y3 y4 : FVec Ideal S2x32x64x16 .f32) (y5 y6 : FVec Ideal S2x32x16x64 .f32)

theorem inw_chan (y : FVec Ideal S2x32x64x16 .f32) : inw y (chan (grp d g) x) s = y (ix4 d g s x) := by
  unfold inw; rw [own_chan, dirOf_grp, groupOf_grp, placeOf_chan]

theorem outw_chan (y : FVec Ideal S2x32x16x64 .f32) : outw y (chan (grp d g) x) s = y (ix4 d g x s) := by
  unfold outw; rw [own_chan, dirOf_grp, groupOf_grp, placeOf_chan]

theorem ref_barr : val_main_v34 (F := Ideal) 𝔸 𝔹 𝕋 y3 y4 (ix4 d g s x) = barr D y3 y4 (chan (grp d g) x) s := by
  pointwise [val_main_v34, val_main_v30, val_main_v29, val_main_v28, val_main_v33, val_main_v32, val_main_v31, ref_fr, ref_fi]
  unfold barr
  rw [inw_chan, inw_chan, own_chan]

theorem ref_bari : val_main_v41 (F := Ideal) 𝔸 𝔹 𝕋 y3 y4 (ix4 d g s x) = bari D y3 y4 (chan (grp d g) x) s := by
  pointwise [val_main_v41, val_main_v37, val_main_v36, val_main_v35, val_main_v40, val_main_v39, val_main_v38, ref_fr, ref_fi]
  unfold bari
  rw [inw_chan, inw_chan, own_chan]

theorem bits_64 : Ideal.ofBits .f32 0x42800000#32 = ((64 : ℝ) : EReal) := by
  simp [Ideal.ofBits, Ideal.ieee, -EReal.coe_mul]; norm_num

/-- A power of the decay over a block of 64 steps, one part. -/
theorem power_at (h : EReal → EReal) (h' : ℝ → ℝ) (hh : ∀ x : ℝ, h (x : EReal) = ((h' x : ℝ) : EReal)) (u a b : ℝ) :
    Ideal.exp (Ideal.ofBits .f32 0x42800000#32 * Ideal.exp (u : EReal) * (a : EReal)) * h (Ideal.ofBits .f32 0x42800000#32 * Ideal.exp (u : EReal) * (b : EReal))
      = ((Real.exp ((2 : ℝ) ^ 6 * Real.exp u * a) * h' ((2 : ℝ) ^ 6 * Real.exp u * b) : ℝ) : EReal) := by
  rw [bits_64, show (64 : ℝ) = 2 ^ 6 by norm_num, show Ideal.exp (u : EReal) = ((Real.exp u : ℝ) : EReal) from rfl, ← EReal.coe_mul, ← EReal.coe_mul,
    ← EReal.coe_mul, hh]
  exact (EReal.coe_mul _ _).symm

theorem ref_powr : val_main_v52 (F := Ideal) (byState D.A) (byState D.B) (byGroup D.T) (ix3 d g s) = ((powr D 6 (grp d g) s : ℝ) : EReal) := by
  pointwise [val_main_v52, val_main_v51, val_main_v50, val_main_v49, val_main_v48, val_main_v47, val_main_v46, val_main_v45, val_main_v44, val_main_v43,
    val_main_v42, val_main_cst_1, byState, byGroup]
  exact power_at (fun x => Ideal.cos x) (fun x => Real.cos x) (fun _ => rfl) _ _ _

theorem ref_powi : val_main_v56 (F := Ideal) (byState D.A) (byState D.B) (byGroup D.T) (ix3 d g s) = ((powi D 6 (grp d g) s : ℝ) : EReal) := by
  pointwise [val_main_v56, val_main_v55, val_main_v54, val_main_v53, val_main_v48, val_main_v47, val_main_v46, val_main_v45, val_main_v44, val_main_v43,
    val_main_v42, val_main_cst_1, byState, byGroup]
  exact power_at (fun x => Ideal.sin x) (fun x => Real.sin x) (fun _ => rfl) _ _ _

theorem grp_of (r : Fin 64) (h : r.val / 32 < 2) (h' : r.val % 32 < 32) : grp ⟨r.val / 32, h⟩ ⟨r.val % 32, h'⟩ = r :=
  Fin.ext (by unfold grp; simp only; omega)

theorem ref_lam : val_main_v62 (F := Ideal) (byState D.A) (byState D.B) (byGroup D.T) = lam D := by
  funext i
  obtain ⟨q, r, s, rfl⟩ : ∃ q r s, i = ix3 q r s := ⟨i 0, i 1, i 2, eq_ix3 i⟩
  pointwise [val_main_v62, val_main_v61]
  fin_cases q
  · rw [dif_pos (by decide)]
    pointwise [val_main_v57, ref_lr]
    rw [grp_of]; rfl
  · rw [dif_neg (by decide), dif_pos (by decide)]
    pointwise [val_main_v58, ref_li]
    rw [grp_of]; rfl
  · rw [dif_neg (by decide), dif_neg (by decide), dif_pos (by decide)]
    pointwise [val_main_v59, ref_powr]
    rw [grp_of]; rfl
  · rw [dif_neg (by decide), dif_neg (by decide), dif_neg (by decide)]
    pointwise [val_main_v60, ref_powi]
    rw [grp_of]; rfl

/-- A block-diagonal array's entry as the reference chooses it. -/
theorem slab_at (F : Fin 2 → Fin 1024 → Fin 64 → EReal) (f : Fin 1024 → Fin 64 → EReal) (q d : Fin 2) (k : Fin 4) (r : Fin 128) (x : Fin 512) {X Z : EReal}
    (hF : f = F q) (hX : X = f (chan (grp d ⟨k.val * 8 + r.val / 16, by omega⟩) ⟨r.val % 16, by omega⟩) ⟨x.val % 64, by omega⟩) (hZ : Z = ((0 : ℝ) : EReal)) :
    Scalar.select (IntOp.cmpi .eq (BitVec.ofNat 32 (r.val / 16)) (BitVec.ofNat 32 (x.val / 64))) X Z = wide F (ix5 q d k r x) := by
  rw [select_same (by omega) (by omega), hX, hZ, hF, EReal.coe_zero]
  refine if_congr Iff.rfl (congrArg (fun z => F q z _) (Fin.ext ?_)) rfl
  unfold chan grp
  simp only
  change _ = 128 * (4 * d.val + k.val) + r.val
  omega

theorem ref_bb : val_main_v80 (F := Ideal) (byState D.A) (byState D.B) (byGroup D.T) y3 y4 = wide (part (barr D y3 y4) (bari D y3 y4)) := by
  funext i
  obtain ⟨q, d, k, r, x, rfl⟩ : ∃ q d k r x, i = ix5 q d k r x := ⟨i 0, i 1, i 2, i 3, i 4, eq_ix5 i⟩
  pointwise [val_main_v80, val_main_v79]
  by_cases hq : q.val < 1
  · rw [dif_pos hq]
    pointwise [val_main_v77, val_main_v69, val_main_v68, val_main_v67, val_main_v65, val_main_v66, val_main_call0_v1, val_main_call0_v2, val_main_call0_v0,
      val_main_cst_2, val_main_v64, val_main_v63, ref_barr]
    exact slab_at _ _ q d k r x (part_fst _ _ hq) rfl ofBits_none
  · rw [dif_neg hq]
    pointwise [val_main_v78, val_main_v76, val_main_v75, val_main_v74, val_main_v72, val_main_v73, val_main_call1_v1, val_main_call1_v2, val_main_call1_v0,
      val_main_cst_3, val_main_v71, val_main_v70, ref_bari]
    exact slab_at _ _ q d k r x (part_snd _ _ hq) rfl ofBits_none

theorem ref_cb : val_main_v96 (F := Ideal) y5 y6 = wide (part (outw y5) (outw y6)) := by
  funext i
  obtain ⟨q, d, k, r, x, rfl⟩ : ∃ q d k r x, i = ix5 q d k r x := ⟨i 0, i 1, i 2, i 3, i 4, eq_ix5 i⟩
  pointwise [val_main_v96, val_main_v95]
  by_cases hq : q.val < 1
  · rw [dif_pos hq]
    pointwise [val_main_v93, val_main_v86, val_main_v85, val_main_v84, val_main_v82, val_main_v83, val_main_call2_v1, val_main_call2_v2, val_main_call2_v0,
      val_main_cst_4, val_main_v81]
    exact slab_at _ _ q d k r x (part_fst _ _ hq) (outw_chan _ _ _ _ y5).symm ofBits_none
  · rw [dif_neg hq]
    pointwise [val_main_v94, val_main_v92, val_main_v91, val_main_v90, val_main_v88, val_main_v89, val_main_call3_v1, val_main_call3_v2, val_main_call3_v0,
      val_main_cst_5, val_main_v87]
    exact slab_at _ _ q d k r x (part_snd _ _ hq) (outw_chan _ _ _ _ y6).symm ofBits_none

theorem ref_bbt : val_main_v97 (F := Ideal) (byState D.A) (byState D.B) (byGroup D.T) y3 y4 = tall (part (barr D y3 y4) (bari D y3 y4)) := by
  funext i
  obtain ⟨q, d, k, x, r, rfl⟩ : ∃ q d k x r, i = ix5 q d k x r := ⟨i 0, i 1, i 2, i 3, i 4, eq_ix5 i⟩
  pointwise [val_main_v97]
  rw [ref_bb]; rfl

theorem ref_cbt : val_main_v98 (F := Ideal) y5 y6 = tall (part (outw y5) (outw y6)) := by
  funext i
  obtain ⟨q, d, k, x, r, rfl⟩ : ∃ q d k x r, i = ix5 q d k x r := ⟨i 0, i 1, i 2, i 3, i 4, eq_ix5 i⟩
  pointwise [val_main_v98]
  rw [ref_cb]; rfl

end Cert.Poles

end
-- ==== Proof.PolesValue.lean ====
module

public import proofs.«01_k».proof.Proof.PolesRef
public import proofs.«01_k».proof.Proof.Gen.Pre_regular_poles

@[expose] public section

set_option maxRecDepth 65536
set_option backward.proofsInPublic true

/-! The recurrence parameters' kernel's five results. -/

noncomputable section

namespace Cert.Poles

open Idealize.ShloMosaic Idealize.ShloMosaic.TcCoe Idealize.SL.Sem Cert.Params Cert.Kernel6Ideal Cert.Kernel6Ideal.Gen
open Cert.Reference5Ideal.Params (byState byGroup)

/-! The body's values from blocks that hold the data. -/

/-- Blocks that hold the data and the weights. -/
structure Ins (D : Data) (y3 y4 : FVec Ideal S2x32x64x16 .f32) (y5 y6 : FVec Ideal S2x32x16x64 .f32) (x0 x1 : Vec Ideal S1x2x32x64 .f32)
    (x2 : Vec Ideal S64x1 .f32) (x3 x4 x5 x6 : Vec Ideal S1x2x32x16x64 .f32) : Prop where
  a : ∀ z d g s, x0 (ix4 z d g s) = ((D.A (grp d g) s : ℝ) : EReal)
  b : ∀ z d g s, x1 (ix4 z d g s) = ((D.B (grp d g) s : ℝ) : EReal)
  t : ∀ r z, x2 (ix2 r z) = ((D.T r : ℝ) : EReal)
  br : ∀ z d g x s, x3 (ix5 z d g x s) = inw y3 (chan (grp d g) x) s
  bi : ∀ z d g x s, x4 (ix5 z d g x s) = inw y4 (chan (grp d g) x) s
  cr : ∀ z d g x s, x5 (ix5 z d g x s) = outw y5 (chan (grp d g) x) s
  ci : ∀ z d g x s, x6 (ix5 z d g x s) = outw y6 (chan (grp d g) x) s

section

variable {D : Data} {y3 y4 : FVec Ideal S2x32x64x16 .f32} {y5 y6 : FVec Ideal S2x32x16x64 .f32} {x0 x1 : Vec Ideal S1x2x32x64 .f32}
  {x2 : Vec Ideal S64x1 .f32} {x3 x4 x5 x6 : Vec Ideal S1x2x32x16x64 .f32} (H : Ins D y3 y4 y5 y6 x0 x1 x2 x3 x4 x5 x6)

theorem ld_state (x : Vec Ideal S1x2x32x64 .f32) : View.ld x r0_0 = x := View.ld_unit_zero (by funext a; fin_cases a <;> rfl) _ _
theorem ld_step (x : Vec Ideal S64x1 .f32) : View.ld x r0_1 = x := View.ld_unit_zero (by funext a; fin_cases a <;> rfl) _ _
theorem ld_weight (x : Vec Ideal S1x2x32x16x64 .f32) : View.ld x r0_6 = x := View.ld_unit_zero (by funext a; fin_cases a <;> rfl) _ _

theorem row_of (f : Fin 64 → Fin 64 → ℝ) (x : Vec Ideal S1x2x32x64 .f32) (h : ∀ z d g s, x (ix4 z d g s) = ((f (grp d g) s : ℝ) : EReal)) :
    k0_pay2 x = mat f := by
  funext i
  obtain ⟨r, s, rfl⟩ : ∃ r s, i = ix2 r s := ⟨i 0, i 1, eq_ix2 i⟩
  pointwise [k0_pay2, mat]
  refine (h _ _ _ _).trans ?_
  rw [grp_of]

theorem chan_of (f : Fin 1024 → Fin 64 → EReal) (x : Vec Ideal S1x2x32x16x64 .f32) (h : ∀ z d g p s, x (ix5 z d g p s) = f (chan (grp d g) p) s) :
    k0_pay43 x = arr f := by
  funext i
  obtain ⟨r, s, rfl⟩ : ∃ r s, i = ix2 r s := ⟨i 0, i 1, eq_ix2 i⟩
  pointwise [k0_pay43, arr]
  refine (h _ _ _ _ _).trans (congrArg (fun z => f z s) (Fin.ext ?_))
  unfold chan grp
  simp only
  omega

include H

theorem load_a : k0_pay2 x0 = mat D.A := row_of _ _ H.a
theorem load_b : k0_pay3 x1 = mat D.B := row_of _ _ H.b

theorem load_t : k0_pay4 x2 = mat fun r _ => D.dt r := by
  funext i
  obtain ⟨r, s, rfl⟩ : ∃ r s, i = ix2 r s := ⟨i 0, i 1, eq_ix2 i⟩
  pointwise [k0_pay4, mat]
  rw [H.t]; rfl

theorem load_br : k0_pay43 x3 = arr (inw y3) := chan_of _ _ H.br
theorem load_bi : k0_pay44 x4 = arr (inw y4) := chan_of _ _ H.bi
theorem load_cr : k0_pay47 x5 = arr (outw y5) := chan_of _ _ H.cr
theorem load_ci : k0_pay48 x6 = arr (outw y6) := chan_of _ _ H.ci

theorem real_eq : k0_pay6 x0 x1 x2 = real0 D := by
  unfold k0_pay6 k0_pay5
  simp only [load_a H, load_b H, load_t H, mat_wide, mat_mul, mat_exp, mat_cos]
  unfold real0; rw [powr_zero]; rfl

theorem imag_eq : k0_pay7 x0 x1 x2 = imag0 D := by
  unfold k0_pay7 k0_pay5
  simp only [load_a H, load_b H, load_t H, mat_wide, mat_mul, mat_exp, mat_sin]
  unfold imag0; rw [powi_zero]; rfl

theorem den_val : k0_pay8 x0 x1 = mat D.den := by
  unfold k0_pay8
  simp only [load_a H, load_b H, mat_mul, mat_add]; rfl

theorem nr_val : k0_pay9 x0 x1 x2 = mat D.nr := by
  unfold k0_pay9
  simp only [real_eq H, imag_eq H, load_a H, load_b H, real0, imag0, powr_zero, powi_zero, one_fill, mat_mul, mat_add, mat_sub]; rfl

theorem ni_val : k0_pay10 x0 x1 x2 = mat D.ni := by
  unfold k0_pay10
  simp only [real_eq H, imag_eq H, load_a H, load_b H, real0, imag0, powr_zero, powi_zero, one_fill, mat_mul, mat_sub]; rfl

theorem fr_val : k0_pay164 x0 x1 x2 x3 x4 x5 x6 = mat fun x s => D.nr (own x) s / D.den (own x) s := by
  unfold k0_pay164 k0_pay158
  simp only [ld_state, ld_step, den_val H, nr_val H]
  exact scale_eq D (fun r s => D.nr r s / D.den r s) _ (mat_div _ _ D.den_ne)

theorem fi_val : k0_pay42 (k0_pay165 x0 x1 x2 x3 x4 x5 x6) (k0_pay166 x0 x1 x2 x3 x4 x5 x6) (k0_pay167 x0 x1 x2 x3 x4 x5 x6)
    (k0_pay168 x0 x1 x2 x3 x4 x5 x6) = mat fun x s => D.ni (own x) s / D.den (own x) s := by
  unfold k0_pay165 k0_pay166 k0_pay167 k0_pay168 k0_pay158 k0_pay159
  simp only [ld_state, ld_step, den_val H, ni_val H]
  rw [scale_eq']
  exact scale_eq D (fun r s => D.ni r s / D.den r s) _ (mat_div _ _ D.den_ne)

theorem barr_val : k0_pay169 x0 x1 x2 x3 x4 x5 x6 = arr (barr D y3 y4) := by
  unfold k0_pay169 k0_pay45
  simp only [ld_weight, fr_val H, fi_val H, load_br H, load_bi H]; rfl

theorem bari_val : k0_pay170 x0 x1 x2 x3 x4 x5 x6 = arr (bari D y3 y4) := by
  unfold k0_pay170 k0_pay46
  simp only [ld_weight, fr_val H, fi_val H, load_br H, load_bi H]; rfl

theorem cr_val : k0_pay171 x0 x1 x2 x3 x4 x5 x6 = arr (outw y5) := by
  unfold k0_pay171; rw [ld_weight]; exact load_cr H

theorem ci_val : k0_pay172 x0 x1 x2 x3 x4 x5 x6 = arr (outw y6) := by
  unfold k0_pay172; rw [ld_weight]; exact load_ci H

end

/-! The stores. -/

section

variable (x0 x1 : Vec Ideal S1x2x32x64 .f32) (x2 : Vec Ideal S64x1 .f32) (x3 x4 x5 x6 : Vec Ideal S1x2x32x16x64 .f32)

theorem two_arr {n k : ℕ} (f g : Fin n → Fin k → EReal) (q : Fin 2) : (![(arr f : FVec Ideal ⟨2, ![n, k]⟩ .f32), arr g] : Fin 2 → _) q = arr (part f g q) := by
  fin_cases q <;> rfl

theorem stores_8 : out0_8 x0 x1 x2 x3 x4 x5 x6 = View.canon (wideStores fun q e => slabW (k0_pay162 x0 x1 x2 x3 x4 x5 x6) (k0_pay173 x0 x1 x2 x3 x4 x5 x6)
    (cut ((![k0_pay169 x0 x1 x2 x3 x4 x5 x6, k0_pay170 x0 x1 x2 x3 x4 x5 x6] : Fin 2 → _) q) e)) := by
  unfold out0_8; rfl

theorem stores_9 : out0_9 x0 x1 x2 x3 x4 x5 x6 = View.canon (tallStores fun q e => slabT (k0_pay163 x0 x1 x2 x3 x4 x5 x6) (k0_pay174 x0 x1 x2 x3 x4 x5 x6)
    (cut ((![k0_pay169 x0 x1 x2 x3 x4 x5 x6, k0_pay170 x0 x1 x2 x3 x4 x5 x6] : Fin 2 → _) q) e)) := by
  unfold out0_9; rfl

theorem stores_10 : out0_10 x0 x1 x2 x3 x4 x5 x6 = View.canon (tallStores fun q e => slabT (k0_pay163 x0 x1 x2 x3 x4 x5 x6) (k0_pay174 x0 x1 x2 x3 x4 x5 x6)
    (cut ((![k0_pay171 x0 x1 x2 x3 x4 x5 x6, k0_pay172 x0 x1 x2 x3 x4 x5 x6] : Fin 2 → _) q) e)) := by
  unfold out0_10; rfl

theorem stores_11 : out0_11 x0 x1 x2 x3 x4 x5 x6 = View.canon (wideStores fun q e => slabW (k0_pay162 x0 x1 x2 x3 x4 x5 x6) (k0_pay173 x0 x1 x2 x3 x4 x5 x6)
    (cut ((![k0_pay171 x0 x1 x2 x3 x4 x5 x6, k0_pay172 x0 x1 x2 x3 x4 x5 x6] : Fin 2 → _) q) e)) := by
  unfold out0_11; rfl

end

section

variable {D : Data} {y3 y4 : FVec Ideal S2x32x64x16 .f32} {y5 y6 : FVec Ideal S2x32x16x64 .f32} {x0 x1 : Vec Ideal S1x2x32x64 .f32}
  {x2 : Vec Ideal S64x1 .f32} {x3 x4 x5 x6 : Vec Ideal S1x2x32x16x64 .f32} (H : Ins D y3 y4 y5 y6 x0 x1 x2 x3 x4 x5 x6)

theorem masks_wide : k0_pay162 x0 x1 x2 x3 x4 x5 x6 = keepWide ∧ k0_pay173 x0 x1 x2 x3 x4 x5 x6 = spreadWide := by
  unfold k0_pay162 k0_pay173 k0_pay161
  exact ⟨keep_wide_eq, spread_eq⟩

theorem masks_tall : k0_pay163 x0 x1 x2 x3 x4 x5 x6 = keepTall ∧ k0_pay174 x0 x1 x2 x3 x4 x5 x6 = spreadTall := by
  unfold k0_pay163 k0_pay174
  exact ⟨keep_tall_eq, spread_tall_eq⟩

include H

theorem out_8 : out0_8 x0 x1 x2 x3 x4 x5 x6 = wide (part (barr D y3 y4) (bari D y3 y4)) := by
  rw [stores_8, masks_wide.1, masks_wide.2, barr_val H, bari_val H]
  simp only [two_arr]
  exact funext (wide_canon _)

theorem out_9 : out0_9 x0 x1 x2 x3 x4 x5 x6 = tall (part (barr D y3 y4) (bari D y3 y4)) := by
  rw [stores_9, masks_tall.1, masks_tall.2, barr_val H, bari_val H]
  simp only [two_arr]
  exact funext (tall_canon _)

theorem out_10 : out0_10 x0 x1 x2 x3 x4 x5 x6 = tall (part (outw y5) (outw y6)) := by
  rw [stores_10, masks_tall.1, masks_tall.2, cr_val H, ci_val H]
  simp only [two_arr]
  exact funext (tall_canon _)

theorem out_11 : out0_11 x0 x1 x2 x3 x4 x5 x6 = wide (part (outw y5) (outw y6)) := by
  rw [stores_11, masks_wide.1, masks_wide.2, cr_val H, ci_val H]
  simp only [two_arr]
  exact funext (wide_canon _)

theorem out_7 : out0_7 x0 x1 x2 x3 x4 x5 x6 = lam D := by
  funext i
  unfold out0_7 k0_pay11 k0_pay12 k0_pay156 k0_pay157 k0_pay160 k0_pay13
  simp only [ld_state, ld_step, real_eq H, imag_eq H, r6, i6]
  have at_ (q : Fin 4) (f : Fin 64 → Fin 64 → ℝ) (hf : f = (![D.lr, D.li, powr D 6, powi D 6] : Fin 4 → Fin 64 → Fin 64 → ℝ) q)
      (y : (⟨3, ![1, 64, 64]⟩ : Shape).Idx) (h0 : (i 0).val = q.val) (h1 : (i 1).val = (y 1).val) (h2 : (i 2).val = (y 2).val) :
      shapeCast S1x64x64 (mat f : FVec Ideal S64x64 .f32) shapeCasts_S64x64_S1x64x64 y = lam D i := by
    obtain ⟨z, r, s, rfl⟩ : ∃ z r s, y = ix3 z r s := ⟨y 0, y 1, y 2, eq_ix3 y⟩
    pointwise [mat]
    unfold lam
    rw [show i 0 = q from Fin.ext h0, show i 1 = r from Fin.ext h1, show i 2 = s from Fin.ext h2, hf]
  canon_tiles i e
  all_goals
    have z0 : (i 0).val = 0 := by omega
  · exact at_ 3 _ rfl i (by rw [e0, z0]; rfl) e1 e2
  · exact at_ 2 _ rfl i (by rw [e0, z0]; rfl) e1 e2
  · exact at_ 1 _ (powi_zero D) i (by rw [e0, z0]; rfl) e1 e2
  · exact at_ 0 _ (powr_zero D) i (by rw [e0, z0]; rfl) e1 e2

end

/-! The arguments. -/

/-- Each window's one block. -/
theorem idx_val : ∀ t : Fin cfg0.N, win0_0.index t = ![0, 0, 0, 0] ∧ win0_1.index t = ![0, 0, 0, 0] ∧ win0_2.index t = ![0, 0]
    ∧ win0_3.index t = ![0, 0, 0, 0, 0] ∧ win0_4.index t = ![0, 0, 0, 0, 0] ∧ win0_5.index t = ![0, 0, 0, 0, 0]
    ∧ win0_6.index t = ![0, 0, 0, 0, 0] ∧ win0_7.index t = ![0, 0, 0] ∧ win0_8.index t = ![0, 0, 0, 0, 0]
    ∧ win0_9.index t = ![0, 0, 0, 0, 0] ∧ win0_10.index t = ![0, 0, 0, 0, 0] ∧ win0_11.index t = ![0, 0, 0, 0, 0] := by decide +kernel

/-- The arguments hold the data's numbers. -/
structure Holds (m : (ℓ : Loc nD τ sig) → Buf (Elt Ideal) ℓ) (c : Dev nD) (D : Data) : Prop where
  a : m ((c.tc : Thread nD τ).loc main_arg0) = byState D.A
  b : m ((c.tc : Thread nD τ).loc main_arg1) = byState D.B
  t : m ((c.tc : Thread nD τ).loc main_arg2) = byGroup D.T

variable (m : (ℓ : Loc nD τ sig) → Buf (Elt Ideal) ℓ) (c : Dev nD)

/-- Regular poles are real numbers, not zero. -/
theorem data (h : Pre_regular_poles.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    ∃ D, Holds m c D := by
  have e := congrFun h ix0
  simp only [Pre_regular_poles.fn, Pre_regular_poles.fn_part1] at e
  obtain ⟨e, ep⟩ := IntOp.andi_eq_one.1 e
  obtain ⟨e, e2⟩ := IntOp.andi_eq_one.1 e
  obtain ⟨e0, e1⟩ := IntOp.andi_eq_one.1 e
  have r {S : Shape} (a : FVec Ideal S .f32) (H : ∀ i, FloatOps.cmpf (F := Ideal) (φ := .f32) .olt (FloatOps.absf (F := Ideal) (φ := .f32) (a i))
      (Ideal.ofBits .f32 2139095040#32) = 1#1) (i : S.Idx) : a i = (((a i : EReal).toReal : ℝ) : EReal) :=
    (Cert.Attn.real_of_lt _ (H i)).symm
  have r0 := r (m ((c.tc : Thread nD τ).loc main_arg0)) fun i => Host.reduce_andi_all _ _ _ _ _ e0 i
  have r1 := r (m ((c.tc : Thread nD τ).loc main_arg1)) fun i => Host.reduce_andi_all _ _ _ _ _ e1 i
  have r2 := r (m ((c.tc : Thread nD τ).loc main_arg2)) fun i => Host.reduce_andi_all _ _ _ _ _ e2 i
  have hp (i : S2x32x64.Idx) := Host.reduce_andi_all _ _ _ _ _ ep i
  refine ⟨⟨fun r s => (m ((c.tc : Thread nD τ).loc main_arg0) (ix3 (dirOf r) (groupOf r) s) : EReal).toReal,
    fun r s => (m ((c.tc : Thread nD τ).loc main_arg1) (ix3 (dirOf r) (groupOf r) s) : EReal).toReal,
    fun r => (m ((c.tc : Thread nD τ).loc main_arg2) (ix2 (dirOf r) (groupOf r)) : EReal).toReal,
    0, 0, 0, 0, 0, 0, 0, 0, fun r s => ?_⟩, ?_, ?_, ?_⟩
  · refine pole_of_gt _ _ ?_
    rw [← r0, ← r1]
    exact hp _
  · funext i
    obtain ⟨d, g, s, rfl⟩ : ∃ d g s, i = ix3 d g s := ⟨i 0, i 1, i 2, eq_ix3 i⟩
    unfold byState; show _ = _; simp only [ix3_0, ix3_1, ix3_2, dirOf_grp, groupOf_grp]; exact r0 _
  · funext i
    obtain ⟨d, g, s, rfl⟩ : ∃ d g s, i = ix3 d g s := ⟨i 0, i 1, i 2, eq_ix3 i⟩
    unfold byState; show _ = _; simp only [ix3_0, ix3_1, ix3_2, dirOf_grp, groupOf_grp]; exact r1 _
  · funext i
    obtain ⟨d, g, rfl⟩ : ∃ d g, i = ix2 d g := ⟨i 0, i 1, eq_ix2 i⟩
    unfold byGroup; show _ = _; simp only [ix2_0, ix2_1, dirOf_grp, groupOf_grp]; exact r2 _

variable {m c} {D : Data} (H : Holds m c D) (t : Fin cfg0.N)

theorem block_3 (z : Fin 1) (d : Fin 2) (g : Fin 32) (x : Fin 16) (s : Fin 64) :
    iblk m c 3 t (ix5 z d g x s) = inw (m ((c.tc : Thread nD τ).loc main_arg3)) (chan (grp d g) x) s := by
  have e : iblk m c 3 t (ix5 z d g x s) = V m c main_v4 (ix5 z d g x s) := by blk_ext [iblk, idx_val t]
  refine e.trans ?_
  rw [inw_chan]
  unfold V
  after_reads_at

theorem block_4 (z : Fin 1) (d : Fin 2) (g : Fin 32) (x : Fin 16) (s : Fin 64) :
    iblk m c 4 t (ix5 z d g x s) = inw (m ((c.tc : Thread nD τ).loc main_arg4)) (chan (grp d g) x) s := by
  have e : iblk m c 4 t (ix5 z d g x s) = V m c main_v6 (ix5 z d g x s) := by blk_ext [iblk, idx_val t]
  refine e.trans ?_
  rw [inw_chan]
  unfold V
  after_reads_at

theorem block_5 (z : Fin 1) (d : Fin 2) (g : Fin 32) (x : Fin 16) (s : Fin 64) :
    iblk m c 5 t (ix5 z d g x s) = outw (m ((c.tc : Thread nD τ).loc main_arg5)) (chan (grp d g) x) s := by
  have e : iblk m c 5 t (ix5 z d g x s) = V m c main_v7 (ix5 z d g x s) := by blk_ext [iblk, idx_val t]
  refine e.trans ?_
  rw [outw_chan]
  unfold V
  after_reads_at

theorem block_6 (z : Fin 1) (d : Fin 2) (g : Fin 32) (x : Fin 16) (s : Fin 64) :
    iblk m c 6 t (ix5 z d g x s) = outw (m ((c.tc : Thread nD τ).loc main_arg6)) (chan (grp d g) x) s := by
  have e : iblk m c 6 t (ix5 z d g x s) = V m c main_v8 (ix5 z d g x s) := by blk_ext [iblk, idx_val t]
  refine e.trans ?_
  rw [outw_chan]
  unfold V
  after_reads_at

include H

theorem block_0 (z : Fin 1) (d : Fin 2) (g : Fin 32) (s : Fin 64) : iblk m c 0 t (ix4 z d g s) = ((D.A (grp d g) s : ℝ) : EReal) := by
  have e : iblk m c 0 t (ix4 z d g s) = V m c main_v0 (ix4 z d g s) := by blk_ext [iblk, idx_val t]
  refine e.trans ?_
  unfold V
  after_reads_at
  exact congrFun H.a _

theorem block_1 (z : Fin 1) (d : Fin 2) (g : Fin 32) (s : Fin 64) : iblk m c 1 t (ix4 z d g s) = ((D.B (grp d g) s : ℝ) : EReal) := by
  have e : iblk m c 1 t (ix4 z d g s) = V m c main_v1 (ix4 z d g s) := by blk_ext [iblk, idx_val t]
  refine e.trans ?_
  unfold V
  after_reads_at
  exact congrFun H.b _

theorem block_2 (r : Fin 64) (z : Fin 1) : iblk m c 2 t (ix2 r z) = ((D.T r : ℝ) : EReal) := by
  have e : iblk m c 2 t (ix2 r z) = V m c main_v2 (ix2 r z) := by blk_ext [iblk, idx_val t]
  refine e.trans ?_
  unfold V
  after_reads_at
  exact (congrFun H.t _).trans (congrArg (fun x => ((D.T x : ℝ) : EReal)) (grp_of _ _ _))

theorem ins : Ins D (m ((c.tc : Thread nD τ).loc main_arg3)) (m ((c.tc : Thread nD τ).loc main_arg4)) (m ((c.tc : Thread nD τ).loc main_arg5))
    (m ((c.tc : Thread nD τ).loc main_arg6)) (iblk m c 0 t) (iblk m c 1 t) (iblk m c 2 t) (iblk m c 3 t) (iblk m c 4 t) (iblk m c 5 t) (iblk m c 6 t) where
  a := block_0 H t
  b := block_1 H t
  t := block_2 H t
  br := block_3 t
  bi := block_4 t
  cr := block_5 t
  ci := block_6 t

/-! The results. -/

theorem value_7 : (dats m 0 c).arrAt 7 cfg0.N = lam D := by
  have a (t : Fin cfg0.N) := (after0_7 (m := m) c t).trans (out_7 (ins H t))
  refine (dats m 0 c).arrAt_eq_of_covers 7 _ (by decide +kernel) fun t hf y => ?_
  rw [a]
  generalize lam D = T
  blk_ext [idx_val t]

theorem value_8 : (dats m 0 c).arrAt 8 cfg0.N = wide (part (barr D (m ((c.tc : Thread nD τ).loc main_arg3)) (m ((c.tc : Thread nD τ).loc main_arg4)))
    (bari D (m ((c.tc : Thread nD τ).loc main_arg3)) (m ((c.tc : Thread nD τ).loc main_arg4)))) := by
  have a (t : Fin cfg0.N) := (after0_8 (m := m) c t).trans (out_8 (ins H t))
  refine (dats m 0 c).arrAt_eq_of_covers 8 _ (by decide +kernel) fun t hf y => ?_
  rw [a]
  generalize wide (part (barr D (m ((c.tc : Thread nD τ).loc main_arg3)) (m ((c.tc : Thread nD τ).loc main_arg4))) (bari D (m ((c.tc : Thread nD τ).loc main_arg3)) (m ((c.tc : Thread nD τ).loc main_arg4)))) = T
  blk_ext [idx_val t]

theorem value_9 : (dats m 0 c).arrAt 9 cfg0.N = tall (part (barr D (m ((c.tc : Thread nD τ).loc main_arg3)) (m ((c.tc : Thread nD τ).loc main_arg4)))
    (bari D (m ((c.tc : Thread nD τ).loc main_arg3)) (m ((c.tc : Thread nD τ).loc main_arg4)))) := by
  have a (t : Fin cfg0.N) := (after0_9 (m := m) c t).trans (out_9 (ins H t))
  refine (dats m 0 c).arrAt_eq_of_covers 9 _ (by decide +kernel) fun t hf y => ?_
  rw [a]
  generalize tall (part (barr D (m ((c.tc : Thread nD τ).loc main_arg3)) (m ((c.tc : Thread nD τ).loc main_arg4))) (bari D (m ((c.tc : Thread nD τ).loc main_arg3)) (m ((c.tc : Thread nD τ).loc main_arg4)))) = T
  blk_ext [idx_val t]

theorem value_10 : (dats m 0 c).arrAt 10 cfg0.N = tall (part (outw (m ((c.tc : Thread nD τ).loc main_arg5))) (outw (m ((c.tc : Thread nD τ).loc main_arg6)))) := by
  have a (t : Fin cfg0.N) := (after0_10 (m := m) c t).trans (out_10 (ins H t))
  refine (dats m 0 c).arrAt_eq_of_covers 10 _ (by decide +kernel) fun t hf y => ?_
  rw [a]
  generalize tall (part (outw (m ((c.tc : Thread nD τ).loc main_arg5))) (outw (m ((c.tc : Thread nD τ).loc main_arg6)))) = T
  blk_ext [idx_val t]

theorem value_11 : (dats m 0 c).arrAt 11 cfg0.N = wide (part (outw (m ((c.tc : Thread nD τ).loc main_arg5))) (outw (m ((c.tc : Thread nD τ).loc main_arg6)))) := by
  have a (t : Fin cfg0.N) := (after0_11 (m := m) c t).trans (out_11 (ins H t))
  refine (dats m 0 c).arrAt_eq_of_covers 11 _ (by decide +kernel) fun t hf y => ?_
  rw [a]
  generalize wide (part (outw (m ((c.tc : Thread nD τ).loc main_arg5))) (outw (m ((c.tc : Thread nD τ).loc main_arg6)))) = T
  blk_ext [idx_val t]

end Cert.Poles

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.Gen.Kernel3Ideal.Launch
public import proofs.«01_k».proof.Proof.Gen.Kernel3.Skeleton
public import proofs.«01_k».proof.Proof.Gen.Reference3Ideal.Run
public import proofs.«01_k».proof.Proof.Gen.Reference3Ideal.Read
public import proofs.«01_k».proof.Proof.Gen.Pre_finite_attn
public import proofs.«01_k».proof.Proof.ProjEnd
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_attn_fwd
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_regular_params
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_regular_poles
public import proofs.«01_k».proof.Proof.ProjX
public import proofs.«01_k».proof.Proof.ProjW
public import proofs.«01_k».proof.Proof.AttnFrame
public import proofs.«01_k».proof.Proof.AttnValue
public import proofs.«01_k».proof.Proof.FwdValue
public import proofs.«01_k».proof.Proof.ParamsPoint
public import proofs.«01_k».proof.Proof.PolesValue
public import proofs.«01_k».proof.Proof.ParamsValue

/-! The claims, assembled from the modules. -/

@[expose] public section

noncomputable section

namespace Cert.Proof

open Idealize.ShloMosaic Idealize.SL.Sem

/-- The first kernel's final array is the gradient that the first reference computes. -/
theorem value_x (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v117 m' c = (Cert.KernelIdeal.Gen.dats m 0 c).arrAt 13 Cert.KernelIdeal.cfg0.N := by
  refine (Cert.ReferenceIdeal.Read.val_main_v117_eq m' c).trans (Eq.trans ?_ (Cert.Dproj.KernelIdeal.final m c).symm)
  rw [a1, a2, a3, a4, a5, a6, a7, a8, a9, a10, a11]
  funext i
  idx_vars i
  exact Cert.Dproj.ref_gradient ..

/-- The two programs end with one gradient. -/
theorem algebraic_x : Cert.algebraic_KernelIdeal_ReferenceIdeal := by
  pair_intro
  · exact Cert.KernelIdeal.Value.run_blocks m g
  · refine (θ_run Cert.ReferenceIdeal.defs _ _).mono (fun r h c => And.intro ((h c).1.trans ?_) (h c).2) (Cert.ReferenceIdeal.Value.run m' g')
    obtain ⟨_, a1, a2, a3, a4, a5, a6, a7, a8, a9, a10, a11⟩ := hagree c
    exact value_x m m' c a1 a2 a3 a4 a5 a6 a7 a8 a9 a10 a11

/-- The second kernel's final array is the gradient that the second reference computes. -/
theorem value_w (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (a4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (a7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (a8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (a9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (a10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (a11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Reference2Ideal.Value.res_main_v116 m' c = (Cert.Kernel2Ideal.Gen.dats m 0 c).arrAt 12 Cert.Kernel2Ideal.cfg0.N := by
  refine (Cert.Reference2Ideal.Read.val_main_v116_eq m' c).trans (Eq.trans ?_ (Cert.Dproj.Kernel2Ideal.final m c).symm)
  rw [a0, a2, a4, a5, a6, a7, a8, a9, a10, a11]
  funext i
  idx_vars i
  exact Cert.Dproj.Kernel2Ideal.ref_gradient ..

/-- The second pair of programs ends with one gradient. -/
theorem algebraic_w : Cert.algebraic_Kernel2Ideal_Reference2Ideal := by
  pair_intro
  · exact Cert.Kernel2Ideal.Value.run_blocks m g
  · refine (θ_run Cert.Reference2Ideal.defs _ _).mono (fun r h c => And.intro ((h c).1.trans ?_) (h c).2) (Cert.Reference2Ideal.Value.run m' g')
    obtain ⟨a0, _, a2, _, a4, a5, a6, a7, a8, a9, a10, a11⟩ := hagree c
    exact value_w m m' c a0 a2 a4 a5 a6 a7 a8 a9 a10 a11

/-- The first reference leaves its arguments and the counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The second reference leaves its arguments and the counters. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The attention kernel and the derivative of the attention end with the same four arrays. -/
theorem algebraic_attn : Cert.algebraic_Kernel3Ideal_Reference3Ideal_pre_finite_attn := by
  pair_intro
  · exact Cert.Kernel3Ideal.Attn.run_blocks m g
  · refine (θ_run Cert.Reference3Ideal.defs _ _).mono (fun r h c => ?_) (Cert.Reference3Ideal.Value.run m' g')
    obtain ⟨e0, e1, e2, e3, ha⟩ := h c
    obtain ⟨a0, a1, a2, a3, a4⟩ := hagree c
    obtain ⟨D, H⟩ := Cert.Kernel3Ideal.Attn.data m c (hpre c)
    refine ⟨(e0.trans (Cert.Reference3Ideal.Read.val_main_v183_eq _)).trans (Eq.trans ?_ (Cert.Kernel3Ideal.Attn.value_dq m c D H)),
      (e1.trans (Cert.Reference3Ideal.Read.val_main_v184_eq _)).trans (Eq.trans ?_ (Cert.Kernel3Ideal.Attn.value_dk m c D H)),
      (e2.trans (Cert.Reference3Ideal.Read.val_main_v185_eq _)).trans (Eq.trans ?_ (Cert.Kernel3Ideal.Attn.value_dv m c D H)),
      (e3.trans (Cert.Reference3Ideal.Read.val_main_v187_eq _)).trans (Eq.trans ?_ (Cert.Kernel3Ideal.Attn.value_ds m c D H)), ha⟩ <;>
    · first
      | exact congr (congr (congr (congr (congrArg _ (a0.trans H.q)) (a1.trans H.k)) (a2.trans H.v)) (a3.trans H.s)) (a4.trans H.ct)
      | exact congr (congr (congr (congrArg _ (a0.trans H.q)) (a1.trans H.k)) (a3.trans H.s)) (a4.trans H.ct)

/-- The attention reference leaves its arguments and the counters. -/
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The launched attention text is the text over the extended reals. -/
theorem frame_attn : Cert.quiescent_Kernel3 := fun m ρ _ => by
  refine cast ?_ (Cert.Kernel3Ideal.Attn.frame (F := Bits) m ρ)
  sl_kernel_rfl

/-- The attention forward's kernel and reference end with one output. -/
theorem algebraic_attn_fwd : Cert.algebraic_Kernel4Ideal_Reference4Ideal_pre_finite_attn_fwd := by
  pair_intro
  · exact Cert.Kernel4Ideal.Value.run_blocks m g
  · refine (θ_run Cert.Reference4Ideal.defs _ _).mono (fun r h c => And.intro ((h c).1.trans ?_) (h c).2) (Cert.Reference4Ideal.Value.run m' g')
    obtain ⟨a0, a1, a2, a3⟩ := hagree c
    obtain ⟨D, H⟩ := Cert.Kernel4Ideal.Attn.data m c (hpre c)
    refine (Cert.Reference4Ideal.Read.val_main_v80_eq _ _).trans (Eq.trans ?_ (Cert.Kernel4Ideal.Attn.value_ref m c D H))
    exact congr (congr (congr (congrArg _ (a0.trans H.q)) (a1.trans H.k)) (a2.trans H.v)) (a3.trans H.s)

/-- The attention forward's reference leaves its arguments and the counters. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- A function of nine arguments takes equal arguments to one value. -/
theorem congr_nine {A0 A1 A2 A3 A4 A5 A6 A7 A8 R : Type} (f : A0 → A1 → A2 → A3 → A4 → A5 → A6 → A7 → A8 → R) {x0 y0 x1 y1 x2 y2 x3 y3 x4 y4 x5 y5 x6 y6 x7 y7 x8 y8}
    (h0 : x0 = y0) (h1 : x1 = y1) (h2 : x2 = y2) (h3 : x3 = y3) (h4 : x4 = y4) (h5 : x5 = y5) (h6 : x6 = y6) (h7 : x7 = y7) (h8 : x8 = y8) :
    f x0 x1 x2 x3 x4 x5 x6 x7 x8 = f y0 y1 y2 y3 y4 y5 y6 y7 y8 := by
  subst h0 h1 h2 h3 h4 h5 h6 h7 h8
  rfl

set_option maxHeartbeats 4000000 in
/-- The parameters' kernel and the derivative of the discretisation end with the same seven arrays. -/
theorem algebraic_params : Cert.algebraic_Kernel5Ideal_Reference5Ideal_pre_regular_params := by
  pair_intro
  · exact Cert.Kernel5Ideal.Value.run_blocks m g
  · refine (θ_run Cert.Reference5Ideal.defs _ _).mono (fun r h c => ?_) (Cert.Reference5Ideal.Value.run m' g')
    obtain ⟨e0, e1, e2, e3, e4, e5, e6, ha⟩ := h c
    obtain ⟨a0, a1, a2, a3, a4, a5, a6, a7, a8, a9, a10⟩ := hagree c
    obtain ⟨D, H⟩ := Cert.Params.data m c (hpre c)
    refine ⟨(e0.trans (Cert.Reference5Ideal.Read.val_main_v146_eq _ _)).trans (Eq.trans ?_ ((Cert.Reference5Ideal.Params.gar D).trans (Cert.Params.value_gar m c D H).symm)),
      (e1.trans (Cert.Reference5Ideal.Read.val_main_v147_eq _ _)).trans (Eq.trans ?_ ((Cert.Reference5Ideal.Params.gai D).trans (Cert.Params.value_gai m c D H).symm)),
      (e2.trans (Cert.Reference5Ideal.Read.val_main_v148_eq _ _)).trans (Eq.trans ?_ ((Cert.Reference5Ideal.Params.gdt D).trans (Cert.Params.value_gdt m c D H).symm)),
      (e3.trans (Cert.Reference5Ideal.Read.val_main_v150_eq _ _ _ _ _)).trans (Eq.trans ?_ ((Cert.Reference5Ideal.Params.gbr D).trans (Cert.Params.value_gbr m c D H).symm)),
      (e4.trans (Cert.Reference5Ideal.Read.val_main_v152_eq _ _ _ _ _)).trans (Eq.trans ?_ ((Cert.Reference5Ideal.Params.gbi D).trans (Cert.Params.value_gbi m c D H).symm)),
      (e5.trans (Cert.Reference5Ideal.Read.val_main_v153_eq _)).trans (Eq.trans ?_ ((Cert.Reference5Ideal.Params.gcr D).trans (Cert.Params.value_gcr m c D H).symm)),
      (e6.trans (Cert.Reference5Ideal.Read.val_main_v154_eq _)).trans (Eq.trans ?_ ((Cert.Reference5Ideal.Params.gci D).trans (Cert.Params.value_gci m c D H).symm)), ha⟩
    iterate 3 exact congr_nine _ (a0.trans H.a0) (a1.trans H.a1) (a2.trans H.a2) (a3.trans H.a3) (a4.trans H.a4) (a5.trans H.a5) (a6.trans H.a6) (a7.trans H.a7) (a8.trans H.a8)
    iterate 2 exact congr (congr (congr (congr (congrArg _ (a0.trans H.a0)) (a1.trans H.a1)) (a2.trans H.a2)) (a7.trans H.a7)) (a8.trans H.a8)
    · exact congrArg _ (a9.trans H.a9)
    · exact congrArg _ (a10.trans H.a10)

/-- The parameters' reference leaves its arguments and the counters. -/
theorem frame_reference5 : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run m ρ)

/-! The recurrence parameters, forward. -/

theorem congr_five {α β γ δ ε ζ : Type} (f : α → β → γ → δ → ε → ζ) {a a' b b' c c' d d' e e'} (ha : a = a') (hb : b = b') (hc : c = c') (hd : d = d')
    (he : e = e') : f a b c d e = f a' b' c' d' e' := by subst ha hb hc hd he; rfl

set_option maxHeartbeats 4000000 in
/-- The forward parameters' kernel computes the forward parameters' reference where the poles are regular. -/
theorem algebraic_poles : Cert.algebraic_Kernel6Ideal_Reference6Ideal_pre_regular_poles := by
  pair_intro
  · exact Cert.Kernel6Ideal.Value.run_blocks m g
  · refine (θ_run Cert.Reference6Ideal.defs _ _).mono (fun r h c => ?_) (Cert.Reference6Ideal.Value.run m' g')
    obtain ⟨e0, e1, e2, e3, e4, ha⟩ := h c
    obtain ⟨a0, a1, a2, a3, a4, a5, a6⟩ := hagree c
    obtain ⟨D, H⟩ := Cert.Poles.data m c (hpre c)
    refine ⟨(e0.trans (Cert.Reference6Ideal.Read.val_main_v62_eq _ _ _)).trans (Eq.trans ?_ ((Cert.Poles.ref_lam D).trans (Cert.Poles.value_7 H).symm)),
      (e1.trans (Cert.Reference6Ideal.Read.val_main_v80_eq m' c)).trans (Eq.trans ?_ ((Cert.Poles.ref_bb D _ _).trans (Cert.Poles.value_8 H).symm)),
      (e2.trans (Cert.Reference6Ideal.Read.val_main_v97_eq m' c)).trans (Eq.trans ?_ ((Cert.Poles.ref_bbt D _ _).trans (Cert.Poles.value_9 H).symm)),
      (e3.trans (Cert.Reference6Ideal.Read.val_main_v98_eq _ _)).trans (Eq.trans ?_ ((Cert.Poles.ref_cbt _ _).trans (Cert.Poles.value_10 H).symm)),
      (e4.trans (Cert.Reference6Ideal.Read.val_main_v96_eq _ _)).trans (Eq.trans ?_ ((Cert.Poles.ref_cb _ _).trans (Cert.Poles.value_11 H).symm)), ha⟩
    · exact congr (congr (congrArg _ (a0.trans H.a)) (a1.trans H.b)) (a2.trans H.t)
    iterate 2 exact congr_five _ (a0.trans H.a) (a1.trans H.b) (a2.trans H.t) a3 a4
    iterate 2 exact congr (congrArg _ a5) a6

/-- The forward parameters' reference leaves its arguments and the counters. -/
theorem frame_reference6 : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run m ρ)

set_option maxHeartbeats 4000000 in
/-- The input projection's kernel computes the input projection's reference. -/
theorem algebraic_proj : Cert.algebraic_Kernel7Ideal_Reference7Ideal := by
  pair_intro
  · exact Cert.Kernel7Ideal.Value.run_blocks m g
  · refine (θ_run Cert.Reference7Ideal.defs _ _).mono (fun r h c => ?_) (Cert.Reference7Ideal.Value.run m' g')
    obtain ⟨e0, e1, e2, e3, e4, e5, ha⟩ := h c
    obtain ⟨a0, a1⟩ := hagree c
    refine ⟨(e0.trans (Cert.Reference7Ideal.Read.val_main_v78_eq m' c)).trans ((Cert.ProjFwd.ref_q _ _).trans (Eq.trans ?_ (Cert.ProjFwd.final_q m c).symm)),
      (e1.trans (Cert.Reference7Ideal.Read.val_main_v80_eq m' c)).trans ((Cert.ProjFwd.ref_k _ _).trans (Eq.trans ?_ (Cert.ProjFwd.final_k m c).symm)),
      (e2.trans (Cert.Reference7Ideal.Read.val_main_v81_eq _ _)).trans ((Cert.ProjFwd.ref_v _ _).trans (Eq.trans ?_ (Cert.ProjFwd.final_v m c).symm)),
      (e3.trans (Cert.Reference7Ideal.Read.val_main_v84_eq _ _)).trans ((Cert.ProjFwd.ref_za _ _).trans (Eq.trans ?_ (Cert.ProjFwd.final_za m c).symm)),
      (e4.trans (Cert.Reference7Ideal.Read.val_main_v86_eq _ _)).trans ((Cert.ProjFwd.ref_u _ _).trans (Eq.trans ?_ (Cert.ProjFwd.final_u m c).symm)),
      (e5.trans (Cert.Reference7Ideal.Read.val_main_v7_eq _ _)).trans ((Cert.ProjFwd.ref_zs _ _).trans (Eq.trans ?_ (Cert.ProjFwd.final_zs m c).symm)), ha⟩
    all_goals exact congr (congrArg _ a0) a1

/-- The input projection's reference leaves its arguments and the counters. -/
theorem frame_reference7 : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run m ρ)

/-- The certificate's claim. -/
theorem claim : Cert.Claim :=
  ⟨inferInstance, inferInstance, inferInstance, inferInstance, inferInstance, inferInstance, inferInstance, inferInstance, inferInstance, inferInstance, inferInstance,
    inferInstance, inferInstance, inferInstance, inferInstance, inferInstance, inferInstance, inferInstance, inferInstance, inferInstance, inferInstance, inferInstance,
    inferInstance, inferInstance, inferInstance,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    frame_attn, fun m ρ _ => Cert.Kernel3Ideal.Attn.frame m ρ, fun m ρ _ => Cert.Kernel3Ideal.Attn.frame m ρ,
    frame_reference3, fun m ρ _ => frame_reference3 m ρ trivial,
    fun m ρ _ => Cert.Kernel4.Gen.frame m ρ, fun m ρ _ => Cert.Kernel4Ideal.Gen.frame m ρ, fun m ρ _ => Cert.Kernel4Ideal.Gen.frame m ρ,
    frame_reference4, fun m ρ _ => frame_reference4 m ρ trivial,
    fun m ρ _ => Cert.Kernel5.Gen.frame m ρ, fun m ρ _ => Cert.Kernel5Ideal.Gen.frame m ρ, fun m ρ _ => Cert.Kernel5Ideal.Gen.frame m ρ,
    frame_reference5, fun m ρ _ => frame_reference5 m ρ trivial,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial,
    fun m ρ _ => Cert.Kernel7.Gen.frame m ρ, fun m ρ _ => Cert.Kernel7Ideal.Gen.frame m ρ, frame_reference7,
    trivial, algebraic_x, trivial, algebraic_w, trivial, algebraic_attn, trivial, algebraic_attn_fwd, trivial, algebraic_params,
    trivial, algebraic_poles, trivial, algebraic_proj⟩

end Cert.Proof

end
